-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x16x64 : Shape := ⟨3, ![64, 16, 64]⟩
abbrev S100000x64 : Shape := ⟨2, ![100000, 64]⟩
abbrev S64x512 : Shape := ⟨2, ![64, 512]⟩
abbrev S128x512 : Shape := ⟨2, ![128, 512]⟩
abbrev S512 : Shape := ⟨1, ![512]⟩
abbrev S256 : Shape := ⟨1, ![256]⟩
abbrev S64 : Shape := ⟨1, ![64]⟩
abbrev S256x512 : Shape := ⟨2, ![256, 512]⟩
abbrev S16 : Shape := ⟨1, ![16]⟩
abbrev S256x1 : Shape := ⟨2, ![256, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S128x512 : S_.BroadcastsInDim S128x512 (![] : Fin 0 → Fin S128x512.rank)
  reducesTo_S128x512_S_d0_1 : S128x512.ReducesTo [0, 1] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg13 : FVec F S256x512 .f32) (main_arg14 : FVec F S128x512 .f32) (main_v33 : IVec S_ 1) : IVec S_ 1 :=
  let main_v34 : FVec F S256x512 .f32 := Host.absf main_arg13
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S128x512 .f32 := Host.absf main_arg14
  let main_cst_14 : FVec F S_ .f32 := constant S_ .f32 0x7F800000#32
  let main_v40 : FVec F S128x512 .f32 := broadcastInDim S128x512 ![] bcast_S_S128x512 main_cst_14
  let main_v41 : IVec S128x512 1 := cmpf .olt main_v39 main_v40
  let main_c_15 : IVec S_ 1 := constantI S_ 1 1#1
  let main_v42 : IVec S_ 1 := (fun x v => Host.reduce IntOp.andi x v reducesTo_S128x512_S_d0_1 h_S_) main_v41 main_c_15
  let main_v43 : IVec S_ 1 := andi main_v38 main_v42
  main_v43

def fn_part1 {F : FTy → Type} [FloatOps F] (main_arg6 : FVec F S128x512 .f32) (main_arg10 : FVec F S256x512 .f32) (main_arg11 : FVec F S128x512 .f32) (main_arg13 : FVec F S256x512 .f32) (main_arg14 : FVec F S128x512 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S128x512 .f32 := Host.absf main_arg6
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S256x512 .f32 := Host.absf main_arg10
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S128x512 .f32 := Host.absf main_arg11
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg13 main_arg14 main_v33

def fn {F : FTy → Type} [FloatOps F] (main_arg0 : IVec S64x16x64 32) (main_arg1 : FVec F S100000x64 .f32) (main_arg2 : FVec F S64x512 .f32) (main_arg3 : FVec F S128x512 .f32) (main_arg4 : FVec F S512 .f32) (main_arg5 : FVec F S64x512 .f32) (main_arg6 : FVec F S128x512 .f32) (main_arg7 : FVec F S512 .f32) (main_arg8 : FVec F S256 .f32) (main_arg9 : FVec F S64 .f32) (main_arg10 : FVec F S256x512 .f32) (main_arg11 : FVec F S128x512 .f32) (main_arg12 : FVec F S512 .f32) (main_arg13 : FVec F S256x512 .f32) (main_arg14 : FVec F S128x512 .f32) (main_arg15 : FVec F S512 .f32) (main_arg16 : FVec F S256 .f32) (main_arg17 : FVec F S16 .f32) (main_arg18 : FVec F S256x1 .f32) (main_arg19 : FVec F S1 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x512 .f32 := Host.absf main_arg2
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S128x512 .f32 := Host.absf main_arg3
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S64x512 .f32 := Host.absf main_arg5
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg6 main_arg10 main_arg11 main_arg13 main_arg14 main_v13 main_v16
-- ==== Kernel.lean ====
abbrev S64x16x64 : Shape := ⟨3, ![64, 16, 64]⟩
abbrev S100000x64 : Shape := ⟨2, ![100000, 64]⟩
abbrev S64x512 : Shape := ⟨2, ![64, 512]⟩
abbrev S128x512 : Shape := ⟨2, ![128, 512]⟩
abbrev S512 : Shape := ⟨1, ![512]⟩
abbrev S256 : Shape := ⟨1, ![256]⟩
abbrev S64 : Shape := ⟨1, ![64]⟩
abbrev S256x512 : Shape := ⟨2, ![256, 512]⟩
abbrev S16 : Shape := ⟨1, ![16]⟩
abbrev S256x1 : Shape := ⟨2, ![256, 1]⟩
abbrev S1 : Shape := ⟨1, ![1]⟩
abbrev S1024x64 : Shape := ⟨2, ![1024, 64]⟩
abbrev S64x1024 : Shape := ⟨2, ![64, 1024]⟩
abbrev S65536 : Shape := ⟨1, ![65536]⟩
abbrev S_ : Shape := ⟨0, ![]⟩
abbrev S65536x1 : Shape := ⟨2, ![65536, 1]⟩
abbrev S1x1 : Shape := ⟨2, ![1, 1]⟩
abbrev S65536x64 : Shape := ⟨2, ![65536, 64]⟩
abbrev S65536x128 : Shape := ⟨2, ![65536, 128]⟩
abbrev S64x1024x128 : Shape := ⟨3, ![64, 1024, 128]⟩
abbrev S128 : Shape := ⟨1, ![128]⟩
abbrev S1x512 : Shape := ⟨2, ![1, 512]⟩
abbrev S768x512 : Shape := ⟨2, ![768, 512]⟩
abbrev S128x1 : Shape := ⟨2, ![128, 1]⟩
abbrev S1x128x1x1 : Shape := ⟨4, ![1, 128, 1, 1]⟩
abbrev S1x128x128x1 : Shape := ⟨4, ![1, 128, 128, 1]⟩
abbrev S128x128 : Shape := ⟨2, ![128, 128]⟩
abbrev S256x128 : Shape := ⟨2, ![256, 128]⟩
abbrev S64x1 : Shape := ⟨2, ![64, 1]⟩
abbrev S1x64x1x1 : Shape := ⟨4, ![1, 64, 1, 1]⟩
abbrev S1x64x128x1 : Shape := ⟨4, ![1, 64, 128, 1]⟩
abbrev S64x128 : Shape := ⟨2, ![64, 128]⟩
abbrev S1024x256 : Shape := ⟨2, ![1024, 256]⟩
abbrev S1x1024x128 : Shape := ⟨3, ![1, 1024, 128]⟩
abbrev S1024x128 : Shape := ⟨2, ![1024, 128]⟩
abbrev S1024x768 : Shape := ⟨2, ![1024, 768]⟩
abbrev S1024x512 : Shape := ⟨2, ![1024, 512]⟩
abbrev S1x256x128 : Shape := ⟨3, ![1, 256, 128]⟩
abbrev S256x256 : Shape := ⟨2, ![256, 256]⟩
abbrev S1x128 : Shape := ⟨2, ![1, 128]⟩
abbrev S64x16x256 : Shape := ⟨3, ![64, 16, 256]⟩
abbrev S16x64x256 : Shape := ⟨3, ![16, 64, 256]⟩
abbrev S1536x512 : Shape := ⟨2, ![1536, 512]⟩
abbrev S16x1 : Shape := ⟨2, ![16, 1]⟩
abbrev S1x16x1x1 : Shape := ⟨4, ![1, 16, 1, 1]⟩
abbrev S1x16x128x1 : Shape := ⟨4, ![1, 16, 128, 1]⟩
abbrev S16x128 : Shape := ⟨2, ![16, 128]⟩
abbrev S16x64x128 : Shape := ⟨3, ![16, 64, 128]⟩
abbrev S64x256 : Shape := ⟨2, ![64, 256]⟩
abbrev S1x64x256 : Shape := ⟨3, ![1, 64, 256]⟩
abbrev S64x1536 : Shape := ⟨2, ![64, 1536]⟩
abbrev S1x64x128 : Shape := ⟨3, ![1, 64, 128]⟩

abbrev nBuf : Space → Nat
  | .hbm => 213
  | .vmem => 30
  | .smem => 0
  | _ => 0

abbrev hbmTy0_0 (i : Nat) : BufTy := match i % 128 with
  | 0 => ⟨S64x16x64, .i32⟩
  | 1 => ⟨S100000x64, .f32⟩
  | 2 => ⟨S64x512, .f32⟩
  | 3 => ⟨S128x512, .f32⟩
  | 4 => ⟨S512, .f32⟩
  | 5 => ⟨S64x512, .f32⟩
  | 6 => ⟨S128x512, .f32⟩
  | 7 => ⟨S512, .f32⟩
  | 8 => ⟨S256, .f32⟩
  | 9 => ⟨S64, .f32⟩
  | 10 => ⟨S256x512, .f32⟩
  | 11 => ⟨S128x512, .f32⟩
  | 12 => ⟨S512, .f32⟩
  | 13 => ⟨S256x512, .f32⟩
  | 14 => ⟨S128x512, .f32⟩
  | 15 => ⟨S512, .f32⟩
  | 16 => ⟨S256, .f32⟩
  | 17 => ⟨S16, .f32⟩
  | 18 => ⟨S256x1, .f32⟩
  | 19 => ⟨S1, .f32⟩
  | 20 => ⟨S1024x64, .i32⟩
  | 21 => ⟨S64x1024, .i32⟩
  | 22 => ⟨S65536, .i32⟩
  | 23 => ⟨S_, .i32⟩
  | 24 => ⟨S65536, .i32⟩
  | 25 => ⟨S65536, .i1⟩
  | 26 => ⟨S_, .i32⟩
  | 27 => ⟨S65536, .i32⟩
  | 28 => ⟨S65536, .i32⟩
  | 29 => ⟨S65536, .i32⟩
  | 30 => ⟨S65536x1, .i32⟩
  | 31 => ⟨S1, .i32⟩
  | 32 => ⟨S_, .i32⟩
  | 33 => ⟨S65536x1, .i32⟩
  | 34 => ⟨S65536x1, .i1⟩
  | 35 => ⟨S1x1, .i32⟩
  | 36 => ⟨S65536x1, .i32⟩
  | 37 => ⟨S65536x1, .i1⟩
  | 38 => ⟨S65536x1, .i1⟩
  | 39 => ⟨S_, .i1⟩
  | 40 => ⟨S65536, .i1⟩
  | 41 => ⟨S65536x64, .f32⟩
  | 42 => ⟨S65536x64, .i1⟩
  | 43 => ⟨S_, .f32⟩
  | 44 => ⟨S65536x64, .f32⟩
  | 45 => ⟨S65536x64, .f32⟩
  | 46 => ⟨S_, .i32⟩
  | 47 => ⟨S_, .f32⟩
  | 48 => ⟨S65536x128, .f32⟩
  | 49 => ⟨S64x1024x128, .f32⟩
  | 50 => ⟨S_, .f32⟩
  | 51 => ⟨S256, .f32⟩
  | 52 => ⟨S_, .f32⟩
  | 53 => ⟨S128, .f32⟩
  | 54 => ⟨S_, .f32⟩
  | 55 => ⟨S128, .f32⟩
  | 56 => ⟨S512, .f32⟩
  | 57 => ⟨S1x512, .f32⟩
  | 58 => ⟨S64x512, .f32⟩
  | 59 => ⟨S64x512, .f32⟩
  | 60 => ⟨S64x512, .bf16⟩
  | 61 => ⟨S64x512, .f32⟩
  | 62 => ⟨S64x512, .f32⟩
  | 63 => ⟨S64x512, .bf16⟩
  | 64 => ⟨S1x512, .f32⟩
  | 65 => ⟨S128x512, .f32⟩
  | 66 => ⟨S128x512, .f32⟩
  | 67 => ⟨S128x512, .bf16⟩
  | 68 => ⟨S128x512, .f32⟩
  | 69 => ⟨S128x512, .f32⟩
  | 70 => ⟨S128x512, .bf16⟩
  | 71 => ⟨S768x512, .bf16⟩
  | 72 => ⟨S_, .f32⟩
  | 73 => ⟨S256, .f32⟩
  | 74 => ⟨S_, .f32⟩
  | 75 => ⟨S128, .f32⟩
  | 76 => ⟨S_, .f32⟩
  | 77 => ⟨S128, .f32⟩
  | 78 => ⟨S512, .f32⟩
  | 79 => ⟨S1x512, .f32⟩
  | 80 => ⟨S64x512, .f32⟩
  | 81 => ⟨S64x512, .f32⟩
  | 82 => ⟨S64x512, .bf16⟩
  | 83 => ⟨S64x512, .f32⟩
  | 84 => ⟨S64x512, .f32⟩
  | 85 => ⟨S64x512, .bf16⟩
  | 86 => ⟨S1x512, .f32⟩
  | 87 => ⟨S128x512, .f32⟩
  | 88 => ⟨S128x512, .f32⟩
  | 89 => ⟨S128x512, .bf16⟩
  | 90 => ⟨S128x512, .f32⟩
  | 91 => ⟨S128x512, .f32⟩
  | 92 => ⟨S128x512, .bf16⟩
  | 93 => ⟨S768x512, .bf16⟩
  | 94 => ⟨S128, .f32⟩
  | 95 => ⟨S128x1, .f32⟩
  | 96 => ⟨S1x128x1x1, .f32⟩
  | 97 => ⟨S1x128x128x1, .f32⟩
  | 98 => ⟨S128x128, .f32⟩
  | 99 => ⟨S128, .f32⟩
  | 100 => ⟨S128x1, .f32⟩
  | 101 => ⟨S1x128x1x1, .f32⟩
  | 102 => ⟨S1x128x128x1, .f32⟩
  | 103 => ⟨S128x128, .f32⟩
  | 104 => ⟨S256x128, .f32⟩
  | 105 => ⟨S256x128, .bf16⟩
  | 106 => ⟨S64x1, .f32⟩
  | 107 => ⟨S1x64x1x1, .f32⟩
  | 108 => ⟨S1x64x128x1, .f32⟩
  | 109 => ⟨S64x128, .f32⟩
  | 110 => ⟨S_, .f32⟩
  | 111 => ⟨S256, .f32⟩
  | 112 => ⟨S_, .f32⟩
  | 113 => ⟨S128, .f32⟩
  | 114 => ⟨S_, .f32⟩
  | 115 => ⟨S128, .f32⟩
  | 116 => ⟨S512, .f32⟩
  | 117 => ⟨S512, .f32⟩
  | 118 => ⟨S1x512, .f32⟩
  | 119 => ⟨S_, .f32⟩
  | 120 => ⟨S256, .f32⟩
  | 121 => ⟨S_, .f32⟩
  | 122 => ⟨S128, .f32⟩
  | 123 => ⟨S_, .f32⟩
  | 124 => ⟨S128, .f32⟩
  | 125 => ⟨S512, .f32⟩
  | 126 => ⟨S512, .f32⟩
  | 127 => ⟨S1x512, .f32⟩
  | _ => ⟨S64x16x64, .i32⟩

abbrev hbmTy0_1 (i : Nat) : BufTy := match i % 128 with
  | 0 => ⟨S1024x256, .f32⟩
  | 1 => ⟨S64x16x256, .f32⟩
  | 2 => ⟨S16x64x256, .f32⟩
  | 3 => ⟨S_, .f32⟩
  | 4 => ⟨S256, .f32⟩
  | 5 => ⟨S_, .f32⟩
  | 6 => ⟨S128, .f32⟩
  | 7 => ⟨S_, .f32⟩
  | 8 => ⟨S128, .f32⟩
  | 9 => ⟨S512, .f32⟩
  | 10 => ⟨S1x512, .f32⟩
  | 11 => ⟨S256x512, .f32⟩
  | 12 => ⟨S256x512, .f32⟩
  | 13 => ⟨S256x512, .bf16⟩
  | 14 => ⟨S256x512, .f32⟩
  | 15 => ⟨S256x512, .f32⟩
  | 16 => ⟨S256x512, .bf16⟩
  | 17 => ⟨S1x512, .f32⟩
  | 18 => ⟨S128x512, .f32⟩
  | 19 => ⟨S128x512, .f32⟩
  | 20 => ⟨S128x512, .bf16⟩
  | 21 => ⟨S128x512, .f32⟩
  | 22 => ⟨S128x512, .f32⟩
  | 23 => ⟨S128x512, .bf16⟩
  | 24 => ⟨S1536x512, .bf16⟩
  | 25 => ⟨S_, .f32⟩
  | 26 => ⟨S256, .f32⟩
  | 27 => ⟨S_, .f32⟩
  | 28 => ⟨S128, .f32⟩
  | 29 => ⟨S_, .f32⟩
  | 30 => ⟨S128, .f32⟩
  | 31 => ⟨S512, .f32⟩
  | 32 => ⟨S1x512, .f32⟩
  | 33 => ⟨S256x512, .f32⟩
  | 34 => ⟨S256x512, .f32⟩
  | 35 => ⟨S256x512, .bf16⟩
  | 36 => ⟨S256x512, .f32⟩
  | 37 => ⟨S256x512, .f32⟩
  | 38 => ⟨S256x512, .bf16⟩
  | 39 => ⟨S1x512, .f32⟩
  | 40 => ⟨S128x512, .f32⟩
  | 41 => ⟨S128x512, .f32⟩
  | 42 => ⟨S128x512, .bf16⟩
  | 43 => ⟨S128x512, .f32⟩
  | 44 => ⟨S128x512, .f32⟩
  | 45 => ⟨S128x512, .bf16⟩
  | 46 => ⟨S1536x512, .bf16⟩
  | 47 => ⟨S128, .f32⟩
  | 48 => ⟨S128x1, .f32⟩
  | 49 => ⟨S1x128x1x1, .f32⟩
  | 50 => ⟨S1x128x128x1, .f32⟩
  | 51 => ⟨S128x128, .f32⟩
  | 52 => ⟨S128, .f32⟩
  | 53 => ⟨S128x1, .f32⟩
  | 54 => ⟨S1x128x1x1, .f32⟩
  | 55 => ⟨S1x128x128x1, .f32⟩
  | 56 => ⟨S128x128, .f32⟩
  | 57 => ⟨S256x128, .f32⟩
  | 58 => ⟨S256x128, .bf16⟩
  | 59 => ⟨S16x1, .f32⟩
  | 60 => ⟨S1x16x1x1, .f32⟩
  | 61 => ⟨S1x16x128x1, .f32⟩
  | 62 => ⟨S16x128, .f32⟩
  | 63 => ⟨S_, .f32⟩
  | 64 => ⟨S256, .f32⟩
  | 65 => ⟨S_, .f32⟩
  | 66 => ⟨S128, .f32⟩
  | 67 => ⟨S_, .f32⟩
  | 68 => ⟨S128, .f32⟩
  | 69 => ⟨S512, .f32⟩
  | 70 => ⟨S512, .f32⟩
  | 71 => ⟨S1x512, .f32⟩
  | 72 => ⟨S_, .f32⟩
  | 73 => ⟨S256, .f32⟩
  | 74 => ⟨S_, .f32⟩
  | 75 => ⟨S128, .f32⟩
  | 76 => ⟨S_, .f32⟩
  | 77 => ⟨S128, .f32⟩
  | 78 => ⟨S512, .f32⟩
  | 79 => ⟨S512, .f32⟩
  | 80 => ⟨S1x512, .f32⟩
  | 81 => ⟨S128x1, .f32⟩
  | 82 => ⟨S128x1, .f32⟩
  | 83 => ⟨S1x1, .f32⟩
  | 84 => ⟨S64x1, .f32⟩
  | _ => ⟨S64x16x64, .i32⟩

abbrev hbmTy (i : Nat) : BufTy := match i / 128 with
  | 0 => hbmTy0_0 i
  | 1 => hbmTy0_1 i
  | _ => ⟨S64x16x64, .i32⟩

abbrev bufTy : (tb : Table) → Fin (tcTables nBuf tb) → BufTy
  | .hbm, ⟨i, _⟩ => hbmTy i
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S768x512, .bf16⟩
  | .local _ .vmem, ⟨5, _⟩ => ⟨S1x512, .f32⟩
  | .local _ .vmem, ⟨6, _⟩ => ⟨S768x512, .bf16⟩
  | .local _ .vmem, ⟨7, _⟩ => ⟨S1x512, .f32⟩
  | .local _ .vmem, ⟨8, _⟩ => ⟨S256x128, .bf16⟩
  | .local _ .vmem, ⟨9, _⟩ => ⟨S64x128, .f32⟩
  | .local _ .vmem, ⟨10, _⟩ => ⟨S1024x256, .f32⟩
  | .local _ .vmem, ⟨11, _⟩ => ⟨S64x1024x128, .bf16⟩
  | .local _ .vmem, ⟨12, _⟩ => ⟨S64x1024x128, .bf16⟩
  | .local _ .vmem, ⟨13, _⟩ => ⟨S1024x256, .bf16⟩
  | .local _ .vmem, ⟨14, _⟩ => ⟨S1024x256, .bf16⟩
  | .local _ .vmem, ⟨15, _⟩ => ⟨S1024x128, .f32⟩
  | .local _ .vmem, ⟨16, _⟩ => ⟨S1024x128, .f32⟩
  | .local _ .vmem, ⟨17, _⟩ => ⟨S16x64x256, .f32⟩
  | .local _ .vmem, ⟨18, _⟩ => ⟨S1536x512, .bf16⟩
  | .local _ .vmem, ⟨19, _⟩ => ⟨S1x512, .f32⟩
  | .local _ .vmem, ⟨20, _⟩ => ⟨S1536x512, .bf16⟩
  | .local _ .vmem, ⟨21, _⟩ => ⟨S1x512, .f32⟩
  | .local _ .vmem, ⟨22, _⟩ => ⟨S256x128, .bf16⟩
  | .local _ .vmem, ⟨23, _⟩ => ⟨S16x128, .f32⟩
  | .local _ .vmem, ⟨24, _⟩ => ⟨S128x1, .f32⟩
  | .local _ .vmem, ⟨25, _⟩ => ⟨S128x1, .f32⟩
  | .local _ .vmem, ⟨26, _⟩ => ⟨S1x1, .f32⟩
  | .local _ .vmem, ⟨27, _⟩ => ⟨S64x1, .f32⟩
  | .local _ .vmem, ⟨28, _⟩ => ⟨S16x64x128, .bf16⟩
  | .local _ .vmem, ⟨29, _⟩ => ⟨S16x64x128, .bf16⟩
  | _, _ => ⟨S64x16x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v3 : Ref sig .tc := ⟨.hbm, 45, rfl⟩
abbrev main_c : Ref sig .tc := ⟨.hbm, 46, rfl⟩
abbrev main_call1_v0 : Ref sig .tc := ⟨.hbm, 47, rfl⟩
abbrev main_v4 : Ref sig .tc := ⟨.hbm, 48, rfl⟩
abbrev main_v5 : Ref sig .tc := ⟨.hbm, 49, rfl⟩
abbrev main_cst : Ref sig .tc := ⟨.hbm, 50, rfl⟩
abbrev main_v6 : Ref sig .tc := ⟨.hbm, 51, rfl⟩
abbrev main_cst_0 : Ref sig .tc := ⟨.hbm, 52, rfl⟩
abbrev main_v7 : Ref sig .tc := ⟨.hbm, 53, rfl⟩
abbrev main_cst_1 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_cst_2 : Ref sig .tc := ⟨.hbm, 72, rfl⟩
abbrev main_v25 : Ref sig .tc := ⟨.hbm, 73, rfl⟩
abbrev main_cst_3 : Ref sig .tc := ⟨.hbm, 74, rfl⟩
abbrev main_v26 : Ref sig .tc := ⟨.hbm, 75, rfl⟩
abbrev main_cst_4 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_5 : Ref sig .tc := ⟨.hbm, 110, rfl⟩
abbrev main_v60 : Ref sig .tc := ⟨.hbm, 111, rfl⟩
abbrev main_cst_6 : Ref sig .tc := ⟨.hbm, 112, rfl⟩
abbrev main_v61 : Ref sig .tc := ⟨.hbm, 113, rfl⟩
abbrev main_cst_7 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_cst_8 : Ref sig .tc := ⟨.hbm, 119, rfl⟩
abbrev main_v66 : Ref sig .tc := ⟨.hbm, 120, rfl⟩
abbrev main_cst_9 : Ref sig .tc := ⟨.hbm, 121, rfl⟩
abbrev main_v67 : Ref sig .tc := ⟨.hbm, 122, rfl⟩
abbrev main_cst_10 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_cst_11 : Ref sig .tc := ⟨.hbm, 131, rfl⟩
abbrev main_v75 : Ref sig .tc := ⟨.hbm, 132, rfl⟩
abbrev main_cst_12 : Ref sig .tc := ⟨.hbm, 133, rfl⟩
abbrev main_v76 : Ref sig .tc := ⟨.hbm, 134, rfl⟩
abbrev main_cst_13 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_14 : Ref sig .tc := ⟨.hbm, 153, rfl⟩
abbrev main_v94 : Ref sig .tc := ⟨.hbm, 154, rfl⟩
abbrev main_cst_15 : Ref sig .tc := ⟨.hbm, 155, rfl⟩
abbrev main_v95 : Ref sig .tc := ⟨.hbm, 156, rfl⟩
abbrev main_cst_16 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_17 : Ref sig .tc := ⟨.hbm, 191, rfl⟩
abbrev main_v129 : Ref sig .tc := ⟨.hbm, 192, rfl⟩
abbrev main_cst_18 : Ref sig .tc := ⟨.hbm, 193, rfl⟩
abbrev main_v130 : Ref sig .tc := ⟨.hbm, 194, rfl⟩
abbrev main_cst_19 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_cst_20 : Ref sig .tc := ⟨.hbm, 200, rfl⟩
abbrev main_v135 : Ref sig .tc := ⟨.hbm, 201, rfl⟩
abbrev main_cst_21 : Ref sig .tc := ⟨.hbm, 202, rfl⟩
abbrev main_v136 : Ref sig .tc := ⟨.hbm, 203, rfl⟩
abbrev main_cst_22 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_scratch0 : Ref sig .tc := ⟨.vmem, 28, rfl⟩
abbrev cc1_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21

abbrev nD : Nat := 1
abbrev τ : Topo := Topo.v7x

variable {F : FTy → Type} [FloatOps F]

abbrev grid0 : Pipeline.Grid := ⟨1, ![64], ![false]⟩

def k0_off1 (i : grid0.Coords) : Fin 3 → Nat :=
  let arg0 : BitVec 32 := BitVec.ofNat 32 (i 0).val
  let v111 : Index := Scalar.indexCast arg0
  let c0_43 : Index := 0#32
  let c0_44 : Index := 0#32
  ![v111.toNat, 0, 0]
def k0_off2 (i : grid0.Coords) : Fin 3 → Nat :=
  let c63_i32 : BitVec 32 := 63#32
  let arg0 : BitVec 32 := BitVec.ofNat 32 (i 0).val
  let v115 : BitVec 32 := Scalar.subi c63_i32 arg0
  let v116 : Index := Scalar.indexCast v115
  let c0_45 : Index := 0#32
  let c0_46 : Index := 0#32
  ![v116.toNat, 0, 0]
def k0_cond2 (i : grid0.Coords) : BitVec 1 :=
  let arg0 : BitVec 32 := BitVec.ofNat 32 (i 0).val
  let c63_i32_47 : BitVec 32 := 63#32
  let v120 : BitVec 1 := Scalar.cmpi .eq arg0 c63_i32_47
  let v121 : BitVec 32 := Scalar.extui v120
  let c0_i32_48 : BitVec 32 := 0#32
  let v122 : BitVec 1 := Scalar.cmpi .ne v121 c0_i32_48
  v122

@[reducible] def k0_t1_loop : Scf.Loop 32 :=
  let c0_i32_50 : BitVec 32 := 0#32
  let c64_i32 : BitVec 32 := 64#32
  let v124 : BitVec 32 := Scalar.addi c0_i32_50 c64_i32
  let c1_i32 : BitVec 32 := 1#32
  ⟨c0_i32_50, v124, c1_i32⟩
def k0_off3 (k0_t1 : Fin k0_t1_loop.trips) : Fin 3 → Nat :=
  let c0_i32_50 : BitVec 32 := 0#32
  let c1_i32 : BitVec 32 := 1#32
  let arg16 : BitVec 32 := Scf.iv c0_i32_50 c1_i32 k0_t1
  let v167 : Index := Scalar.indexCast arg16
  let c0_87 : Index := 0#32
  let c0_88 : Index := 0#32
  ![v167.toNat, 0, 0]
def k0_off4 (k0_t1 : Fin k0_t1_loop.trips) : Fin 2 → Nat :=
  let c0_i32_50 : BitVec 32 := 0#32
  let c1_i32 : BitVec 32 := 1#32
  let arg16 : BitVec 32 := Scf.iv c0_i32_50 c1_i32 k0_t1
  let v177 : Index := Scalar.indexCast arg16
  let c0_94 : Index := 0#32
  ![v177.toNat, 0]
@[reducible] def k0_t2_loop : Scf.Loop 32 :=
  let c0_i32_58 : BitVec 32 := 0#32
  let c64_i32_59 : BitVec 32 := 64#32
  let v135 : BitVec 32 := Scalar.addi c0_i32_58 c64_i32_59
  let c1_i32_60 : BitVec 32 := 1#32
  ⟨c0_i32_58, v135, c1_i32_60⟩
def k0_off5 (k0_t2 : Fin k0_t2_loop.trips) : Fin 3 → Nat :=
  let c0_i32_58 : BitVec 32 := 0#32
  let c1_i32_60 : BitVec 32 := 1#32
  let arg16 : BitVec 32 := Scf.iv c0_i32_58 c1_i32_60 k0_t2
  let v167 : Index := Scalar.indexCast arg16
  let c256_87 : Index := 256#32
  let c0_88 : Index := 0#32
  ![v167.toNat, 256, 0]
def k0_off6 (k0_t2 : Fin k0_t2_loop.trips) : Fin 2 → Nat :=
  let c0_i32_58 : BitVec 32 := 0#32
  let c1_i32_60 : BitVec 32 := 1#32
  let arg16 : BitVec 32 := Scf.iv c0_i32_58 c1_i32_60 k0_t2
  let v177 : Index := Scalar.indexCast arg16
  let c0_94 : Index := 0#32
  ![v177.toNat, 0]
@[reducible] def k0_t3_loop : Scf.Loop 32 :=
  let c0_i32_68 : BitVec 32 := 0#32
  let c64_i32_69 : BitVec 32 := 64#32
  let v146 : BitVec 32 := Scalar.addi c0_i32_68 c64_i32_69
  let c1_i32_70 : BitVec 32 := 1#32
  ⟨c0_i32_68, v146, c1_i32_70⟩
def k0_off7 (k0_t3 : Fin k0_t3_loop.trips) : Fin 3 → Nat :=
  let c0_i32_68 : BitVec 32 := 0#32
  let c1_i32_70 : BitVec 32 := 1#32
  let arg16 : BitVec 32 := Scf.iv c0_i32_68 c1_i32_70 k0_t3
  let v167 : Index := Scalar.indexCast arg16
  let c512_87 : Index := 512#32
  let c0_88 : Index := 0#32
  ![v167.toNat, 512, 0]
def k0_off8 (k0_t3 : Fin k0_t3_loop.trips) : Fin 2 → Nat :=
  let c0_i32_68 : BitVec 32 := 0#32
  let c1_i32_70 : BitVec 32 := 1#32
  let arg16 : BitVec 32 := Scf.iv c0_i32_68 c1_i32_70 k0_t3
  let v177 : Index := Scalar.indexCast arg16
  let c0_94 : Index := 0#32
  ![v177.toNat, 0]
@[reducible] def k0_t4_loop : Scf.Loop 32 :=
  let c0_i32_78 : BitVec 32 := 0#32
  let c64_i32_79 : BitVec 32 := 64#32
  let v157 : BitVec 32 := Scalar.addi c0_i32_78 c64_i32_79
  let c1_i32_80 : BitVec 32 := 1#32
  ⟨c0_i32_78, v157, c1_i32_80⟩
def k0_off9 (k0_t4 : Fin k0_t4_loop.trips) : Fin 3 → Nat :=
  let c0_i32_78 : BitVec 32 := 0#32
  let c1_i32_80 : BitVec 32 := 1#32
  let arg16 : BitVec 32 := Scf.iv c0_i32_78 c1_i32_80 k0_t4
  let v167 : Index := Scalar.indexCast arg16
  let c768_87 : Index := 768#32
  let c0_88 : Index := 0#32
  ![v167.toNat, 768, 0]
def k0_off10 (k0_t4 : Fin k0_t4_loop.trips) : Fin 2 → Nat :=
  let c0_i32_78 : BitVec 32 := 0#32
  let c1_i32_80 : BitVec 32 := 1#32
  let arg16 : BitVec 32 := Scf.iv c0_i32_78 c1_i32_80 k0_t4
  let v177 : Index := Scalar.indexCast arg16
  let c0_94 : Index := 0#32
  ![v177.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![1], ![false]⟩

@[reducible] def k1_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k1_off1 (k1_t1 : Fin k1_t1_loop.trips) : Fin 3 → Nat :=
  let c0_i32 : BitVec 32 := 0#32
  let c1_i32 : BitVec 32 := 1#32
  let arg14 : BitVec 32 := Scf.iv c0_i32 c1_i32 k1_t1
  let v36 : Index := Scalar.indexCast arg14
  let c0_25 : Index := 0#32
  let c0_26 : Index := 0#32
  ![v36.toNat, 0, 0]
def k1_off2 (k1_t1 : Fin k1_t1_loop.trips) : Fin 3 → Nat :=
  let c15_i32 : BitVec 32 := 15#32
  let c0_i32 : BitVec 32 := 0#32
  let c1_i32 : BitVec 32 := 1#32
  let arg14 : BitVec 32 := Scf.iv c0_i32 c1_i32 k1_t1
  let v80 : BitVec 32 := Scalar.subi c15_i32 arg14
  let v81 : Index := Scalar.indexCast v80
  let c0_36 : Index := 0#32
  let c0_37 : Index := 0#32
  ![v81.toNat, 0, 0]
def k1_off3 (k1_t1 : Fin k1_t1_loop.trips) : Fin 3 → Nat :=
  let c0_i32 : BitVec 32 := 0#32
  let c1_i32 : BitVec 32 := 1#32
  let arg14 : BitVec 32 := Scf.iv c0_i32 c1_i32 k1_t1
  let v125 : Index := Scalar.indexCast arg14
  let c0_47 : Index := 0#32
  let c0_48 : Index := 0#32
  ![v125.toNat, 0, 0]
def k1_off4 (k1_t1 : Fin k1_t1_loop.trips) : Fin 3 → Nat :=
  let c15_i32_49 : BitVec 32 := 15#32
  let c0_i32 : BitVec 32 := 0#32
  let c1_i32 : BitVec 32 := 1#32
  let arg14 : BitVec 32 := Scf.iv c0_i32 c1_i32 k1_t1
  let v129 : BitVec 32 := Scalar.subi c15_i32_49 arg14
  let v130 : Index := Scalar.indexCast v129
  let c0_50 : Index := 0#32
  let c0_51 : Index := 0#32
  ![v130.toNat, 0, 0]
@[reducible] def k1_t2_loop : Scf.Loop 32 :=
  let c0_i32_6 : BitVec 32 := 0#32
  let c16_i32_7 : BitVec 32 := 16#32
  let v9 : BitVec 32 := Scalar.addi c0_i32_6 c16_i32_7
  let c1_i32_8 : BitVec 32 := 1#32
  ⟨c0_i32_6, v9, c1_i32_8⟩
def k1_off5 (k1_t2 : Fin k1_t2_loop.trips) : Fin 3 → Nat :=
  let c0_i32_6 : BitVec 32 := 0#32
  let c1_i32_8 : BitVec 32 := 1#32
  let arg14 : BitVec 32 := Scf.iv c0_i32_6 c1_i32_8 k1_t2
  let v36 : Index := Scalar.indexCast arg14
  let c0_25 : Index := 0#32
  let c0_26 : Index := 0#32
  ![v36.toNat, 0, 0]
def k1_off6 (k1_t2 : Fin k1_t2_loop.trips) : Fin 2 → Nat :=
  let c0_i32_6 : BitVec 32 := 0#32
  let c1_i32_8 : BitVec 32 := 1#32
  let arg14 : BitVec 32 := Scf.iv c0_i32_6 c1_i32_8 k1_t2
  let v46 : Index := Scalar.indexCast arg14
  let c0_32 : Index := 0#32
  ![v46.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x64x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1536x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1536x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]
-- ==== ReferenceIdeal.lean ====
abbrev S64x16x64 : Shape := ⟨3, ![64, 16, 64]⟩
abbrev S100000x64 : Shape := ⟨2, ![100000, 64]⟩
abbrev S64x512 : Shape := ⟨2, ![64, 512]⟩
abbrev S128x512 : Shape := ⟨2, ![128, 512]⟩
abbrev S512 : Shape := ⟨1, ![512]⟩
abbrev S256 : Shape := ⟨1, ![256]⟩
abbrev S64 : Shape := ⟨1, ![64]⟩
abbrev S256x512 : Shape := ⟨2, ![256, 512]⟩
abbrev S16 : Shape := ⟨1, ![16]⟩
abbrev S256x1 : Shape := ⟨2, ![256, 1]⟩
abbrev S1 : Shape := ⟨1, ![1]⟩
abbrev S1024x64 : Shape := ⟨2, ![1024, 64]⟩
abbrev S_ : Shape := ⟨0, ![]⟩
abbrev S1024x64x1 : Shape := ⟨3, ![1024, 64, 1]⟩
abbrev S1x1x1 : Shape := ⟨3, ![1, 1, 1]⟩
abbrev S1024x64x64 : Shape := ⟨3, ![1024, 64, 64]⟩
abbrev S1024x128 : Shape := ⟨2, ![1024, 128]⟩
abbrev S64x1024x64 : Shape := ⟨3, ![64, 1024, 64]⟩
abbrev S64x1024x128 : Shape := ⟨3, ![64, 1024, 128]⟩
abbrev S1x1024x64 : Shape := ⟨3, ![1, 1024, 64]⟩
abbrev S1024x512 : Shape := ⟨2, ![1024, 512]⟩
abbrev S1x512 : Shape := ⟨2, ![1, 512]⟩
abbrev S1x1024x128 : Shape := ⟨3, ![1, 1024, 128]⟩
abbrev S1024x64x128 : Shape := ⟨3, ![1024, 64, 128]⟩
abbrev S1024x64x256 : Shape := ⟨3, ![1024, 64, 256]⟩
abbrev S1x64 : Shape := ⟨2, ![1, 64]⟩
abbrev S1024 : Shape := ⟨1, ![1024]⟩
abbrev S1024x1 : Shape := ⟨2, ![1024, 1]⟩
abbrev S1024x256 : Shape := ⟨2, ![1024, 256]⟩
abbrev S64x16x256 : Shape := ⟨3, ![64, 16, 256]⟩
abbrev S64x128 : Shape := ⟨2, ![64, 128]⟩
abbrev S16x64x256 : Shape := ⟨3, ![16, 64, 256]⟩
abbrev S16x64x128 : Shape := ⟨3, ![16, 64, 128]⟩
abbrev S1x64x256 : Shape := ⟨3, ![1, 64, 256]⟩
abbrev S64x256 : Shape := ⟨2, ![64, 256]⟩
abbrev S1x64x128 : Shape := ⟨3, ![1, 64, 128]⟩
abbrev S64x16x128 : Shape := ⟨3, ![64, 16, 128]⟩
abbrev S64x16 : Shape := ⟨2, ![64, 16]⟩
abbrev S1x16 : Shape := ⟨2, ![1, 16]⟩
abbrev S64x1 : Shape := ⟨2, ![64, 1]⟩
abbrev S64x16x1 : Shape := ⟨3, ![64, 16, 1]⟩
abbrev S1x1 : Shape := ⟨2, ![1, 1]⟩

abbrev nBuf : Space → Nat
  | .hbm => 377
  | .vmem => 0
  | .smem => 0
  | _ => 0

abbrev hbmTy0_0 (i : Nat) : BufTy := match i % 128 with
  | 0 => ⟨S64x16x64, .i32⟩
  | 1 => ⟨S100000x64, .f32⟩
  | 2 => ⟨S64x512, .f32⟩
  | 3 => ⟨S128x512, .f32⟩
  | 4 => ⟨S512, .f32⟩
  | 5 => ⟨S64x512, .f32⟩
  | 6 => ⟨S128x512, .f32⟩
  | 7 => ⟨S512, .f32⟩
  | 8 => ⟨S256, .f32⟩
  | 9 => ⟨S64, .f32⟩
  | 10 => ⟨S256x512, .f32⟩
  | 11 => ⟨S128x512, .f32⟩
  | 12 => ⟨S512, .f32⟩
  | 13 => ⟨S256x512, .f32⟩
  | 14 => ⟨S128x512, .f32⟩
  | 15 => ⟨S512, .f32⟩
  | 16 => ⟨S256, .f32⟩
  | 17 => ⟨S16, .f32⟩
  | 18 => ⟨S256x1, .f32⟩
  | 19 => ⟨S1, .f32⟩
  | 20 => ⟨S1024x64, .i32⟩
  | 21 => ⟨S_, .i32⟩
  | 22 => ⟨S1024x64, .i32⟩
  | 23 => ⟨S1024x64, .i1⟩
  | 24 => ⟨S_, .i32⟩
  | 25 => ⟨S1024x64, .i32⟩
  | 26 => ⟨S1024x64, .i32⟩
  | 27 => ⟨S1024x64, .i32⟩
  | 28 => ⟨S1024x64x1, .i32⟩
  | 29 => ⟨S1, .i32⟩
  | 30 => ⟨S_, .i32⟩
  | 31 => ⟨S1024x64x1, .i32⟩
  | 32 => ⟨S1024x64x1, .i1⟩
  | 33 => ⟨S1x1x1, .i32⟩
  | 34 => ⟨S1024x64x1, .i32⟩
  | 35 => ⟨S1024x64x1, .i1⟩
  | 36 => ⟨S1024x64x1, .i1⟩
  | 37 => ⟨S_, .i1⟩
  | 38 => ⟨S1024x64, .i1⟩
  | 39 => ⟨S1024x64x64, .f32⟩
  | 40 => ⟨S1024x64x64, .i1⟩
  | 41 => ⟨S_, .f32⟩
  | 42 => ⟨S1024x64x64, .f32⟩
  | 43 => ⟨S1024x64x64, .f32⟩
  | 44 => ⟨S_, .f32⟩
  | 45 => ⟨S1024x128, .f32⟩
  | 46 => ⟨S_, .f32⟩
  | 47 => ⟨S1024x128, .f32⟩
  | 48 => ⟨S64x1024x64, .f32⟩
  | 49 => ⟨S_, .f32⟩
  | 50 => ⟨S64x1024x128, .f32⟩
  | 51 => ⟨S_, .i32⟩
  | 52 => ⟨S64x1024x64, .f32⟩
  | 53 => ⟨S64x512, .f32⟩
  | 54 => ⟨S128x512, .f32⟩
  | 55 => ⟨S512, .f32⟩
  | 56 => ⟨S_, .i32⟩
  | 57 => ⟨S1024x128, .f32⟩
  | 58 => ⟨S1024x128, .f32⟩
  | 59 => ⟨S64x1024x128, .f32⟩
  | 60 => ⟨S_, .i32⟩
  | 61 => ⟨S_, .i1⟩
  | 62 => ⟨S_, .i32⟩
  | 63 => ⟨S_, .i32⟩
  | 64 => ⟨S1x1024x64, .f32⟩
  | 65 => ⟨S1024x64, .f32⟩
  | 66 => ⟨S1024x512, .f32⟩
  | 67 => ⟨S1024x512, .f32⟩
  | 68 => ⟨S1024x512, .f32⟩
  | 69 => ⟨S1x512, .f32⟩
  | 70 => ⟨S1024x512, .f32⟩
  | 71 => ⟨S1024x512, .f32⟩
  | 72 => ⟨S1024x128, .f32⟩
  | 73 => ⟨S1024x128, .f32⟩
  | 74 => ⟨S1024x128, .f32⟩
  | 75 => ⟨S1024x128, .f32⟩
  | 76 => ⟨S1024x128, .f32⟩
  | 77 => ⟨S1024x128, .f32⟩
  | 78 => ⟨S_, .f32⟩
  | 79 => ⟨S1024x128, .f32⟩
  | 80 => ⟨S1024x128, .f32⟩
  | 81 => ⟨S_, .f32⟩
  | 82 => ⟨S1024x128, .f32⟩
  | 83 => ⟨S1024x128, .f32⟩
  | 84 => ⟨S1024x128, .f32⟩
  | 85 => ⟨S1024x128, .f32⟩
  | 86 => ⟨S1024x128, .f32⟩
  | 87 => ⟨S_, .f32⟩
  | 88 => ⟨S1024x128, .f32⟩
  | 89 => ⟨S1024x128, .f32⟩
  | 90 => ⟨S_, .f32⟩
  | 91 => ⟨S1024x128, .f32⟩
  | 92 => ⟨S1024x128, .f32⟩
  | 93 => ⟨S1024x128, .f32⟩
  | 94 => ⟨S1024x128, .f32⟩
  | 95 => ⟨S1024x128, .f32⟩
  | 96 => ⟨S1024x128, .f32⟩
  | 97 => ⟨S1024x128, .f32⟩
  | 98 => ⟨S_, .f32⟩
  | 99 => ⟨S1024x128, .f32⟩
  | 100 => ⟨S1024x128, .f32⟩
  | 101 => ⟨S_, .f32⟩
  | 102 => ⟨S1024x128, .f32⟩
  | 103 => ⟨S1024x128, .f32⟩
  | 104 => ⟨S1024x128, .f32⟩
  | 105 => ⟨S1024x128, .f32⟩
  | 106 => ⟨S1x1024x128, .f32⟩
  | 107 => ⟨S_, .i32⟩
  | 108 => ⟨S_, .i32⟩
  | 109 => ⟨S64x1024x128, .f32⟩
  | 110 => ⟨S_, .i32⟩
  | 111 => ⟨S_, .i32⟩
  | 112 => ⟨S1024x64x128, .f32⟩
  | 113 => ⟨S1024x64x64, .f32⟩
  | 114 => ⟨S_, .f32⟩
  | 115 => ⟨S1024x128, .f32⟩
  | 116 => ⟨S_, .f32⟩
  | 117 => ⟨S1024x128, .f32⟩
  | 118 => ⟨S64x1024x64, .f32⟩
  | 119 => ⟨S_, .f32⟩
  | 120 => ⟨S64x1024x128, .f32⟩
  | 121 => ⟨S_, .i32⟩
  | 122 => ⟨S64x1024x64, .f32⟩
  | 123 => ⟨S64x512, .f32⟩
  | 124 => ⟨S128x512, .f32⟩
  | 125 => ⟨S512, .f32⟩
  | 126 => ⟨S_, .i32⟩
  | 127 => ⟨S1024x128, .f32⟩
  | _ => ⟨S64x16x64, .i32⟩

abbrev hbmTy0_1 (i : Nat) : BufTy := match i % 128 with
  | 0 => ⟨S1024x128, .f32⟩
  | 1 => ⟨S64x1024x128, .f32⟩
  | 2 => ⟨S_, .i32⟩
  | 3 => ⟨S_, .i1⟩
  | 4 => ⟨S_, .i32⟩
  | 5 => ⟨S_, .i32⟩
  | 6 => ⟨S1x1024x64, .f32⟩
  | 7 => ⟨S1024x64, .f32⟩
  | 8 => ⟨S1024x512, .f32⟩
  | 9 => ⟨S1024x512, .f32⟩
  | 10 => ⟨S1024x512, .f32⟩
  | 11 => ⟨S1x512, .f32⟩
  | 12 => ⟨S1024x512, .f32⟩
  | 13 => ⟨S1024x512, .f32⟩
  | 14 => ⟨S1024x128, .f32⟩
  | 15 => ⟨S1024x128, .f32⟩
  | 16 => ⟨S1024x128, .f32⟩
  | 17 => ⟨S1024x128, .f32⟩
  | 18 => ⟨S1024x128, .f32⟩
  | 19 => ⟨S1024x128, .f32⟩
  | 20 => ⟨S_, .f32⟩
  | 21 => ⟨S1024x128, .f32⟩
  | 22 => ⟨S1024x128, .f32⟩
  | 23 => ⟨S_, .f32⟩
  | 24 => ⟨S1024x128, .f32⟩
  | 25 => ⟨S1024x128, .f32⟩
  | 26 => ⟨S1024x128, .f32⟩
  | 27 => ⟨S1024x128, .f32⟩
  | 28 => ⟨S1024x128, .f32⟩
  | 29 => ⟨S_, .f32⟩
  | 30 => ⟨S1024x128, .f32⟩
  | 31 => ⟨S1024x128, .f32⟩
  | 32 => ⟨S_, .f32⟩
  | 33 => ⟨S1024x128, .f32⟩
  | 34 => ⟨S1024x128, .f32⟩
  | 35 => ⟨S1024x128, .f32⟩
  | 36 => ⟨S1024x128, .f32⟩
  | 37 => ⟨S1024x128, .f32⟩
  | 38 => ⟨S1024x128, .f32⟩
  | 39 => ⟨S1024x128, .f32⟩
  | 40 => ⟨S_, .f32⟩
  | 41 => ⟨S1024x128, .f32⟩
  | 42 => ⟨S1024x128, .f32⟩
  | 43 => ⟨S_, .f32⟩
  | 44 => ⟨S1024x128, .f32⟩
  | 45 => ⟨S1024x128, .f32⟩
  | 46 => ⟨S1024x128, .f32⟩
  | 47 => ⟨S1024x128, .f32⟩
  | 48 => ⟨S1x1024x128, .f32⟩
  | 49 => ⟨S_, .i32⟩
  | 50 => ⟨S_, .i32⟩
  | 51 => ⟨S64x1024x128, .f32⟩
  | 52 => ⟨S_, .i32⟩
  | 53 => ⟨S_, .i32⟩
  | 54 => ⟨S1024x64x128, .f32⟩
  | 55 => ⟨S1024x64x128, .f32⟩
  | 56 => ⟨S1024x64x256, .f32⟩
  | 57 => ⟨S1024x64, .f32⟩
  | 58 => ⟨S1x64, .f32⟩
  | 59 => ⟨S1024x64, .f32⟩
  | 60 => ⟨S1024x64, .f32⟩
  | 61 => ⟨S1024x64, .f32⟩
  | 62 => ⟨S1024x64, .f32⟩
  | 63 => ⟨S_, .f32⟩
  | 64 => ⟨S1024, .f32⟩
  | 65 => ⟨S1024x1, .f32⟩
  | 66 => ⟨S_, .f32⟩
  | 67 => ⟨S1024x1, .f32⟩
  | 68 => ⟨S1024x1, .f32⟩
  | 69 => ⟨S1024x64, .f32⟩
  | 70 => ⟨S1024x64, .f32⟩
  | 71 => ⟨S1024x64x1, .f32⟩
  | 72 => ⟨S1024x64x256, .f32⟩
  | 73 => ⟨S1024x64x256, .f32⟩
  | 74 => ⟨S_, .f32⟩
  | 75 => ⟨S1024x256, .f32⟩
  | 76 => ⟨S64x16x256, .f32⟩
  | 77 => ⟨S_, .f32⟩
  | 78 => ⟨S64x128, .f32⟩
  | 79 => ⟨S_, .f32⟩
  | 80 => ⟨S64x128, .f32⟩
  | 81 => ⟨S16x64x256, .f32⟩
  | 82 => ⟨S_, .f32⟩
  | 83 => ⟨S16x64x128, .f32⟩
  | 84 => ⟨S_, .i32⟩
  | 85 => ⟨S16x64x256, .f32⟩
  | 86 => ⟨S256x512, .f32⟩
  | 87 => ⟨S128x512, .f32⟩
  | 88 => ⟨S512, .f32⟩
  | 89 => ⟨S_, .i32⟩
  | 90 => ⟨S64x128, .f32⟩
  | 91 => ⟨S64x128, .f32⟩
  | 92 => ⟨S16x64x128, .f32⟩
  | 93 => ⟨S_, .i32⟩
  | 94 => ⟨S_, .i1⟩
  | 95 => ⟨S_, .i32⟩
  | 96 => ⟨S_, .i32⟩
  | 97 => ⟨S1x64x256, .f32⟩
  | 98 => ⟨S64x256, .f32⟩
  | 99 => ⟨S64x512, .f32⟩
  | 100 => ⟨S64x512, .f32⟩
  | 101 => ⟨S64x512, .f32⟩
  | 102 => ⟨S1x512, .f32⟩
  | 103 => ⟨S64x512, .f32⟩
  | 104 => ⟨S64x512, .f32⟩
  | 105 => ⟨S64x128, .f32⟩
  | 106 => ⟨S64x128, .f32⟩
  | 107 => ⟨S64x128, .f32⟩
  | 108 => ⟨S64x128, .f32⟩
  | 109 => ⟨S64x128, .f32⟩
  | 110 => ⟨S64x128, .f32⟩
  | 111 => ⟨S_, .f32⟩
  | 112 => ⟨S64x128, .f32⟩
  | 113 => ⟨S64x128, .f32⟩
  | 114 => ⟨S_, .f32⟩
  | 115 => ⟨S64x128, .f32⟩
  | 116 => ⟨S64x128, .f32⟩
  | 117 => ⟨S64x128, .f32⟩
  | 118 => ⟨S64x128, .f32⟩
  | 119 => ⟨S64x128, .f32⟩
  | 120 => ⟨S_, .f32⟩
  | 121 => ⟨S64x128, .f32⟩
  | 122 => ⟨S64x128, .f32⟩
  | 123 => ⟨S_, .f32⟩
  | 124 => ⟨S64x128, .f32⟩
  | 125 => ⟨S64x128, .f32⟩
  | 126 => ⟨S64x128, .f32⟩
  | 127 => ⟨S64x128, .f32⟩
  | _ => ⟨S64x16x64, .i32⟩

abbrev hbmTy0_2 (i : Nat) : BufTy := match i % 128 with
  | 0 => ⟨S64x128, .f32⟩
  | 1 => ⟨S64x128, .f32⟩
  | 2 => ⟨S64x128, .f32⟩
  | 3 => ⟨S_, .f32⟩
  | 4 => ⟨S64x128, .f32⟩
  | 5 => ⟨S64x128, .f32⟩
  | 6 => ⟨S_, .f32⟩
  | 7 => ⟨S64x128, .f32⟩
  | 8 => ⟨S64x128, .f32⟩
  | 9 => ⟨S64x128, .f32⟩
  | 10 => ⟨S64x128, .f32⟩
  | 11 => ⟨S1x64x128, .f32⟩
  | 12 => ⟨S_, .i32⟩
  | 13 => ⟨S_, .i32⟩
  | 14 => ⟨S16x64x128, .f32⟩
  | 15 => ⟨S_, .i32⟩
  | 16 => ⟨S_, .i32⟩
  | 17 => ⟨S64x16x128, .f32⟩
  | 18 => ⟨S64x16x256, .f32⟩
  | 19 => ⟨S_, .f32⟩
  | 20 => ⟨S64x128, .f32⟩
  | 21 => ⟨S_, .f32⟩
  | 22 => ⟨S64x128, .f32⟩
  | 23 => ⟨S16x64x256, .f32⟩
  | 24 => ⟨S_, .f32⟩
  | 25 => ⟨S16x64x128, .f32⟩
  | 26 => ⟨S_, .i32⟩
  | 27 => ⟨S16x64x256, .f32⟩
  | 28 => ⟨S256x512, .f32⟩
  | 29 => ⟨S128x512, .f32⟩
  | 30 => ⟨S512, .f32⟩
  | 31 => ⟨S_, .i32⟩
  | 32 => ⟨S64x128, .f32⟩
  | 33 => ⟨S64x128, .f32⟩
  | 34 => ⟨S16x64x128, .f32⟩
  | 35 => ⟨S_, .i32⟩
  | 36 => ⟨S_, .i1⟩
  | 37 => ⟨S_, .i32⟩
  | 38 => ⟨S_, .i32⟩
  | 39 => ⟨S1x64x256, .f32⟩
  | 40 => ⟨S64x256, .f32⟩
  | 41 => ⟨S64x512, .f32⟩
  | 42 => ⟨S64x512, .f32⟩
  | 43 => ⟨S64x512, .f32⟩
  | 44 => ⟨S1x512, .f32⟩
  | 45 => ⟨S64x512, .f32⟩
  | 46 => ⟨S64x512, .f32⟩
  | 47 => ⟨S64x128, .f32⟩
  | 48 => ⟨S64x128, .f32⟩
  | 49 => ⟨S64x128, .f32⟩
  | 50 => ⟨S64x128, .f32⟩
  | 51 => ⟨S64x128, .f32⟩
  | 52 => ⟨S64x128, .f32⟩
  | 53 => ⟨S_, .f32⟩
  | 54 => ⟨S64x128, .f32⟩
  | 55 => ⟨S64x128, .f32⟩
  | 56 => ⟨S_, .f32⟩
  | 57 => ⟨S64x128, .f32⟩
  | 58 => ⟨S64x128, .f32⟩
  | 59 => ⟨S64x128, .f32⟩
  | 60 => ⟨S64x128, .f32⟩
  | 61 => ⟨S64x128, .f32⟩
  | 62 => ⟨S_, .f32⟩
  | 63 => ⟨S64x128, .f32⟩
  | 64 => ⟨S64x128, .f32⟩
  | 65 => ⟨S_, .f32⟩
  | 66 => ⟨S64x128, .f32⟩
  | 67 => ⟨S64x128, .f32⟩
  | 68 => ⟨S64x128, .f32⟩
  | 69 => ⟨S64x128, .f32⟩
  | 70 => ⟨S64x128, .f32⟩
  | 71 => ⟨S64x128, .f32⟩
  | 72 => ⟨S64x128, .f32⟩
  | 73 => ⟨S_, .f32⟩
  | 74 => ⟨S64x128, .f32⟩
  | 75 => ⟨S64x128, .f32⟩
  | 76 => ⟨S_, .f32⟩
  | 77 => ⟨S64x128, .f32⟩
  | 78 => ⟨S64x128, .f32⟩
  | 79 => ⟨S64x128, .f32⟩
  | 80 => ⟨S64x128, .f32⟩
  | 81 => ⟨S1x64x128, .f32⟩
  | 82 => ⟨S_, .i32⟩
  | 83 => ⟨S_, .i32⟩
  | 84 => ⟨S16x64x128, .f32⟩
  | 85 => ⟨S_, .i32⟩
  | 86 => ⟨S_, .i32⟩
  | 87 => ⟨S64x16x128, .f32⟩
  | 88 => ⟨S64x16x128, .f32⟩
  | 89 => ⟨S64x16x256, .f32⟩
  | 90 => ⟨S64x16, .f32⟩
  | 91 => ⟨S1x16, .f32⟩
  | 92 => ⟨S64x16, .f32⟩
  | 93 => ⟨S64x16, .f32⟩
  | 94 => ⟨S64x16, .f32⟩
  | 95 => ⟨S64x16, .f32⟩
  | 96 => ⟨S_, .f32⟩
  | 97 => ⟨S64, .f32⟩
  | 98 => ⟨S64x1, .f32⟩
  | 99 => ⟨S_, .f32⟩
  | 100 => ⟨S64x1, .f32⟩
  | 101 => ⟨S64x1, .f32⟩
  | 102 => ⟨S64x16, .f32⟩
  | 103 => ⟨S64x16, .f32⟩
  | 104 => ⟨S64x16x1, .f32⟩
  | 105 => ⟨S64x16x256, .f32⟩
  | 106 => ⟨S64x16x256, .f32⟩
  | 107 => ⟨S_, .f32⟩
  | 108 => ⟨S64x256, .f32⟩
  | 109 => ⟨S64x1, .f32⟩
  | 110 => ⟨S1x1, .f32⟩
  | 111 => ⟨S64x1, .f32⟩
  | 112 => ⟨S64x1, .f32⟩
  | 113 => ⟨S64x1, .f32⟩
  | 114 => ⟨S64x1, .f32⟩
  | 115 => ⟨S_, .f32⟩
  | 116 => ⟨S64x1, .f32⟩
  | 117 => ⟨S64x1, .f32⟩
  | 118 => ⟨S_, .f32⟩
  | 119 => ⟨S64x1, .f32⟩
  | 120 => ⟨S64x1, .f32⟩
  | _ => ⟨S64x16x64, .i32⟩

abbrev hbmTy (i : Nat) : BufTy := match i / 128 with
  | 0 => hbmTy0_0 i
  | 1 => hbmTy0_1 i
  | 2 => hbmTy0_2 i
  | _ => ⟨S64x16x64, .i32⟩

abbrev bufTy : (tb : Table) → Fin (tcTables nBuf tb) → BufTy
  | .hbm, ⟨i, _⟩ => hbmTy i
  | _, _ => ⟨S64x16x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v1 : Ref sig .tc := ⟨.hbm, 43, rfl⟩
abbrev main_cst : Ref sig .tc := ⟨.hbm, 44, rfl⟩
abbrev main_v2 : Ref sig .tc := ⟨.hbm, 45, rfl⟩
abbrev main_cst_0 : Ref sig .tc := ⟨.hbm, 46, rfl⟩
abbrev main_v3 : Ref sig .tc := ⟨.hbm, 47, rfl⟩
abbrev main_v4 : Ref sig .tc := ⟨.hbm, 48, rfl⟩
abbrev main_cst_1 : Ref sig .tc := ⟨.hbm, 49, rfl⟩
abbrev main_v5 : Ref sig .tc := ⟨.hbm, 50, rfl⟩
abbrev main_c : Ref sig .tc := ⟨.hbm, 51, rfl⟩
abbrev main_v6_0 : Ref sig .tc := ⟨.hbm, 52, rfl⟩
abbrev main_v6_1 : Ref sig .tc := ⟨.hbm, 53, rfl⟩
abbrev main_v6_2 : Ref sig .tc := ⟨.hbm, 54, rfl⟩
abbrev main_v6_3 : Ref sig .tc := ⟨.hbm, 55, rfl⟩
abbrev main_v6_4 : Ref sig .tc := ⟨.hbm, 56, rfl⟩
abbrev main_v6_5 : Ref sig .tc := ⟨.hbm, 57, rfl⟩
abbrev main_v6_6 : Ref sig .tc := ⟨.hbm, 58, rfl⟩
abbrev main_v6_7 : Ref sig .tc := ⟨.hbm, 59, rfl⟩
abbrev main_while0c_c_29 : Ref sig .tc := ⟨.hbm, 60, rfl⟩
abbrev main_while0c_v75 : Ref sig .tc := ⟨.hbm, 61, rfl⟩
abbrev main_while0b_call1_c : Ref sig .tc := ⟨.hbm, 62, rfl⟩
abbrev main_while0b_call1_c_0 : Ref sig .tc := ⟨.hbm, 63, rfl⟩
abbrev main_while0b_call1_v0 : Ref sig .tc := ⟨.hbm, 64, rfl⟩
abbrev main_while0b_v75 : Ref sig .tc := ⟨.hbm, 65, rfl⟩
abbrev main_while0b_v76 : Ref sig .tc := ⟨.hbm, 66, rfl⟩
abbrev main_while0b_v77 : Ref sig .tc := ⟨.hbm, 67, rfl⟩
abbrev main_while0b_v78 : Ref sig .tc := ⟨.hbm, 68, rfl⟩
abbrev main_while0b_v79 : Ref sig .tc := ⟨.hbm, 69, rfl⟩
abbrev main_while0b_v80 : Ref sig .tc := ⟨.hbm, 70, rfl⟩
abbrev main_while0b_v81 : Ref sig .tc := ⟨.hbm, 71, rfl⟩
abbrev main_while0b_v82 : Ref sig .tc := ⟨.hbm, 72, rfl⟩
abbrev main_while0b_v83 : Ref sig .tc := ⟨.hbm, 73, rfl⟩
abbrev main_while0b_v84 : Ref sig .tc := ⟨.hbm, 74, rfl⟩
abbrev main_while0b_v85 : Ref sig .tc := ⟨.hbm, 75, rfl⟩
abbrev main_while0b_v86 : Ref sig .tc := ⟨.hbm, 76, rfl⟩
abbrev main_while0b_v87 : Ref sig .tc := ⟨.hbm, 77, rfl⟩
abbrev main_while0b_cst_29 : Ref sig .tc := ⟨.hbm, 78, rfl⟩
abbrev main_while0b_v88 : Ref sig .tc := ⟨.hbm, 79, rfl⟩
abbrev main_while0b_v89 : Ref sig .tc := ⟨.hbm, 80, rfl⟩
abbrev main_while0b_cst_30 : Ref sig .tc := ⟨.hbm, 81, rfl⟩
abbrev main_while0b_v90 : Ref sig .tc := ⟨.hbm, 82, rfl⟩
abbrev main_while0b_v91 : Ref sig .tc := ⟨.hbm, 83, rfl⟩
abbrev main_while0b_v92 : Ref sig .tc := ⟨.hbm, 84, rfl⟩
abbrev main_while0b_v93 : Ref sig .tc := ⟨.hbm, 85, rfl⟩
abbrev main_while0b_v94 : Ref sig .tc := ⟨.hbm, 86, rfl⟩
abbrev main_while0b_cst_31 : Ref sig .tc := ⟨.hbm, 87, rfl⟩
abbrev main_while0b_v95 : Ref sig .tc := ⟨.hbm, 88, rfl⟩
abbrev main_while0b_v96 : Ref sig .tc := ⟨.hbm, 89, rfl⟩
abbrev main_while0b_cst_32 : Ref sig .tc := ⟨.hbm, 90, rfl⟩
abbrev main_while0b_v97 : Ref sig .tc := ⟨.hbm, 91, rfl⟩
abbrev main_while0b_v98 : Ref sig .tc := ⟨.hbm, 92, rfl⟩
abbrev main_while0b_v99 : Ref sig .tc := ⟨.hbm, 93, rfl⟩
abbrev main_while0b_v100 : Ref sig .tc := ⟨.hbm, 94, rfl⟩
abbrev main_while0b_v101 : Ref sig .tc := ⟨.hbm, 95, rfl⟩
abbrev main_while0b_v102 : Ref sig .tc := ⟨.hbm, 96, rfl⟩
abbrev main_while0b_v103 : Ref sig .tc := ⟨.hbm, 97, rfl⟩
abbrev main_while0b_cst_33 : Ref sig .tc := ⟨.hbm, 98, rfl⟩
abbrev main_while0b_v104 : Ref sig .tc := ⟨.hbm, 99, rfl⟩
abbrev main_while0b_v105 : Ref sig .tc := ⟨.hbm, 100, rfl⟩
abbrev main_while0b_cst_34 : Ref sig .tc := ⟨.hbm, 101, rfl⟩
abbrev main_while0b_v106 : Ref sig .tc := ⟨.hbm, 102, rfl⟩
abbrev main_while0b_v107 : Ref sig .tc := ⟨.hbm, 103, rfl⟩
abbrev main_while0b_v108 : Ref sig .tc := ⟨.hbm, 104, rfl⟩
abbrev main_while0b_v109 : Ref sig .tc := ⟨.hbm, 105, rfl⟩
abbrev main_while0b_call2_v0 : Ref sig .tc := ⟨.hbm, 106, rfl⟩
abbrev main_while0b_call2_c : Ref sig .tc := ⟨.hbm, 107, rfl⟩
abbrev main_while0b_call2_c_0 : Ref sig .tc := ⟨.hbm, 108, rfl⟩
abbrev main_while0b_v110 : Ref sig .tc := ⟨.hbm, 109, rfl⟩
abbrev main_while0b_c_35 : Ref sig .tc := ⟨.hbm, 110, rfl⟩
abbrev main_while0b_v111 : Ref sig .tc := ⟨.hbm, 111, rfl⟩
abbrev main_v7 : Ref sig .tc := ⟨.hbm, 112, rfl⟩
abbrev main_v8 : Ref sig .tc := ⟨.hbm, 113, rfl⟩
abbrev main_cst_2 : Ref sig .tc := ⟨.hbm, 114, rfl⟩
abbrev main_v9 : Ref sig .tc := ⟨.hbm, 115, rfl⟩
abbrev main_cst_3 : Ref sig .tc := ⟨.hbm, 116, rfl⟩
abbrev main_v10 : Ref sig .tc := ⟨.hbm, 117, rfl⟩
abbrev main_v11 : Ref sig .tc := ⟨.hbm, 118, rfl⟩
abbrev main_cst_4 : Ref sig .tc := ⟨.hbm, 119, rfl⟩
abbrev main_v12 : Ref sig .tc := ⟨.hbm, 120, rfl⟩
abbrev main_c_5 : Ref sig .tc := ⟨.hbm, 121, rfl⟩
abbrev main_v13_0 : Ref sig .tc := ⟨.hbm, 122, rfl⟩
abbrev main_v13_1 : Ref sig .tc := ⟨.hbm, 123, rfl⟩
abbrev main_v13_2 : Ref sig .tc := ⟨.hbm, 124, rfl⟩
abbrev main_v13_3 : Ref sig .tc := ⟨.hbm, 125, rfl⟩
abbrev main_v13_4 : Ref sig .tc := ⟨.hbm, 126, rfl⟩
abbrev main_v13_5 : Ref sig .tc := ⟨.hbm, 127, rfl⟩
abbrev main_v13_6 : Ref sig .tc := ⟨.hbm, 128, rfl⟩
abbrev main_v13_7 : Ref sig .tc := ⟨.hbm, 129, rfl⟩
abbrev main_while1c_c_29 : Ref sig .tc := ⟨.hbm, 130, rfl⟩
abbrev main_while1c_v75 : Ref sig .tc := ⟨.hbm, 131, rfl⟩
abbrev main_while1b_call3_c : Ref sig .tc := ⟨.hbm, 132, rfl⟩
abbrev main_while1b_call3_c_0 : Ref sig .tc := ⟨.hbm, 133, rfl⟩
abbrev main_while1b_call3_v0 : Ref sig .tc := ⟨.hbm, 134, rfl⟩
abbrev main_while1b_v75 : Ref sig .tc := ⟨.hbm, 135, rfl⟩
abbrev main_while1b_v76 : Ref sig .tc := ⟨.hbm, 136, rfl⟩
abbrev main_while1b_v77 : Ref sig .tc := ⟨.hbm, 137, rfl⟩
abbrev main_while1b_v78 : Ref sig .tc := ⟨.hbm, 138, rfl⟩
abbrev main_while1b_v79 : Ref sig .tc := ⟨.hbm, 139, rfl⟩
abbrev main_while1b_v80 : Ref sig .tc := ⟨.hbm, 140, rfl⟩
abbrev main_while1b_v81 : Ref sig .tc := ⟨.hbm, 141, rfl⟩
abbrev main_while1b_v82 : Ref sig .tc := ⟨.hbm, 142, rfl⟩
abbrev main_while1b_v83 : Ref sig .tc := ⟨.hbm, 143, rfl⟩
abbrev main_while1b_v84 : Ref sig .tc := ⟨.hbm, 144, rfl⟩
abbrev main_while1b_v85 : Ref sig .tc := ⟨.hbm, 145, rfl⟩
abbrev main_while1b_v86 : Ref sig .tc := ⟨.hbm, 146, rfl⟩
abbrev main_while1b_v87 : Ref sig .tc := ⟨.hbm, 147, rfl⟩
abbrev main_while1b_cst_29 : Ref sig .tc := ⟨.hbm, 148, rfl⟩
abbrev main_while1b_v88 : Ref sig .tc := ⟨.hbm, 149, rfl⟩
abbrev main_while1b_v89 : Ref sig .tc := ⟨.hbm, 150, rfl⟩
abbrev main_while1b_cst_30 : Ref sig .tc := ⟨.hbm, 151, rfl⟩
abbrev main_while1b_v90 : Ref sig .tc := ⟨.hbm, 152, rfl⟩
abbrev main_while1b_v91 : Ref sig .tc := ⟨.hbm, 153, rfl⟩
abbrev main_while1b_v92 : Ref sig .tc := ⟨.hbm, 154, rfl⟩
abbrev main_while1b_v93 : Ref sig .tc := ⟨.hbm, 155, rfl⟩
abbrev main_while1b_v94 : Ref sig .tc := ⟨.hbm, 156, rfl⟩
abbrev main_while1b_cst_31 : Ref sig .tc := ⟨.hbm, 157, rfl⟩
abbrev main_while1b_v95 : Ref sig .tc := ⟨.hbm, 158, rfl⟩
abbrev main_while1b_v96 : Ref sig .tc := ⟨.hbm, 159, rfl⟩
abbrev main_while1b_cst_32 : Ref sig .tc := ⟨.hbm, 160, rfl⟩
abbrev main_while1b_v97 : Ref sig .tc := ⟨.hbm, 161, rfl⟩
abbrev main_while1b_v98 : Ref sig .tc := ⟨.hbm, 162, rfl⟩
abbrev main_while1b_v99 : Ref sig .tc := ⟨.hbm, 163, rfl⟩
abbrev main_while1b_v100 : Ref sig .tc := ⟨.hbm, 164, rfl⟩
abbrev main_while1b_v101 : Ref sig .tc := ⟨.hbm, 165, rfl⟩
abbrev main_while1b_v102 : Ref sig .tc := ⟨.hbm, 166, rfl⟩
abbrev main_while1b_v103 : Ref sig .tc := ⟨.hbm, 167, rfl⟩
abbrev main_while1b_cst_33 : Ref sig .tc := ⟨.hbm, 168, rfl⟩
abbrev main_while1b_v104 : Ref sig .tc := ⟨.hbm, 169, rfl⟩
abbrev main_while1b_v105 : Ref sig .tc := ⟨.hbm, 170, rfl⟩
abbrev main_while1b_cst_34 : Ref sig .tc := ⟨.hbm, 171, rfl⟩
abbrev main_while1b_v106 : Ref sig .tc := ⟨.hbm, 172, rfl⟩
abbrev main_while1b_v107 : Ref sig .tc := ⟨.hbm, 173, rfl⟩
abbrev main_while1b_v108 : Ref sig .tc := ⟨.hbm, 174, rfl⟩
abbrev main_while1b_v109 : Ref sig .tc := ⟨.hbm, 175, rfl⟩
abbrev main_while1b_call4_v0 : Ref sig .tc := ⟨.hbm, 176, rfl⟩
abbrev main_while1b_call4_c : Ref sig .tc := ⟨.hbm, 177, rfl⟩
abbrev main_while1b_call4_c_0 : Ref sig .tc := ⟨.hbm, 178, rfl⟩
abbrev main_while1b_v110 : Ref sig .tc := ⟨.hbm, 179, rfl⟩
abbrev main_while1b_c_35 : Ref sig .tc := ⟨.hbm, 180, rfl⟩
abbrev main_while1b_v111 : Ref sig .tc := ⟨.hbm, 181, rfl⟩
abbrev main_v14 : Ref sig .tc := ⟨.hbm, 182, rfl⟩
abbrev main_v15 : Ref sig .tc := ⟨.hbm, 183, rfl⟩
abbrev main_v16 : Ref sig .tc := ⟨.hbm, 184, rfl⟩
abbrev main_v17 : Ref sig .tc := ⟨.hbm, 185, rfl⟩
abbrev main_v18 : Ref sig .tc := ⟨.hbm, 186, rfl⟩
abbrev main_v19 : Ref sig .tc := ⟨.hbm, 187, rfl⟩
abbrev main_v20 : Ref sig .tc := ⟨.hbm, 188, rfl⟩
abbrev main_v21 : Ref sig .tc := ⟨.hbm, 189, rfl⟩
abbrev main_v22 : Ref sig .tc := ⟨.hbm, 190, rfl⟩
abbrev main_cst_6 : Ref sig .tc := ⟨.hbm, 191, rfl⟩
abbrev main_v23 : Ref sig .tc := ⟨.hbm, 192, rfl⟩
abbrev main_v24 : Ref sig .tc := ⟨.hbm, 193, rfl⟩
abbrev main_cst_7 : Ref sig .tc := ⟨.hbm, 194, rfl⟩
abbrev main_v25 : Ref sig .tc := ⟨.hbm, 195, rfl⟩
abbrev main_v26 : Ref sig .tc := ⟨.hbm, 196, rfl⟩
abbrev main_v27 : Ref sig .tc := ⟨.hbm, 197, rfl⟩
abbrev main_v28 : Ref sig .tc := ⟨.hbm, 198, rfl⟩
abbrev main_v29 : Ref sig .tc := ⟨.hbm, 199, rfl⟩
abbrev main_v30 : Ref sig .tc := ⟨.hbm, 200, rfl⟩
abbrev main_v31 : Ref sig .tc := ⟨.hbm, 201, rfl⟩
abbrev main_cst_8 : Ref sig .tc := ⟨.hbm, 202, rfl⟩
abbrev main_v32 : Ref sig .tc := ⟨.hbm, 203, rfl⟩
abbrev main_v33 : Ref sig .tc := ⟨.hbm, 204, rfl⟩
abbrev main_cst_9 : Ref sig .tc := ⟨.hbm, 205, rfl⟩
abbrev main_v34 : Ref sig .tc := ⟨.hbm, 206, rfl⟩
abbrev main_cst_10 : Ref sig .tc := ⟨.hbm, 207, rfl⟩
abbrev main_v35 : Ref sig .tc := ⟨.hbm, 208, rfl⟩
abbrev main_v36 : Ref sig .tc := ⟨.hbm, 209, rfl⟩
abbrev main_cst_11 : Ref sig .tc := ⟨.hbm, 210, rfl⟩
abbrev main_v37 : Ref sig .tc := ⟨.hbm, 211, rfl⟩
abbrev main_c_12 : Ref sig .tc := ⟨.hbm, 212, rfl⟩
abbrev main_v38_0 : Ref sig .tc := ⟨.hbm, 213, rfl⟩
abbrev main_v38_1 : Ref sig .tc := ⟨.hbm, 214, rfl⟩
abbrev main_v38_2 : Ref sig .tc := ⟨.hbm, 215, rfl⟩
abbrev main_v38_3 : Ref sig .tc := ⟨.hbm, 216, rfl⟩
abbrev main_v38_4 : Ref sig .tc := ⟨.hbm, 217, rfl⟩
abbrev main_v38_5 : Ref sig .tc := ⟨.hbm, 218, rfl⟩
abbrev main_v38_6 : Ref sig .tc := ⟨.hbm, 219, rfl⟩
abbrev main_v38_7 : Ref sig .tc := ⟨.hbm, 220, rfl⟩
abbrev main_while2c_c_29 : Ref sig .tc := ⟨.hbm, 221, rfl⟩
abbrev main_while2c_v75 : Ref sig .tc := ⟨.hbm, 222, rfl⟩
abbrev main_while2b_call5_c : Ref sig .tc := ⟨.hbm, 223, rfl⟩
abbrev main_while2b_call5_c_0 : Ref sig .tc := ⟨.hbm, 224, rfl⟩
abbrev main_while2b_call5_v0 : Ref sig .tc := ⟨.hbm, 225, rfl⟩
abbrev main_while2b_v75 : Ref sig .tc := ⟨.hbm, 226, rfl⟩
abbrev main_while2b_v76 : Ref sig .tc := ⟨.hbm, 227, rfl⟩
abbrev main_while2b_v77 : Ref sig .tc := ⟨.hbm, 228, rfl⟩
abbrev main_while2b_v78 : Ref sig .tc := ⟨.hbm, 229, rfl⟩
abbrev main_while2b_v79 : Ref sig .tc := ⟨.hbm, 230, rfl⟩
abbrev main_while2b_v80 : Ref sig .tc := ⟨.hbm, 231, rfl⟩
abbrev main_while2b_v81 : Ref sig .tc := ⟨.hbm, 232, rfl⟩
abbrev main_while2b_v82 : Ref sig .tc := ⟨.hbm, 233, rfl⟩
abbrev main_while2b_v83 : Ref sig .tc := ⟨.hbm, 234, rfl⟩
abbrev main_while2b_v84 : Ref sig .tc := ⟨.hbm, 235, rfl⟩
abbrev main_while2b_v85 : Ref sig .tc := ⟨.hbm, 236, rfl⟩
abbrev main_while2b_v86 : Ref sig .tc := ⟨.hbm, 237, rfl⟩
abbrev main_while2b_v87 : Ref sig .tc := ⟨.hbm, 238, rfl⟩
abbrev main_while2b_cst_29 : Ref sig .tc := ⟨.hbm, 239, rfl⟩
abbrev main_while2b_v88 : Ref sig .tc := ⟨.hbm, 240, rfl⟩
abbrev main_while2b_v89 : Ref sig .tc := ⟨.hbm, 241, rfl⟩
abbrev main_while2b_cst_30 : Ref sig .tc := ⟨.hbm, 242, rfl⟩
abbrev main_while2b_v90 : Ref sig .tc := ⟨.hbm, 243, rfl⟩
abbrev main_while2b_v91 : Ref sig .tc := ⟨.hbm, 244, rfl⟩
abbrev main_while2b_v92 : Ref sig .tc := ⟨.hbm, 245, rfl⟩
abbrev main_while2b_v93 : Ref sig .tc := ⟨.hbm, 246, rfl⟩
abbrev main_while2b_v94 : Ref sig .tc := ⟨.hbm, 247, rfl⟩
abbrev main_while2b_cst_31 : Ref sig .tc := ⟨.hbm, 248, rfl⟩
abbrev main_while2b_v95 : Ref sig .tc := ⟨.hbm, 249, rfl⟩
abbrev main_while2b_v96 : Ref sig .tc := ⟨.hbm, 250, rfl⟩
abbrev main_while2b_cst_32 : Ref sig .tc := ⟨.hbm, 251, rfl⟩
abbrev main_while2b_v97 : Ref sig .tc := ⟨.hbm, 252, rfl⟩
abbrev main_while2b_v98 : Ref sig .tc := ⟨.hbm, 253, rfl⟩
abbrev main_while2b_v99 : Ref sig .tc := ⟨.hbm, 254, rfl⟩
abbrev main_while2b_v100 : Ref sig .tc := ⟨.hbm, 255, rfl⟩
abbrev main_while2b_v101 : Ref sig .tc := ⟨.hbm, 256, rfl⟩
abbrev main_while2b_v102 : Ref sig .tc := ⟨.hbm, 257, rfl⟩
abbrev main_while2b_v103 : Ref sig .tc := ⟨.hbm, 258, rfl⟩
abbrev main_while2b_cst_33 : Ref sig .tc := ⟨.hbm, 259, rfl⟩
abbrev main_while2b_v104 : Ref sig .tc := ⟨.hbm, 260, rfl⟩
abbrev main_while2b_v105 : Ref sig .tc := ⟨.hbm, 261, rfl⟩
abbrev main_while2b_cst_34 : Ref sig .tc := ⟨.hbm, 262, rfl⟩
abbrev main_while2b_v106 : Ref sig .tc := ⟨.hbm, 263, rfl⟩
abbrev main_while2b_v107 : Ref sig .tc := ⟨.hbm, 264, rfl⟩
abbrev main_while2b_v108 : Ref sig .tc := ⟨.hbm, 265, rfl⟩
abbrev main_while2b_v109 : Ref sig .tc := ⟨.hbm, 266, rfl⟩
abbrev main_while2b_call6_v0 : Ref sig .tc := ⟨.hbm, 267, rfl⟩
abbrev main_while2b_call6_c : Ref sig .tc := ⟨.hbm, 268, rfl⟩
abbrev main_while2b_call6_c_0 : Ref sig .tc := ⟨.hbm, 269, rfl⟩
abbrev main_while2b_v110 : Ref sig .tc := ⟨.hbm, 270, rfl⟩
abbrev main_while2b_c_35 : Ref sig .tc := ⟨.hbm, 271, rfl⟩
abbrev main_while2b_v111 : Ref sig .tc := ⟨.hbm, 272, rfl⟩
abbrev main_v39 : Ref sig .tc := ⟨.hbm, 273, rfl⟩
abbrev main_v40 : Ref sig .tc := ⟨.hbm, 274, rfl⟩
abbrev main_cst_13 : Ref sig .tc := ⟨.hbm, 275, rfl⟩
abbrev main_v41 : Ref sig .tc := ⟨.hbm, 276, rfl⟩
abbrev main_cst_14 : Ref sig .tc := ⟨.hbm, 277, rfl⟩
abbrev main_v42 : Ref sig .tc := ⟨.hbm, 278, rfl⟩
abbrev main_v43 : Ref sig .tc := ⟨.hbm, 279, rfl⟩
abbrev main_cst_15 : Ref sig .tc := ⟨.hbm, 280, rfl⟩
abbrev main_v44 : Ref sig .tc := ⟨.hbm, 281, rfl⟩
abbrev main_c_16 : Ref sig .tc := ⟨.hbm, 282, rfl⟩
abbrev main_v45_0 : Ref sig .tc := ⟨.hbm, 283, rfl⟩
abbrev main_v45_1 : Ref sig .tc := ⟨.hbm, 284, rfl⟩
abbrev main_v45_2 : Ref sig .tc := ⟨.hbm, 285, rfl⟩
abbrev main_v45_3 : Ref sig .tc := ⟨.hbm, 286, rfl⟩
abbrev main_v45_4 : Ref sig .tc := ⟨.hbm, 287, rfl⟩
abbrev main_v45_5 : Ref sig .tc := ⟨.hbm, 288, rfl⟩
abbrev main_v45_6 : Ref sig .tc := ⟨.hbm, 289, rfl⟩
abbrev main_v45_7 : Ref sig .tc := ⟨.hbm, 290, rfl⟩
abbrev main_while3c_c_29 : Ref sig .tc := ⟨.hbm, 291, rfl⟩
abbrev main_while3c_v75 : Ref sig .tc := ⟨.hbm, 292, rfl⟩
abbrev main_while3b_call7_c : Ref sig .tc := ⟨.hbm, 293, rfl⟩
abbrev main_while3b_call7_c_0 : Ref sig .tc := ⟨.hbm, 294, rfl⟩
abbrev main_while3b_call7_v0 : Ref sig .tc := ⟨.hbm, 295, rfl⟩
abbrev main_while3b_v75 : Ref sig .tc := ⟨.hbm, 296, rfl⟩
abbrev main_while3b_v76 : Ref sig .tc := ⟨.hbm, 297, rfl⟩
abbrev main_while3b_v77 : Ref sig .tc := ⟨.hbm, 298, rfl⟩
abbrev main_while3b_v78 : Ref sig .tc := ⟨.hbm, 299, rfl⟩
abbrev main_while3b_v79 : Ref sig .tc := ⟨.hbm, 300, rfl⟩
abbrev main_while3b_v80 : Ref sig .tc := ⟨.hbm, 301, rfl⟩
abbrev main_while3b_v81 : Ref sig .tc := ⟨.hbm, 302, rfl⟩
abbrev main_while3b_v82 : Ref sig .tc := ⟨.hbm, 303, rfl⟩
abbrev main_while3b_v83 : Ref sig .tc := ⟨.hbm, 304, rfl⟩
abbrev main_while3b_v84 : Ref sig .tc := ⟨.hbm, 305, rfl⟩
abbrev main_while3b_v85 : Ref sig .tc := ⟨.hbm, 306, rfl⟩
abbrev main_while3b_v86 : Ref sig .tc := ⟨.hbm, 307, rfl⟩
abbrev main_while3b_v87 : Ref sig .tc := ⟨.hbm, 308, rfl⟩
abbrev main_while3b_cst_29 : Ref sig .tc := ⟨.hbm, 309, rfl⟩
abbrev main_while3b_v88 : Ref sig .tc := ⟨.hbm, 310, rfl⟩
abbrev main_while3b_v89 : Ref sig .tc := ⟨.hbm, 311, rfl⟩
abbrev main_while3b_cst_30 : Ref sig .tc := ⟨.hbm, 312, rfl⟩
abbrev main_while3b_v90 : Ref sig .tc := ⟨.hbm, 313, rfl⟩
abbrev main_while3b_v91 : Ref sig .tc := ⟨.hbm, 314, rfl⟩
abbrev main_while3b_v92 : Ref sig .tc := ⟨.hbm, 315, rfl⟩
abbrev main_while3b_v93 : Ref sig .tc := ⟨.hbm, 316, rfl⟩
abbrev main_while3b_v94 : Ref sig .tc := ⟨.hbm, 317, rfl⟩
abbrev main_while3b_cst_31 : Ref sig .tc := ⟨.hbm, 318, rfl⟩
abbrev main_while3b_v95 : Ref sig .tc := ⟨.hbm, 319, rfl⟩
abbrev main_while3b_v96 : Ref sig .tc := ⟨.hbm, 320, rfl⟩
abbrev main_while3b_cst_32 : Ref sig .tc := ⟨.hbm, 321, rfl⟩
abbrev main_while3b_v97 : Ref sig .tc := ⟨.hbm, 322, rfl⟩
abbrev main_while3b_v98 : Ref sig .tc := ⟨.hbm, 323, rfl⟩
abbrev main_while3b_v99 : Ref sig .tc := ⟨.hbm, 324, rfl⟩
abbrev main_while3b_v100 : Ref sig .tc := ⟨.hbm, 325, rfl⟩
abbrev main_while3b_v101 : Ref sig .tc := ⟨.hbm, 326, rfl⟩
abbrev main_while3b_v102 : Ref sig .tc := ⟨.hbm, 327, rfl⟩
abbrev main_while3b_v103 : Ref sig .tc := ⟨.hbm, 328, rfl⟩
abbrev main_while3b_cst_33 : Ref sig .tc := ⟨.hbm, 329, rfl⟩
abbrev main_while3b_v104 : Ref sig .tc := ⟨.hbm, 330, rfl⟩
abbrev main_while3b_v105 : Ref sig .tc := ⟨.hbm, 331, rfl⟩
abbrev main_while3b_cst_34 : Ref sig .tc := ⟨.hbm, 332, rfl⟩
abbrev main_while3b_v106 : Ref sig .tc := ⟨.hbm, 333, rfl⟩
abbrev main_while3b_v107 : Ref sig .tc := ⟨.hbm, 334, rfl⟩
abbrev main_while3b_v108 : Ref sig .tc := ⟨.hbm, 335, rfl⟩
abbrev main_while3b_v109 : Ref sig .tc := ⟨.hbm, 336, rfl⟩
abbrev main_while3b_call8_v0 : Ref sig .tc := ⟨.hbm, 337, rfl⟩
abbrev main_while3b_call8_c : Ref sig .tc := ⟨.hbm, 338, rfl⟩
abbrev main_while3b_call8_c_0 : Ref sig .tc := ⟨.hbm, 339, rfl⟩
abbrev main_while3b_v110 : Ref sig .tc := ⟨.hbm, 340, rfl⟩
abbrev main_while3b_c_35 : Ref sig .tc := ⟨.hbm, 341, rfl⟩
abbrev main_while3b_v111 : Ref sig .tc := ⟨.hbm, 342, rfl⟩
abbrev main_v46 : Ref sig .tc := ⟨.hbm, 343, rfl⟩
abbrev main_v47 : Ref sig .tc := ⟨.hbm, 344, rfl⟩
abbrev main_v48 : Ref sig .tc := ⟨.hbm, 345, rfl⟩
abbrev main_v49 : Ref sig .tc := ⟨.hbm, 346, rfl⟩
abbrev main_v50 : Ref sig .tc := ⟨.hbm, 347, rfl⟩
abbrev main_v51 : Ref sig .tc := ⟨.hbm, 348, rfl⟩
abbrev main_v52 : Ref sig .tc := ⟨.hbm, 349, rfl⟩
abbrev main_v53 : Ref sig .tc := ⟨.hbm, 350, rfl⟩
abbrev main_v54 : Ref sig .tc := ⟨.hbm, 351, rfl⟩
abbrev main_cst_17 : Ref sig .tc := ⟨.hbm, 352, rfl⟩
abbrev main_v55 : Ref sig .tc := ⟨.hbm, 353, rfl⟩
abbrev main_v56 : Ref sig .tc := ⟨.hbm, 354, rfl⟩
abbrev main_cst_18 : Ref sig .tc := ⟨.hbm, 355, rfl⟩
abbrev main_v57 : Ref sig .tc := ⟨.hbm, 356, rfl⟩
abbrev main_v58 : Ref sig .tc := ⟨.hbm, 357, rfl⟩
abbrev main_v59 : Ref sig .tc := ⟨.hbm, 358, rfl⟩
abbrev main_v60 : Ref sig .tc := ⟨.hbm, 359, rfl⟩
abbrev main_v61 : Ref sig .tc := ⟨.hbm, 360, rfl⟩
abbrev main_v62 : Ref sig .tc := ⟨.hbm, 361, rfl⟩
abbrev main_v63 : Ref sig .tc := ⟨.hbm, 362, rfl⟩
abbrev main_cst_19 : Ref sig .tc := ⟨.hbm, 363, rfl⟩
abbrev main_v64 : Ref sig .tc := ⟨.hbm, 364, rfl⟩
abbrev main_v65 : Ref sig .tc := ⟨.hbm, 365, rfl⟩
abbrev main_v66 : Ref sig .tc := ⟨.hbm, 366, rfl⟩
abbrev main_v67 : Ref sig .tc := ⟨.hbm, 367, rfl⟩
abbrev main_v68 : Ref sig .tc := ⟨.hbm, 368, rfl⟩
abbrev main_v69 : Ref sig .tc := ⟨.hbm, 369, rfl⟩
abbrev main_v70 : Ref sig .tc := ⟨.hbm, 370, rfl⟩
abbrev main_cst_20 : Ref sig .tc := ⟨.hbm, 371, rfl⟩
abbrev main_v71 : Ref sig .tc := ⟨.hbm, 372, rfl⟩
abbrev main_v72 : Ref sig .tc := ⟨.hbm, 373, rfl⟩
abbrev main_cst_21 : Ref sig .tc := ⟨.hbm, 374, rfl⟩
abbrev main_v73 : Ref sig .tc := ⟨.hbm, 375, rfl⟩
abbrev main_v74 : Ref sig .tc := ⟨.hbm, 376, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩

abbrev main_while2_count : Scf.Loop 32 := ⟨0#32, 16#32, 1#32⟩

abbrev main_while3_count : Scf.Loop 32 := ⟨0#32, 16#32, 1#32⟩
-- ==== Proof.Word.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import Idealize.ShloMosaic.Lib.Tactic
public import Idealize.ShloMosaic.Lib.Pipeline.ValueKit

@[expose] public section

set_option maxRecDepth 8192

noncomputable section

namespace Cert.KernelIdeal.Word

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The point is the first. -/
abbrev condFirst (i : grid0.Coords) : Prop := Scalar.cmpi .ne (Scalar.extui (Scalar.cmpi .eq (BitVec.ofNat 32 (i 0).val) 0#32) : BitVec 32) 0#32 = 1#1
/-- The point is the last. -/
abbrev condLast (i : grid0.Coords) : Prop := k0_cond2 i = 1#1

/-- A load of a whole block reads the block. -/
theorem readAt_whole {S : Shape} {e : EltTy} {κ : Kind} {sp : Space} {Val : EltTy → Type} (v : View sig κ sp S e) {off : Fin S.rank → ℕ}
    (inb : ∀ a, off a + S.size a ≤ S.size a) (f : v.ty.Contents Val) (h : ∀ a, off a = 0) :
    View.readAt Val v (Rect.unit off (no_index S.size) inb).toLoadRect f = v.read Val f :=
  View.ld_unit_lit inb (v.read Val f) h

/-- One store of a whole block, read back, is what was stored. -/
theorem read_store_whole {S : Shape} {e : EltTy} {κ : Kind} {sp : Space} {Val : EltTy → Type} (v : View sig κ sp S e) (f : v.ty.Contents Val)
    {off : Fin S.rank → ℕ} (h : ∀ a, off a = 0) (inb : ∀ a, off a + S.size a ≤ S.size a) (w : S.Idx → Val e) (L : List (View.Piece Val S e)) :
    v.read Val (v.writes Val f (⟨Rect.unit off S.size inb, w⟩ :: L)) = w := by
  funext y
  have hr := View.read_writes_cons_emb (v := v) (f := f) (Rect.unit off S.size inb) w L y
  have hy : (Rect.unit off S.size inb).emb y = y := by
    funext a
    refine Fin.ext ?_
    show off a + 1 * (y a).val = (y a).val
    rw [h a]; omega
  rwa [hy] at hr

/-- Memref `M` held whole, reading as `X`. -/
abbrev ow (c : Dev nD) {sp : Space} {S : Shape} {e : EltTy} (M : Memref sig .tc sp S e) (X : S.Idx → Elt F e) : sProp 𝕄 :=
  iprop(∃ f : Bf (F := F) c M, ⌜M.view.read (Elt F) f = X⌝ ∗ pt c M f)

/-- A load of a whole block after one store of it reads what was stored. -/
theorem readCov_whole {S : Shape} {e : EltTy} {κ : Kind} {sp : Space} {Val : EltTy → Type} [∀ e, Nonempty (Val e)] (v : View sig κ sp S e) {off : Fin S.rank → ℕ}
    (inb : ∀ a, off a + S.size a ≤ S.size a) (w : S.Idx → Val e) (h : ∀ a, off a = 0) :
    v.readCov [(⟨Rect.unit off (no_index S.size) inb, w⟩ : View.Piece Val S e)] (Rect.unit off (no_index S.size) inb).toLoadRect = w :=
  View.readCov_unit_lit v inb w h

/-! ## One step of the two recurrences, over the kernel's own payloads

`x` is the block of embedded words, `w` the stacked weights, `b` the scaled bias, `hh` the hidden state in two halves and `cc` the cell state. -/

/-- The constant one half. -/
abbrev half : F .f32 := Scalar.ofBits .f32 0x3F000000#32

/-- Forward: the new cell state. -/
def fwdC (x : Vec F S1x1024x128 .f32) (w : Vec F S768x512 .bf16) (b : Vec F S1x512 .f32) (hh : Vec F S1024x256 .bf16) (cc : Vec F S1024x128 .f32) : Vec F S1024x128 .f32 :=
  k0_pay66 (k0_pay51 cc (k0_pay47 x hh b w) (k0_pay48 x hh b w) (k0_pay49 x hh b w))
/-- Forward: the new hidden state in two halves. -/
def fwdHH (x : Vec F S1x1024x128 .f32) (w : Vec F S768x512 .bf16) (b : Vec F S1x512 .f32) (hh : Vec F S1024x256 .bf16) (cc : Vec F S1024x128 .f32) : Vec F S1024x256 .bf16 :=
  k0_pay64 (k0_pay54 cc (k0_pay47 x hh b w) (k0_pay48 x hh b w) (k0_pay49 x hh b w) (k0_pay50 x hh b w) half)
/-- Forward: the hidden state kept for the pooling. -/
def fwdH (x : Vec F S1x1024x128 .f32) (w : Vec F S768x512 .bf16) (b : Vec F S1x512 .f32) (hh : Vec F S1024x256 .bf16) (cc : Vec F S1024x128 .f32) : Vec F S1x1024x128 .bf16 :=
  k0_pay68 (k0_pay53 cc (k0_pay47 x hh b w) (k0_pay48 x hh b w) (k0_pay49 x hh b w) (k0_pay50 x hh b w) half)
/-- Backward: the new cell state. -/
def bwdC (x : Vec F S1x1024x128 .f32) (w : Vec F S768x512 .bf16) (b : Vec F S1x512 .f32) (hh : Vec F S1024x256 .bf16) (cc : Vec F S1024x128 .f32) : Vec F S1024x128 .f32 :=
  k0_pay67 cc (k0_pay56 x hh b w) (k0_pay58 x hh b w) (k0_pay59 x hh b w) k0_pay60
/-- Backward: the new hidden state in two halves. -/
def bwdHH (x : Vec F S1x1024x128 .f32) (w : Vec F S768x512 .bf16) (b : Vec F S1x512 .f32) (hh : Vec F S1024x256 .bf16) (cc : Vec F S1024x128 .f32) : Vec F S1024x256 .bf16 :=
  k0_pay65 cc (k0_pay56 x hh b w) (k0_pay57 x hh b w) (k0_pay58 x hh b w) (k0_pay59 x hh b w) k0_pay60
/-- Backward: the hidden state kept for the pooling. -/
def bwdH (x : Vec F S1x1024x128 .f32) (w : Vec F S768x512 .bf16) (b : Vec F S1x512 .f32) (hh : Vec F S1024x256 .bf16) (cc : Vec F S1024x128 .f32) : Vec F S1x1024x128 .bf16 :=
  k0_pay69 cc (k0_pay56 x hh b w) (k0_pay57 x hh b w) (k0_pay58 x hh b w) (k0_pay59 x hh b w) k0_pay60

/-! ## The pooling, chunk by chunk of 256 sequences -/

theorem rows_inb (k : Fin 64) (q : Fin 4) : ∀ a, (![k.val, 256 * q.val, 0] : Fin 3 → ℕ) a + S1x256x128.size a ≤ S64x1024x128.size a := by
  intro a
  have hk := k.isLt; have hq := q.isLt
  match a with
  | ⟨0, _⟩ => show k.val + 1 ≤ 64; omega
  | ⟨1, _⟩ => show 256 * q.val + 256 ≤ 1024; omega
  | ⟨2, _⟩ => show 0 + 128 ≤ 128; omega

theorem lane_inb (k : Fin 64) : ∀ a, (![k.val, 0] : Fin 2 → ℕ) a + S1x128.size a ≤ S64x128.size a := by
  intro a
  have hk := k.isLt
  match a with
  | ⟨0, _⟩ => show k.val + 1 ≤ 64; omega
  | ⟨1, _⟩ => show 0 + 128 ≤ 128; omega

/-- Word `k`'s hidden states of chunk `q`. -/
def rowsOf (H : Vec F S64x1024x128 .bf16) (k : Fin 64) (q : Fin 4) : Vec F S1x256x128 .bf16 :=
  View.ld (Val := Elt F) H (Rect.unit (s := S64x1024x128) ![k.val, 256 * q.val, 0] S1x256x128.size (rows_inb k q))
/-- Word `k`'s attention bias. -/
def biasOf (b : Vec F S64x128 .f32) (k : Fin 64) : Vec F S1x128 .f32 :=
  View.ld (Val := Elt F) b (Rect.unit (s := S64x128) ![k.val, 0] S1x128.size (lane_inb k))

/-- What the pooling of chunk `q` has summed before word `k`: the weighted forward and backward states and the weights. -/
def poolSt (H Hb : Vec F S64x1024x128 .bf16) (aw : Vec F S256x128 .bf16) (ab : Vec F S64x128 .f32) (q : Fin 4) :
    ℕ → FVec F S256x128 .f32 × FVec F S256x128 .f32 × FVec F S256x128 .f32
  | 0 => (k0_pay14, k0_pay14, k0_pay14)
  | k + 1 =>
    if h : k < 64 then
      (k0_pay18 (poolSt H Hb aw ab q k).1 (rowsOf H ⟨k, h⟩ q) (rowsOf Hb ⟨k, h⟩ q) aw (biasOf ab ⟨k, h⟩),
       k0_pay19 (poolSt H Hb aw ab q k).2.1 (rowsOf H ⟨k, h⟩ q) (rowsOf Hb ⟨k, h⟩ q) aw (biasOf ab ⟨k, h⟩),
       k0_pay20 (poolSt H Hb aw ab q k).2.2 (rowsOf H ⟨k, h⟩ q) (rowsOf Hb ⟨k, h⟩ q) aw (biasOf ab ⟨k, h⟩))
    else poolSt H Hb aw ab q k

/-- The pooled block: per chunk the two sums, each divided by the summed weights. -/
def poolOut (H Hb : Vec F S64x1024x128 .bf16) (aw : Vec F S256x128 .bf16) (ab : Vec F S64x128 .f32) : Vec F S1024x256 .f32 :=
  View.canon (Val := Elt F) [
    ⟨Rect.unit (s := S1024x256) ![768, 128] S256x128.size inb_S1024x256_S256x128_768_128, k0_pay23 (poolSt H Hb aw ab 3 64).2.1 (poolSt H Hb aw ab 3 64).2.2⟩,
    ⟨Rect.unit (s := S1024x256) ![768, 0] S256x128.size inb_S1024x256_S256x128_768_0, k0_pay22 (poolSt H Hb aw ab 3 64).1 (poolSt H Hb aw ab 3 64).2.2⟩,
    ⟨Rect.unit (s := S1024x256) ![512, 128] S256x128.size inb_S1024x256_S256x128_512_128, k0_pay23 (poolSt H Hb aw ab 2 64).2.1 (poolSt H Hb aw ab 2 64).2.2⟩,
    ⟨Rect.unit (s := S1024x256) ![512, 0] S256x128.size inb_S1024x256_S256x128_512_0, k0_pay22 (poolSt H Hb aw ab 2 64).1 (poolSt H Hb aw ab 2 64).2.2⟩,
    ⟨Rect.unit (s := S1024x256) ![256, 128] S256x128.size inb_S1024x256_S256x128_256_128, k0_pay23 (poolSt H Hb aw ab 1 64).2.1 (poolSt H Hb aw ab 1 64).2.2⟩,
    ⟨Rect.unit (s := S1024x256) ![256, 0] S256x128.size inb_S1024x256_S256x128_256_0, k0_pay22 (poolSt H Hb aw ab 1 64).1 (poolSt H Hb aw ab 1 64).2.2⟩,
    ⟨Rect.unit (s := S1024x256) ![0, 128] S256x128.size inb_S1024x256_S256x128_0_128, k0_pay23 (poolSt H Hb aw ab 0 64).2.1 (poolSt H Hb aw ab 0 64).2.2⟩,
    ⟨Rect.unit (s := S1024x256) ![0, 0] S256x128.size inb_S1024x256_S256x128_0_0, k0_pay22 (poolSt H Hb aw ab 0 64).1 (poolSt H Hb aw ab 0 64).2.2⟩]

section
variable (c : Dev nD) (i : grid0.Coords)
  (M1 : Memref sig .tc .vmem S1x1024x128 .f32) (h1 : M1.IsWhole) (M2 : Memref sig .tc .vmem S1x1024x128 .f32) (h2 : M2.IsWhole)
  (M3 : Memref sig .tc .vmem S768x512 .bf16) (h3 : M3.IsWhole) (M4 : Memref sig .tc .vmem S1x512 .f32) (h4 : M4.IsWhole)
  (M5 : Memref sig .tc .vmem S768x512 .bf16) (h5 : M5.IsWhole) (M6 : Memref sig .tc .vmem S1x512 .f32) (h6 : M6.IsWhole)
  (M7 : Memref sig .tc .vmem S256x128 .bf16) (h7 : M7.IsWhole) (M8 : Memref sig .tc .vmem S64x128 .f32) (h8 : M8.IsWhole)
  (M9 : Memref sig .tc .vmem S1024x256 .f32) (h9 : M9.IsWhole)
  (M10 : Memref sig .tc .vmem S64x1024x128 .bf16) (h10 : M10.IsWhole) (M11 : Memref sig .tc .vmem S64x1024x128 .bf16) (h11 : M11.IsWhole)
  (M12 : Memref sig .tc .vmem S1024x256 .bf16) (h12 : M12.IsWhole) (M13 : Memref sig .tc .vmem S1024x256 .bf16) (h13 : M13.IsWhole)
  (M14 : Memref sig .tc .vmem S1024x128 .f32) (h14 : M14.IsWhole) (M15 : Memref sig .tc .vmem S1024x128 .f32) (h15 : M15.IsWhole)
  (f1 : Bf (F := F) c M1) (f2 : Bf (F := F) c M2) (f3 : Bf (F := F) c M3) (f4 : Bf (F := F) c M4) (f5 : Bf (F := F) c M5) (f6 : Bf (F := F) c M6)
  (f7 : Bf (F := F) c M7) (f8 : Bf (F := F) c M8) (f9 : Bf (F := F) c M9)
  (f7 : Bf (F := F) c M7) (f8 : Bf (F := F) c M8) (f9 : Bf (F := F) c M9)
  (f10 : Bf (F := F) c M10) (f11 : Bf (F := F) c M11) (f12 : Bf (F := F) c M12) (f13 : Bf (F := F) c M13) (f14 : Bf (F := F) c M14) (f15 : Bf (F := F) c M15)

theorem rowsOf_readAt {κ : Kind} {sp : Space} (v : View sig κ sp S64x1024x128 .bf16) (f : v.ty.Contents (Elt F)) (k : Fin 64) (q : Fin 4) {off : Fin 3 → ℕ}
    (h : off = ![k.val, 256 * q.val, 0]) (inb : ∀ a, off a + S1x256x128.size a ≤ S64x1024x128.size a) :
    View.readAt (Elt F) v (Rect.unit (s := S64x1024x128) off S1x256x128.size inb).toLoadRect f = rowsOf (v.read (Elt F) f) k q := by
  subst h; rfl

theorem biasOf_readAt {κ : Kind} {sp : Space} (v : View sig κ sp S64x128 .f32) (f : v.ty.Contents (Elt F)) (k : Fin 64) {off : Fin 2 → ℕ}
    (h : off = ![k.val, 0]) (inb : ∀ a, off a + S1x128.size a ≤ S64x128.size a) :
    View.readAt (Elt F) v (Rect.unit (s := S64x128) off S1x128.size inb).toLoadRect f = biasOf (v.read (Elt F) f) k := by
  subst h; rfl

theorem trips_1 : k0_t1_loop.trips = 64 := by decide +kernel

/-- One trip of loop 1 of the pooling, over what the four buffers read as. -/
theorem trip_1 (hl : condLast i) (k : Fin k0_t1_loop.trips) (acc : FVec F S256x128 .f32 × FVec F S256x128 .f32 × FVec F S256x128 .f32) :
    tripR_k0_t1 (F := F) Variants.none c none i M1 h1 M2 h2 M3 h3 M4 h4 M5 h5 M6 h6 M7 h7 M8 h8 M9 h9 M10 h10 M11 h11 M12 h12 M13 h13 M14 h14 M15 h15 hl f7 f8 f10 f11 k acc
      = (k0_pay18 acc.1 (rowsOf (M10.view.read (Elt F) f10) (k.cast trips_1) 0) (rowsOf (M11.view.read (Elt F) f11) (k.cast trips_1) 0) (M7.view.read (Elt F) f7) (biasOf (M8.view.read (Elt F) f8) (k.cast trips_1)),
         k0_pay19 acc.2.1 (rowsOf (M10.view.read (Elt F) f10) (k.cast trips_1) 0) (rowsOf (M11.view.read (Elt F) f11) (k.cast trips_1) 0) (M7.view.read (Elt F) f7) (biasOf (M8.view.read (Elt F) f8) (k.cast trips_1)),
         k0_pay20 acc.2.2 (rowsOf (M10.view.read (Elt F) f10) (k.cast trips_1) 0) (rowsOf (M11.view.read (Elt F) f11) (k.cast trips_1) 0) (M7.view.read (Elt F) f7) (biasOf (M8.view.read (Elt F) f8) (k.cast trips_1))) := by
  have e1 : rowsOf (M10.view.read (Elt F) f10) (k.cast trips_1) 0 = View.readAt (Elt F) M10.view (Rect.unit (s := S64x1024x128) (k0_off3 k) S1x256x128.size (k0_off3_inb i k hl)).toLoadRect f10 :=
    (rowsOf_readAt _ _ _ _ (k0_off3_eq k) _).symm
  have e2 : rowsOf (M11.view.read (Elt F) f11) (k.cast trips_1) 0 = View.readAt (Elt F) M11.view (Rect.unit (s := S64x1024x128) (k0_off3 k) S1x256x128.size (k0_off3_inb i k hl)).toLoadRect f11 :=
    (rowsOf_readAt _ _ _ _ (k0_off3_eq k) _).symm
  have e3 : biasOf (M8.view.read (Elt F) f8) (k.cast trips_1) = View.readAt (Elt F) M8.view (Rect.unit (s := S64x128) (k0_off4 k) S1x128.size (k0_off4_inb i k hl)).toLoadRect f8 :=
    (biasOf_readAt _ _ _ (k0_off4_eq k) _).symm
  have e4 : (M7.view.read (Elt F) f7) = View.readAt (Elt F) M7.view (Rect.unit (s := S256x128) ![0, 0] S256x128.size inb_S256x128_S256x128_0_0).toLoadRect f7 :=
    (readAt_whole _ _ _ (by decide)).symm
  rw [e1, e2, e3, e4]
  unfold tripR_k0_t1 trip_k0_t1
  rfl

/-- Loop 1 of the pooling sums chunk 0. -/
theorem st_1 (hl : condLast i) : ∀ k ≤ k0_t1_loop.trips,
    st_k0_t1 (F := F) Variants.none c none i M1 h1 M2 h2 M3 h3 M4 h4 M5 h5 M6 h6 M7 h7 M8 h8 M9 h9 M10 h10 M11 h11 M12 h12 M13 h13 M14 h14 M15 h15 hl f7 f8 f10 f11 (k0_pay14, k0_pay14, k0_pay14) k
      = poolSt (M10.view.read (Elt F) f10) (M11.view.read (Elt F) f11) (M7.view.read (Elt F) f7) (M8.view.read (Elt F) f8) 0 k
  | 0, _ => rfl
  | k + 1, hk => by
    have h64 : k < 64 := trips_1 ▸ hk
    rw [st_k0_t1_succ (k := ⟨k, hk⟩), trip_1, st_1 hl k (Nat.le_of_succ_le hk), poolSt, dif_pos h64]
    rfl

theorem end_1 (hl : condLast i) :
    st_k0_t1 (F := F) Variants.none c none i M1 h1 M2 h2 M3 h3 M4 h4 M5 h5 M6 h6 M7 h7 M8 h8 M9 h9 M10 h10 M11 h11 M12 h12 M13 h13 M14 h14 M15 h15 hl f7 f8 f10 f11 (k0_pay14, k0_pay14, k0_pay14) k0_t1_loop.trips
      = poolSt (M10.view.read (Elt F) f10) (M11.view.read (Elt F) f11) (M7.view.read (Elt F) f7) (M8.view.read (Elt F) f8) 0 64 := by
  rw [st_1 c i M1 h1 M2 h2 M3 h3 M4 h4 M5 h5 M6 h6 M7 h7 M8 h8 M9 h9 M10 h10 M11 h11 M12 h12 M13 h13 M14 h14 M15 h15 f7 f8 f10 f11 hl _ (Nat.le_refl _), trips_1]

theorem trips_2 : k0_t2_loop.trips = 64 := by decide +kernel

/-- One trip of loop 2 of the pooling, over what the four buffers read as. -/
theorem trip_2 (hl : condLast i) (k : Fin k0_t2_loop.trips) (acc : FVec F S256x128 .f32 × FVec F S256x128 .f32 × FVec F S256x128 .f32) :
    tripR_k0_t2 (F := F) Variants.none c none i M1 h1 M2 h2 M3 h3 M4 h4 M5 h5 M6 h6 M7 h7 M8 h8 M9 h9 M10 h10 M11 h11 M12 h12 M13 h13 M14 h14 M15 h15 hl f7 f8 f10 f11 k acc
      = (k0_pay28 acc.1 (rowsOf (M10.view.read (Elt F) f10) (k.cast trips_2) 1) (rowsOf (M11.view.read (Elt F) f11) (k.cast trips_2) 1) (M7.view.read (Elt F) f7) (biasOf (M8.view.read (Elt F) f8) (k.cast trips_2)),
         k0_pay29 acc.2.1 (rowsOf (M10.view.read (Elt F) f10) (k.cast trips_2) 1) (rowsOf (M11.view.read (Elt F) f11) (k.cast trips_2) 1) (M7.view.read (Elt F) f7) (biasOf (M8.view.read (Elt F) f8) (k.cast trips_2)),
         k0_pay30 acc.2.2 (rowsOf (M10.view.read (Elt F) f10) (k.cast trips_2) 1) (rowsOf (M11.view.read (Elt F) f11) (k.cast trips_2) 1) (M7.view.read (Elt F) f7) (biasOf (M8.view.read (Elt F) f8) (k.cast trips_2))) := by
  have e1 : rowsOf (M10.view.read (Elt F) f10) (k.cast trips_2) 1 = View.readAt (Elt F) M10.view (Rect.unit (s := S64x1024x128) (k0_off5 k) S1x256x128.size (k0_off5_inb i k hl)).toLoadRect f10 :=
    (rowsOf_readAt _ _ _ _ (k0_off5_eq k) _).symm
  have e2 : rowsOf (M11.view.read (Elt F) f11) (k.cast trips_2) 1 = View.readAt (Elt F) M11.view (Rect.unit (s := S64x1024x128) (k0_off5 k) S1x256x128.size (k0_off5_inb i k hl)).toLoadRect f11 :=
    (rowsOf_readAt _ _ _ _ (k0_off5_eq k) _).symm
  have e3 : biasOf (M8.view.read (Elt F) f8) (k.cast trips_2) = View.readAt (Elt F) M8.view (Rect.unit (s := S64x128) (k0_off6 k) S1x128.size (k0_off6_inb i k hl)).toLoadRect f8 :=
    (biasOf_readAt _ _ _ (k0_off6_eq k) _).symm
  have e4 : (M7.view.read (Elt F) f7) = View.readAt (Elt F) M7.view (Rect.unit (s := S256x128) ![0, 0] S256x128.size inb_S256x128_S256x128_0_0).toLoadRect f7 :=
    (readAt_whole _ _ _ (by decide)).symm
  rw [e1, e2, e3, e4]
  unfold tripR_k0_t2 trip_k0_t2
  rfl

/-- Loop 2 of the pooling sums chunk 1. -/
theorem st_2 (hl : condLast i) : ∀ k ≤ k0_t2_loop.trips,
    st_k0_t2 (F := F) Variants.none c none i M1 h1 M2 h2 M3 h3 M4 h4 M5 h5 M6 h6 M7 h7 M8 h8 M9 h9 M10 h10 M11 h11 M12 h12 M13 h13 M14 h14 M15 h15 hl f7 f8 f10 f11 (k0_pay24, k0_pay24, k0_pay24) k
      = poolSt (M10.view.read (Elt F) f10) (M11.view.read (Elt F) f11) (M7.view.read (Elt F) f7) (M8.view.read (Elt F) f8) 1 k
  | 0, _ => rfl
  | k + 1, hk => by
    have h64 : k < 64 := trips_2 ▸ hk
    rw [st_k0_t2_succ (k := ⟨k, hk⟩), trip_2, st_2 hl k (Nat.le_of_succ_le hk), poolSt, dif_pos h64]
    rfl

theorem end_2 (hl : condLast i) :
    st_k0_t2 (F := F) Variants.none c none i M1 h1 M2 h2 M3 h3 M4 h4 M5 h5 M6 h6 M7 h7 M8 h8 M9 h9 M10 h10 M11 h11 M12 h12 M13 h13 M14 h14 M15 h15 hl f7 f8 f10 f11 (k0_pay24, k0_pay24, k0_pay24) k0_t2_loop.trips
      = poolSt (M10.view.read (Elt F) f10) (M11.view.read (Elt F) f11) (M7.view.read (Elt F) f7) (M8.view.read (Elt F) f8) 1 64 := by
  rw [st_2 c i M1 h1 M2 h2 M3 h3 M4 h4 M5 h5 M6 h6 M7 h7 M8 h8 M9 h9 M10 h10 M11 h11 M12 h12 M13 h13 M14 h14 M15 h15 f7 f8 f10 f11 hl _ (Nat.le_refl _), trips_2]

theorem trips_3 : k0_t3_loop.trips = 64 := by decide +kernel

/-- One trip of loop 3 of the pooling, over what the four buffers read as. -/
theorem trip_3 (hl : condLast i) (k : Fin k0_t3_loop.trips) (acc : FVec F S256x128 .f32 × FVec F S256x128 .f32 × FVec F S256x128 .f32) :
    tripR_k0_t3 (F := F) Variants.none c none i M1 h1 M2 h2 M3 h3 M4 h4 M5 h5 M6 h6 M7 h7 M8 h8 M9 h9 M10 h10 M11 h11 M12 h12 M13 h13 M14 h14 M15 h15 hl f7 f8 f10 f11 k acc
      = (k0_pay38 acc.1 (rowsOf (M10.view.read (Elt F) f10) (k.cast trips_3) 2) (rowsOf (M11.view.read (Elt F) f11) (k.cast trips_3) 2) (M7.view.read (Elt F) f7) (biasOf (M8.view.read (Elt F) f8) (k.cast trips_3)),
         k0_pay39 acc.2.1 (rowsOf (M10.view.read (Elt F) f10) (k.cast trips_3) 2) (rowsOf (M11.view.read (Elt F) f11) (k.cast trips_3) 2) (M7.view.read (Elt F) f7) (biasOf (M8.view.read (Elt F) f8) (k.cast trips_3)),
         k0_pay40 acc.2.2 (rowsOf (M10.view.read (Elt F) f10) (k.cast trips_3) 2) (rowsOf (M11.view.read (Elt F) f11) (k.cast trips_3) 2) (M7.view.read (Elt F) f7) (biasOf (M8.view.read (Elt F) f8) (k.cast trips_3))) := by
  have e1 : rowsOf (M10.view.read (Elt F) f10) (k.cast trips_3) 2 = View.readAt (Elt F) M10.view (Rect.unit (s := S64x1024x128) (k0_off7 k) S1x256x128.size (k0_off7_inb i k hl)).toLoadRect f10 :=
    (rowsOf_readAt _ _ _ _ (k0_off7_eq k) _).symm
  have e2 : rowsOf (M11.view.read (Elt F) f11) (k.cast trips_3) 2 = View.readAt (Elt F) M11.view (Rect.unit (s := S64x1024x128) (k0_off7 k) S1x256x128.size (k0_off7_inb i k hl)).toLoadRect f11 :=
    (rowsOf_readAt _ _ _ _ (k0_off7_eq k) _).symm
  have e3 : biasOf (M8.view.read (Elt F) f8) (k.cast trips_3) = View.readAt (Elt F) M8.view (Rect.unit (s := S64x128) (k0_off8 k) S1x128.size (k0_off8_inb i k hl)).toLoadRect f8 :=
    (biasOf_readAt _ _ _ (k0_off8_eq k) _).symm
  have e4 : (M7.view.read (Elt F) f7) = View.readAt (Elt F) M7.view (Rect.unit (s := S256x128) ![0, 0] S256x128.size inb_S256x128_S256x128_0_0).toLoadRect f7 :=
    (readAt_whole _ _ _ (by decide)).symm
  rw [e1, e2, e3, e4]
  unfold tripR_k0_t3 trip_k0_t3
  rfl

/-- Loop 3 of the pooling sums chunk 2. -/
theorem st_3 (hl : condLast i) : ∀ k ≤ k0_t3_loop.trips,
    st_k0_t3 (F := F) Variants.none c none i M1 h1 M2 h2 M3 h3 M4 h4 M5 h5 M6 h6 M7 h7 M8 h8 M9 h9 M10 h10 M11 h11 M12 h12 M13 h13 M14 h14 M15 h15 hl f7 f8 f10 f11 (k0_pay34, k0_pay34, k0_pay34) k
      = poolSt (M10.view.read (Elt F) f10) (M11.view.read (Elt F) f11) (M7.view.read (Elt F) f7) (M8.view.read (Elt F) f8) 2 k
  | 0, _ => rfl
  | k + 1, hk => by
    have h64 : k < 64 := trips_3 ▸ hk
    rw [st_k0_t3_succ (k := ⟨k, hk⟩), trip_3, st_3 hl k (Nat.le_of_succ_le hk), poolSt, dif_pos h64]
    rfl

theorem end_3 (hl : condLast i) :
    st_k0_t3 (F := F) Variants.none c none i M1 h1 M2 h2 M3 h3 M4 h4 M5 h5 M6 h6 M7 h7 M8 h8 M9 h9 M10 h10 M11 h11 M12 h12 M13 h13 M14 h14 M15 h15 hl f7 f8 f10 f11 (k0_pay34, k0_pay34, k0_pay34) k0_t3_loop.trips
      = poolSt (M10.view.read (Elt F) f10) (M11.view.read (Elt F) f11) (M7.view.read (Elt F) f7) (M8.view.read (Elt F) f8) 2 64 := by
  rw [st_3 c i M1 h1 M2 h2 M3 h3 M4 h4 M5 h5 M6 h6 M7 h7 M8 h8 M9 h9 M10 h10 M11 h11 M12 h12 M13 h13 M14 h14 M15 h15 f7 f8 f10 f11 hl _ (Nat.le_refl _), trips_3]

theorem trips_4 : k0_t4_loop.trips = 64 := by decide +kernel

/-- One trip of loop 4 of the pooling, over what the four buffers read as. -/
theorem trip_4 (hl : condLast i) (k : Fin k0_t4_loop.trips) (acc : FVec F S256x128 .f32 × FVec F S256x128 .f32 × FVec F S256x128 .f32) :
    tripR_k0_t4 (F := F) Variants.none c none i M1 h1 M2 h2 M3 h3 M4 h4 M5 h5 M6 h6 M7 h7 M8 h8 M9 h9 M10 h10 M11 h11 M12 h12 M13 h13 M14 h14 M15 h15 hl f7 f8 f10 f11 k acc
      = (k0_pay8 acc.1 (rowsOf (M10.view.read (Elt F) f10) (k.cast trips_4) 3) (rowsOf (M11.view.read (Elt F) f11) (k.cast trips_4) 3) (M7.view.read (Elt F) f7) (biasOf (M8.view.read (Elt F) f8) (k.cast trips_4)),
         k0_pay9 acc.2.1 (rowsOf (M10.view.read (Elt F) f10) (k.cast trips_4) 3) (rowsOf (M11.view.read (Elt F) f11) (k.cast trips_4) 3) (M7.view.read (Elt F) f7) (biasOf (M8.view.read (Elt F) f8) (k.cast trips_4)),
         k0_pay10 acc.2.2 (rowsOf (M10.view.read (Elt F) f10) (k.cast trips_4) 3) (rowsOf (M11.view.read (Elt F) f11) (k.cast trips_4) 3) (M7.view.read (Elt F) f7) (biasOf (M8.view.read (Elt F) f8) (k.cast trips_4))) := by
  have e1 : rowsOf (M10.view.read (Elt F) f10) (k.cast trips_4) 3 = View.readAt (Elt F) M10.view (Rect.unit (s := S64x1024x128) (k0_off9 k) S1x256x128.size (k0_off9_inb i k hl)).toLoadRect f10 :=
    (rowsOf_readAt _ _ _ _ (k0_off9_eq k) _).symm
  have e2 : rowsOf (M11.view.read (Elt F) f11) (k.cast trips_4) 3 = View.readAt (Elt F) M11.view (Rect.unit (s := S64x1024x128) (k0_off9 k) S1x256x128.size (k0_off9_inb i k hl)).toLoadRect f11 :=
    (rowsOf_readAt _ _ _ _ (k0_off9_eq k) _).symm
  have e3 : biasOf (M8.view.read (Elt F) f8) (k.cast trips_4) = View.readAt (Elt F) M8.view (Rect.unit (s := S64x128) (k0_off10 k) S1x128.size (k0_off10_inb i k hl)).toLoadRect f8 :=
    (biasOf_readAt _ _ _ (k0_off10_eq k) _).symm
  have e4 : (M7.view.read (Elt F) f7) = View.readAt (Elt F) M7.view (Rect.unit (s := S256x128) ![0, 0] S256x128.size inb_S256x128_S256x128_0_0).toLoadRect f7 :=
    (readAt_whole _ _ _ (by decide)).symm
  rw [e1, e2, e3, e4]
  unfold tripR_k0_t4 trip_k0_t4
  rfl

/-- Loop 4 of the pooling sums chunk 3. -/
theorem st_4 (hl : condLast i) : ∀ k ≤ k0_t4_loop.trips,
    st_k0_t4 (F := F) Variants.none c none i M1 h1 M2 h2 M3 h3 M4 h4 M5 h5 M6 h6 M7 h7 M8 h8 M9 h9 M10 h10 M11 h11 M12 h12 M13 h13 M14 h14 M15 h15 hl f7 f8 f10 f11 (k0_pay4, k0_pay4, k0_pay4) k
      = poolSt (M10.view.read (Elt F) f10) (M11.view.read (Elt F) f11) (M7.view.read (Elt F) f7) (M8.view.read (Elt F) f8) 3 k
  | 0, _ => rfl
  | k + 1, hk => by
    have h64 : k < 64 := trips_4 ▸ hk
    rw [st_k0_t4_succ (k := ⟨k, hk⟩), trip_4, st_4 hl k (Nat.le_of_succ_le hk), poolSt, dif_pos h64]
    rfl

theorem end_4 (hl : condLast i) :
    st_k0_t4 (F := F) Variants.none c none i M1 h1 M2 h2 M3 h3 M4 h4 M5 h5 M6 h6 M7 h7 M8 h8 M9 h9 M10 h10 M11 h11 M12 h12 M13 h13 M14 h14 M15 h15 hl f7 f8 f10 f11 (k0_pay4, k0_pay4, k0_pay4) k0_t4_loop.trips
      = poolSt (M10.view.read (Elt F) f10) (M11.view.read (Elt F) f11) (M7.view.read (Elt F) f7) (M8.view.read (Elt F) f8) 3 64 := by
  rw [st_4 c i M1 h1 M2 h2 M3 h3 M4 h4 M5 h5 M6 h6 M7 h7 M8 h8 M9 h9 M10 h10 M11 h11 M12 h12 M13 h13 M14 h14 M15 h15 f7 f8 f10 f11 hl _ (Nat.le_refl _), trips_4]
end
end Cert.KernelIdeal.Word
-- ==== Proof.WordRun.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Word
public import Idealize.ShloMosaic.Lib.Tactic
public import Idealize.ShloMosaic.Lib.Pipeline.ValueKit

@[expose] public section

set_option maxRecDepth 8192

noncomputable section

namespace Cert.KernelIdeal.Word

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (M1 : Memref sig .tc .vmem S1x1024x128 .f32) (h1 : M1.IsWhole) (M2 : Memref sig .tc .vmem S1x1024x128 .f32) (h2 : M2.IsWhole)
  (M3 : Memref sig .tc .vmem S768x512 .bf16) (h3 : M3.IsWhole) (M4 : Memref sig .tc .vmem S1x512 .f32) (h4 : M4.IsWhole)
  (M5 : Memref sig .tc .vmem S768x512 .bf16) (h5 : M5.IsWhole) (M6 : Memref sig .tc .vmem S1x512 .f32) (h6 : M6.IsWhole)
  (M7 : Memref sig .tc .vmem S256x128 .bf16) (h7 : M7.IsWhole) (M8 : Memref sig .tc .vmem S64x128 .f32) (h8 : M8.IsWhole)
  (M9 : Memref sig .tc .vmem S1024x256 .f32) (h9 : M9.IsWhole)
  (M10 : Memref sig .tc .vmem S64x1024x128 .bf16) (h10 : M10.IsWhole) (M11 : Memref sig .tc .vmem S64x1024x128 .bf16) (h11 : M11.IsWhole)
  (M12 : Memref sig .tc .vmem S1024x256 .bf16) (h12 : M12.IsWhole) (M13 : Memref sig .tc .vmem S1024x256 .bf16) (h13 : M13.IsWhole)
  (M14 : Memref sig .tc .vmem S1024x128 .f32) (h14 : M14.IsWhole) (M15 : Memref sig .tc .vmem S1024x128 .f32) (h15 : M15.IsWhole)
  (f1 : Bf (F := F) c M1) (f2 : Bf (F := F) c M2) (f3 : Bf (F := F) c M3) (f4 : Bf (F := F) c M4) (f5 : Bf (F := F) c M5) (f6 : Bf (F := F) c M6)
  (f7 : Bf (F := F) c M7) (f8 : Bf (F := F) c M8) (f9 : Bf (F := F) c M9)
  (f10 : Bf (F := F) c M10) (f11 : Bf (F := F) c M11) (f12 : Bf (F := F) c M12) (f13 : Bf (F := F) c M13) (f14 : Bf (F := F) c M14) (f15 : Bf (F := F) c M15)

/-- The eight stores of the pooling, read back, are the pooled block. -/
theorem pool_read (hl : condLast i) (g : Bf (F := F) c M9) :
    M9.view.read (Elt F) (M9.view.writes (Elt F) g [
      ⟨Rect.unit (s := S1024x256) ![768, 128] S256x128.size inb_S1024x256_S256x128_768_128, k0_pay13 (st_k0_t4 (F := F) Variants.none c none i M1 h1 M2 h2 M3 h3 M4 h4 M5 h5 M6 h6 M7 h7 M8 h8 M9 h9 M10 h10 M11 h11 M12 h12 M13 h13 M14 h14 M15 h15 hl f7 f8 f10 f11 (k0_pay4, k0_pay4, k0_pay4) k0_t4_loop.trips).2.1 (st_k0_t4 (F := F) Variants.none c none i M1 h1 M2 h2 M3 h3 M4 h4 M5 h5 M6 h6 M7 h7 M8 h8 M9 h9 M10 h10 M11 h11 M12 h12 M13 h13 M14 h14 M15 h15 hl f7 f8 f10 f11 (k0_pay4, k0_pay4, k0_pay4) k0_t4_loop.trips).2.2⟩,
      ⟨Rect.unit (s := S1024x256) ![768, 0] S256x128.size inb_S1024x256_S256x128_768_0, k0_pay12 (st_k0_t4 (F := F) Variants.none c none i M1 h1 M2 h2 M3 h3 M4 h4 M5 h5 M6 h6 M7 h7 M8 h8 M9 h9 M10 h10 M11 h11 M12 h12 M13 h13 M14 h14 M15 h15 hl f7 f8 f10 f11 (k0_pay4, k0_pay4, k0_pay4) k0_t4_loop.trips).1 (st_k0_t4 (F := F) Variants.none c none i M1 h1 M2 h2 M3 h3 M4 h4 M5 h5 M6 h6 M7 h7 M8 h8 M9 h9 M10 h10 M11 h11 M12 h12 M13 h13 M14 h14 M15 h15 hl f7 f8 f10 f11 (k0_pay4, k0_pay4, k0_pay4) k0_t4_loop.trips).2.2⟩,
      ⟨Rect.unit (s := S1024x256) ![512, 128] S256x128.size inb_S1024x256_S256x128_512_128, k0_pay3 (st_k0_t3 (F := F) Variants.none c none i M1 h1 M2 h2 M3 h3 M4 h4 M5 h5 M6 h6 M7 h7 M8 h8 M9 h9 M10 h10 M11 h11 M12 h12 M13 h13 M14 h14 M15 h15 hl f7 f8 f10 f11 (k0_pay34, k0_pay34, k0_pay34) k0_t3_loop.trips).2.1 (k0_pay41 (st_k0_t3 (F := F) Variants.none c none i M1 h1 M2 h2 M3 h3 M4 h4 M5 h5 M6 h6 M7 h7 M8 h8 M9 h9 M10 h10 M11 h11 M12 h12 M13 h13 M14 h14 M15 h15 hl f7 f8 f10 f11 (k0_pay34, k0_pay34, k0_pay34) k0_t3_loop.trips).2.2) (FloatOps.ofBits .f32 0x3F800000#32)⟩,
      ⟨Rect.unit (s := S1024x256) ![512, 0] S256x128.size inb_S1024x256_S256x128_512_0, k0_pay2 (st_k0_t3 (F := F) Variants.none c none i M1 h1 M2 h2 M3 h3 M4 h4 M5 h5 M6 h6 M7 h7 M8 h8 M9 h9 M10 h10 M11 h11 M12 h12 M13 h13 M14 h14 M15 h15 hl f7 f8 f10 f11 (k0_pay34, k0_pay34, k0_pay34) k0_t3_loop.trips).1 (k0_pay41 (st_k0_t3 (F := F) Variants.none c none i M1 h1 M2 h2 M3 h3 M4 h4 M5 h5 M6 h6 M7 h7 M8 h8 M9 h9 M10 h10 M11 h11 M12 h12 M13 h13 M14 h14 M15 h15 hl f7 f8 f10 f11 (k0_pay34, k0_pay34, k0_pay34) k0_t3_loop.trips).2.2) (FloatOps.ofBits .f32 0x3F800000#32)⟩,
      ⟨Rect.unit (s := S1024x256) ![256, 128] S256x128.size inb_S1024x256_S256x128_256_128, k0_pay33 (st_k0_t2 (F := F) Variants.none c none i M1 h1 M2 h2 M3 h3 M4 h4 M5 h5 M6 h6 M7 h7 M8 h8 M9 h9 M10 h10 M11 h11 M12 h12 M13 h13 M14 h14 M15 h15 hl f7 f8 f10 f11 (k0_pay24, k0_pay24, k0_pay24) k0_t2_loop.trips).2.1 (st_k0_t2 (F := F) Variants.none c none i M1 h1 M2 h2 M3 h3 M4 h4 M5 h5 M6 h6 M7 h7 M8 h8 M9 h9 M10 h10 M11 h11 M12 h12 M13 h13 M14 h14 M15 h15 hl f7 f8 f10 f11 (k0_pay24, k0_pay24, k0_pay24) k0_t2_loop.trips).2.2⟩,
      ⟨Rect.unit (s := S1024x256) ![256, 0] S256x128.size inb_S1024x256_S256x128_256_0, k0_pay32 (st_k0_t2 (F := F) Variants.none c none i M1 h1 M2 h2 M3 h3 M4 h4 M5 h5 M6 h6 M7 h7 M8 h8 M9 h9 M10 h10 M11 h11 M12 h12 M13 h13 M14 h14 M15 h15 hl f7 f8 f10 f11 (k0_pay24, k0_pay24, k0_pay24) k0_t2_loop.trips).1 (st_k0_t2 (F := F) Variants.none c none i M1 h1 M2 h2 M3 h3 M4 h4 M5 h5 M6 h6 M7 h7 M8 h8 M9 h9 M10 h10 M11 h11 M12 h12 M13 h13 M14 h14 M15 h15 hl f7 f8 f10 f11 (k0_pay24, k0_pay24, k0_pay24) k0_t2_loop.trips).2.2⟩,
      ⟨Rect.unit (s := S1024x256) ![0, 128] S256x128.size inb_S1024x256_S256x128_0_128, k0_pay23 (st_k0_t1 (F := F) Variants.none c none i M1 h1 M2 h2 M3 h3 M4 h4 M5 h5 M6 h6 M7 h7 M8 h8 M9 h9 M10 h10 M11 h11 M12 h12 M13 h13 M14 h14 M15 h15 hl f7 f8 f10 f11 (k0_pay14, k0_pay14, k0_pay14) k0_t1_loop.trips).2.1 (st_k0_t1 (F := F) Variants.none c none i M1 h1 M2 h2 M3 h3 M4 h4 M5 h5 M6 h6 M7 h7 M8 h8 M9 h9 M10 h10 M11 h11 M12 h12 M13 h13 M14 h14 M15 h15 hl f7 f8 f10 f11 (k0_pay14, k0_pay14, k0_pay14) k0_t1_loop.trips).2.2⟩,
      ⟨Rect.unit (s := S1024x256) ![0, 0] S256x128.size inb_S1024x256_S256x128_0_0, k0_pay22 (st_k0_t1 (F := F) Variants.none c none i M1 h1 M2 h2 M3 h3 M4 h4 M5 h5 M6 h6 M7 h7 M8 h8 M9 h9 M10 h10 M11 h11 M12 h12 M13 h13 M14 h14 M15 h15 hl f7 f8 f10 f11 (k0_pay14, k0_pay14, k0_pay14) k0_t1_loop.trips).1 (st_k0_t1 (F := F) Variants.none c none i M1 h1 M2 h2 M3 h3 M4 h4 M5 h5 M6 h6 M7 h7 M8 h8 M9 h9 M10 h10 M11 h11 M12 h12 M13 h13 M14 h14 M15 h15 hl f7 f8 f10 f11 (k0_pay14, k0_pay14, k0_pay14) k0_t1_loop.trips).2.2⟩])
      = poolOut (M10.view.read (Elt F) f10) (M11.view.read (Elt F) f11) (M7.view.read (Elt F) f7) (M8.view.read (Elt F) f8) := by
  rw [end_1, end_2, end_3, end_4]
  refine (View.read_writes_eq_canon (Val := Elt F) _ _ _ ?_).trans ?_
  · exact View.cover_of_tiled _ S256x128.size rfl
  rfl

set_option maxHeartbeats 800000 in
/-- A point that is neither the first nor the last: one step of both recurrences. -/
theorem midRun (hf : ¬ condFirst i) (hl : ¬ condLast i) (E : Set ℕ) (Q : PUnit → sProp 𝕄) :
        iprop(pt c M1 f1 ∗ pt c M2 f2 ∗ pt c M3 f3 ∗ pt c M4 f4 ∗ pt c M5 f5 ∗ pt c M6 f6
            ∗ pt c M10 f10 ∗ pt c M11 f11 ∗ pt c M12 f12 ∗ pt c M13 f13 ∗ pt c M14 f14 ∗ pt c M15 f15
            ∗ (iprop(pt c M1 f1 ∗ pt c M2 f2 ∗ pt c M3 f3 ∗ pt c M4 f4 ∗ pt c M5 f5 ∗ pt c M6 f6
              ∗ pt c M10 (M10.view.writes (Elt F) f10 [⟨Rect.unit (k0_off1 i) S1x1024x128.size (k0_off1_inb i), fwdH (M1.view.read (Elt F) f1) (M3.view.read (Elt F) f3) (M4.view.read (Elt F) f4) (M12.view.read (Elt F) f12) (M14.view.read (Elt F) f14)⟩])
              ∗ pt c M11 (M11.view.writes (Elt F) f11 [⟨Rect.unit (k0_off2 i) S1x1024x128.size (k0_off2_inb i), bwdH (M2.view.read (Elt F) f2) (M5.view.read (Elt F) f5) (M6.view.read (Elt F) f6) (M13.view.read (Elt F) f13) (M15.view.read (Elt F) f15)⟩])
              ∗ ow c M12 (fwdHH (M1.view.read (Elt F) f1) (M3.view.read (Elt F) f3) (M4.view.read (Elt F) f4) (M12.view.read (Elt F) f12) (M14.view.read (Elt F) f14)) ∗ ow c M13 (bwdHH (M2.view.read (Elt F) f2) (M5.view.read (Elt F) f5) (M6.view.read (Elt F) f6) (M13.view.read (Elt F) f13) (M15.view.read (Elt F) f15))
              ∗ ow c M14 (fwdC (M1.view.read (Elt F) f1) (M3.view.read (Elt F) f3) (M4.view.read (Elt F) f4) (M12.view.read (Elt F) f12) (M14.view.read (Elt F) f14)) ∗ ow c M15 (bwdC (M2.view.read (Elt F) f2) (M5.view.read (Elt F) f5) (M6.view.read (Elt F) f6) (M13.view.read (Elt F) f13) (M15.view.read (Elt F) f15))) -∗ Q ⟨⟩))
          ⊢ wp frame (wpE (defs₀ (F := F)) Variants.none c none) E
              (cc0__word_body i M1 h1 M2 h2 M3 h3 M4 h4 M5 h5 M6 h6 M7 h7 M8 h8 M9 h9 M10 h10 M11 h11 M12 h12 M13 h13 M14 h14 M15 h15) Q := by
  rw [cc0__word_body_eq_skeleton]
  iintro ⟨H1, H2, H3, H4, H5, H6, H10, H11, H12, H13, H14, H15, Hk⟩
  sl_exec!
  sl_step
  delta midRun.sl.r midRun.sl.r_1 midRun.sl.r_2 midRun.sl.r_3 midRun.sl.r_4 midRun.sl.r_5 midRun.sl.r_6 midRun.sl.r_7 midRun.sl.r_8 midRun.sl.r_9 midRun.sl.r_10 midRun.sl.r_11 midRun.sl.r_12 midRun.sl.cst_16
  simp (disch := decide) only [readAt_whole, readCov_whole]
  iapply Hk
  isplitl [H1]; · iexact H1
  isplitl [H2]; · iexact H2
  isplitl [H3]; · iexact H3
  isplitl [H4]; · iexact H4
  isplitl [H5]; · iexact H5
  isplitl [H6]; · iexact H6
  isplitl [H10]; · iexact H10
  isplitl [H11]; · iexact H11
  isplitl [H12]; · iexists _; isplitr; swap; (· iexact H12); ipureintro; refine (read_store_whole _ _ (by decide) _ _ _).trans ?_; (repeat (first | delta midRun.sl.r | delta midRun.sl.r_1 | delta midRun.sl.r_2 | delta midRun.sl.r_3 | delta midRun.sl.r_4 | delta midRun.sl.r_5 | delta midRun.sl.r_6 | delta midRun.sl.r_7 | delta midRun.sl.r_8 | delta midRun.sl.r_9 | delta midRun.sl.r_10 | delta midRun.sl.r_11 | delta midRun.sl.r_12 | delta midRun.sl.cst_16)); simp (disch := decide) only [readAt_whole, readCov_whole]; rfl
  isplitl [H13]; · iexists _; isplitr; swap; (· iexact H13); ipureintro; refine (read_store_whole _ _ (by decide) _ _ _).trans ?_; (repeat (first | delta midRun.sl.r | delta midRun.sl.r_1 | delta midRun.sl.r_2 | delta midRun.sl.r_3 | delta midRun.sl.r_4 | delta midRun.sl.r_5 | delta midRun.sl.r_6 | delta midRun.sl.r_7 | delta midRun.sl.r_8 | delta midRun.sl.r_9 | delta midRun.sl.r_10 | delta midRun.sl.r_11 | delta midRun.sl.r_12 | delta midRun.sl.cst_16)); simp (disch := decide) only [readAt_whole, readCov_whole]; rfl
  isplitl [H14]; · iexists _; isplitr; swap; (· iexact H14); ipureintro; refine (read_store_whole _ _ (by decide) _ _ _).trans ?_; (repeat (first | delta midRun.sl.r | delta midRun.sl.r_1 | delta midRun.sl.r_2 | delta midRun.sl.r_3 | delta midRun.sl.r_4 | delta midRun.sl.r_5 | delta midRun.sl.r_6 | delta midRun.sl.r_7 | delta midRun.sl.r_8 | delta midRun.sl.r_9 | delta midRun.sl.r_10 | delta midRun.sl.r_11 | delta midRun.sl.r_12 | delta midRun.sl.cst_16)); simp (disch := decide) only [readAt_whole, readCov_whole]; rfl
  iexists _; isplitr; swap; (· iexact H15); ipureintro; refine (read_store_whole _ _ (by decide) _ _ _).trans ?_; (repeat (first | delta midRun.sl.r | delta midRun.sl.r_1 | delta midRun.sl.r_2 | delta midRun.sl.r_3 | delta midRun.sl.r_4 | delta midRun.sl.r_5 | delta midRun.sl.r_6 | delta midRun.sl.r_7 | delta midRun.sl.r_8 | delta midRun.sl.r_9 | delta midRun.sl.r_10 | delta midRun.sl.r_11 | delta midRun.sl.r_12 | delta midRun.sl.cst_16)); simp (disch := decide) only [readAt_whole, readCov_whole]; rfl

set_option maxHeartbeats 800000 in
/-- The first point: both recurrences start from the zero state and take one step. -/
theorem firstRun (hf : condFirst i) (hl : ¬ condLast i) (E : Set ℕ) (Q : PUnit → sProp 𝕄) :
        iprop(pt c M1 f1 ∗ pt c M2 f2 ∗ pt c M3 f3 ∗ pt c M4 f4 ∗ pt c M5 f5 ∗ pt c M6 f6
            ∗ pt c M10 f10 ∗ pt c M11 f11 ∗ pt c M12 f12 ∗ pt c M13 f13 ∗ pt c M14 f14 ∗ pt c M15 f15
            ∗ (iprop(pt c M1 f1 ∗ pt c M2 f2 ∗ pt c M3 f3 ∗ pt c M4 f4 ∗ pt c M5 f5 ∗ pt c M6 f6
              ∗ pt c M10 (M10.view.writes (Elt F) f10 [⟨Rect.unit (k0_off1 i) S1x1024x128.size (k0_off1_inb i), fwdH (M1.view.read (Elt F) f1) (M3.view.read (Elt F) f3) (M4.view.read (Elt F) f4) k0_pay42 k0_pay44⟩])
              ∗ pt c M11 (M11.view.writes (Elt F) f11 [⟨Rect.unit (k0_off2 i) S1x1024x128.size (k0_off2_inb i), bwdH (M2.view.read (Elt F) f2) (M5.view.read (Elt F) f5) (M6.view.read (Elt F) f6) k0_pay43 k0_pay45⟩])
              ∗ ow c M12 (fwdHH (M1.view.read (Elt F) f1) (M3.view.read (Elt F) f3) (M4.view.read (Elt F) f4) k0_pay42 k0_pay44) ∗ ow c M13 (bwdHH (M2.view.read (Elt F) f2) (M5.view.read (Elt F) f5) (M6.view.read (Elt F) f6) k0_pay43 k0_pay45)
              ∗ ow c M14 (fwdC (M1.view.read (Elt F) f1) (M3.view.read (Elt F) f3) (M4.view.read (Elt F) f4) k0_pay42 k0_pay44) ∗ ow c M15 (bwdC (M2.view.read (Elt F) f2) (M5.view.read (Elt F) f5) (M6.view.read (Elt F) f6) k0_pay43 k0_pay45)) -∗ Q ⟨⟩))
          ⊢ wp frame (wpE (defs₀ (F := F)) Variants.none c none) E
              (cc0__word_body i M1 h1 M2 h2 M3 h3 M4 h4 M5 h5 M6 h6 M7 h7 M8 h8 M9 h9 M10 h10 M11 h11 M12 h12 M13 h13 M14 h14 M15 h15) Q := by
  rw [cc0__word_body_eq_skeleton]
  iintro ⟨H1, H2, H3, H4, H5, H6, H10, H11, H12, H13, H14, H15, Hk⟩
  sl_exec!
  sl_step
  delta firstRun.sl.r firstRun.sl.r_1 firstRun.sl.r_2 firstRun.sl.r_3 firstRun.sl.r_4 firstRun.sl.r_5 firstRun.sl.r_6 firstRun.sl.r_7 firstRun.sl.r_8 firstRun.sl.r_9 firstRun.sl.r_10 firstRun.sl.cst_16 firstRun.sl.v6 firstRun.sl.v7 firstRun.sl.v54 firstRun.sl.v55 firstRun.sl.H12_1 firstRun.sl.H13_1 firstRun.sl.H14_1 firstRun.sl.H15_1
  simp (disch := decide) only [readAt_whole, readCov_whole]
  iapply Hk
  isplitl [H1]; · iexact H1
  isplitl [H2]; · iexact H2
  isplitl [H3]; · iexact H3
  isplitl [H4]; · iexact H4
  isplitl [H5]; · iexact H5
  isplitl [H6]; · iexact H6
  isplitl [H10]; · iexact H10
  isplitl [H11]; · iexact H11
  isplitl [H12]; · iexists _; isplitr; swap; (· iexact H12); ipureintro; refine (read_store_whole _ _ (by decide) _ _ _).trans ?_; (repeat (first | delta firstRun.sl.r | delta firstRun.sl.r_1 | delta firstRun.sl.r_2 | delta firstRun.sl.r_3 | delta firstRun.sl.r_4 | delta firstRun.sl.r_5 | delta firstRun.sl.r_6 | delta firstRun.sl.r_7 | delta firstRun.sl.r_8 | delta firstRun.sl.r_9 | delta firstRun.sl.r_10 | delta firstRun.sl.cst_16 | delta firstRun.sl.v6 | delta firstRun.sl.v7 | delta firstRun.sl.v54 | delta firstRun.sl.v55 | delta firstRun.sl.H12_1 | delta firstRun.sl.H13_1 | delta firstRun.sl.H14_1 | delta firstRun.sl.H15_1)); simp (disch := decide) only [readAt_whole, readCov_whole]; rfl
  isplitl [H13]; · iexists _; isplitr; swap; (· iexact H13); ipureintro; refine (read_store_whole _ _ (by decide) _ _ _).trans ?_; (repeat (first | delta firstRun.sl.r | delta firstRun.sl.r_1 | delta firstRun.sl.r_2 | delta firstRun.sl.r_3 | delta firstRun.sl.r_4 | delta firstRun.sl.r_5 | delta firstRun.sl.r_6 | delta firstRun.sl.r_7 | delta firstRun.sl.r_8 | delta firstRun.sl.r_9 | delta firstRun.sl.r_10 | delta firstRun.sl.cst_16 | delta firstRun.sl.v6 | delta firstRun.sl.v7 | delta firstRun.sl.v54 | delta firstRun.sl.v55 | delta firstRun.sl.H12_1 | delta firstRun.sl.H13_1 | delta firstRun.sl.H14_1 | delta firstRun.sl.H15_1)); simp (disch := decide) only [readAt_whole, readCov_whole]; rfl
  isplitl [H14]; · iexists _; isplitr; swap; (· iexact H14); ipureintro; refine (read_store_whole _ _ (by decide) _ _ _).trans ?_; (repeat (first | delta firstRun.sl.r | delta firstRun.sl.r_1 | delta firstRun.sl.r_2 | delta firstRun.sl.r_3 | delta firstRun.sl.r_4 | delta firstRun.sl.r_5 | delta firstRun.sl.r_6 | delta firstRun.sl.r_7 | delta firstRun.sl.r_8 | delta firstRun.sl.r_9 | delta firstRun.sl.r_10 | delta firstRun.sl.cst_16 | delta firstRun.sl.v6 | delta firstRun.sl.v7 | delta firstRun.sl.v54 | delta firstRun.sl.v55 | delta firstRun.sl.H12_1 | delta firstRun.sl.H13_1 | delta firstRun.sl.H14_1 | delta firstRun.sl.H15_1)); simp (disch := decide) only [readAt_whole, readCov_whole]; rfl
  iexists _; isplitr; swap; (· iexact H15); ipureintro; refine (read_store_whole _ _ (by decide) _ _ _).trans ?_; (repeat (first | delta firstRun.sl.r | delta firstRun.sl.r_1 | delta firstRun.sl.r_2 | delta firstRun.sl.r_3 | delta firstRun.sl.r_4 | delta firstRun.sl.r_5 | delta firstRun.sl.r_6 | delta firstRun.sl.r_7 | delta firstRun.sl.r_8 | delta firstRun.sl.r_9 | delta firstRun.sl.r_10 | delta firstRun.sl.cst_16 | delta firstRun.sl.v6 | delta firstRun.sl.v7 | delta firstRun.sl.v54 | delta firstRun.sl.v55 | delta firstRun.sl.H12_1 | delta firstRun.sl.H13_1 | delta firstRun.sl.H14_1 | delta firstRun.sl.H15_1)); simp (disch := decide) only [readAt_whole, readCov_whole]; rfl

set_option maxHeartbeats 800000 in
/-- The last point: one step of both recurrences, then the pooling. -/
theorem lastRun (hf : ¬ condFirst i) (hl : condLast i) (E : Set ℕ) (Q : PUnit → sProp 𝕄) :
        iprop(pt c M1 f1 ∗ pt c M2 f2 ∗ pt c M3 f3 ∗ pt c M4 f4 ∗ pt c M5 f5 ∗ pt c M6 f6 ∗ pt c M7 f7 ∗ pt c M8 f8 ∗ pt c M9 f9
            ∗ pt c M10 f10 ∗ pt c M11 f11 ∗ pt c M12 f12 ∗ pt c M13 f13 ∗ pt c M14 f14 ∗ pt c M15 f15
            ∗ (iprop(pt c M1 f1 ∗ pt c M2 f2 ∗ pt c M3 f3 ∗ pt c M4 f4 ∗ pt c M5 f5 ∗ pt c M6 f6
              ∗ pt c M7 f7 ∗ pt c M8 f8
              ∗ ow c M9 (poolOut (M10.view.read (Elt F) (M10.view.writes (Elt F) f10 [⟨Rect.unit (k0_off1 i) S1x1024x128.size (k0_off1_inb i), fwdH (M1.view.read (Elt F) f1) (M3.view.read (Elt F) f3) (M4.view.read (Elt F) f4) (M12.view.read (Elt F) f12) (M14.view.read (Elt F) f14)⟩])) (M11.view.read (Elt F) (M11.view.writes (Elt F) f11 [⟨Rect.unit (k0_off2 i) S1x1024x128.size (k0_off2_inb i), bwdH (M2.view.read (Elt F) f2) (M5.view.read (Elt F) f5) (M6.view.read (Elt F) f6) (M13.view.read (Elt F) f13) (M15.view.read (Elt F) f15)⟩])) (M7.view.read (Elt F) f7) (M8.view.read (Elt F) f8))
              ∗ pt c M10 (M10.view.writes (Elt F) f10 [⟨Rect.unit (k0_off1 i) S1x1024x128.size (k0_off1_inb i), fwdH (M1.view.read (Elt F) f1) (M3.view.read (Elt F) f3) (M4.view.read (Elt F) f4) (M12.view.read (Elt F) f12) (M14.view.read (Elt F) f14)⟩])
              ∗ pt c M11 (M11.view.writes (Elt F) f11 [⟨Rect.unit (k0_off2 i) S1x1024x128.size (k0_off2_inb i), bwdH (M2.view.read (Elt F) f2) (M5.view.read (Elt F) f5) (M6.view.read (Elt F) f6) (M13.view.read (Elt F) f13) (M15.view.read (Elt F) f15)⟩])
              ∗ ow c M12 (fwdHH (M1.view.read (Elt F) f1) (M3.view.read (Elt F) f3) (M4.view.read (Elt F) f4) (M12.view.read (Elt F) f12) (M14.view.read (Elt F) f14)) ∗ ow c M13 (bwdHH (M2.view.read (Elt F) f2) (M5.view.read (Elt F) f5) (M6.view.read (Elt F) f6) (M13.view.read (Elt F) f13) (M15.view.read (Elt F) f15))
              ∗ ow c M14 (fwdC (M1.view.read (Elt F) f1) (M3.view.read (Elt F) f3) (M4.view.read (Elt F) f4) (M12.view.read (Elt F) f12) (M14.view.read (Elt F) f14)) ∗ ow c M15 (bwdC (M2.view.read (Elt F) f2) (M5.view.read (Elt F) f5) (M6.view.read (Elt F) f6) (M13.view.read (Elt F) f13) (M15.view.read (Elt F) f15))) -∗ Q ⟨⟩))
          ⊢ wp frame (wpE (defs₀ (F := F)) Variants.none c none) E
              (cc0__word_body i M1 h1 M2 h2 M3 h3 M4 h4 M5 h5 M6 h6 M7 h7 M8 h8 M9 h9 M10 h10 M11 h11 M12 h12 M13 h13 M14 h14 M15 h15) Q := by
  rw [cc0__word_body_eq_skeleton]
  iintro ⟨H1, H2, H3, H4, H5, H6, H7, H8, H9, H10, H11, H12, H13, H14, H15, Hk⟩
  sl_exec!
  sl_step
  delta lastRun.sl.r lastRun.sl.r_1 lastRun.sl.r_2 lastRun.sl.r_3 lastRun.sl.r_4 lastRun.sl.r_5 lastRun.sl.r_6 lastRun.sl.r_7 lastRun.sl.r_8 lastRun.sl.r_9 lastRun.sl.r_10 lastRun.sl.r_11 lastRun.sl.r_12 lastRun.sl.r_13 lastRun.sl.r_14 lastRun.sl.r_15 lastRun.sl.cst_16 lastRun.sl.cst_73 lastRun.sl.H9_8
  simp (disch := decide) only [readAt_whole, readCov_whole]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; (· iexact H9); ipureintro
    refine (pool_read c i M1 h1 M2 h2 M3 h3 M4 h4 M5 h5 M6 h6 M7 h7 M8 h8 M9 h9 M10 h10 M11 h11 M12 h12 M13 h13 M14 h14 M15 h15 f7 f8 _ _ hl _).trans ?_
    rfl
  isplitl [H10]; · iexact H10
  isplitl [H11]; · iexact H11
  isplitl [H12]; · iexists _; isplitr; swap; (· iexact H12); ipureintro; refine (read_store_whole _ _ (by decide) _ _ _).trans ?_; (repeat (first | delta lastRun.sl.r | delta lastRun.sl.r_1 | delta lastRun.sl.r_2 | delta lastRun.sl.r_3 | delta lastRun.sl.r_4 | delta lastRun.sl.r_5 | delta lastRun.sl.r_6 | delta lastRun.sl.r_7 | delta lastRun.sl.r_8 | delta lastRun.sl.r_9 | delta lastRun.sl.r_10 | delta lastRun.sl.r_11 | delta lastRun.sl.r_12 | delta lastRun.sl.r_13 | delta lastRun.sl.r_14 | delta lastRun.sl.r_15 | delta lastRun.sl.cst_16 | delta lastRun.sl.cst_73 | delta lastRun.sl.H9_8)); simp (disch := decide) only [readAt_whole, readCov_whole]; rfl
  isplitl [H13]; · iexists _; isplitr; swap; (· iexact H13); ipureintro; refine (read_store_whole _ _ (by decide) _ _ _).trans ?_; (repeat (first | delta lastRun.sl.r | delta lastRun.sl.r_1 | delta lastRun.sl.r_2 | delta lastRun.sl.r_3 | delta lastRun.sl.r_4 | delta lastRun.sl.r_5 | delta lastRun.sl.r_6 | delta lastRun.sl.r_7 | delta lastRun.sl.r_8 | delta lastRun.sl.r_9 | delta lastRun.sl.r_10 | delta lastRun.sl.r_11 | delta lastRun.sl.r_12 | delta lastRun.sl.r_13 | delta lastRun.sl.r_14 | delta lastRun.sl.r_15 | delta lastRun.sl.cst_16 | delta lastRun.sl.cst_73 | delta lastRun.sl.H9_8)); simp (disch := decide) only [readAt_whole, readCov_whole]; rfl
  isplitl [H14]; · iexists _; isplitr; swap; (· iexact H14); ipureintro; refine (read_store_whole _ _ (by decide) _ _ _).trans ?_; (repeat (first | delta lastRun.sl.r | delta lastRun.sl.r_1 | delta lastRun.sl.r_2 | delta lastRun.sl.r_3 | delta lastRun.sl.r_4 | delta lastRun.sl.r_5 | delta lastRun.sl.r_6 | delta lastRun.sl.r_7 | delta lastRun.sl.r_8 | delta lastRun.sl.r_9 | delta lastRun.sl.r_10 | delta lastRun.sl.r_11 | delta lastRun.sl.r_12 | delta lastRun.sl.r_13 | delta lastRun.sl.r_14 | delta lastRun.sl.r_15 | delta lastRun.sl.cst_16 | delta lastRun.sl.cst_73 | delta lastRun.sl.H9_8)); simp (disch := decide) only [readAt_whole, readCov_whole]; rfl
  iexists _; isplitr; swap; (· iexact H15); ipureintro; refine (read_store_whole _ _ (by decide) _ _ _).trans ?_; (repeat (first | delta lastRun.sl.r | delta lastRun.sl.r_1 | delta lastRun.sl.r_2 | delta lastRun.sl.r_3 | delta lastRun.sl.r_4 | delta lastRun.sl.r_5 | delta lastRun.sl.r_6 | delta lastRun.sl.r_7 | delta lastRun.sl.r_8 | delta lastRun.sl.r_9 | delta lastRun.sl.r_10 | delta lastRun.sl.r_11 | delta lastRun.sl.r_12 | delta lastRun.sl.r_13 | delta lastRun.sl.r_14 | delta lastRun.sl.r_15 | delta lastRun.sl.cst_16 | delta lastRun.sl.cst_73 | delta lastRun.sl.H9_8)); simp (disch := decide) only [readAt_whole, readCov_whole]; rfl

end
end Cert.KernelIdeal.Word
-- ==== Proof.WordDat.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.WordRun
public import Idealize.ShloMosaic.Lib.Pipeline.RegionsLoop
public import Idealize.ShloMosaic.Lib.WritesUnit
public import Idealize.ShloMosaic.Lib.Pipeline.FrameBody
public import Idealize.ShloMosaic.Lib.Tactic
public import Idealize.ShloMosaic.Lib.Pipeline.ValueKit

@[expose] public section

set_option maxRecDepth 8192

noncomputable section

namespace Cert.KernelIdeal.Word

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## What the grid's points read, and the state they carry -/

variable (V : (c : Dev nD) → (b : Ref sig .tc) → Buf (Elt F) ((c : Thread nD τ).loc b))

/-- Word `t` of every sentence, forward: window 0's block at point `t`. -/
noncomputable def xF (c : Dev nD) (t : Fin cfg0.N) : Vec F S1x1024x128 .f32 := ((cfg0.win 0).blk t).view.read (Elt F) (V c main_v5)
/-- Word `63 - t`, for the backward direction: window 1's block at point `t`. -/
noncomputable def xB (c : Dev nD) (t : Fin cfg0.N) : Vec F S1x1024x128 .f32 := ((cfg0.win 1).blk t).view.read (Elt F) (V c main_v5)
/-- The forward weights: window 2's block at point `t`. -/
noncomputable def wF (c : Dev nD) (t : Fin cfg0.N) : Vec F S768x512 .bf16 := ((cfg0.win 2).blk t).view.read (Elt F) (V c main_v24)
/-- The forward bias: window 3's block at point `t`. -/
noncomputable def bF (c : Dev nD) (t : Fin cfg0.N) : Vec F S1x512 .f32 := ((cfg0.win 3).blk t).view.read (Elt F) (V c main_v65)
/-- The backward weights: window 4's block at point `t`. -/
noncomputable def wB (c : Dev nD) (t : Fin cfg0.N) : Vec F S768x512 .bf16 := ((cfg0.win 4).blk t).view.read (Elt F) (V c main_v43)
/-- The backward bias: window 5's block at point `t`. -/
noncomputable def bB (c : Dev nD) (t : Fin cfg0.N) : Vec F S1x512 .f32 := ((cfg0.win 5).blk t).view.read (Elt F) (V c main_v71)
/-- The attention weights: window 6's block at point `t`. -/
noncomputable def aW (c : Dev nD) (t : Fin cfg0.N) : Vec F S256x128 .bf16 := ((cfg0.win 6).blk t).view.read (Elt F) (V c main_v55)
/-- The attention bias: window 7's block at point `t`. -/
noncomputable def aB (c : Dev nD) (t : Fin cfg0.N) : Vec F S64x128 .f32 := ((cfg0.win 7).blk t).view.read (Elt F) (V c main_v59)

/-- The forward state (hidden, cell) before point `n`. -/
def stF (c : Dev nD) : ℕ → Vec F S1024x256 .bf16 × Vec F S1024x128 .f32
  | 0 => (k0_pay42, k0_pay44)
  | n + 1 => if h : n < cfg0.N then
      (fwdHH (xF V c ⟨n, h⟩) (wF V c ⟨n, h⟩) (bF V c ⟨n, h⟩) (stF c n).1 (stF c n).2,
       fwdC (xF V c ⟨n, h⟩) (wF V c ⟨n, h⟩) (bF V c ⟨n, h⟩) (stF c n).1 (stF c n).2)
    else stF c n
/-- The backward state before point `n`. -/
def stB (c : Dev nD) : ℕ → Vec F S1024x256 .bf16 × Vec F S1024x128 .f32
  | 0 => (k0_pay43, k0_pay45)
  | n + 1 => if h : n < cfg0.N then
      (bwdHH (xB V c ⟨n, h⟩) (wB V c ⟨n, h⟩) (bB V c ⟨n, h⟩) (stB c n).1 (stB c n).2,
       bwdC (xB V c ⟨n, h⟩) (wB V c ⟨n, h⟩) (bB V c ⟨n, h⟩) (stB c n).1 (stB c n).2)
    else stB c n

theorem stF_succ (c : Dev nD) (t : Fin cfg0.N) : stF V c (t.val + 1) =
    (fwdHH (xF V c t) (wF V c t) (bF V c t) (stF V c t.val).1 (stF V c t.val).2, fwdC (xF V c t) (wF V c t) (bF V c t) (stF V c t.val).1 (stF V c t.val).2) := by
  rw [stF, dif_pos t.isLt]
theorem stB_succ (c : Dev nD) (t : Fin cfg0.N) : stB V c (t.val + 1) =
    (bwdHH (xB V c t) (wB V c t) (bB V c t) (stB V c t.val).1 (stB V c t.val).2, bwdC (xB V c t) (wB V c t) (bB V c t) (stB V c t.val).1 (stB V c t.val).2) := by
  rw [stB, dif_pos t.isLt]

/-- The forward hidden states point `t` stores as word `t`'s, and the backward ones it stores as word `63 - t`'s. -/
def rowF (c : Dev nD) (t : Fin cfg0.N) : Vec F S1x1024x128 .bf16 := fwdH (xF V c t) (wF V c t) (bF V c t) (stF V c t.val).1 (stF V c t.val).2
def rowB (c : Dev nD) (t : Fin cfg0.N) : Vec F S1x1024x128 .bf16 := bwdH (xB V c t) (wB V c t) (bB V c t) (stB V c t.val).1 (stB V c t.val).2

theorem cfgN : cfg0.N = 64 := N_0

/-- Row `y`'s place in the block a point stores. -/
def inRow (y : S64x1024x128.Idx) : S1x1024x128.Idx := fun a => match a with
  | ⟨0, _⟩ => ⟨0, Nat.one_pos⟩
  | ⟨1, _⟩ => ⟨(y 1).val, (y 1).isLt⟩
  | ⟨2, _⟩ => ⟨(y 2).val, (y 2).isLt⟩

/-- Every word's forward hidden states, and every word's backward ones. -/
def HF (c : Dev nD) : Vec F S64x1024x128 .bf16 := fun y => rowF V c ⟨(y 0).val, cfgN ▸ (y 0).isLt⟩ (inRow y)
def HB (c : Dev nD) : Vec F S64x1024x128 .bf16 := fun y => rowB V c ⟨63 - (y 0).val, by rw [cfgN]; omega⟩ (inRow y)

/-! ## The points: which is first, which is last, which row each stores -/

theorem coord : ∀ t : Fin cfg0.N, (grid0.coords t 0).val = t.val := (by decide +kernel : ∀ t : Fin grid0.N, (grid0.coords t 0).val = t.val)
theorem first_iff : ∀ t : Fin cfg0.N, condFirst (grid0.coords t) ↔ t.val = 0 := (by decide +kernel : ∀ t : Fin grid0.N, condFirst (grid0.coords t) ↔ t.val = 0)
theorem last_iff : ∀ t : Fin cfg0.N, condLast (grid0.coords t) ↔ t.val = 63 := (by decide +kernel : ∀ t : Fin grid0.N, condLast (grid0.coords t) ↔ t.val = 63)

/-- After point `t`'s store the rows up to `t` are the forward states'. -/
theorem rowF_step (c : Dev nD) (t : Fin cfg0.N) {sp : Space} (M : Memref sig .tc sp S64x1024x128 .bf16) (f : Bf (F := F) c M)
    (h : ∀ y, (y 0).val < t.val → M.view.read (Elt F) f y = HF V c y) (y : S64x1024x128.Idx) (hy : (y 0).val < t.val + 1) :
    M.view.read (Elt F) (M.view.writes (Elt F) f [⟨Rect.unit (k0_off1 (grid0.coords t)) S1x1024x128.size (k0_off1_inb (grid0.coords t)), rowF V c t⟩]) y = HF V c y := by
  have hoff : k0_off1 (grid0.coords t) = ![t.val, 0, 0] := by rw [k0_off1_eq, coord]
  by_cases he : (y 0).val = t.val
  · refine (View.read_writes_cons_unit_of_mem (size := S1x1024x128.size) M.view f _ (rowF V c t) [] y (inRow y) hoff (fun a => match a with
      | ⟨0, _⟩ => he
      | ⟨1, _⟩ => (Nat.zero_add _).symm
      | ⟨2, _⟩ => (Nat.zero_add _).symm)).trans ?_
    refine congrArg (fun s => rowF V c s (inRow y)) ?_
    exact Fin.ext he.symm
  · rw [View.read_writes_cons_unit_of_not_mem M.view f _ _ _ y hoff 0 (Or.inl (show (y 0).val < t.val by omega))]
    exact h y (by omega)

/-- After point `t`'s store the rows from `63 - t` on are the backward states'. -/
theorem rowB_step (c : Dev nD) (t : Fin cfg0.N) {sp : Space} (M : Memref sig .tc sp S64x1024x128 .bf16) (f : Bf (F := F) c M)
    (h : ∀ y, 64 ≤ (y 0).val + t.val → M.view.read (Elt F) f y = HB V c y) (y : S64x1024x128.Idx) (hy : 64 ≤ (y 0).val + (t.val + 1)) :
    M.view.read (Elt F) (M.view.writes (Elt F) f [⟨Rect.unit (k0_off2 (grid0.coords t)) S1x1024x128.size (k0_off2_inb (grid0.coords t)), rowB V c t⟩]) y = HB V c y := by
  have hoff : k0_off2 (grid0.coords t) = ![63 - t.val, 0, 0] := by rw [k0_off2_eq, coord]
  have ht : t.val < 64 := lt_of_lt_of_eq t.isLt cfgN
  by_cases he : (y 0).val = 63 - t.val
  · refine (View.read_writes_cons_unit_of_mem (size := S1x1024x128.size) M.view f _ (rowB V c t) [] y (inRow y) hoff (fun a => match a with
      | ⟨0, _⟩ => he
      | ⟨1, _⟩ => (Nat.zero_add _).symm
      | ⟨2, _⟩ => (Nat.zero_add _).symm)).trans ?_
    refine congrArg (fun s => rowB V c s (inRow y)) ?_
    exact Fin.ext (show t.val = 63 - (y 0).val by omega)
  · rw [View.read_writes_cons_unit_of_not_mem M.view f _ _ _ y hoff 0 (Or.inr (show 63 - t.val + 1 ≤ (y 0).val by omega))]
    exact h y (by omega)

/-! ## The proof data -/

/-- A buffer of the core held at something. -/
abbrev ex (c : Dev nD) (r : Ref sig .tc) : sProp 𝕄 := iprop(∃ f : Buf (Elt F) ((c : Thread nD τ).loc r), ((c : Thread nD τ).loc r) ↦{fullShare} f)

theorem pt_whole (c : Dev nD) (r : Ref sig .tc) (f : Buf (Elt F) ((c : Thread nD τ).loc r)) :
    pt c (Memref.whole r) f = (((c : Thread nD τ).loc r) ↦{fullShare} f : sProp 𝕄) := by
  unfold pt
  rw [show (Memref.whole r).view.set = Finset.univ from View.set_whole r]

/-- The scoped buffers the kernel does not use. -/
def restR (c : Dev nD) : sProp 𝕄 := iprop(ex c cc1_stg0_0 ∗ ex c cc1_stg1_0 ∗ ex c cc1_stg2_0 ∗ ex c cc1_stg3_0 ∗ ex c cc1_stg4_0 ∗ ex c cc1_stg5_0 ∗ ex c cc1_stg6_0 ∗ ex c cc1_stg7_0 ∗ ex c cc1_stg8_0 ∗ ex c cc1_stg9_0 ∗ ex c cc1_stg10_0 ∗ ex c cc1_scratch0 ∗ ex c cc1_scratch1)

/-- A memref held at contents that meet `P`. -/
abbrev sat (c : Dev nD) {sp : Space} {S : Shape} {e : EltTy} (M : Memref sig .tc sp S e) (P : Vec F S e → Prop) : sProp 𝕄 :=
  iprop(∃ f : Bf (F := F) c M, ⌜P (M.view.read (Elt F) f)⌝ ∗ pt c M f)

/-- Between the points: the words' states stored so far, and the two recurrences' state once the first point has run. -/
def Φn (c : Dev nD) (n : ℕ) : sProp 𝕄 := iprop(
  sat c (Memref.whole cc0_scratch0) (fun X => ∀ y, (y 0).val < n → X y = HF V c y)
  ∗ sat c (Memref.whole cc0_scratch1) (fun X => ∀ y, 64 ≤ (y 0).val + n → X y = HB V c y)
  ∗ sat c (Memref.whole cc0_scratch2) (fun X => 0 < n → X = (stF V c n).1)
  ∗ sat c (Memref.whole cc0_scratch3) (fun X => 0 < n → X = (stB V c n).1)
  ∗ sat c (Memref.whole cc0_scratch4) (fun X => 0 < n → X = (stF V c n).2)
  ∗ sat c (Memref.whole cc0_scratch5) (fun X => 0 < n → X = (stB V c n).2)
  ∗ restR c)

/-- The pooled block the last point stores. -/
def pooled (c : Dev nD) (t : Fin cfg0.N) : Vec F S1024x256 .f32 := poolOut (HF V c) (HB V c) (aW V c t) (aB V c t)

/-- The proof data of the region entered at valuation `V`. -/
def dat (c : Dev nD) : Dat τ (Elt F) Unit ℕ (UR sig nD τ) ℕ cfg0 c where
  A w := V c (Pipeline.arrRef spec0 w)
  after w t := match w with
    | ⟨0, _⟩ => xF V c t
    | ⟨1, _⟩ => xB V c t
    | ⟨2, _⟩ => wF V c t
    | ⟨3, _⟩ => bF V c t
    | ⟨4, _⟩ => wB V c t
    | ⟨5, _⟩ => bB V c t
    | ⟨6, _⟩ => aW V c t
    | ⟨7, _⟩ => aB V c t
    | ⟨8, _⟩ => pooled V c t
  Φ n := Φn V c n.val
  q w := Pipeline.shareOf spec0 w
  owed _ := 0

theorem before_0 (c : Dev nD) (t : Fin cfg0.N) (d : (cfg0.win 0).block.Idx → Elt F (cfg0.win 0).elt) : (dat V c).before 0 t d = xF V c t :=
  ((dat V c).before_in_eq_fetched 0 rfl (fun _ => rfl) (fun _ _ _ => rfl) (fun _ => rfl) t d).trans rfl
theorem before_1 (c : Dev nD) (t : Fin cfg0.N) (d : (cfg0.win 1).block.Idx → Elt F (cfg0.win 1).elt) : (dat V c).before 1 t d = xB V c t :=
  ((dat V c).before_in_eq_fetched 1 rfl (fun _ => rfl) (fun _ _ _ => rfl) (fun _ => rfl) t d).trans rfl
theorem before_2 (c : Dev nD) (t : Fin cfg0.N) (d : (cfg0.win 2).block.Idx → Elt F (cfg0.win 2).elt) : (dat V c).before 2 t d = wF V c t :=
  ((dat V c).before_in_eq_fetched 2 rfl (fun _ => rfl) (fun _ _ _ => rfl) (fun _ => rfl) t d).trans rfl
theorem before_3 (c : Dev nD) (t : Fin cfg0.N) (d : (cfg0.win 3).block.Idx → Elt F (cfg0.win 3).elt) : (dat V c).before 3 t d = bF V c t :=
  ((dat V c).before_in_eq_fetched 3 rfl (fun _ => rfl) (fun _ _ _ => rfl) (fun _ => rfl) t d).trans rfl
theorem before_4 (c : Dev nD) (t : Fin cfg0.N) (d : (cfg0.win 4).block.Idx → Elt F (cfg0.win 4).elt) : (dat V c).before 4 t d = wB V c t :=
  ((dat V c).before_in_eq_fetched 4 rfl (fun _ => rfl) (fun _ _ _ => rfl) (fun _ => rfl) t d).trans rfl
theorem before_5 (c : Dev nD) (t : Fin cfg0.N) (d : (cfg0.win 5).block.Idx → Elt F (cfg0.win 5).elt) : (dat V c).before 5 t d = bB V c t :=
  ((dat V c).before_in_eq_fetched 5 rfl (fun _ => rfl) (fun _ _ _ => rfl) (fun _ => rfl) t d).trans rfl
theorem before_6 (c : Dev nD) (t : Fin cfg0.N) (d : (cfg0.win 6).block.Idx → Elt F (cfg0.win 6).elt) : (dat V c).before 6 t d = aW V c t :=
  ((dat V c).before_in_eq_fetched 6 rfl (fun _ => rfl) (fun _ _ _ => rfl) (fun _ => rfl) t d).trans rfl
theorem before_7 (c : Dev nD) (t : Fin cfg0.N) (d : (cfg0.win 7).block.Idx → Elt F (cfg0.win 7).elt) : (dat V c).before 7 t d = aB V c t :=
  ((dat V c).before_in_eq_fetched 7 rfl (fun _ => rfl) (fun _ _ _ => rfl) (fun _ => rfl) t d).trans rfl

theorem idle_8 (t : Fin cfg0.N) (h : ¬ condLast (grid0.coords t)) : cfg0.idle 8 (cfg0.grid.coords t) = true := by
  show (!(k0_cond2 (grid0.coords t) == 1#1)) = true
  rw [Bool.not_eq_true', beq_eq_false_iff_ne]; exact h
theorem busy_8 (t : Fin cfg0.N) (h : condLast (grid0.coords t)) : cfg0.idle 8 (cfg0.grid.coords t) = false := by
  show (!(k0_cond2 (grid0.coords t) == 1#1)) = false
  rw [Bool.not_eq_false', beq_iff_eq]; exact h
theorem flush_8 (t : Fin cfg0.N) (h : ¬ condLast (grid0.coords t)) : (cfg0.win 8).flush t = false := by
  rw [Bool.eq_false_iff]; intro hf
  have ht : t.val < 64 := lt_of_lt_of_eq t.isLt cfgN
  have := (flush0_8 t).mp hf
  exact h ((last_iff t).mpr (by omega))

abbrev 𝒱₀ : Variants := Variants.none

end Cert.KernelIdeal.Word
-- ==== Proof.WordReg.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.WordDat
public import Idealize.ShloMosaic.Lib.Pipeline.RegionsLoop
public import Idealize.ShloMosaic.Lib.WritesUnit
public import Idealize.ShloMosaic.Lib.Pipeline.FrameBody
public import Idealize.ShloMosaic.Lib.Tactic
public import Idealize.ShloMosaic.Lib.Pipeline.ValueKit

@[expose] public section

set_option maxRecDepth 8192

noncomputable section

namespace Cert.KernelIdeal.Word

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- The body at a point, from its invariant to the next point's. -/
theorem body_obligation (c : Dev nD) : BodyObligation (dat V c) (defs₀ (F := F)) 𝒱₀ () Set.univ := fun t => by
  rw [bigSep_W0, bigSep_W0]
  rw [show (dat V c).Φ t.castSucc = Φn V c t.val from rfl, show (dat V c).Φ t.succ = Φn V c (t.val + 1) from rfl,
    show (dat V c).owesAt () t.succ = (dat V c).owesAt () t.castSucc from rfl]
  unfold Φn owns
  have i0 : cfg0.idle 0 (cfg0.grid.coords t) = false := rfl
  have i1 : cfg0.idle 1 (cfg0.grid.coords t) = false := rfl
  have i2 : cfg0.idle 2 (cfg0.grid.coords t) = false := rfl
  have i3 : cfg0.idle 3 (cfg0.grid.coords t) = false := rfl
  have i4 : cfg0.idle 4 (cfg0.grid.coords t) = false := rfl
  have i5 : cfg0.idle 5 (cfg0.grid.coords t) = false := rfl
  have i6 : cfg0.idle 6 (cfg0.grid.coords t) = false := rfl
  have i7 : cfg0.idle 7 (cfg0.grid.coords t) = false := rfl
  simp only [i0, i1, i2, i3, i4, i5, i6, i7]
  change _ ⊢ wp frame (wpE (defs₀ (F := F)) Variants.none (c : Thread nD τ) none) Set.univ (bodyAt0 t) _
  iintro ⟨⟨⟨%f10, %h10, S10⟩, ⟨%f11, %h11, S11⟩, ⟨%f12, %h12, S12⟩, ⟨%f13, %h13, S13⟩, ⟨%f14, %h14, S14⟩, ⟨%f15, %h15, S15⟩, HR⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
  rw [before_0] at hf0
  rw [before_1] at hf1
  rw [before_2] at hf2
  rw [before_3] at hf3
  rw [before_4] at hf4
  rw [before_5] at hf5
  rw [before_6] at hf6
  rw [before_7] at hf7
  by_cases hl : condLast (grid0.coords t)
  · have hf : ¬ condFirst (grid0.coords t) := fun h => by have := (first_iff t).mp h; have := (last_iff t).mp hl; omega
    have h0 : 0 < t.val := by have := (last_iff t).mp hl; omega
    have h63 := (last_iff t).mp hl
    have hb : idle0 8 (grid0.coords t) = false := busy_8 t hl
    rw [hb]
    iapply (lastRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f0 f1 f2 f3 f4 f5 f6 f7 f8 f10 f11 f12 f13 f14 f15 hf hl Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S10]; · iexact S10
    isplitl [S11]; · iexact S11
    isplitl [S12]; · iexact S12
    isplitl [S13]; · iexact S13
    isplitl [S14]; · iexact S14
    isplitl [S15]; · iexact S15
    iintro ⟨H0, H1, H2, H3, H4, H5, H6, H7, ⟨%g8, %hg8, H8⟩, S10, S11, ⟨%g12, %hg12, S12⟩, ⟨%g13, %hg13, S13⟩, ⟨%g14, %hg14, S14⟩, ⟨%g15, %hg15, S15⟩⟩
    have r10 := rowF_step V c t (Memref.whole cc0_scratch0) f10 h10
    have r11 := rowB_step V c t (Memref.whole cc0_scratch1) f11 h11
    unfold rowF at r10; unfold rowB at r11
    rw [hf0, hf2, hf3, h12 h0, h14 h0] at hg12 hg14
    rw [hf1, hf4, hf5, h13 h0, h15 h0] at hg13 hg15
    rw [← hf0, ← hf2, ← hf3, ← h12 h0, ← h14 h0] at r10; rw [← hf1, ← hf4, ← hf5, ← h13 h0, ← h15 h0] at r11
    isplitl [S10 S11 S12 S13 S14 S15 HR]
    · isplitl [S10]; · iexists _; isplitr; swap; (· iexact S10); ipureintro; exact r10
      isplitl [S11]; · iexists _; isplitr; swap; (· iexact S11); ipureintro; exact r11
      isplitl [S12]; · iexists _; isplitr; swap; (· iexact S12); ipureintro; intro _; rw [hg12, stF_succ]
      isplitl [S13]; · iexists _; isplitr; swap; (· iexact S13); ipureintro; intro _; rw [hg13, stB_succ]
      isplitl [S14]; · iexists _; isplitr; swap; (· iexact S14); ipureintro; intro _; rw [hg14, stF_succ]
      isplitl [S15]; · iexists _; isplitr; swap; (· iexact S15); ipureintro; intro _; rw [hg15, stB_succ]
      iexact HR
    isplitl [Howes]; · iexact Howes
    isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    isplitl [H7]; · iexists _; isplitr; swap; (· iexact H7); ipureintro; exact hf7
    iexists _; isplitr; swap; (· iexact H8); ipureintro; rw [hg8, hf6, hf7]; exact congr (congrArg (fun a b => poolOut a b (aW V c t) (aB V c t)) (funext fun y => r10 y (by have h : (y 0).val < 64 := (y 0).isLt; omega))) (funext fun y => r11 y (by omega))
  have hb : idle0 8 (grid0.coords t) = true := idle_8 t hl
  simp only [flush_8 t hl]
  rw [hb]
  by_cases hf : condFirst (grid0.coords t)
  · have h0 : t.val = 0 := (first_iff t).mp hf
    iapply (firstRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f0 f1 f2 f3 f4 f5 f10 f11 f12 f13 f14 f15 hf hl Set.univ _)
    isplitl [H0]; · iexact H0
    isplitl [H1]; · iexact H1
    isplitl [H2]; · iexact H2
    isplitl [H3]; · iexact H3
    isplitl [H4]; · iexact H4
    isplitl [H5]; · iexact H5
    isplitl [S10]; · iexact S10
    isplitl [S11]; · iexact S11
    isplitl [S12]; · iexact S12
    isplitl [S13]; · iexact S13
    isplitl [S14]; · iexact S14
    isplitl [S15]; · iexact S15
    iintro ⟨H0, H1, H2, H3, H4, H5, S10, S11, ⟨%g12, %hg12, S12⟩, ⟨%g13, %hg13, S13⟩, ⟨%g14, %hg14, S14⟩, ⟨%g15, %hg15, S15⟩⟩
    have e12 : (stF V c t.val) = (k0_pay42, k0_pay44) := by rw [h0]; rfl
    have e13 : (stB V c t.val) = (k0_pay43, k0_pay45) := by rw [h0]; rfl
    have r10 := rowF_step V c t (Memref.whole cc0_scratch0) f10 h10
    have r11 := rowB_step V c t (Memref.whole cc0_scratch1) f11 h11
    unfold rowF at r10; unfold rowB at r11
    rw [e12] at r10; rw [e13] at r11
    rw [hf0, hf2, hf3] at hg12 hg14
    rw [hf1, hf4, hf5] at hg13 hg15
    rw [← hf0, ← hf2, ← hf3] at r10; rw [← hf1, ← hf4, ← hf5] at r11
    isplitl [S10 S11 S12 S13 S14 S15 HR]
    · isplitl [S10]; · iexists _; isplitr; swap; (· iexact S10); ipureintro; exact r10
      isplitl [S11]; · iexists _; isplitr; swap; (· iexact S11); ipureintro; exact r11
      isplitl [S12]; · iexists _; isplitr; swap; (· iexact S12); ipureintro; intro _; rw [hg12, stF_succ, e12]
      isplitl [S13]; · iexists _; isplitr; swap; (· iexact S13); ipureintro; intro _; rw [hg13, stB_succ, e13]
      isplitl [S14]; · iexists _; isplitr; swap; (· iexact S14); ipureintro; intro _; rw [hg14, stF_succ, e12]
      isplitl [S15]; · iexists _; isplitr; swap; (· iexact S15); ipureintro; intro _; rw [hg15, stB_succ, e13]
      iexact HR
    isplitl [Howes]; · iexact Howes
    isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    isplitl [H7]; · iexists _; isplitr; swap; (· iexact H7); ipureintro; exact hf7
    iexists d8; iexists _; isplitr; swap; (· iexact H8); ipureintro; exact hf8
  · have h0 : 0 < t.val := Nat.pos_of_ne_zero fun h => hf ((first_iff t).mpr h)
    iapply (midRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) f0 f1 f2 f3 f4 f5 f10 f11 f12 f13 f14 f15 hf hl Set.univ _)
    isplitl [H0]; · iexact H0
    isplitl [H1]; · iexact H1
    isplitl [H2]; · iexact H2
    isplitl [H3]; · iexact H3
    isplitl [H4]; · iexact H4
    isplitl [H5]; · iexact H5
    isplitl [S10]; · iexact S10
    isplitl [S11]; · iexact S11
    isplitl [S12]; · iexact S12
    isplitl [S13]; · iexact S13
    isplitl [S14]; · iexact S14
    isplitl [S15]; · iexact S15
    iintro ⟨H0, H1, H2, H3, H4, H5, S10, S11, ⟨%g12, %hg12, S12⟩, ⟨%g13, %hg13, S13⟩, ⟨%g14, %hg14, S14⟩, ⟨%g15, %hg15, S15⟩⟩
    have r10 := rowF_step V c t (Memref.whole cc0_scratch0) f10 h10
    have r11 := rowB_step V c t (Memref.whole cc0_scratch1) f11 h11
    unfold rowF at r10; unfold rowB at r11
    rw [hf0, hf2, hf3, h12 h0, h14 h0] at hg12 hg14
    rw [hf1, hf4, hf5, h13 h0, h15 h0] at hg13 hg15
    rw [← hf0, ← hf2, ← hf3, ← h12 h0, ← h14 h0] at r10; rw [← hf1, ← hf4, ← hf5, ← h13 h0, ← h15 h0] at r11
    isplitl [S10 S11 S12 S13 S14 S15 HR]
    · isplitl [S10]; · iexists _; isplitr; swap; (· iexact S10); ipureintro; exact r10
      isplitl [S11]; · iexists _; isplitr; swap; (· iexact S11); ipureintro; exact r11
      isplitl [S12]; · iexists _; isplitr; swap; (· iexact S12); ipureintro; intro _; rw [hg12, stF_succ]
      isplitl [S13]; · iexists _; isplitr; swap; (· iexact S13); ipureintro; intro _; rw [hg13, stB_succ]
      isplitl [S14]; · iexists _; isplitr; swap; (· iexact S14); ipureintro; intro _; rw [hg14, stF_succ]
      isplitl [S15]; · iexists _; isplitr; swap; (· iexact S15); ipureintro; intro _; rw [hg15, stB_succ]
      iexact HR
    isplitl [Howes]; · iexact Howes
    isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]; · iexists _; isplitr; swap; (· iexact H6); ipureintro; exact hf6
    isplitl [H7]; · iexists _; isplitr; swap; (· iexact H7); ipureintro; exact hf7
    iexists d8; iexists _; isplitr; swap; (· iexact H8); ipureintro; exact hf8

end Cert.KernelIdeal.Word
-- ==== Proof.Sent.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Word
public import Idealize.ShloMosaic.Lib.WritesUnit
public import Idealize.ShloMosaic.Lib.Pipeline.FrameBody
public import Idealize.ShloMosaic.Lib.Tactic
public import Idealize.ShloMosaic.Lib.Pipeline.ValueKit

@[expose] public section

set_option maxRecDepth 8192

noncomputable section

namespace Cert.KernelIdeal.Sent

open Cert.KernelIdeal Cert.KernelIdeal.Gen
open Cert.KernelIdeal.Word (Bf pt ow readAt_whole read_store_whole readCov_whole)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## What the sentence kernel computes -/

theorem sent_inb (k : Fin 16) : ∀ a, (![k.val, 0, 0] : Fin 3 → ℕ) a + S1x64x256.size a ≤ S16x64x256.size a := by
  intro a
  have hk := k.isLt
  match a with
  | ⟨0, _⟩ => show k.val + 1 ≤ 16; omega
  | ⟨1, _⟩ => show 0 + 64 ≤ 64; omega
  | ⟨2, _⟩ => show 0 + 256 ≤ 256; omega

theorem rows_inb (k : Fin 16) : ∀ a, (![k.val, 0, 0] : Fin 3 → ℕ) a + S1x64x128.size a ≤ S16x64x128.size a := by
  intro a
  have hk := k.isLt
  match a with
  | ⟨0, _⟩ => show k.val + 1 ≤ 16; omega
  | ⟨1, _⟩ => show 0 + 64 ≤ 64; omega
  | ⟨2, _⟩ => show 0 + 128 ≤ 128; omega

theorem lane_inb (k : Fin 16) : ∀ a, (![k.val, 0] : Fin 2 → ℕ) a + S1x128.size a ≤ S16x128.size a := by
  intro a
  have hk := k.isLt
  match a with
  | ⟨0, _⟩ => show k.val + 1 ≤ 16; omega
  | ⟨1, _⟩ => show 0 + 128 ≤ 128; omega

/-- Sentence `k` of every document. -/
def sentOf (X : Vec F S16x64x256 .f32) (k : Fin 16) : Vec F S1x64x256 .f32 :=
  View.ld (Val := Elt F) X (Rect.unit (s := S16x64x256) ![k.val, 0, 0] S1x64x256.size (sent_inb k))
/-- Sentence `k`'s hidden states. -/
def rowsOf (H : Vec F S16x64x128 .bf16) (k : Fin 16) : Vec F S1x64x128 .bf16 :=
  View.ld (Val := Elt F) H (Rect.unit (s := S16x64x128) ![k.val, 0, 0] S1x64x128.size (rows_inb k))
/-- Sentence `k`'s attention bias. -/
def biasOf (b : Vec F S16x128 .f32) (k : Fin 16) : Vec F S1x128 .f32 :=
  View.ld (Val := Elt F) b (Rect.unit (s := S16x128) ![k.val, 0] S1x128.size (lane_inb k))

theorem sentOf_readAt {κ : Kind} {sp : Space} (v : View sig κ sp S16x64x256 .f32) (f : v.ty.Contents (Elt F)) (k : Fin 16) {off : Fin 3 → ℕ}
    (h : off = ![k.val, 0, 0]) (inb : ∀ a, off a + S1x64x256.size a ≤ S16x64x256.size a) :
    View.readAt (Elt F) v (Rect.unit (s := S16x64x256) off S1x64x256.size inb).toLoadRect f = sentOf (v.read (Elt F) f) k := by
  subst h; rfl
theorem rowsOf_readAt {κ : Kind} {sp : Space} (v : View sig κ sp S16x64x128 .bf16) (f : v.ty.Contents (Elt F)) (k : Fin 16) {off : Fin 3 → ℕ}
    (h : off = ![k.val, 0, 0]) (inb : ∀ a, off a + S1x64x128.size a ≤ S16x64x128.size a) :
    View.readAt (Elt F) v (Rect.unit (s := S16x64x128) off S1x64x128.size inb).toLoadRect f = rowsOf (v.read (Elt F) f) k := by
  subst h; rfl
theorem biasOf_readAt {κ : Kind} {sp : Space} (v : View sig κ sp S16x128 .f32) (f : v.ty.Contents (Elt F)) (k : Fin 16) {off : Fin 2 → ℕ}
    (h : off = ![k.val, 0]) (inb : ∀ a, off a + S1x128.size a ≤ S16x128.size a) :
    View.readAt (Elt F) v (Rect.unit (s := S16x128) off S1x128.size inb).toLoadRect f = biasOf (v.read (Elt F) f) k := by
  subst h; rfl

/-- The sentence the backward recurrence reads at step `k`. -/
def opp (k : Fin 16) : Fin 16 := ⟨15 - k.val, by omega⟩

/-- The carry of the two recurrences: the hidden states (each a pair side by side) and the cells. -/
abbrev Carry : Type := FVec F S64x256 .bf16 × FVec F S64x256 .bf16 × FVec F S64x128 .f32 × FVec F S64x128 .f32

/-- One step of the two recurrences. -/
def step (X : Vec F S16x64x256 .f32) (wf : Vec F S1536x512 .bf16) (bf : Vec F S1x512 .f32) (wb : Vec F S1536x512 .bf16) (bb : Vec F S1x512 .f32)
    (k : Fin 16) (s : Carry (F := F)) : Carry (F := F) :=
  (k1_pay6 (k1_pay13 bf) s.1 s.2.2.1 (sentOf X k) wf, k1_pay11 (k1_pay14 bb) s.2.1 s.2.2.2 (sentOf X (opp k)) wb,
   k1_pay3 (k1_pay13 bf) s.1 s.2.2.1 (sentOf X k) wf, k1_pay8 (k1_pay14 bb) s.2.1 s.2.2.2 (sentOf X (opp k)) wb)

/-- The carry before step `n`. -/
def sentSt (X : Vec F S16x64x256 .f32) (wf : Vec F S1536x512 .bf16) (bf : Vec F S1x512 .f32) (wb : Vec F S1536x512 .bf16) (bb : Vec F S1x512 .f32) :
    ℕ → Carry (F := F)
  | 0 => (k1_pay15, k1_pay15, k1_pay16, k1_pay16)
  | k + 1 => if h : k < 16 then step X wf bf wb bb ⟨k, h⟩ (sentSt X wf bf wb bb k) else sentSt X wf bf wb bb k

section
variable (X : Vec F S16x64x256 .f32) (wf : Vec F S1536x512 .bf16) (bf : Vec F S1x512 .f32) (wb : Vec F S1536x512 .bf16) (bb : Vec F S1x512 .f32)

/-- The hidden states step `k` stores: forward as sentence `k`'s, backward as sentence `15 - k`'s. -/
def rowF (k : Fin 16) : FVec F S1x64x128 .bf16 :=
  k1_pay12 (k1_pay5 (k1_pay13 bf) (sentSt X wf bf wb bb k.val).1 (sentSt X wf bf wb bb k.val).2.2.1 (sentOf X k) wf)
def rowB (k : Fin 16) : FVec F S1x64x128 .bf16 :=
  k1_pay17 (k1_pay10 (k1_pay14 bb) (sentSt X wf bf wb bb k.val).2.1 (sentSt X wf bf wb bb k.val).2.2.2 (sentOf X (opp k)) wb)

/-- Row `y`'s place in the block a step stores. -/
def inRow (y : S16x64x128.Idx) : S1x64x128.Idx := fun a => match a with
  | ⟨0, _⟩ => ⟨0, Nat.one_pos⟩
  | ⟨1, _⟩ => ⟨(y 1).val, (y 1).isLt⟩
  | ⟨2, _⟩ => ⟨(y 2).val, (y 2).isLt⟩

/-- Every sentence's forward hidden states, and every sentence's backward ones. -/
def HF : Vec F S16x64x128 .bf16 := fun y => rowF X wf bf wb bb ⟨(y 0).val, (y 0).isLt⟩ (inRow y)
def HB : Vec F S16x64x128 .bf16 := fun y => rowB X wf bf wb bb ⟨15 - (y 0).val, by omega⟩ (inRow y)
end

/-- What the attention has summed before sentence `k`: the weighted forward and backward states and the weights. -/
def poolSt (H Hb : Vec F S16x64x128 .bf16) (aw : Vec F S256x128 .bf16) (ab : Vec F S16x128 .f32) :
    ℕ → FVec F S64x128 .f32 × FVec F S64x128 .f32 × FVec F S64x128 .f32
  | 0 => (k1_pay18, k1_pay18, k1_pay18)
  | k + 1 =>
    if h : k < 16 then
      (k1_pay22 (poolSt H Hb aw ab k).1 (rowsOf H ⟨k, h⟩) (rowsOf Hb ⟨k, h⟩) aw (biasOf ab ⟨k, h⟩),
       k1_pay23 (poolSt H Hb aw ab k).2.1 (rowsOf H ⟨k, h⟩) (rowsOf Hb ⟨k, h⟩) aw (biasOf ab ⟨k, h⟩),
       k1_pay24 (poolSt H Hb aw ab k).2.2 (rowsOf H ⟨k, h⟩) (rowsOf Hb ⟨k, h⟩) aw (biasOf ab ⟨k, h⟩))
    else poolSt H Hb aw ab k

/-- The scores, from every sentence's hidden states. -/
def score (H Hb : Vec F S16x64x128 .bf16) (aw : Vec F S256x128 .bf16) (ab : Vec F S16x128 .f32) (c1 c2 : Vec F S128x1 .f32) (c0 : Vec F S1x1 .f32) : Vec F S64x1 .f32 :=
  k1_pay1 (k1_pay25 (poolSt H Hb aw ab 16).1 (poolSt H Hb aw ab 16).2.1 (poolSt H Hb aw ab 16).2.2 c1 c2 c0) k1_pay26

/-! ## The run -/

section
variable (c : Dev nD) (i : grid1.Coords)
  (M1 : Memref sig .tc .vmem S16x64x256 .f32) (h1 : M1.IsWhole)
  (M2 : Memref sig .tc .vmem S1536x512 .bf16) (h2 : M2.IsWhole)
  (M3 : Memref sig .tc .vmem S1x512 .f32) (h3 : M3.IsWhole)
  (M4 : Memref sig .tc .vmem S1536x512 .bf16) (h4 : M4.IsWhole)
  (M5 : Memref sig .tc .vmem S1x512 .f32) (h5 : M5.IsWhole)
  (M6 : Memref sig .tc .vmem S256x128 .bf16) (h6 : M6.IsWhole)
  (M7 : Memref sig .tc .vmem S16x128 .f32) (h7 : M7.IsWhole)
  (M8 : Memref sig .tc .vmem S128x1 .f32) (h8 : M8.IsWhole)
  (M9 : Memref sig .tc .vmem S128x1 .f32) (h9 : M9.IsWhole)
  (M10 : Memref sig .tc .vmem S1x1 .f32) (h10 : M10.IsWhole)
  (M11 : Memref sig .tc .vmem S64x1 .f32) (h11 : M11.IsWhole)
  (M12 : Memref sig .tc .vmem S16x64x128 .bf16) (h12 : M12.IsWhole)
  (M13 : Memref sig .tc .vmem S16x64x128 .bf16) (h13 : M13.IsWhole)
  (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13)

theorem trips_1 : k1_t1_loop.trips = 16 := by decide +kernel
theorem trips_2 : k1_t2_loop.trips = 16 := by decide +kernel

/-- One trip of the recurrences' loop, over what the buffers read as. -/
theorem trip_1 (k : Fin k1_t1_loop.trips) (acc : Carry (F := F)) :
    tripR_k1_t1 (F := F) Variants.none c none i M1 h1 M2 h2 M3 h3 M4 h4 M5 h5 M6 h6 M7 h7 M8 h8 M9 h9 M10 h10 M11 h11 M12 h12 M13 h13 (M3.view.read (Elt F) f3) (M5.view.read (Elt F) f5) f1 f2 f4 k acc = step (M1.view.read (Elt F) f1) (M2.view.read (Elt F) f2) (M3.view.read (Elt F) f3) (M4.view.read (Elt F) f4) (M5.view.read (Elt F) f5) (k.cast trips_1) acc := by
  have e1 : sentOf (M1.view.read (Elt F) f1) (k.cast trips_1) = View.readAt (Elt F) M1.view (Rect.unit (s := S16x64x256) (k1_off1 k) S1x64x256.size (k1_off1_inb k)).toLoadRect f1 :=
    (sentOf_readAt _ _ _ (k1_off1_eq k) _).symm
  have e2 : sentOf (M1.view.read (Elt F) f1) (opp (k.cast trips_1)) = View.readAt (Elt F) M1.view (Rect.unit (s := S16x64x256) (k1_off2 k) S1x64x256.size (k1_off2_inb k)).toLoadRect f1 :=
    (sentOf_readAt _ _ _ (k1_off2_eq k) _).symm
  have e3 : (M2.view.read (Elt F) f2) = View.readAt (Elt F) M2.view (Rect.unit (s := S1536x512) ![0, 0] S1536x512.size inb_S1536x512_S1536x512_0_0).toLoadRect f2 :=
    (readAt_whole _ _ _ (by decide)).symm
  have e4 : (M4.view.read (Elt F) f4) = View.readAt (Elt F) M4.view (Rect.unit (s := S1536x512) ![0, 0] S1536x512.size inb_S1536x512_S1536x512_0_0).toLoadRect f4 :=
    (readAt_whole _ _ _ (by decide)).symm
  unfold step
  rw [e1, e2, e3, e4]
  unfold tripR_k1_t1 trip_k1_t1
  rfl

/-- The forward states that trip stores. -/
theorem stores_f (k : Fin k1_t1_loop.trips) (acc : Carry (F := F)) :
    (trip_k1_t1 (F := F) Variants.none c none i M1 h1 M2 h2 M3 h3 M4 h4 M5 h5 M6 h6 M7 h7 M8 h8 M9 h9 M10 h10 M11 h11 M12 h12 M13 h13 (M3.view.read (Elt F) f3) (M5.view.read (Elt F) f5) f1 f2 f4 k).2.1 acc
      = [⟨Rect.unit (s := S16x64x128) (k1_off3 k) S1x64x128.size (k1_off3_inb k), k1_pay12 (k1_pay5 (k1_pay13 (M3.view.read (Elt F) f3)) acc.1 acc.2.2.1 (sentOf (M1.view.read (Elt F) f1) (k.cast trips_1)) (M2.view.read (Elt F) f2))⟩] := by
  have e1 : sentOf (M1.view.read (Elt F) f1) (k.cast trips_1) = View.readAt (Elt F) M1.view (Rect.unit (s := S16x64x256) (k1_off1 k) S1x64x256.size (k1_off1_inb k)).toLoadRect f1 :=
    (sentOf_readAt _ _ _ (k1_off1_eq k) _).symm
  have e3 : (M2.view.read (Elt F) f2) = View.readAt (Elt F) M2.view (Rect.unit (s := S1536x512) ![0, 0] S1536x512.size inb_S1536x512_S1536x512_0_0).toLoadRect f2 :=
    (readAt_whole _ _ _ (by decide)).symm
  rw [e1, e3]
  unfold trip_k1_t1
  rfl

/-- The backward states that trip stores. -/
theorem stores_b (k : Fin k1_t1_loop.trips) (acc : Carry (F := F)) :
    (trip_k1_t1 (F := F) Variants.none c none i M1 h1 M2 h2 M3 h3 M4 h4 M5 h5 M6 h6 M7 h7 M8 h8 M9 h9 M10 h10 M11 h11 M12 h12 M13 h13 (M3.view.read (Elt F) f3) (M5.view.read (Elt F) f5) f1 f2 f4 k).2.2.1 acc
      = [⟨Rect.unit (s := S16x64x128) (k1_off4 k) S1x64x128.size (k1_off4_inb k), k1_pay17 (k1_pay10 (k1_pay14 (M5.view.read (Elt F) f5)) acc.2.1 acc.2.2.2 (sentOf (M1.view.read (Elt F) f1) (opp (k.cast trips_1))) (M4.view.read (Elt F) f4))⟩] := by
  have e2 : sentOf (M1.view.read (Elt F) f1) (opp (k.cast trips_1)) = View.readAt (Elt F) M1.view (Rect.unit (s := S16x64x256) (k1_off2 k) S1x64x256.size (k1_off2_inb k)).toLoadRect f1 :=
    (sentOf_readAt _ _ _ (k1_off2_eq k) _).symm
  have e4 : (M4.view.read (Elt F) f4) = View.readAt (Elt F) M4.view (Rect.unit (s := S1536x512) ![0, 0] S1536x512.size inb_S1536x512_S1536x512_0_0).toLoadRect f4 :=
    (readAt_whole _ _ _ (by decide)).symm
  rw [e2, e4]
  unfold trip_k1_t1
  rfl

/-- The recurrences' loop before trip `k`: the carry, and what has been stored. -/
theorem st_1 : ∀ k ≤ k1_t1_loop.trips,
    (st_k1_t1 (F := F) Variants.none c none i M1 h1 M2 h2 M3 h3 M4 h4 M5 h5 M6 h6 M7 h7 M8 h8 M9 h9 M10 h10 M11 h11 M12 h12 M13 h13 (M3.view.read (Elt F) f3) (M5.view.read (Elt F) f5) f1 f2 f4 (k1_pay15, k1_pay15, k1_pay16, k1_pay16) k).1 = sentSt (M1.view.read (Elt F) f1) (M2.view.read (Elt F) f2) (M3.view.read (Elt F) f3) (M4.view.read (Elt F) f4) (M5.view.read (Elt F) f5) k
    ∧ (∀ y : S16x64x128.Idx, (y 0).val < k → M12.view.read (Elt F) (M12.view.writes (Elt F) f12 (st_k1_t1 (F := F) Variants.none c none i M1 h1 M2 h2 M3 h3 M4 h4 M5 h5 M6 h6 M7 h7 M8 h8 M9 h9 M10 h10 M11 h11 M12 h12 M13 h13 (M3.view.read (Elt F) f3) (M5.view.read (Elt F) f5) f1 f2 f4 (k1_pay15, k1_pay15, k1_pay16, k1_pay16) k).2.1) y = HF (M1.view.read (Elt F) f1) (M2.view.read (Elt F) f2) (M3.view.read (Elt F) f3) (M4.view.read (Elt F) f4) (M5.view.read (Elt F) f5) y)
    ∧ (∀ y : S16x64x128.Idx, 16 ≤ (y 0).val + k → M13.view.read (Elt F) (M13.view.writes (Elt F) f13 (st_k1_t1 (F := F) Variants.none c none i M1 h1 M2 h2 M3 h3 M4 h4 M5 h5 M6 h6 M7 h7 M8 h8 M9 h9 M10 h10 M11 h11 M12 h12 M13 h13 (M3.view.read (Elt F) f3) (M5.view.read (Elt F) f5) f1 f2 f4 (k1_pay15, k1_pay15, k1_pay16, k1_pay16) k).2.2) y = HB (M1.view.read (Elt F) f1) (M2.view.read (Elt F) f2) (M3.view.read (Elt F) f3) (M4.view.read (Elt F) f4) (M5.view.read (Elt F) f5) y)
  | 0, _ => ⟨rfl, fun y hy => absurd hy (Nat.not_lt_zero _), fun y hy => absurd (y 0).isLt (Nat.not_lt.mpr hy)⟩
  | k + 1, hk => by
    have h16 : k < 16 := trips_1 ▸ hk
    obtain ⟨ih1, ih2, ih3⟩ := st_1 k (Nat.le_of_succ_le hk)
    rw [st_k1_t1_succ (k := ⟨k, hk⟩)]
    dsimp only
    rw [stores_f, stores_b, trip_1, ih1]
    refine ⟨?_, fun y hy => ?_, fun y hy => ?_⟩
    · rw [sentSt, dif_pos h16]; rfl
    · have hoff : k1_off3 ⟨k, hk⟩ = ![k, 0, 0] := k1_off3_eq _
      dsimp only [List.cons_append, List.nil_append]
      by_cases he : (y 0).val = k
      · refine (View.read_writes_cons_unit_of_mem (size := S1x64x128.size) M12.view f12 _ (rowF (M1.view.read (Elt F) f1) (M2.view.read (Elt F) f2) (M3.view.read (Elt F) f3) (M4.view.read (Elt F) f4) (M5.view.read (Elt F) f5) ⟨k, h16⟩) _ y (inRow y) hoff (fun a => match a with
          | ⟨0, _⟩ => he
          | ⟨1, _⟩ => (Nat.zero_add _).symm
          | ⟨2, _⟩ => (Nat.zero_add _).symm)).trans ?_
        exact congrArg (fun s => rowF (M1.view.read (Elt F) f1) (M2.view.read (Elt F) f2) (M3.view.read (Elt F) f3) (M4.view.read (Elt F) f4) (M5.view.read (Elt F) f5) s (inRow y)) (Fin.ext he.symm)
      · refine (View.read_writes_cons_unit_of_not_mem (size := S1x64x128.size) M12.view f12 _ (rowF (M1.view.read (Elt F) f1) (M2.view.read (Elt F) f2) (M3.view.read (Elt F) f3) (M4.view.read (Elt F) f4) (M5.view.read (Elt F) f5) ⟨k, h16⟩) _ y hoff 0 (Or.inl (show (y 0).val < k by omega))).trans ?_
        exact ih2 y (by omega)
    · have hoff : k1_off4 ⟨k, hk⟩ = ![15 - k, 0, 0] := k1_off4_eq _
      have hy16 : (y 0).val < 16 := (y 0).isLt
      dsimp only [List.cons_append, List.nil_append]
      by_cases he : (y 0).val = 15 - k
      · refine (View.read_writes_cons_unit_of_mem (size := S1x64x128.size) M13.view f13 _ (rowB (M1.view.read (Elt F) f1) (M2.view.read (Elt F) f2) (M3.view.read (Elt F) f3) (M4.view.read (Elt F) f4) (M5.view.read (Elt F) f5) ⟨k, h16⟩) _ y (inRow y) hoff (fun a => match a with
          | ⟨0, _⟩ => he
          | ⟨1, _⟩ => (Nat.zero_add _).symm
          | ⟨2, _⟩ => (Nat.zero_add _).symm)).trans ?_
        exact congrArg (fun s => rowB (M1.view.read (Elt F) f1) (M2.view.read (Elt F) f2) (M3.view.read (Elt F) f3) (M4.view.read (Elt F) f4) (M5.view.read (Elt F) f5) s (inRow y)) (Fin.ext (show k = 15 - (y 0).val by omega))
      · refine (View.read_writes_cons_unit_of_not_mem (size := S1x64x128.size) M13.view f13 _ (rowB (M1.view.read (Elt F) f1) (M2.view.read (Elt F) f2) (M3.view.read (Elt F) f3) (M4.view.read (Elt F) f4) (M5.view.read (Elt F) f5) ⟨k, h16⟩) _ y hoff 0 (Or.inr (show 15 - k + 1 ≤ (y 0).val by omega))).trans ?_
        exact ih3 y (by omega)

/-- One trip of the attention's loop, over what the buffers read as. -/
theorem trip_2 (k : Fin k1_t2_loop.trips) (acc : FVec F S64x128 .f32 × FVec F S64x128 .f32 × FVec F S64x128 .f32) :
    tripR_k1_t2 (F := F) Variants.none c none i M1 h1 M2 h2 M3 h3 M4 h4 M5 h5 M6 h6 M7 h7 M8 h8 M9 h9 M10 h10 M11 h11 M12 h12 M13 h13 f6 f7 f12 f13 k acc
      = (k1_pay22 acc.1 (rowsOf (M12.view.read (Elt F) f12) (k.cast trips_2)) (rowsOf (M13.view.read (Elt F) f13) (k.cast trips_2)) (M6.view.read (Elt F) f6) (biasOf (M7.view.read (Elt F) f7) (k.cast trips_2)),
         k1_pay23 acc.2.1 (rowsOf (M12.view.read (Elt F) f12) (k.cast trips_2)) (rowsOf (M13.view.read (Elt F) f13) (k.cast trips_2)) (M6.view.read (Elt F) f6) (biasOf (M7.view.read (Elt F) f7) (k.cast trips_2)),
         k1_pay24 acc.2.2 (rowsOf (M12.view.read (Elt F) f12) (k.cast trips_2)) (rowsOf (M13.view.read (Elt F) f13) (k.cast trips_2)) (M6.view.read (Elt F) f6) (biasOf (M7.view.read (Elt F) f7) (k.cast trips_2))) := by
  have e1 : rowsOf (M12.view.read (Elt F) f12) (k.cast trips_2) = View.readAt (Elt F) M12.view (Rect.unit (s := S16x64x128) (k1_off5 k) S1x64x128.size (k1_off5_inb k)).toLoadRect f12 :=
    (rowsOf_readAt _ _ _ (k1_off5_eq k) _).symm
  have e2 : rowsOf (M13.view.read (Elt F) f13) (k.cast trips_2) = View.readAt (Elt F) M13.view (Rect.unit (s := S16x64x128) (k1_off5 k) S1x64x128.size (k1_off5_inb k)).toLoadRect f13 :=
    (rowsOf_readAt _ _ _ (k1_off5_eq k) _).symm
  have e3 : biasOf (M7.view.read (Elt F) f7) (k.cast trips_2) = View.readAt (Elt F) M7.view (Rect.unit (s := S16x128) (k1_off6 k) S1x128.size (k1_off6_inb k)).toLoadRect f7 :=
    (biasOf_readAt _ _ _ (k1_off6_eq k) _).symm
  have e4 : (M6.view.read (Elt F) f6) = View.readAt (Elt F) M6.view (Rect.unit (s := S256x128) ![0, 0] S256x128.size inb_S256x128_S256x128_0_0).toLoadRect f6 :=
    (readAt_whole _ _ _ (by decide)).symm
  rw [e1, e2, e3, e4]
  unfold tripR_k1_t2 trip_k1_t2
  rfl

/-- The attention's loop sums what `poolSt` says. -/
theorem st_2 : ∀ k ≤ k1_t2_loop.trips,
    st_k1_t2 (F := F) Variants.none c none i M1 h1 M2 h2 M3 h3 M4 h4 M5 h5 M6 h6 M7 h7 M8 h8 M9 h9 M10 h10 M11 h11 M12 h12 M13 h13 f6 f7 f12 f13 (k1_pay18, k1_pay18, k1_pay18) k
      = poolSt (M12.view.read (Elt F) f12) (M13.view.read (Elt F) f13) (M6.view.read (Elt F) f6) (M7.view.read (Elt F) f7) k
  | 0, _ => rfl
  | k + 1, hk => by
    have h16 : k < 16 := trips_2 ▸ hk
    rw [st_k1_t2_succ (k := ⟨k, hk⟩), trip_2, st_2 k (Nat.le_of_succ_le hk), poolSt, dif_pos h16]
    rfl
end
end Cert.KernelIdeal.Sent
-- ==== Proof.SentRun.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Sent
public import Idealize.ShloMosaic.Lib.WritesUnit
public import Idealize.ShloMosaic.Lib.Pipeline.FrameBody
public import Idealize.ShloMosaic.Lib.Tactic
public import Idealize.ShloMosaic.Lib.Pipeline.ValueKit

@[expose] public section

set_option maxRecDepth 8192

noncomputable section

namespace Cert.KernelIdeal.Sent

open Cert.KernelIdeal Cert.KernelIdeal.Gen
open Cert.KernelIdeal.Word (Bf pt ow readAt_whole read_store_whole readCov_whole)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords)
  (M1 : Memref sig .tc .vmem S16x64x256 .f32) (h1 : M1.IsWhole)
  (M2 : Memref sig .tc .vmem S1536x512 .bf16) (h2 : M2.IsWhole)
  (M3 : Memref sig .tc .vmem S1x512 .f32) (h3 : M3.IsWhole)
  (M4 : Memref sig .tc .vmem S1536x512 .bf16) (h4 : M4.IsWhole)
  (M5 : Memref sig .tc .vmem S1x512 .f32) (h5 : M5.IsWhole)
  (M6 : Memref sig .tc .vmem S256x128 .bf16) (h6 : M6.IsWhole)
  (M7 : Memref sig .tc .vmem S16x128 .f32) (h7 : M7.IsWhole)
  (M8 : Memref sig .tc .vmem S128x1 .f32) (h8 : M8.IsWhole)
  (M9 : Memref sig .tc .vmem S128x1 .f32) (h9 : M9.IsWhole)
  (M10 : Memref sig .tc .vmem S1x1 .f32) (h10 : M10.IsWhole)
  (M11 : Memref sig .tc .vmem S64x1 .f32) (h11 : M11.IsWhole)
  (M12 : Memref sig .tc .vmem S16x64x128 .bf16) (h12 : M12.IsWhole)
  (M13 : Memref sig .tc .vmem S16x64x128 .bf16) (h13 : M13.IsWhole)
  (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13)

/-- The body's run: from its buffers to its inputs as they were, the result at the scores, the two scratches at anything. -/
theorem sentRun (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
        ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ ow c M11 (score (HF (M1.view.read (Elt F) f1) (M2.view.read (Elt F) f2) (M3.view.read (Elt F) f3) (M4.view.read (Elt F) f4) (M5.view.read (Elt F) f5)) (HB (M1.view.read (Elt F) f1) (M2.view.read (Elt F) f2) (M3.view.read (Elt F) f3) (M4.view.read (Elt F) f4) (M5.view.read (Elt F) f5)) (M6.view.read (Elt F) f6) (M7.view.read (Elt F) f7) (M8.view.read (Elt F) f8) (M9.view.read (Elt F) f9) (M10.view.read (Elt F) f10))
          ∗ (∃ g, pt c M12 g) ∗ (∃ g, pt c M13 g)) -∗ Q ⟨⟩))
      ⊢ wp frame (wpE (defs₀ (F := F)) Variants.none c none) E (cc1__sent_body i M1 h1 M2 h2 M3 h3 M4 h4 M5 h5 M6 h6 M7 h7 M8 h8 M9 h9 M10 h10 M11 h11 M12 h12 M13 h13) Q := by
  rw [cc1__sent_body_eq_skeleton]
  iintro ⟨H1, H2, H3, H4, H5, H6, H7, H8, H9, H10, H11, H12, H13, Hk⟩
  sl_exec!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr; swap; (· iexact H11); ipureintro
    refine (read_store_whole _ _ (by decide) _ _ _).trans ?_
    delta sentRun.sl.r
    simp (disch := decide) only [readAt_whole, readCov_whole]
    have ht : Scf.trips (0#32) (Scalar.addi 0#32 16#32) 1#32 = 16 := by decide +kernel
    rw [ht]
    obtain ⟨-, a, b⟩ := st_1 c i M1 h1 M2 h2 M3 h3 M4 h4 M5 h5 M6 h6 M7 h7 M8 h8 M9 h9 M10 h10 M11 h11 M12 h12 M13 h13 f1 f2 f3 f4 f5 f12 f13 16 (le_of_eq trips_1.symm)
    have e12 := funext fun y => a y (y 0).isLt
    have e13 := funext fun y => b y (Nat.le_add_left 16 _)
    rw [st_2 c i M1 h1 M2 h2 M3 h3 M4 h4 M5 h5 M6 h6 M7 h7 M8 h8 M9 h9 M10 h10 M11 h11 M12 h12 M13 h13 f6 f7 _ _ 16 (le_of_eq trips_2.symm), e12, e13]
    rfl
  isplitl [H12]; · iexists _; iexact H12
  iexists _; iexact H13

end
end Cert.KernelIdeal.Sent
-- ==== Proof.SentReg.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.SentRun
public import proofs.«01_k».proof.Proof.WordDat
public import Idealize.ShloMosaic.Lib.Pipeline.RegionsLoop
public import Idealize.ShloMosaic.Lib.WritesUnit
public import Idealize.ShloMosaic.Lib.Pipeline.FrameBody
public import Idealize.ShloMosaic.Lib.Tactic
public import Idealize.ShloMosaic.Lib.Pipeline.ValueKit

@[expose] public section

set_option maxRecDepth 8192

noncomputable section

namespace Cert.KernelIdeal.Sent

open Cert.KernelIdeal Cert.KernelIdeal.Gen
open Cert.KernelIdeal.Word (Bf pt ow ex pt_whole)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The sentence vectors: window 0's block. -/
noncomputable def g0 (c : Dev nD) : Vec F S16x64x256 .f32 := ((cfg1.win 0).blk t1_0).view.read (Elt F) (V c main_v74)
/-- The forward weights: window 1's block. -/
noncomputable def g1 (c : Dev nD) : Vec F S1536x512 .bf16 := ((cfg1.win 1).blk t1_0).view.read (Elt F) (V c main_v93)
/-- The forward bias: window 2's block. -/
noncomputable def g2 (c : Dev nD) : Vec F S1x512 .f32 := ((cfg1.win 2).blk t1_0).view.read (Elt F) (V c main_v134)
/-- The backward weights: window 3's block. -/
noncomputable def g3 (c : Dev nD) : Vec F S1536x512 .bf16 := ((cfg1.win 3).blk t1_0).view.read (Elt F) (V c main_v112)
/-- The backward bias: window 4's block. -/
noncomputable def g4 (c : Dev nD) : Vec F S1x512 .f32 := ((cfg1.win 4).blk t1_0).view.read (Elt F) (V c main_v140)
/-- The attention weights: window 5's block. -/
noncomputable def g5 (c : Dev nD) : Vec F S256x128 .bf16 := ((cfg1.win 5).blk t1_0).view.read (Elt F) (V c main_v124)
/-- The attention bias: window 6's block. -/
noncomputable def g6 (c : Dev nD) : Vec F S16x128 .f32 := ((cfg1.win 6).blk t1_0).view.read (Elt F) (V c main_v128)
/-- The upper half of the scoring weights: window 7's block. -/
noncomputable def g7 (c : Dev nD) : Vec F S128x1 .f32 := ((cfg1.win 7).blk t1_0).view.read (Elt F) (V c main_v141)
/-- The lower half of the scoring weights: window 8's block. -/
noncomputable def g8 (c : Dev nD) : Vec F S128x1 .f32 := ((cfg1.win 8).blk t1_0).view.read (Elt F) (V c main_v142)
/-- The scoring bias: window 9's block. -/
noncomputable def g9 (c : Dev nD) : Vec F S1x1 .f32 := ((cfg1.win 9).blk t1_0).view.read (Elt F) (V c main_v143)

/-- The scores the region computes. -/
def scored (c : Dev nD) : Vec F S64x1 .f32 :=
  score (HF (g0 V c) (g1 V c) (g2 V c) (g3 V c) (g4 V c)) (HB (g0 V c) (g1 V c) (g2 V c) (g3 V c) (g4 V c)) (g5 V c) (g6 V c) (g7 V c) (g8 V c) (g9 V c)

/-- Between the region's ends: every scoped buffer the pipeline does not stage, at something. -/
abbrev Φc (c : Dev nD) : sProp 𝕄 := Pipeline.scopedRest (Ix := Unit) (Name := ℕ) (U := UR sig nD τ) (Lvl := ℕ) (Val := Elt F) spec1 c

/-- Those buffers named: the kernel's two scratches last. -/
theorem Φc_eq (c : Dev nD) : (Φc c : sProp 𝕄) = iprop(ex (F := F) c cc0_stg0_0 ∗ ex (F := F) c cc0_stg0_1 ∗ ex (F := F) c cc0_stg1_0 ∗ ex (F := F) c cc0_stg1_1 ∗ ex (F := F) c cc0_stg2_0 ∗ ex (F := F) c cc0_stg3_0 ∗ ex (F := F) c cc0_stg4_0 ∗ ex (F := F) c cc0_stg5_0 ∗ ex (F := F) c cc0_stg6_0 ∗ ex (F := F) c cc0_stg7_0 ∗ ex (F := F) c cc0_stg8_0 ∗ ex (F := F) c cc0_scratch0 ∗ ex (F := F) c cc0_scratch1 ∗ ex (F := F) c cc0_scratch2 ∗ ex (F := F) c cc0_scratch3 ∗ ex (F := F) c cc0_scratch4 ∗ ex (F := F) c cc0_scratch5 ∗ (∃ f, pt (F := F) c (Memref.whole cc1_scratch0) f) ∗ (∃ f, pt (F := F) c (Memref.whole cc1_scratch1) f)) := by
  have e : ∀ r, (iprop(∃ f, pt (F := F) c (Memref.whole r) f) : sProp 𝕄) = ex c r := fun r => by simp only [pt_whole]
  rw [e, e]
  unfold Φc ex
  rw [scopedRest1_eq]

/-- The proof data of the region entered at valuation `V`. -/
def dat (c : Dev nD) : Dat τ (Elt F) Unit ℕ (UR sig nD τ) ℕ cfg1 c where
  A w := V c (Pipeline.arrRef spec1 w)
  after w _ := match w with
    | ⟨0, _⟩ => g0 V c
    | ⟨1, _⟩ => g1 V c
    | ⟨2, _⟩ => g2 V c
    | ⟨3, _⟩ => g3 V c
    | ⟨4, _⟩ => g4 V c
    | ⟨5, _⟩ => g5 V c
    | ⟨6, _⟩ => g6 V c
    | ⟨7, _⟩ => g7 V c
    | ⟨8, _⟩ => g8 V c
    | ⟨9, _⟩ => g9 V c
    | ⟨10, _⟩ => scored V c
  Φ _ := Φc c
  q _ := fullShare
  owed _ := 0

theorem before_0 (c : Dev nD) (d : (cfg1.win 0).block.Idx → Elt F (cfg1.win 0).elt) : (dat V c).before 0 t1_0 d = g0 V c := by
  unfold Dat.before; rw [if_pos (by decide +kernel)]; rfl
theorem before_1 (c : Dev nD) (d : (cfg1.win 1).block.Idx → Elt F (cfg1.win 1).elt) : (dat V c).before 1 t1_0 d = g1 V c := by
  unfold Dat.before; rw [if_pos (by decide +kernel)]; rfl
theorem before_2 (c : Dev nD) (d : (cfg1.win 2).block.Idx → Elt F (cfg1.win 2).elt) : (dat V c).before 2 t1_0 d = g2 V c := by
  unfold Dat.before; rw [if_pos (by decide +kernel)]; rfl
theorem before_3 (c : Dev nD) (d : (cfg1.win 3).block.Idx → Elt F (cfg1.win 3).elt) : (dat V c).before 3 t1_0 d = g3 V c := by
  unfold Dat.before; rw [if_pos (by decide +kernel)]; rfl
theorem before_4 (c : Dev nD) (d : (cfg1.win 4).block.Idx → Elt F (cfg1.win 4).elt) : (dat V c).before 4 t1_0 d = g4 V c := by
  unfold Dat.before; rw [if_pos (by decide +kernel)]; rfl
theorem before_5 (c : Dev nD) (d : (cfg1.win 5).block.Idx → Elt F (cfg1.win 5).elt) : (dat V c).before 5 t1_0 d = g5 V c := by
  unfold Dat.before; rw [if_pos (by decide +kernel)]; rfl
theorem before_6 (c : Dev nD) (d : (cfg1.win 6).block.Idx → Elt F (cfg1.win 6).elt) : (dat V c).before 6 t1_0 d = g6 V c := by
  unfold Dat.before; rw [if_pos (by decide +kernel)]; rfl
theorem before_7 (c : Dev nD) (d : (cfg1.win 7).block.Idx → Elt F (cfg1.win 7).elt) : (dat V c).before 7 t1_0 d = g7 V c := by
  unfold Dat.before; rw [if_pos (by decide +kernel)]; rfl
theorem before_8 (c : Dev nD) (d : (cfg1.win 8).block.Idx → Elt F (cfg1.win 8).elt) : (dat V c).before 8 t1_0 d = g8 V c := by
  unfold Dat.before; rw [if_pos (by decide +kernel)]; rfl
theorem before_9 (c : Dev nD) (d : (cfg1.win 9).block.Idx → Elt F (cfg1.win 9).elt) : (dat V c).before 9 t1_0 d = g9 V c := by
  unfold Dat.before; rw [if_pos (by decide +kernel)]; rfl

abbrev 𝒱₀ : Variants := Variants.none

set_option maxHeartbeats 1000000 in
/-- The body, from its staged blocks to the scores. -/
theorem body_obligation (c : Dev nD) : BodyObligation (dat V c) (defs₀ (F := F)) 𝒱₀ () Set.univ := fun t => by
  obtain rfl := fin_N1 t
  rw [bigSep_W1, bigSep_W1]
  rw [show (dat V c).Φ t1_0.castSucc = Φc c from rfl, show (dat V c).Φ t1_0.succ = Φc c from rfl,
    show (dat V c).owesAt () t1_0.succ = (dat V c).owesAt () t1_0.castSucc from rfl]
  rw [Φc_eq]
  unfold owns
  have i0 : cfg1.idle 0 (cfg1.grid.coords t1_0) = false := rfl
  have i1 : cfg1.idle 1 (cfg1.grid.coords t1_0) = false := rfl
  have i2 : cfg1.idle 2 (cfg1.grid.coords t1_0) = false := rfl
  have i3 : cfg1.idle 3 (cfg1.grid.coords t1_0) = false := rfl
  have i4 : cfg1.idle 4 (cfg1.grid.coords t1_0) = false := rfl
  have i5 : cfg1.idle 5 (cfg1.grid.coords t1_0) = false := rfl
  have i6 : cfg1.idle 6 (cfg1.grid.coords t1_0) = false := rfl
  have i7 : cfg1.idle 7 (cfg1.grid.coords t1_0) = false := rfl
  have i8 : cfg1.idle 8 (cfg1.grid.coords t1_0) = false := rfl
  have i9 : cfg1.idle 9 (cfg1.grid.coords t1_0) = false := rfl
  have i10 : cfg1.idle 10 (cfg1.grid.coords t1_0) = false := rfl
  simp only [i0, i1, i2, i3, i4, i5, i6, i7, i8, i9, i10]
  change _ ⊢ wp frame (wpE (defs₀ (F := F)) Variants.none (c : Thread nD τ) none) Set.univ (bodyAt1 t1_0) _
  iintro ⟨⟨R0, R1, R2, R3, R4, R5, R6, R7, R8, R9, R10, R11, R12, R13, R14, R15, R16, ⟨%s0, S0⟩, ⟨%s1, S1⟩⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩⟩
  rw [before_0] at hf0
  rw [before_1] at hf1
  rw [before_2] at hf2
  rw [before_3] at hf3
  rw [before_4] at hf4
  rw [before_5] at hf5
  rw [before_6] at hf6
  rw [before_7] at hf7
  rw [before_8] at hf8
  rw [before_9] at hf9
  iapply (sentRun (F := F) c (grid1.coords t1_0) (st1_0 t1_0) (hstage1_0 ((cfg1.slots t1_0 0).cast nbuf1_0)) (st1_1 t1_0) (hstage1_1 ((cfg1.slots t1_0 1).cast nbuf1_1)) (st1_2 t1_0) (hstage1_2 ((cfg1.slots t1_0 2).cast nbuf1_2)) (st1_3 t1_0) (hstage1_3 ((cfg1.slots t1_0 3).cast nbuf1_3)) (st1_4 t1_0) (hstage1_4 ((cfg1.slots t1_0 4).cast nbuf1_4)) (st1_5 t1_0) (hstage1_5 ((cfg1.slots t1_0 5).cast nbuf1_5)) (st1_6 t1_0) (hstage1_6 ((cfg1.slots t1_0 6).cast nbuf1_6)) (st1_7 t1_0) (hstage1_7 ((cfg1.slots t1_0 7).cast nbuf1_7)) (st1_8 t1_0) (hstage1_8 ((cfg1.slots t1_0 8).cast nbuf1_8)) (st1_9 t1_0) (hstage1_9 ((cfg1.slots t1_0 9).cast nbuf1_9)) (st1_10 t1_0) (hstage1_10 ((cfg1.slots t1_0 10).cast nbuf1_10)) (Memref.whole cc1_scratch0) (Memref.isWhole_whole _) (Memref.whole cc1_scratch1) (Memref.isWhole_whole _) f0 f1 f2 f3 f4 f5 f6 f7 f8 f9 f10 s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  iintro ⟨H0, H1, H2, H3, H4, H5, H6, H7, H8, H9, ⟨%g, %hg, H10⟩, ⟨%u0, S0⟩, ⟨%u1, S1⟩⟩
  rw [hf0, hf1, hf2, hf3, hf4, hf5, hf6, hf7, hf8, hf9] at hg
  isplitl [R0 R1 R2 R3 R4 R5 R6 R7 R8 R9 R10 R11 R12 R13 R14 R15 R16 S0 S1]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [S0]; · iexists _; iexact S0
    iexists _; iexact S1
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  isplitl [H7]; · iexists _; isplitr; swap; (· iexact H7); ipureintro; exact hf7
  isplitl [H8]; · iexists _; isplitr; swap; (· iexact H8); ipureintro; exact hf8
  isplitl [H9]; · iexists _; isplitr; swap; (· iexact H9); ipureintro; exact hf9
  iexists _; isplitr; swap; (· iexact H10); ipureintro; exact hg

end Cert.KernelIdeal.Sent
-- ==== Proof.Segs.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.WordReg
public import proofs.«01_k».proof.Proof.SentReg
public import Idealize.ShloMosaic.Lib.Pipeline.RegionsLoop
public import Idealize.ShloMosaic.Lib.WritesUnit
public import Idealize.ShloMosaic.Lib.Pipeline.FrameBody
public import Idealize.ShloMosaic.Lib.Tactic
public import Idealize.ShloMosaic.Lib.Pipeline.ValueKit

@[expose] public section

set_option maxRecDepth 8192

noncomputable section

namespace Cert.KernelIdeal.Run

open Cert.KernelIdeal Cert.KernelIdeal.Gen
open Cert.KernelIdeal.Word (pt ex Bf sat restR pt_whole cfgN)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0

/-- The two pipelines' proof data as one family. -/
def pd (D0 : (c : Dev nD) → Dat τ (Elt F) Unit ℕ (UR sig nD τ) ℕ cfg0 c) (D1 : (c : Dev nD) → Dat τ (Elt F) Unit ℕ (UR sig nD τ) ℕ cfg1 c) :
    (p : Fin 2) → (c : Dev nD) → Dat τ (Elt F) Unit ℕ (UR sig nD τ) ℕ (cfgs p) c
  | ⟨0, _⟩ => D0
  | ⟨1, _⟩ => D1

variable (V : (c : Dev nD) → (b : Ref sig .tc) → Buf (Elt F) ((c : Thread nD τ).loc b))
variable (Vp : (c : Dev nD) → (b : Ref sig .tc) → Buf (Elt F) ((c : Thread nD τ).loc b))

/-- The word region starts from its scoped buffers at anything: no word's states are stored yet. -/
theorem word_in (c : Dev nD) : Pipeline.scopedRest (Ix := Unit) (Name := ℕ) (U := UR sig nD τ) (Lvl := ℕ) (Val := Elt F) spec0 c ⊢ Word.Φn V c 0 := by
  rw [scopedRest0_eq]
  unfold Word.Φn restR
  iintro ⟨⟨%f0, S0⟩, ⟨%f1, S1⟩, ⟨%f2, S2⟩, ⟨%f3, S3⟩, ⟨%f4, S4⟩, ⟨%f5, S5⟩, HR⟩
  isplitl [S0]
  · iexists f0; isplitr; · ipureintro; exact fun y h => absurd h (Nat.not_lt_zero _)
    rw [pt_whole]; iexact S0
  isplitl [S1]
  · iexists f1; isplitr; · ipureintro; exact fun y h => absurd (show (y 0).val < 64 from (y 0).isLt) (Nat.not_lt.mpr h)
    rw [pt_whole]; iexact S1
  isplitl [S2]
  · iexists f2; isplitr; · ipureintro; exact fun h => absurd h (Nat.lt_irrefl _)
    rw [pt_whole]; iexact S2
  isplitl [S3]
  · iexists f3; isplitr; · ipureintro; exact fun h => absurd h (Nat.lt_irrefl _)
    rw [pt_whole]; iexact S3
  isplitl [S4]
  · iexists f4; isplitr; · ipureintro; exact fun h => absurd h (Nat.lt_irrefl _)
    rw [pt_whole]; iexact S4
  isplitl [S5]
  · iexists f5; isplitr; · ipureintro; exact fun h => absurd h (Nat.lt_irrefl _)
    rw [pt_whole]; iexact S5
  iexact HR

/-- A memref held at contents that meet a condition is held at something. -/
theorem sat_pt (c : Dev nD) {sp : Space} {S : Shape} {e : EltTy} (M : Memref sig .tc sp S e) (P : Vec F S e → Prop) :
    Word.sat c M P ⊢ (iprop(∃ f : Bf (F := F) c M, pt c M f) : sProp 𝕄) := by
  unfold Word.sat
  iintro ⟨%f, -, H⟩; iexists f; iexact H

/-- So is its buffer. -/
theorem sat_ex (c : Dev nD) (r : Ref sig .tc) (P) : Word.sat c (Memref.whole r) P ⊢ (ex c r : sProp 𝕄) :=
  (sat_pt c (Memref.whole r) P).trans (exists_mono fun f => Entails.of_eq (pt_whole c r f))

/-- It ends with its scoped buffers at something. -/
theorem word_out (c : Dev nD) (n : ℕ) : Word.Φn V c n ⊢ Pipeline.scopedRest (Ix := Unit) (Name := ℕ) (U := UR sig nD τ) (Lvl := ℕ) (Val := Elt F) spec0 c := by
  rw [scopedRest0_eq]
  unfold Word.Φn restR
  exact BIClass.sep_mono (sat_ex c _ _) (BIClass.sep_mono (sat_ex c _ _) (BIClass.sep_mono (sat_ex c _ _) (BIClass.sep_mono (sat_ex c _ _) (BIClass.sep_mono (sat_ex c _ _) (BIClass.sep_mono (sat_ex c _ _) .rfl)))))

/-- The word region's state between points, read off its data. -/
theorem dat_Φ (D1 : (c : Dev nD) → Dat τ (Elt F) Unit ℕ (UR sig nD τ) ℕ cfg1 c) (c : Dev nD) (n) : (pd (Word.dat V) D1 0 c).Φ n = Word.Φn V c n.val := rfl

set_option maxHeartbeats 4000000 in
set_option backward.isDefEq.respectTransparency.types false in
/-- The word region from valuation `V` to `Vp`: its arrays split out of the unscoped buffers and put back with the result written. -/
def reg0 (D1 : (c : Dev nD) → Dat τ (Elt F) Unit ℕ (UR sig nD τ) ℕ cfg1 c)
    (hVp_out : ∀ c, Vp c main_v72 = (Word.dat V c).arrAt 8 cfg0.N)
    (hVp_ne : ∀ c (b : Ref sig .tc), b ≠ main_v72 → Vp c b = V c b) :
    Pipeline.RegionSeg (pcfgs (F := F)) adm (pd (Word.dat V) D1) () defs₀ 𝒱₀ L lv 0 where
  win := winFacts₀0
  block_pos := block_pos0
  stage_whole := stage_whole0
  K := PEmpty
  osem k := k.elim
  ho := Pipeline.OwnSemFacts.none _
  hbody c := (Word.body_obligation V c).loose
  hwaits := Pipeline.hwaits_of_owed_zero _ _ _ _ L lv 0 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (V c)
  hentry c := by
    rw [Pipeline.ownSems0_none]
    have hsplit := Pipeline.arrays_of_unscopedBufs_shared (p := 0) (pcfgs (F := F)) adm (pd (Word.dat V) D1) winFacts₀0 sharedIn0 arr_whole0 c (fun w _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [dat_Φ]
    iintro ⟨-, -, Hr⟩
    iapply (word_in V c); iexact Hr
  hout c := by
    rw [Pipeline.ownSems0_none, dat_Φ]
    iintro Hr
    isplitr; · iempintro
    isplitr; · iempintro
    iapply (word_out V c _); iexact Hr
  hexit c := by
    have hjoin := Pipeline.unscopedBufs_of_arrays_shared (p := 0) (pcfgs (F := F)) adm (Ix := Unit) (Name := ℕ) (U := UR sig nD τ) (Lvl := ℕ) winFacts₀0 sharedIn0 arr_whole0 c (pd (Word.dat V) D1) (fun w _ => rfl) (V c) (Vp c) ((pd (Word.dat V) D1 0 c).arrAt · cfg0.N)
      (fun w => by
        fin_cases w
        · exact ((pd (Word.dat V) D1 0 c).arrAt_in 0 rfl _).trans (hVp_ne c main_v5 (by decide)).symm
        · exact ((pd (Word.dat V) D1 0 c).arrAt_in 1 rfl _).trans (hVp_ne c main_v5 (by decide)).symm
        · exact ((pd (Word.dat V) D1 0 c).arrAt_in 2 rfl _).trans (hVp_ne c main_v24 (by decide)).symm
        · exact ((pd (Word.dat V) D1 0 c).arrAt_in 3 rfl _).trans (hVp_ne c main_v65 (by decide)).symm
        · exact ((pd (Word.dat V) D1 0 c).arrAt_in 4 rfl _).trans (hVp_ne c main_v43 (by decide)).symm
        · exact ((pd (Word.dat V) D1 0 c).arrAt_in 5 rfl _).trans (hVp_ne c main_v71 (by decide)).symm
        · exact ((pd (Word.dat V) D1 0 c).arrAt_in 6 rfl _).trans (hVp_ne c main_v55 (by decide)).symm
        · exact ((pd (Word.dat V) D1 0 c).arrAt_in 7 rfl _).trans (hVp_ne c main_v59 (by decide)).symm
        · exact (hVp_out c).symm
        )
      (fun b hb => hVp_ne c b fun h => hb (h ▸ Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option maxHeartbeats 4000000 in
set_option backward.isDefEq.respectTransparency.types false in
/-- The sentence region from valuation `V` to `Vp`: its arrays split out of the unscoped buffers and put back with the result written. -/
def reg1 (D0 : (c : Dev nD) → Dat τ (Elt F) Unit ℕ (UR sig nD τ) ℕ cfg0 c)
    (hVp_out : ∀ c, Vp c main_v144 = (Sent.dat V c).arrAt 10 cfg1.N)
    (hVp_ne : ∀ c (b : Ref sig .tc), b ≠ main_v144 → Vp c b = V c b) :
    Pipeline.RegionSeg (pcfgs (F := F)) adm (pd D0 (Sent.dat V)) () defs₀ 𝒱₀ L lv 1 where
  win := winFacts1.to₀
  block_pos := block_pos1
  stage_whole := stage_whole1
  K := PEmpty
  osem k := k.elim
  ho := Pipeline.OwnSemFacts.none _
  hbody c := (Sent.body_obligation V c).loose
  hwaits := Pipeline.hwaits_of_owed_zero _ _ _ _ L lv 1 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (V c)
  hentry c := by
    rw [Pipeline.ownSems0_none]
    have hsplit := Pipeline.arrays_of_unscopedBufs (p := 1) (pcfgs (F := F)) adm (pd D0 (Sent.dat V)) winFacts1 arr_whole1 c ((pd D0 (Sent.dat V) 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pd D0 (Sent.dat V) 1 c).Φ 0 = Sent.Φc c from rfl]
    iintro ⟨-, -, Hr⟩; iexact Hr
  hout c := by
    rw [Pipeline.ownSems0_none]
    rw [show (pd D0 (Sent.dat V) 1 c).Φ (Fin.last _) = Sent.Φc c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) winFacts1 arr_whole1 c (pd D0 (Sent.dat V)) ((pd D0 (Sent.dat V) 1 c).share_full fun _ => rfl) (V c) (Vp c) ((pd D0 (Sent.dat V) 1 c).arrAt · cfg1.N)
      (fun w => by
        fin_cases w
        · exact ((pd D0 (Sent.dat V) 1 c).arrAt_in 0 rfl _).trans (hVp_ne c main_v74 (by decide)).symm
        · exact ((pd D0 (Sent.dat V) 1 c).arrAt_in 1 rfl _).trans (hVp_ne c main_v93 (by decide)).symm
        · exact ((pd D0 (Sent.dat V) 1 c).arrAt_in 2 rfl _).trans (hVp_ne c main_v134 (by decide)).symm
        · exact ((pd D0 (Sent.dat V) 1 c).arrAt_in 3 rfl _).trans (hVp_ne c main_v112 (by decide)).symm
        · exact ((pd D0 (Sent.dat V) 1 c).arrAt_in 4 rfl _).trans (hVp_ne c main_v140 (by decide)).symm
        · exact ((pd D0 (Sent.dat V) 1 c).arrAt_in 5 rfl _).trans (hVp_ne c main_v124 (by decide)).symm
        · exact ((pd D0 (Sent.dat V) 1 c).arrAt_in 6 rfl _).trans (hVp_ne c main_v128 (by decide)).symm
        · exact ((pd D0 (Sent.dat V) 1 c).arrAt_in 7 rfl _).trans (hVp_ne c main_v141 (by decide)).symm
        · exact ((pd D0 (Sent.dat V) 1 c).arrAt_in 8 rfl _).trans (hVp_ne c main_v142 (by decide)).symm
        · exact ((pd D0 (Sent.dat V) 1 c).arrAt_in 9 rfl _).trans (hVp_ne c main_v143 (by decide)).symm
        · exact (hVp_out c).symm
        )
      (fun b hb => hVp_ne c b fun h => hb (h ▸ Finset.mem_image.mpr ⟨10, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Run
-- ==== Proof.Run.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Segs
public import proofs.«01_k».proof.Proof.SentReg
public import Idealize.ShloMosaic.Lib.Pipeline.RegionsLoop
public import Idealize.ShloMosaic.Lib.WritesUnit
public import Idealize.ShloMosaic.Lib.Pipeline.FrameBody
public import Idealize.ShloMosaic.Lib.Tactic
public import Idealize.ShloMosaic.Lib.Pipeline.ValueKit

@[expose] public section

set_option maxRecDepth 8192

noncomputable section

namespace Cert.KernelIdeal.Run

open Cert.KernelIdeal Cert.KernelIdeal.Gen
open Cert.KernelIdeal.Word (pt ex sat restR pt_whole cfgN)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents the word region is entered from, and the pooled vectors it leaves. -/
def w5 (c : Dev nD) (b : Ref sig .tc) : Buf (Elt F) ((c : Thread nD τ).loc b) := V5 m c b
def out0 (c : Dev nD) : Buf (Elt F) ((c : Thread nD τ).loc main_v72) := (Word.dat (w5 m) c).arrAt 8 cfg0.N
/-- What the word region leaves in each buffer. -/
def outsA : Outs (F := F) := fun _ r c => Function.update (w5 m c) main_v72 (out0 m c) r
/-- The contents the sentence region is entered from, and the scores it leaves. -/
def w7 (c : Dev nD) (b : Ref sig .tc) : Buf (Elt F) ((c : Thread nD τ).loc b) := V7 m (outsA m) c b
def out1 (c : Dev nD) : Buf (Elt F) ((c : Thread nD τ).loc main_v144) := (Sent.dat (w7 m) c).arrAt 10 cfg1.N
/-- What each region leaves in each buffer. -/
def outs : Outs (F := F) := fun k r c => if k = 6 then outsA m k r c else Function.update (w7 m c) main_v144 (out1 m c) r

theorem outs_6 (c : Dev nD) : outs m 6 main_v72 c = out0 m c := by
  unfold outs; rw [if_pos rfl]; exact Function.update_self _ _ _
theorem outs_8 (c : Dev nD) : outs m 8 main_v144 c = out1 m c := by
  unfold outs; rw [if_neg (by decide)]; exact Function.update_self _ _ _
theorem V6_outs (c : Dev nD) : V6 m (outs m) c = V6 m (outsA m) c :=
  congrArg (Function.update (V5 m c) _) ((outs_6 m c).trans (Function.update_self (f := w5 m c) main_v72 (out0 m c)).symm)
theorem V7_outs (c : Dev nD) : V7 m (outs m) c = V7 m (outsA m) c := congrArg (StableHlo.after hostOps1) (V6_outs m c)

/-- The contents each region leaves. -/
def w6 (c : Dev nD) (b : Ref sig .tc) : Buf (Elt F) ((c : Thread nD τ).loc b) := V6 m (outs m) c b
def w8 (c : Dev nD) (b : Ref sig .tc) : Buf (Elt F) ((c : Thread nD τ).loc b) := V8 m (outs m) c b

theorem w6_out (c : Dev nD) : w6 m c main_v72 = (Word.dat (w5 m) c).arrAt 8 cfg0.N :=
  (Function.update_self (f := V5 m c) _ _).trans (outs_6 m c)
theorem w6_ne (c : Dev nD) (b : Ref sig .tc) (h : b ≠ main_v72) : w6 m c b = w5 m c b := V6_of m (outs m) c b (by simpa using h)
theorem w8_out (c : Dev nD) : w8 m c main_v144 = (Sent.dat (w7 m) c).arrAt 10 cfg1.N :=
  (Function.update_self (f := V7 m (outs m) c) _ _).trans (outs_8 m c)
theorem w8_ne (c : Dev nD) (b : Ref sig .tc) (h : b ≠ main_v144) : w8 m c b = w7 m c b :=
  (V8_of m (outs m) c b (by simpa using h)).trans (congrFun (V7_outs m c) _)

/-- The proof data of the two regions, and the regions. -/
abbrev pdats : (p : Fin 2) → (c : Dev nD) → Dat τ (Elt F) Unit ℕ (UR sig nD τ) ℕ (cfgs p) c := pd (Word.dat (w5 m)) (Sent.dat (w7 m))
def R0 : Pipeline.RegionSeg (pcfgs (F := F)) adm (pdats m) () defs₀ 𝒱₀ L lv 0 := reg0 (w5 m) (w6 m) (Sent.dat (w7 m)) (w6_out m) (w6_ne m)
def R1 : Pipeline.RegionSeg (pcfgs (F := F)) adm (pdats m) () defs₀ 𝒱₀ L lv 1 := reg1 (w7 m) (w8 m) (Word.dat (w5 m)) (w8_out m) (w8_ne m)

/-- What rides beside the buffers: the core owes nothing. -/
def E (_ : Fin 3) (c : Dev nD) : sProp 𝕄 := iprop(∃ W, owes (c : Thread nD τ) (0 : CellTallies nD τ sig Unit) W)

theorem pre0 (c : Dev nD) : iprop(StableHlo.held (c : Thread nD τ) (Pipeline.ucRefs τ sig) (V5 m c) ∗ E (F := F) 0 c) ⊢ (R0 m).pre c := by
  rw [← Pipeline.unscopedBufs_held]; exact .rfl
theorem post0 (c : Dev nD) : (R0 m).post c ⊢ iprop(StableHlo.held (c : Thread nD τ) (Pipeline.ucRefs τ sig) (V6 m (outs m) c) ∗ E (F := F) 1 c) := by
  rw [← Pipeline.unscopedBufs_held]; exact .rfl
theorem pre1 (c : Dev nD) : iprop(StableHlo.held (c : Thread nD τ) (Pipeline.ucRefs τ sig) (V7 m (outs m) c) ∗ E (F := F) 1 c) ⊢ (R1 m).pre c := by
  rw [V7_outs, ← Pipeline.unscopedBufs_held]; exact .rfl
theorem post1 (c : Dev nD) : (R1 m).post c ⊢ iprop(StableHlo.held (c : Thread nD τ) (Pipeline.ucRefs τ sig) (V8 m (outs m) c) ∗ E (F := F) 2 c) := by
  rw [← Pipeline.unscopedBufs_held]; exact .rfl

set_option backward.isDefEq.respectTransparency.types false in
/-- THE RUN: from any memory with zero counters every execution terminates, with every unscoped buffer at the last item's
    contents and every semaphore counter at zero. -/
theorem run (ρ : Dev nD → PrngReg) : θ_run defs (onTc (τ := τ) (main (F := F))) ⟨m, fun _ => 0, ρ⟩
    (fun r => (∀ c : Dev nD, ∀ b ∈ Pipeline.ucRefs τ sig, r.2.mem (c, b) = V8 m (outs m) c b) ∧ r.2.sem = fun _ => 0) := by
  refine Pipeline.θ_run_regions_kit_dev_sems (pcfgs (F := F)) adm (pdats m) () cellOf_inj emb₁ defs₀ 𝒱₀ L lv m ρ main
    (segs m (outs m) 𝒱₀ L lv E () (pdats m) (R0 m) (R1 m))
    (fun c Q => by
      rewrite [main_chain c, Pipeline.Seg.run_eq_chain,
        show (segs m (outs m) 𝒱₀ L lv E () (pdats m) (R0 m) (R1 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) (fun _ => 0) (fun _ _ => rfl)
    (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ E 0 c))
    (Tₙ := fun c => StableHlo.held (c : Thread nD τ) (Pipeline.ucRefs τ sig) (V8 m (outs m) c))
    (hch := fun c => ⟨.rfl, .rfl, .rfl, .rfl, .rfl, pre0 m c, post0 m c, pre1 m c, post1 m c⟩)
    (hinit := ?_) (QY := fun c s => ∀ b ∈ Pipeline.ucRefs τ sig, s.mem (c, b) = V8 m (outs m) c b)
    (hfin := fun c s' => ?_) (hQ := fun _ h hz => ⟨h, funext fun g => hz g (.inr (regions_no_unscoped g.2))⟩)
  · rw [BI.bigSep_emp_const]
    iintro Hu
    imodintro
    isplitl [Hu]
    · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
      iexact Hu
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    unfold E
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr; · ipureintro; exact h
    iexact HSI

/-- A buffer that is not scoped is among those the run states. -/
theorem mem_uc (b : Ref sig .tc) (h : ¬ (Proc.devRef .tc b : DevRef τ sig).isScoped = true) : (Proc.devRef .tc b : DevRef τ sig) ∈ Pipeline.ucRefs τ sig :=
  Finset.mem_filter.mpr ⟨StableHlo.devRef_mem_tcRefs b, h⟩

/-- Buffers that end at the last valuation end with every argument as it was. -/
theorem args_kept (r : PUnit × MemSt nD τ sig (Elt F)) (h : ∀ c, ∀ b ∈ Pipeline.ucRefs τ sig, r.2.mem (c, b) = V8 m (outs m) c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨(h c _ (mem_uc main_arg0 (by decide))).trans (V8_main_arg0 m (outs m) c),
    (h c _ (mem_uc main_arg1 (by decide))).trans (V8_main_arg1 m (outs m) c),
    (h c _ (mem_uc main_arg2 (by decide))).trans (V8_main_arg2 m (outs m) c),
    (h c _ (mem_uc main_arg3 (by decide))).trans (V8_main_arg3 m (outs m) c),
    (h c _ (mem_uc main_arg4 (by decide))).trans (V8_main_arg4 m (outs m) c),
    (h c _ (mem_uc main_arg5 (by decide))).trans (V8_main_arg5 m (outs m) c),
    (h c _ (mem_uc main_arg6 (by decide))).trans (V8_main_arg6 m (outs m) c),
    (h c _ (mem_uc main_arg7 (by decide))).trans (V8_main_arg7 m (outs m) c),
    (h c _ (mem_uc main_arg8 (by decide))).trans (V8_main_arg8 m (outs m) c),
    (h c _ (mem_uc main_arg9 (by decide))).trans (V8_main_arg9 m (outs m) c),
    (h c _ (mem_uc main_arg10 (by decide))).trans (V8_main_arg10 m (outs m) c),
    (h c _ (mem_uc main_arg11 (by decide))).trans (V8_main_arg11 m (outs m) c),
    (h c _ (mem_uc main_arg12 (by decide))).trans (V8_main_arg12 m (outs m) c),
    (h c _ (mem_uc main_arg13 (by decide))).trans (V8_main_arg13 m (outs m) c),
    (h c _ (mem_uc main_arg14 (by decide))).trans (V8_main_arg14 m (outs m) c),
    (h c _ (mem_uc main_arg15 (by decide))).trans (V8_main_arg15 m (outs m) c),
    (h c _ (mem_uc main_arg16 (by decide))).trans (V8_main_arg16 m (outs m) c),
    (h c _ (mem_uc main_arg17 (by decide))).trans (V8_main_arg17 m (outs m) c),
    (h c _ (mem_uc main_arg18 (by decide))).trans (V8_main_arg18 m (outs m) c),
    (h c _ (mem_uc main_arg19 (by decide))).trans (V8_main_arg19 m (outs m) c)⟩

/-- The frame: every execution ends, the arguments as they were and every counter at zero. -/
theorem frame (ρ : Dev nD → PrngReg) : θ_run defs (onTc (τ := τ) main) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_mono (run m ρ) fun r h => ⟨args_kept m r h.1, h.2⟩

end Cert.KernelIdeal.Run
-- ==== Proof.RefOps.lean ====
/-
  The reference's host operations as lists: @main in stretches around its four loops, each loop's condition and
  body, and the equations that read the printed program as those lists in order.
-/
module

public import proofs.«01_k».proof.Proof.Gen.ReferenceIdeal
public import Idealize.ShloMosaic.Lib.StableHlo.RunLoop

@[expose] public section

set_option maxRecDepth 20000

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

/-! ## The loops -/

/-- What loop 0's condition runs. -/
abbrev condOps0 : List (HloOp τ sig (Elt F)) :=
  [ StableHlo.nullary main_while0c_c_29 (constantI S_ 32 64#32),
    StableHlo.binary main_v6_4 main_while0c_c_29 main_while0c_v75 (cmpi .slt : (⟨S_, .i32⟩ : BufTy).Contents (Elt F) → (⟨S_, .i32⟩ : BufTy).Contents (Elt F) → (⟨S_, .i1⟩ : BufTy).Contents (Elt F)) ]
theorem condOps0_sub : (condOps0 : List (HloOp τ sig (Elt F))).Forall fun op => op.bufs ⊆ StableHlo.tcRefs τ sig :=
  ⟨StableHlo.nullary_bufs_sub .., StableHlo.binary_bufs_sub ..⟩

/-- Of loop 0's body: what reads this trip's row. -/
abbrev body0_0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v6_0 : StableHlo.TRef sig ⟨S64x1024x64, .f32⟩) ![(.of main_v6_4 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x1024x64, .f32⟩) (fun x i => Host.dynamicSlice S1x1024x64 x (fun k => (i k (Shape.Idx.first h_S_)).toInt) sliceFits_S64x1024x64_S1x1024x64),
    StableHlo.TRef.reshape (.of main_while0b_call1_v0 : StableHlo.TRef sig ⟨S1x1024x64, .f32⟩) (.of main_while0b_v75 : StableHlo.TRef sig ⟨S1024x64, .f32⟩) (rfl : (.f32 : EltTy) = .f32) shapeCasts_S1x1024x64_S1024x64 ]
theorem body0_0_sub : (body0_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- Of loop 0's body: what computes the next state. -/
abbrev body0_1 : List (HloOp τ sig (Elt F)) :=
  [ StableHlo.binary main_while0b_v75 main_v6_1 main_while0b_v76 ((fun l r => Host.dotGeneral dot_S1024x64_S64x512_S1024x512_1_0_0_1_n_n none l r) : (⟨S1024x64, .f32⟩ : BufTy).Contents (Elt F) → (⟨S64x512, .f32⟩ : BufTy).Contents (Elt F) → (⟨S1024x512, .f32⟩ : BufTy).Contents (Elt F)),
    StableHlo.binary main_v6_5 main_v6_2 main_while0b_v77 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.binary main_while0b_v76 main_while0b_v77 main_while0b_v78 (addf : (⟨S1024x512, .f32⟩ : BufTy).Contents (Elt F) → (⟨S1024x512, .f32⟩ : BufTy).Contents (Elt F) → (⟨S1024x512, .f32⟩ : BufTy).Contents (Elt F)),
    StableHlo.unary main_v6_3 main_while0b_v79 (broadcastInDim S1x512 ![1] bcast_S512_S1x512_1 : (⟨S512, .f32⟩ : BufTy).Contents (Elt F) → (⟨S1x512, .f32⟩ : BufTy).Contents (Elt F)),
    StableHlo.unary main_while0b_v79 main_while0b_v80 (broadcastInDim S1024x512 ![0, 1] bcast_S1x512_S1024x512_0_1 : (⟨S1x512, .f32⟩ : BufTy).Contents (Elt F) → (⟨S1024x512, .f32⟩ : BufTy).Contents (Elt F)),
    StableHlo.binary main_while0b_v78 main_while0b_v80 main_while0b_v81 (addf : (⟨S1024x512, .f32⟩ : BufTy).Contents (Elt F) → (⟨S1024x512, .f32⟩ : BufTy).Contents (Elt F) → (⟨S1024x512, .f32⟩ : BufTy).Contents (Elt F)),
    StableHlo.unary main_while0b_v81 main_while0b_v82 ((extractStridedSlice S1024x128 ![0, 0] · slices_S1024x512_S1024x128_0_0) : (⟨S1024x512, .f32⟩ : BufTy).Contents (Elt F) → (⟨S1024x128, .f32⟩ : BufTy).Contents (Elt F)),
    StableHlo.unary main_while0b_v81 main_while0b_v83 ((extractStridedSlice S1024x128 ![0, 128] · slices_S1024x512_S1024x128_0_128) : (⟨S1024x512, .f32⟩ : BufTy).Contents (Elt F) → (⟨S1024x128, .f32⟩ : BufTy).Contents (Elt F)),
    StableHlo.unary main_while0b_v81 main_while0b_v84 ((extractStridedSlice S1024x128 ![0, 256] · slices_S1024x512_S1024x128_0_256) : (⟨S1024x512, .f32⟩ : BufTy).Contents (Elt F) → (⟨S1024x128, .f32⟩ : BufTy).Contents (Elt F)),
    StableHlo.unary main_while0b_v81 main_while0b_v85 ((extractStridedSlice S1024x128 ![0, 384] · slices_S1024x512_S1024x128_0_384) : (⟨S1024x512, .f32⟩ : BufTy).Contents (Elt F) → (⟨S1024x128, .f32⟩ : BufTy).Contents (Elt F)),
    StableHlo.unary main_while0b_v83 main_while0b_v86 (Host.negf : (⟨S1024x128, .f32⟩ : BufTy).Contents (Elt F) → (⟨S1024x128, .f32⟩ : BufTy).Contents (Elt F)),
    StableHlo.unary main_while0b_v86 main_while0b_v87 (Host.exp : (⟨S1024x128, .f32⟩ : BufTy).Contents (Elt F) → (⟨S1024x128, .f32⟩ : BufTy).Contents (Elt F)),
    StableHlo.nullary main_while0b_cst_29 (constant S_ .f32 0x3F800000#32),
    StableHlo.unary main_while0b_cst_29 main_while0b_v88 (broadcastInDim S1024x128 ![] bcast_S_S1024x128 : (⟨S_, .f32⟩ : BufTy).Contents (Elt F) → (⟨S1024x128, .f32⟩ : BufTy).Contents (Elt F)),
    StableHlo.binary main_while0b_v88 main_while0b_v87 main_while0b_v89 (addf : (⟨S1024x128, .f32⟩ : BufTy).Contents (Elt F) → (⟨S1024x128, .f32⟩ : BufTy).Contents (Elt F) → (⟨S1024x128, .f32⟩ : BufTy).Contents (Elt F)),
    StableHlo.nullary main_while0b_cst_30 (constant S_ .f32 0x3F800000#32),
    StableHlo.unary main_while0b_cst_30 main_while0b_v90 (broadcastInDim S1024x128 ![] bcast_S_S1024x128 : (⟨S_, .f32⟩ : BufTy).Contents (Elt F) → (⟨S1024x128, .f32⟩ : BufTy).Contents (Elt F)),
    StableHlo.binary main_while0b_v90 main_while0b_v89 main_while0b_v91 (Host.divf : (⟨S1024x128, .f32⟩ : BufTy).Contents (Elt F) → (⟨S1024x128, .f32⟩ : BufTy).Contents (Elt F) → (⟨S1024x128, .f32⟩ : BufTy).Contents (Elt F)),
    StableHlo.binary main_while0b_v91 main_v6_6 main_while0b_v92 (mulf : (⟨S1024x128, .f32⟩ : BufTy).Contents (Elt F) → (⟨S1024x128, .f32⟩ : BufTy).Contents (Elt F) → (⟨S1024x128, .f32⟩ : BufTy).Contents (Elt F)),
    StableHlo.unary main_while0b_v82 main_while0b_v93 (Host.negf : (⟨S1024x128, .f32⟩ : BufTy).Contents (Elt F) → (⟨S1024x128, .f32⟩ : BufTy).Contents (Elt F)),
    StableHlo.unary main_while0b_v93 main_while0b_v94 (Host.exp : (⟨S1024x128, .f32⟩ : BufTy).Contents (Elt F) → (⟨S1024x128, .f32⟩ : BufTy).Contents (Elt F)),
    StableHlo.nullary main_while0b_cst_31 (constant S_ .f32 0x3F800000#32),
    StableHlo.unary main_while0b_cst_31 main_while0b_v95 (broadcastInDim S1024x128 ![] bcast_S_S1024x128 : (⟨S_, .f32⟩ : BufTy).Contents (Elt F) → (⟨S1024x128, .f32⟩ : BufTy).Contents (Elt F)),
    StableHlo.binary main_while0b_v95 main_while0b_v94 main_while0b_v96 (addf : (⟨S1024x128, .f32⟩ : BufTy).Contents (Elt F) → (⟨S1024x128, .f32⟩ : BufTy).Contents (Elt F) → (⟨S1024x128, .f32⟩ : BufTy).Contents (Elt F)),
    StableHlo.nullary main_while0b_cst_32 (constant S_ .f32 0x3F800000#32),
    StableHlo.unary main_while0b_cst_32 main_while0b_v97 (broadcastInDim S1024x128 ![] bcast_S_S1024x128 : (⟨S_, .f32⟩ : BufTy).Contents (Elt F) → (⟨S1024x128, .f32⟩ : BufTy).Contents (Elt F)),
    StableHlo.binary main_while0b_v97 main_while0b_v96 main_while0b_v98 (Host.divf : (⟨S1024x128, .f32⟩ : BufTy).Contents (Elt F) → (⟨S1024x128, .f32⟩ : BufTy).Contents (Elt F) → (⟨S1024x128, .f32⟩ : BufTy).Contents (Elt F)),
    StableHlo.unary main_while0b_v84 main_while0b_v99 (Host.tanh : (⟨S1024x128, .f32⟩ : BufTy).Contents (Elt F) → (⟨S1024x128, .f32⟩ : BufTy).Contents (Elt F)),
    StableHlo.binary main_while0b_v98 main_while0b_v99 main_while0b_v100 (mulf : (⟨S1024x128, .f32⟩ : BufTy).Contents (Elt F) → (⟨S1024x128, .f32⟩ : BufTy).Contents (Elt F) → (⟨S1024x128, .f32⟩ : BufTy).Contents (Elt F)),
    StableHlo.binary main_while0b_v92 main_while0b_v100 main_while0b_v101 (addf : (⟨S1024x128, .f32⟩ : BufTy).Contents (Elt F) → (⟨S1024x128, .f32⟩ : BufTy).Contents (Elt F) → (⟨S1024x128, .f32⟩ : BufTy).Contents (Elt F)),
    StableHlo.unary main_while0b_v85 main_while0b_v102 (Host.negf : (⟨S1024x128, .f32⟩ : BufTy).Contents (Elt F) → (⟨S1024x128, .f32⟩ : BufTy).Contents (Elt F)),
    StableHlo.unary main_while0b_v102 main_while0b_v103 (Host.exp : (⟨S1024x128, .f32⟩ : BufTy).Contents (Elt F) → (⟨S1024x128, .f32⟩ : BufTy).Contents (Elt F)),
    StableHlo.nullary main_while0b_cst_33 (constant S_ .f32 0x3F800000#32),
    StableHlo.unary main_while0b_cst_33 main_while0b_v104 (broadcastInDim S1024x128 ![] bcast_S_S1024x128 : (⟨S_, .f32⟩ : BufTy).Contents (Elt F) → (⟨S1024x128, .f32⟩ : BufTy).Contents (Elt F)),
    StableHlo.binary main_while0b_v104 main_while0b_v103 main_while0b_v105 (addf : (⟨S1024x128, .f32⟩ : BufTy).Contents (Elt F) → (⟨S1024x128, .f32⟩ : BufTy).Contents (Elt F) → (⟨S1024x128, .f32⟩ : BufTy).Contents (Elt F)),
    StableHlo.nullary main_while0b_cst_34 (constant S_ .f32 0x3F800000#32),
    StableHlo.unary main_while0b_cst_34 main_while0b_v106 (broadcastInDim S1024x128 ![] bcast_S_S1024x128 : (⟨S_, .f32⟩ : BufTy).Contents (Elt F) → (⟨S1024x128, .f32⟩ : BufTy).Contents (Elt F)),
    StableHlo.binary main_while0b_v106 main_while0b_v105 main_while0b_v107 (Host.divf : (⟨S1024x128, .f32⟩ : BufTy).Contents (Elt F) → (⟨S1024x128, .f32⟩ : BufTy).Contents (Elt F) → (⟨S1024x128, .f32⟩ : BufTy).Contents (Elt F)),
    StableHlo.unary main_while0b_v101 main_while0b_v108 (Host.tanh : (⟨S1024x128, .f32⟩ : BufTy).Contents (Elt F) → (⟨S1024x128, .f32⟩ : BufTy).Contents (Elt F)),
    StableHlo.binary main_while0b_v107 main_while0b_v108 main_while0b_v109 (mulf : (⟨S1024x128, .f32⟩ : BufTy).Contents (Elt F) → (⟨S1024x128, .f32⟩ : BufTy).Contents (Elt F) → (⟨S1024x128, .f32⟩ : BufTy).Contents (Elt F)) ]
theorem body0_1_sub : (body0_1 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩

/-- Of loop 0's body: what writes the row of the result. -/
abbrev body0_2 : List (HloOp τ sig (Elt F)) :=
  [ StableHlo.TRef.unary (.of main_while0b_v109 : StableHlo.TRef sig ⟨S1024x128, .f32⟩) (.of main_while0b_call2_v0 : StableHlo.TRef sig ⟨S1x1024x128, .f32⟩) (broadcastInDim S1x1024x128 ![1, 2] bcast_S1024x128_S1x1024x128_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v6_7 : StableHlo.TRef sig ⟨S64x1024x128, .f32⟩) (.of main_while0b_call2_v0 : StableHlo.TRef sig ⟨S1x1024x128, .f32⟩) ![(.of main_v6_4 : StableHlo.TRef sig ⟨S_, .i32⟩), (.of main_while0b_call2_c : StableHlo.TRef sig ⟨S_, .i32⟩), (.of main_while0b_call2_c_0 : StableHlo.TRef sig ⟨S_, .i32⟩)] (.of main_while0b_v110 : StableHlo.TRef sig ⟨S64x1024x128, .f32⟩) (fun x u i => Host.dynamicUpdateSlice x u (fun k => (i k (Shape.Idx.first h_S_)).toInt) updateFits_S64x1024x128_S1x1024x128) ]
theorem body0_2_sub : (body0_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- Of loop 0's body: what counts the trip and carries the state. -/
abbrev body0_3 : List (HloOp τ sig (Elt F)) :=
  [ StableHlo.nullary main_while0b_c_35 (constantI S_ 32 1#32),
    StableHlo.binary main_v6_4 main_while0b_c_35 main_while0b_v111 (addi : (⟨S_, .i32⟩ : BufTy).Contents (Elt F) → (⟨S_, .i32⟩ : BufTy).Contents (Elt F) → (⟨S_, .i32⟩ : BufTy).Contents (Elt F)),
    StableHlo.unary main_while0b_v111 main_v6_4 id,
    StableHlo.unary main_while0b_v109 main_v6_5 id,
    StableHlo.unary main_while0b_v101 main_v6_6 id,
    StableHlo.unary main_while0b_v110 main_v6_7 id ]
theorem body0_3_sub : (body0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- Loop 0's body, stretch by stretch. -/
abbrev bodyI0 : List (List (HloOp τ sig (Elt F))) := [body0_0, body0_1, body0_2, body0_3]
set_option maxHeartbeats 4000000 in
theorem body0_chain : main_while0_body (F := F) = Pipeline.chain (bodyI0.map fun ops => (StableHlo.seq ops : Prog (TpuEff nD τ sig (Elt F) (HostLoop.Sig (Pipeline.Sig Λ₀ (Fin 0) fun p => (pcfgs (F := F) p).Adm) 4) .tc) PUnit)) := by
  chain_rfl

/-- What loop 1's condition runs. -/
abbrev condOps1 : List (HloOp τ sig (Elt F)) :=
  [ StableHlo.nullary main_while1c_c_29 (constantI S_ 32 64#32),
    StableHlo.binary main_v13_4 main_while1c_c_29 main_while1c_v75 (cmpi .slt : (⟨S_, .i32⟩ : BufTy).Contents (Elt F) → (⟨S_, .i32⟩ : BufTy).Contents (Elt F) → (⟨S_, .i1⟩ : BufTy).Contents (Elt F)) ]
theorem condOps1_sub : (condOps1 : List (HloOp τ sig (Elt F))).Forall fun op => op.bufs ⊆ StableHlo.tcRefs τ sig :=
  ⟨StableHlo.nullary_bufs_sub .., StableHlo.binary_bufs_sub ..⟩

/-- Of loop 1's body: what reads this trip's row. -/
abbrev body1_0 : List (HloOp τ sig (Elt F)) :=
  [ StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.unaryIndexed (.of main_v13_0 : StableHlo.TRef sig ⟨S64x1024x64, .f32⟩) ![(.of main_v13_4 : StableHlo.TRef sig ⟨S_, .i32⟩), (.of main_while1b_call3_c : StableHlo.TRef sig ⟨S_, .i32⟩), (.of main_while1b_call3_c_0 : StableHlo.TRef sig ⟨S_, .i32⟩)] (.of main_while1b_call3_v0 : StableHlo.TRef sig ⟨S1x1024x64, .f32⟩) (fun x i => Host.dynamicSlice S1x1024x64 x (fun k => (i k (Shape.Idx.first h_S_)).toInt) sliceFits_S64x1024x64_S1x1024x64),
    StableHlo.TRef.reshape (.of main_while1b_call3_v0 : StableHlo.TRef sig ⟨S1x1024x64, .f32⟩) (.of main_while1b_v75 : StableHlo.TRef sig ⟨S1024x64, .f32⟩) (rfl : (.f32 : EltTy) = .f32) shapeCasts_S1x1024x64_S1024x64 ]
theorem body1_0_sub : (body1_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- Of loop 1's body: what computes the next state. -/
abbrev body1_1 : List (HloOp τ sig (Elt F)) :=
  [ StableHlo.binary main_while1b_v75 main_v13_1 main_while1b_v76 ((fun l r => Host.dotGeneral dot_S1024x64_S64x512_S1024x512_1_0_0_1_n_n none l r) : (⟨S1024x64, .f32⟩ : BufTy).Contents (Elt F) → (⟨S64x512, .f32⟩ : BufTy).Contents (Elt F) → (⟨S1024x512, .f32⟩ : BufTy).Contents (Elt F)),
    StableHlo.binary main_v13_5 main_v13_2 main_while1b_v77 ((fun l r => Host.dotGeneral dot_S1024x128_S128x512_S1024x512_1_0_0_1_n_n none l r) : (⟨S1024x128, .f32⟩ : BufTy).Contents (Elt F) → (⟨S128x512, .f32⟩ : BufTy).Contents (Elt F) → (⟨S1024x512, .f32⟩ : BufTy).Contents (Elt F)),
    StableHlo.binary main_while1b_v76 main_while1b_v77 main_while1b_v78 (addf : (⟨S1024x512, .f32⟩ : BufTy).Contents (Elt F) → (⟨S1024x512, .f32⟩ : BufTy).Contents (Elt F) → (⟨S1024x512, .f32⟩ : BufTy).Contents (Elt F)),
    StableHlo.unary main_v13_3 main_while1b_v79 (broadcastInDim S1x512 ![1] bcast_S512_S1x512_1 : (⟨S512, .f32⟩ : BufTy).Contents (Elt F) → (⟨S1x512, .f32⟩ : BufTy).Contents (Elt F)),
    StableHlo.unary main_while1b_v79 main_while1b_v80 (broadcastInDim S1024x512 ![0, 1] bcast_S1x512_S1024x512_0_1 : (⟨S1x512, .f32⟩ : BufTy).Contents (Elt F) → (⟨S1024x512, .f32⟩ : BufTy).Contents (Elt F)),
    StableHlo.binary main_while1b_v78 main_while1b_v80 main_while1b_v81 (addf : (⟨S1024x512, .f32⟩ : BufTy).Contents (Elt F) → (⟨S1024x512, .f32⟩ : BufTy).Contents (Elt F) → (⟨S1024x512, .f32⟩ : BufTy).Contents (Elt F)),
    StableHlo.unary main_while1b_v81 main_while1b_v82 ((extractStridedSlice S1024x128 ![0, 0] · slices_S1024x512_S1024x128_0_0) : (⟨S1024x512, .f32⟩ : BufTy).Contents (Elt F) → (⟨S1024x128, .f32⟩ : BufTy).Contents (Elt F)),
    StableHlo.unary main_while1b_v81 main_while1b_v83 ((extractStridedSlice S1024x128 ![0, 128] · slices_S1024x512_S1024x128_0_128) : (⟨S1024x512, .f32⟩ : BufTy).Contents (Elt F) → (⟨S1024x128, .f32⟩ : BufTy).Contents (Elt F)),
    StableHlo.unary main_while1b_v81 main_while1b_v84 ((extractStridedSlice S1024x128 ![0, 256] · slices_S1024x512_S1024x128_0_256) : (⟨S1024x512, .f32⟩ : BufTy).Contents (Elt F) → (⟨S1024x128, .f32⟩ : BufTy).Contents (Elt F)),
    StableHlo.unary main_while1b_v81 main_while1b_v85 ((extractStridedSlice S1024x128 ![0, 384] · slices_S1024x512_S1024x128_0_384) : (⟨S1024x512, .f32⟩ : BufTy).Contents (Elt F) → (⟨S1024x128, .f32⟩ : BufTy).Contents (Elt F)),
    StableHlo.unary main_while1b_v83 main_while1b_v86 (Host.negf : (⟨S1024x128, .f32⟩ : BufTy).Contents (Elt F) → (⟨S1024x128, .f32⟩ : BufTy).Contents (Elt F)),
    StableHlo.unary main_while1b_v86 main_while1b_v87 (Host.exp : (⟨S1024x128, .f32⟩ : BufTy).Contents (Elt F) → (⟨S1024x128, .f32⟩ : BufTy).Contents (Elt F)),
    StableHlo.nullary main_while1b_cst_29 (constant S_ .f32 0x3F800000#32),
    StableHlo.unary main_while1b_cst_29 main_while1b_v88 (broadcastInDim S1024x128 ![] bcast_S_S1024x128 : (⟨S_, .f32⟩ : BufTy).Contents (Elt F) → (⟨S1024x128, .f32⟩ : BufTy).Contents (Elt F)),
    StableHlo.binary main_while1b_v88 main_while1b_v87 main_while1b_v89 (addf : (⟨S1024x128, .f32⟩ : BufTy).Contents (Elt F) → (⟨S1024x128, .f32⟩ : BufTy).Contents (Elt F) → (⟨S1024x128, .f32⟩ : BufTy).Contents (Elt F)),
    StableHlo.nullary main_while1b_cst_30 (constant S_ .f32 0x3F800000#32),
    StableHlo.unary main_while1b_cst_30 main_while1b_v90 (broadcastInDim S1024x128 ![] bcast_S_S1024x128 : (⟨S_, .f32⟩ : BufTy).Contents (Elt F) → (⟨S1024x128, .f32⟩ : BufTy).Contents (Elt F)),
    StableHlo.binary main_while1b_v90 main_while1b_v89 main_while1b_v91 (Host.divf : (⟨S1024x128, .f32⟩ : BufTy).Contents (Elt F) → (⟨S1024x128, .f32⟩ : BufTy).Contents (Elt F) → (⟨S1024x128, .f32⟩ : BufTy).Contents (Elt F)),
    StableHlo.binary main_while1b_v91 main_v13_6 main_while1b_v92 (mulf : (⟨S1024x128, .f32⟩ : BufTy).Contents (Elt F) → (⟨S1024x128, .f32⟩ : BufTy).Contents (Elt F) → (⟨S1024x128, .f32⟩ : BufTy).Contents (Elt F)),
    StableHlo.unary main_while1b_v82 main_while1b_v93 (Host.negf : (⟨S1024x128, .f32⟩ : BufTy).Contents (Elt F) → (⟨S1024x128, .f32⟩ : BufTy).Contents (Elt F)),
    StableHlo.unary main_while1b_v93 main_while1b_v94 (Host.exp : (⟨S1024x128, .f32⟩ : BufTy).Contents (Elt F) → (⟨S1024x128, .f32⟩ : BufTy).Contents (Elt F)),
    StableHlo.nullary main_while1b_cst_31 (constant S_ .f32 0x3F800000#32),
    StableHlo.unary main_while1b_cst_31 main_while1b_v95 (broadcastInDim S1024x128 ![] bcast_S_S1024x128 : (⟨S_, .f32⟩ : BufTy).Contents (Elt F) → (⟨S1024x128, .f32⟩ : BufTy).Contents (Elt F)),
    StableHlo.binary main_while1b_v95 main_while1b_v94 main_while1b_v96 (addf : (⟨S1024x128, .f32⟩ : BufTy).Contents (Elt F) → (⟨S1024x128, .f32⟩ : BufTy).Contents (Elt F) → (⟨S1024x128, .f32⟩ : BufTy).Contents (Elt F)),
    StableHlo.nullary main_while1b_cst_32 (constant S_ .f32 0x3F800000#32),
    StableHlo.unary main_while1b_cst_32 main_while1b_v97 (broadcastInDim S1024x128 ![] bcast_S_S1024x128 : (⟨S_, .f32⟩ : BufTy).Contents (Elt F) → (⟨S1024x128, .f32⟩ : BufTy).Contents (Elt F)),
    StableHlo.binary main_while1b_v97 main_while1b_v96 main_while1b_v98 (Host.divf : (⟨S1024x128, .f32⟩ : BufTy).Contents (Elt F) → (⟨S1024x128, .f32⟩ : BufTy).Contents (Elt F) → (⟨S1024x128, .f32⟩ : BufTy).Contents (Elt F)),
    StableHlo.unary main_while1b_v84 main_while1b_v99 (Host.tanh : (⟨S1024x128, .f32⟩ : BufTy).Contents (Elt F) → (⟨S1024x128, .f32⟩ : BufTy).Contents (Elt F)),
    StableHlo.binary main_while1b_v98 main_while1b_v99 main_while1b_v100 (mulf : (⟨S1024x128, .f32⟩ : BufTy).Contents (Elt F) → (⟨S1024x128, .f32⟩ : BufTy).Contents (Elt F) → (⟨S1024x128, .f32⟩ : BufTy).Contents (Elt F)),
    StableHlo.binary main_while1b_v92 main_while1b_v100 main_while1b_v101 (addf : (⟨S1024x128, .f32⟩ : BufTy).Contents (Elt F) → (⟨S1024x128, .f32⟩ : BufTy).Contents (Elt F) → (⟨S1024x128, .f32⟩ : BufTy).Contents (Elt F)),
    StableHlo.unary main_while1b_v85 main_while1b_v102 (Host.negf : (⟨S1024x128, .f32⟩ : BufTy).Contents (Elt F) → (⟨S1024x128, .f32⟩ : BufTy).Contents (Elt F)),
    StableHlo.unary main_while1b_v102 main_while1b_v103 (Host.exp : (⟨S1024x128, .f32⟩ : BufTy).Contents (Elt F) → (⟨S1024x128, .f32⟩ : BufTy).Contents (Elt F)),
    StableHlo.nullary main_while1b_cst_33 (constant S_ .f32 0x3F800000#32),
    StableHlo.unary main_while1b_cst_33 main_while1b_v104 (broadcastInDim S1024x128 ![] bcast_S_S1024x128 : (⟨S_, .f32⟩ : BufTy).Contents (Elt F) → (⟨S1024x128, .f32⟩ : BufTy).Contents (Elt F)),
    StableHlo.binary main_while1b_v104 main_while1b_v103 main_while1b_v105 (addf : (⟨S1024x128, .f32⟩ : BufTy).Contents (Elt F) → (⟨S1024x128, .f32⟩ : BufTy).Contents (Elt F) → (⟨S1024x128, .f32⟩ : BufTy).Contents (Elt F)),
    StableHlo.nullary main_while1b_cst_34 (constant S_ .f32 0x3F800000#32),
    StableHlo.unary main_while1b_cst_34 main_while1b_v106 (broadcastInDim S1024x128 ![] bcast_S_S1024x128 : (⟨S_, .f32⟩ : BufTy).Contents (Elt F) → (⟨S1024x128, .f32⟩ : BufTy).Contents (Elt F)),
    StableHlo.binary main_while1b_v106 main_while1b_v105 main_while1b_v107 (Host.divf : (⟨S1024x128, .f32⟩ : BufTy).Contents (Elt F) → (⟨S1024x128, .f32⟩ : BufTy).Contents (Elt F) → (⟨S1024x128, .f32⟩ : BufTy).Contents (Elt F)),
    StableHlo.unary main_while1b_v101 main_while1b_v108 (Host.tanh : (⟨S1024x128, .f32⟩ : BufTy).Contents (Elt F) → (⟨S1024x128, .f32⟩ : BufTy).Contents (Elt F)),
    StableHlo.binary main_while1b_v107 main_while1b_v108 main_while1b_v109 (mulf : (⟨S1024x128, .f32⟩ : BufTy).Contents (Elt F) → (⟨S1024x128, .f32⟩ : BufTy).Contents (Elt F) → (⟨S1024x128, .f32⟩ : BufTy).Contents (Elt F)) ]
theorem body1_1_sub : (body1_1 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩

/-- Of loop 1's body: what writes the row of the result. -/
abbrev body1_2 : List (HloOp τ sig (Elt F)) :=
  [ StableHlo.TRef.unary (.of main_while1b_v109 : StableHlo.TRef sig ⟨S1024x128, .f32⟩) (.of main_while1b_call4_v0 : StableHlo.TRef sig ⟨S1x1024x128, .f32⟩) (broadcastInDim S1x1024x128 ![1, 2] bcast_S1024x128_S1x1024x128_1_2),
    StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.binaryIndexed (.of main_v13_7 : StableHlo.TRef sig ⟨S64x1024x128, .f32⟩) (.of main_while1b_call4_v0 : StableHlo.TRef sig ⟨S1x1024x128, .f32⟩) ![(.of main_v13_4 : StableHlo.TRef sig ⟨S_, .i32⟩), (.of main_while1b_call4_c : StableHlo.TRef sig ⟨S_, .i32⟩), (.of main_while1b_call4_c_0 : StableHlo.TRef sig ⟨S_, .i32⟩)] (.of main_while1b_v110 : StableHlo.TRef sig ⟨S64x1024x128, .f32⟩) (fun x u i => Host.dynamicUpdateSlice x u (fun k => (i k (Shape.Idx.first h_S_)).toInt) updateFits_S64x1024x128_S1x1024x128) ]
theorem body1_2_sub : (body1_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- Of loop 1's body: what counts the trip and carries the state. -/
abbrev body1_3 : List (HloOp τ sig (Elt F)) :=
  [ StableHlo.nullary main_while1b_c_35 (constantI S_ 32 1#32),
    StableHlo.binary main_v13_4 main_while1b_c_35 main_while1b_v111 (addi : (⟨S_, .i32⟩ : BufTy).Contents (Elt F) → (⟨S_, .i32⟩ : BufTy).Contents (Elt F) → (⟨S_, .i32⟩ : BufTy).Contents (Elt F)),
    StableHlo.unary main_while1b_v111 main_v13_4 id,
    StableHlo.unary main_while1b_v109 main_v13_5 id,
    StableHlo.unary main_while1b_v101 main_v13_6 id,
    StableHlo.unary main_while1b_v110 main_v13_7 id ]
theorem body1_3_sub : (body1_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- Loop 1's body, stretch by stretch. -/
abbrev bodyI1 : List (List (HloOp τ sig (Elt F))) := [body1_0, body1_1, body1_2, body1_3]
set_option maxHeartbeats 4000000 in
theorem body1_chain : main_while1_body (F := F) = Pipeline.chain (bodyI1.map fun ops => (StableHlo.seq ops : Prog (TpuEff nD τ sig (Elt F) (HostLoop.Sig (Pipeline.Sig Λ₀ (Fin 0) fun p => (pcfgs (F := F) p).Adm) 4) .tc) PUnit)) := by
  chain_rfl

/-- What loop 2's condition runs. -/
abbrev condOps2 : List (HloOp τ sig (Elt F)) :=
  [ StableHlo.nullary main_while2c_c_29 (constantI S_ 32 16#32),
    StableHlo.binary main_v38_4 main_while2c_c_29 main_while2c_v75 (cmpi .slt : (⟨S_, .i32⟩ : BufTy).Contents (Elt F) → (⟨S_, .i32⟩ : BufTy).Contents (Elt F) → (⟨S_, .i1⟩ : BufTy).Contents (Elt F)) ]
theorem condOps2_sub : (condOps2 : List (HloOp τ sig (Elt F))).Forall fun op => op.bufs ⊆ StableHlo.tcRefs τ sig :=
  ⟨StableHlo.nullary_bufs_sub .., StableHlo.binary_bufs_sub ..⟩

/-- Of loop 2's body: what reads this trip's row. -/
abbrev body2_0 : List (HloOp τ sig (Elt F)) :=
  [ StableHlo.TRef.nullary (.of main_while2b_call5_c : StableHlo.TRef sig ⟨S_, .i32⟩) (constantI S_ 32 0#32),
    StableHlo.TRef.nullary (.of main_while2b_call5_c_0 : StableHlo.TRef sig ⟨S_, .i32⟩) (constantI S_ 32 0#32),
    StableHlo.TRef.unaryIndexed (.of main_v38_0 : StableHlo.TRef sig ⟨S16x64x256, .f32⟩) ![(.of main_v38_4 : StableHlo.TRef sig ⟨S_, .i32⟩), (.of main_while2b_call5_c : StableHlo.TRef sig ⟨S_, .i32⟩), (.of main_while2b_call5_c_0 : StableHlo.TRef sig ⟨S_, .i32⟩)] (.of main_while2b_call5_v0 : StableHlo.TRef sig ⟨S1x64x256, .f32⟩) (fun x i => Host.dynamicSlice S1x64x256 x (fun k => (i k (Shape.Idx.first h_S_)).toInt) sliceFits_S16x64x256_S1x64x256),
    StableHlo.TRef.reshape (.of main_while2b_call5_v0 : StableHlo.TRef sig ⟨S1x64x256, .f32⟩) (.of main_while2b_v75 : StableHlo.TRef sig ⟨S64x256, .f32⟩) (rfl : (.f32 : EltTy) = .f32) shapeCasts_S1x64x256_S64x256 ]
theorem body2_0_sub : (body2_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- Of loop 2's body: what computes the next state. -/
abbrev body2_1 : List (HloOp τ sig (Elt F)) :=
  [ StableHlo.binary main_while2b_v75 main_v38_1 main_while2b_v76 ((fun l r => Host.dotGeneral dot_S64x256_S256x512_S64x512_1_0_0_1_n_n none l r) : (⟨S64x256, .f32⟩ : BufTy).Contents (Elt F) → (⟨S256x512, .f32⟩ : BufTy).Contents (Elt F) → (⟨S64x512, .f32⟩ : BufTy).Contents (Elt F)),
    StableHlo.binary main_v38_5 main_v38_2 main_while2b_v77 ((fun l r => Host.dotGeneral dot_S64x128_S128x512_S64x512_1_0_0_1_n_n none l r) : (⟨S64x128, .f32⟩ : BufTy).Contents (Elt F) → (⟨S128x512, .f32⟩ : BufTy).Contents (Elt F) → (⟨S64x512, .f32⟩ : BufTy).Contents (Elt F)),
    StableHlo.binary main_while2b_v76 main_while2b_v77 main_while2b_v78 (addf : (⟨S64x512, .f32⟩ : BufTy).Contents (Elt F) → (⟨S64x512, .f32⟩ : BufTy).Contents (Elt F) → (⟨S64x512, .f32⟩ : BufTy).Contents (Elt F)),
    StableHlo.unary main_v38_3 main_while2b_v79 (broadcastInDim S1x512 ![1] bcast_S512_S1x512_1 : (⟨S512, .f32⟩ : BufTy).Contents (Elt F) → (⟨S1x512, .f32⟩ : BufTy).Contents (Elt F)),
    StableHlo.unary main_while2b_v79 main_while2b_v80 (broadcastInDim S64x512 ![0, 1] bcast_S1x512_S64x512_0_1 : (⟨S1x512, .f32⟩ : BufTy).Contents (Elt F) → (⟨S64x512, .f32⟩ : BufTy).Contents (Elt F)),
    StableHlo.binary main_while2b_v78 main_while2b_v80 main_while2b_v81 (addf : (⟨S64x512, .f32⟩ : BufTy).Contents (Elt F) → (⟨S64x512, .f32⟩ : BufTy).Contents (Elt F) → (⟨S64x512, .f32⟩ : BufTy).Contents (Elt F)),
    StableHlo.unary main_while2b_v81 main_while2b_v82 ((extractStridedSlice S64x128 ![0, 0] · slices_S64x512_S64x128_0_0) : (⟨S64x512, .f32⟩ : BufTy).Contents (Elt F) → (⟨S64x128, .f32⟩ : BufTy).Contents (Elt F)),
    StableHlo.unary main_while2b_v81 main_while2b_v83 ((extractStridedSlice S64x128 ![0, 128] · slices_S64x512_S64x128_0_128) : (⟨S64x512, .f32⟩ : BufTy).Contents (Elt F) → (⟨S64x128, .f32⟩ : BufTy).Contents (Elt F)),
    StableHlo.unary main_while2b_v81 main_while2b_v84 ((extractStridedSlice S64x128 ![0, 256] · slices_S64x512_S64x128_0_256) : (⟨S64x512, .f32⟩ : BufTy).Contents (Elt F) → (⟨S64x128, .f32⟩ : BufTy).Contents (Elt F)),
    StableHlo.unary main_while2b_v81 main_while2b_v85 ((extractStridedSlice S64x128 ![0, 384] · slices_S64x512_S64x128_0_384) : (⟨S64x512, .f32⟩ : BufTy).Contents (Elt F) → (⟨S64x128, .f32⟩ : BufTy).Contents (Elt F)),
    StableHlo.unary main_while2b_v83 main_while2b_v86 (Host.negf : (⟨S64x128, .f32⟩ : BufTy).Contents (Elt F) → (⟨S64x128, .f32⟩ : BufTy).Contents (Elt F)),
    StableHlo.unary main_while2b_v86 main_while2b_v87 (Host.exp : (⟨S64x128, .f32⟩ : BufTy).Contents (Elt F) → (⟨S64x128, .f32⟩ : BufTy).Contents (Elt F)),
    StableHlo.nullary main_while2b_cst_29 (constant S_ .f32 0x3F800000#32),
    StableHlo.unary main_while2b_cst_29 main_while2b_v88 (broadcastInDim S64x128 ![] bcast_S_S64x128 : (⟨S_, .f32⟩ : BufTy).Contents (Elt F) → (⟨S64x128, .f32⟩ : BufTy).Contents (Elt F)),
    StableHlo.binary main_while2b_v88 main_while2b_v87 main_while2b_v89 (addf : (⟨S64x128, .f32⟩ : BufTy).Contents (Elt F) → (⟨S64x128, .f32⟩ : BufTy).Contents (Elt F) → (⟨S64x128, .f32⟩ : BufTy).Contents (Elt F)),
    StableHlo.nullary main_while2b_cst_30 (constant S_ .f32 0x3F800000#32),
    StableHlo.unary main_while2b_cst_30 main_while2b_v90 (broadcastInDim S64x128 ![] bcast_S_S64x128 : (⟨S_, .f32⟩ : BufTy).Contents (Elt F) → (⟨S64x128, .f32⟩ : BufTy).Contents (Elt F)),
    StableHlo.binary main_while2b_v90 main_while2b_v89 main_while2b_v91 (Host.divf : (⟨S64x128, .f32⟩ : BufTy).Contents (Elt F) → (⟨S64x128, .f32⟩ : BufTy).Contents (Elt F) → (⟨S64x128, .f32⟩ : BufTy).Contents (Elt F)),
    StableHlo.binary main_while2b_v91 main_v38_6 main_while2b_v92 (mulf : (⟨S64x128, .f32⟩ : BufTy).Contents (Elt F) → (⟨S64x128, .f32⟩ : BufTy).Contents (Elt F) → (⟨S64x128, .f32⟩ : BufTy).Contents (Elt F)),
    StableHlo.unary main_while2b_v82 main_while2b_v93 (Host.negf : (⟨S64x128, .f32⟩ : BufTy).Contents (Elt F) → (⟨S64x128, .f32⟩ : BufTy).Contents (Elt F)),
    StableHlo.unary main_while2b_v93 main_while2b_v94 (Host.exp : (⟨S64x128, .f32⟩ : BufTy).Contents (Elt F) → (⟨S64x128, .f32⟩ : BufTy).Contents (Elt F)),
    StableHlo.nullary main_while2b_cst_31 (constant S_ .f32 0x3F800000#32),
    StableHlo.unary main_while2b_cst_31 main_while2b_v95 (broadcastInDim S64x128 ![] bcast_S_S64x128 : (⟨S_, .f32⟩ : BufTy).Contents (Elt F) → (⟨S64x128, .f32⟩ : BufTy).Contents (Elt F)),
    StableHlo.binary main_while2b_v95 main_while2b_v94 main_while2b_v96 (addf : (⟨S64x128, .f32⟩ : BufTy).Contents (Elt F) → (⟨S64x128, .f32⟩ : BufTy).Contents (Elt F) → (⟨S64x128, .f32⟩ : BufTy).Contents (Elt F)),
    StableHlo.nullary main_while2b_cst_32 (constant S_ .f32 0x3F800000#32),
    StableHlo.unary main_while2b_cst_32 main_while2b_v97 (broadcastInDim S64x128 ![] bcast_S_S64x128 : (⟨S_, .f32⟩ : BufTy).Contents (Elt F) → (⟨S64x128, .f32⟩ : BufTy).Contents (Elt F)),
    StableHlo.binary main_while2b_v97 main_while2b_v96 main_while2b_v98 (Host.divf : (⟨S64x128, .f32⟩ : BufTy).Contents (Elt F) → (⟨S64x128, .f32⟩ : BufTy).Contents (Elt F) → (⟨S64x128, .f32⟩ : BufTy).Contents (Elt F)),
    StableHlo.unary main_while2b_v84 main_while2b_v99 (Host.tanh : (⟨S64x128, .f32⟩ : BufTy).Contents (Elt F) → (⟨S64x128, .f32⟩ : BufTy).Contents (Elt F)),
    StableHlo.binary main_while2b_v98 main_while2b_v99 main_while2b_v100 (mulf : (⟨S64x128, .f32⟩ : BufTy).Contents (Elt F) → (⟨S64x128, .f32⟩ : BufTy).Contents (Elt F) → (⟨S64x128, .f32⟩ : BufTy).Contents (Elt F)),
    StableHlo.binary main_while2b_v92 main_while2b_v100 main_while2b_v101 (addf : (⟨S64x128, .f32⟩ : BufTy).Contents (Elt F) → (⟨S64x128, .f32⟩ : BufTy).Contents (Elt F) → (⟨S64x128, .f32⟩ : BufTy).Contents (Elt F)),
    StableHlo.unary main_while2b_v85 main_while2b_v102 (Host.negf : (⟨S64x128, .f32⟩ : BufTy).Contents (Elt F) → (⟨S64x128, .f32⟩ : BufTy).Contents (Elt F)),
    StableHlo.unary main_while2b_v102 main_while2b_v103 (Host.exp : (⟨S64x128, .f32⟩ : BufTy).Contents (Elt F) → (⟨S64x128, .f32⟩ : BufTy).Contents (Elt F)),
    StableHlo.nullary main_while2b_cst_33 (constant S_ .f32 0x3F800000#32),
    StableHlo.unary main_while2b_cst_33 main_while2b_v104 (broadcastInDim S64x128 ![] bcast_S_S64x128 : (⟨S_, .f32⟩ : BufTy).Contents (Elt F) → (⟨S64x128, .f32⟩ : BufTy).Contents (Elt F)),
    StableHlo.binary main_while2b_v104 main_while2b_v103 main_while2b_v105 (addf : (⟨S64x128, .f32⟩ : BufTy).Contents (Elt F) → (⟨S64x128, .f32⟩ : BufTy).Contents (Elt F) → (⟨S64x128, .f32⟩ : BufTy).Contents (Elt F)),
    StableHlo.nullary main_while2b_cst_34 (constant S_ .f32 0x3F800000#32),
    StableHlo.unary main_while2b_cst_34 main_while2b_v106 (broadcastInDim S64x128 ![] bcast_S_S64x128 : (⟨S_, .f32⟩ : BufTy).Contents (Elt F) → (⟨S64x128, .f32⟩ : BufTy).Contents (Elt F)),
    StableHlo.binary main_while2b_v106 main_while2b_v105 main_while2b_v107 (Host.divf : (⟨S64x128, .f32⟩ : BufTy).Contents (Elt F) → (⟨S64x128, .f32⟩ : BufTy).Contents (Elt F) → (⟨S64x128, .f32⟩ : BufTy).Contents (Elt F)),
    StableHlo.unary main_while2b_v101 main_while2b_v108 (Host.tanh : (⟨S64x128, .f32⟩ : BufTy).Contents (Elt F) → (⟨S64x128, .f32⟩ : BufTy).Contents (Elt F)),
    StableHlo.binary main_while2b_v107 main_while2b_v108 main_while2b_v109 (mulf : (⟨S64x128, .f32⟩ : BufTy).Contents (Elt F) → (⟨S64x128, .f32⟩ : BufTy).Contents (Elt F) → (⟨S64x128, .f32⟩ : BufTy).Contents (Elt F)) ]
theorem body2_1_sub : (body2_1 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩

/-- Of loop 2's body: what writes the row of the result. -/
abbrev body2_2 : List (HloOp τ sig (Elt F)) :=
  [ StableHlo.TRef.unary (.of main_while2b_v109 : StableHlo.TRef sig ⟨S64x128, .f32⟩) (.of main_while2b_call6_v0 : StableHlo.TRef sig ⟨S1x64x128, .f32⟩) (broadcastInDim S1x64x128 ![1, 2] bcast_S64x128_S1x64x128_1_2),
    StableHlo.TRef.nullary (.of main_while2b_call6_c : StableHlo.TRef sig ⟨S_, .i32⟩) (constantI S_ 32 0#32),
    StableHlo.TRef.nullary (.of main_while2b_call6_c_0 : StableHlo.TRef sig ⟨S_, .i32⟩) (constantI S_ 32 0#32),
    StableHlo.TRef.binaryIndexed (.of main_v38_7 : StableHlo.TRef sig ⟨S16x64x128, .f32⟩) (.of main_while2b_call6_v0 : StableHlo.TRef sig ⟨S1x64x128, .f32⟩) ![(.of main_v38_4 : StableHlo.TRef sig ⟨S_, .i32⟩), (.of main_while2b_call6_c : StableHlo.TRef sig ⟨S_, .i32⟩), (.of main_while2b_call6_c_0 : StableHlo.TRef sig ⟨S_, .i32⟩)] (.of main_while2b_v110 : StableHlo.TRef sig ⟨S16x64x128, .f32⟩) (fun x u i => Host.dynamicUpdateSlice x u (fun k => (i k (Shape.Idx.first h_S_)).toInt) updateFits_S16x64x128_S1x64x128) ]
theorem body2_2_sub : (body2_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- Of loop 2's body: what counts the trip and carries the state. -/
abbrev body2_3 : List (HloOp τ sig (Elt F)) :=
  [ StableHlo.nullary main_while2b_c_35 (constantI S_ 32 1#32),
    StableHlo.binary main_v38_4 main_while2b_c_35 main_while2b_v111 (addi : (⟨S_, .i32⟩ : BufTy).Contents (Elt F) → (⟨S_, .i32⟩ : BufTy).Contents (Elt F) → (⟨S_, .i32⟩ : BufTy).Contents (Elt F)),
    StableHlo.unary main_while2b_v111 main_v38_4 id,
    StableHlo.unary main_while2b_v109 main_v38_5 id,
    StableHlo.unary main_while2b_v101 main_v38_6 id,
    StableHlo.unary main_while2b_v110 main_v38_7 id ]
theorem body2_3_sub : (body2_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- Loop 2's body, stretch by stretch. -/
abbrev bodyI2 : List (List (HloOp τ sig (Elt F))) := [body2_0, body2_1, body2_2, body2_3]
set_option maxHeartbeats 4000000 in
theorem body2_chain : main_while2_body (F := F) = Pipeline.chain (bodyI2.map fun ops => (StableHlo.seq ops : Prog (TpuEff nD τ sig (Elt F) (HostLoop.Sig (Pipeline.Sig Λ₀ (Fin 0) fun p => (pcfgs (F := F) p).Adm) 4) .tc) PUnit)) := by
  chain_rfl

/-- What loop 3's condition runs. -/
abbrev condOps3 : List (HloOp τ sig (Elt F)) :=
  [ StableHlo.nullary main_while3c_c_29 (constantI S_ 32 16#32),
    StableHlo.binary main_v45_4 main_while3c_c_29 main_while3c_v75 (cmpi .slt : (⟨S_, .i32⟩ : BufTy).Contents (Elt F) → (⟨S_, .i32⟩ : BufTy).Contents (Elt F) → (⟨S_, .i1⟩ : BufTy).Contents (Elt F)) ]
theorem condOps3_sub : (condOps3 : List (HloOp τ sig (Elt F))).Forall fun op => op.bufs ⊆ StableHlo.tcRefs τ sig :=
  ⟨StableHlo.nullary_bufs_sub .., StableHlo.binary_bufs_sub ..⟩

/-- Of loop 3's body: what reads this trip's row. -/
abbrev body3_0 : List (HloOp τ sig (Elt F)) :=
  [ StableHlo.TRef.nullary (.of main_while3b_call7_c : StableHlo.TRef sig ⟨S_, .i32⟩) (constantI S_ 32 0#32),
    StableHlo.TRef.nullary (.of main_while3b_call7_c_0 : StableHlo.TRef sig ⟨S_, .i32⟩) (constantI S_ 32 0#32),
    StableHlo.TRef.unaryIndexed (.of main_v45_0 : StableHlo.TRef sig ⟨S16x64x256, .f32⟩) ![(.of main_v45_4 : StableHlo.TRef sig ⟨S_, .i32⟩), (.of main_while3b_call7_c : StableHlo.TRef sig ⟨S_, .i32⟩), (.of main_while3b_call7_c_0 : StableHlo.TRef sig ⟨S_, .i32⟩)] (.of main_while3b_call7_v0 : StableHlo.TRef sig ⟨S1x64x256, .f32⟩) (fun x i => Host.dynamicSlice S1x64x256 x (fun k => (i k (Shape.Idx.first h_S_)).toInt) sliceFits_S16x64x256_S1x64x256),
    StableHlo.TRef.reshape (.of main_while3b_call7_v0 : StableHlo.TRef sig ⟨S1x64x256, .f32⟩) (.of main_while3b_v75 : StableHlo.TRef sig ⟨S64x256, .f32⟩) (rfl : (.f32 : EltTy) = .f32) shapeCasts_S1x64x256_S64x256 ]
theorem body3_0_sub : (body3_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- Of loop 3's body: what computes the next state. -/
abbrev body3_1 : List (HloOp τ sig (Elt F)) :=
  [ StableHlo.binary main_while3b_v75 main_v45_1 main_while3b_v76 ((fun l r => Host.dotGeneral dot_S64x256_S256x512_S64x512_1_0_0_1_n_n none l r) : (⟨S64x256, .f32⟩ : BufTy).Contents (Elt F) → (⟨S256x512, .f32⟩ : BufTy).Contents (Elt F) → (⟨S64x512, .f32⟩ : BufTy).Contents (Elt F)),
    StableHlo.binary main_v45_5 main_v45_2 main_while3b_v77 ((fun l r => Host.dotGeneral dot_S64x128_S128x512_S64x512_1_0_0_1_n_n none l r) : (⟨S64x128, .f32⟩ : BufTy).Contents (Elt F) → (⟨S128x512, .f32⟩ : BufTy).Contents (Elt F) → (⟨S64x512, .f32⟩ : BufTy).Contents (Elt F)),
    StableHlo.binary main_while3b_v76 main_while3b_v77 main_while3b_v78 (addf : (⟨S64x512, .f32⟩ : BufTy).Contents (Elt F) → (⟨S64x512, .f32⟩ : BufTy).Contents (Elt F) → (⟨S64x512, .f32⟩ : BufTy).Contents (Elt F)),
    StableHlo.unary main_v45_3 main_while3b_v79 (broadcastInDim S1x512 ![1] bcast_S512_S1x512_1 : (⟨S512, .f32⟩ : BufTy).Contents (Elt F) → (⟨S1x512, .f32⟩ : BufTy).Contents (Elt F)),
    StableHlo.unary main_while3b_v79 main_while3b_v80 (broadcastInDim S64x512 ![0, 1] bcast_S1x512_S64x512_0_1 : (⟨S1x512, .f32⟩ : BufTy).Contents (Elt F) → (⟨S64x512, .f32⟩ : BufTy).Contents (Elt F)),
    StableHlo.binary main_while3b_v78 main_while3b_v80 main_while3b_v81 (addf : (⟨S64x512, .f32⟩ : BufTy).Contents (Elt F) → (⟨S64x512, .f32⟩ : BufTy).Contents (Elt F) → (⟨S64x512, .f32⟩ : BufTy).Contents (Elt F)),
    StableHlo.unary main_while3b_v81 main_while3b_v82 ((extractStridedSlice S64x128 ![0, 0] · slices_S64x512_S64x128_0_0) : (⟨S64x512, .f32⟩ : BufTy).Contents (Elt F) → (⟨S64x128, .f32⟩ : BufTy).Contents (Elt F)),
    StableHlo.unary main_while3b_v81 main_while3b_v83 ((extractStridedSlice S64x128 ![0, 128] · slices_S64x512_S64x128_0_128) : (⟨S64x512, .f32⟩ : BufTy).Contents (Elt F) → (⟨S64x128, .f32⟩ : BufTy).Contents (Elt F)),
    StableHlo.unary main_while3b_v81 main_while3b_v84 ((extractStridedSlice S64x128 ![0, 256] · slices_S64x512_S64x128_0_256) : (⟨S64x512, .f32⟩ : BufTy).Contents (Elt F) → (⟨S64x128, .f32⟩ : BufTy).Contents (Elt F)),
    StableHlo.unary main_while3b_v81 main_while3b_v85 ((extractStridedSlice S64x128 ![0, 384] · slices_S64x512_S64x128_0_384) : (⟨S64x512, .f32⟩ : BufTy).Contents (Elt F) → (⟨S64x128, .f32⟩ : BufTy).Contents (Elt F)),
    StableHlo.unary main_while3b_v83 main_while3b_v86 (Host.negf : (⟨S64x128, .f32⟩ : BufTy).Contents (Elt F) → (⟨S64x128, .f32⟩ : BufTy).Contents (Elt F)),
    StableHlo.unary main_while3b_v86 main_while3b_v87 (Host.exp : (⟨S64x128, .f32⟩ : BufTy).Contents (Elt F) → (⟨S64x128, .f32⟩ : BufTy).Contents (Elt F)),
    StableHlo.nullary main_while3b_cst_29 (constant S_ .f32 0x3F800000#32),
    StableHlo.unary main_while3b_cst_29 main_while3b_v88 (broadcastInDim S64x128 ![] bcast_S_S64x128 : (⟨S_, .f32⟩ : BufTy).Contents (Elt F) → (⟨S64x128, .f32⟩ : BufTy).Contents (Elt F)),
    StableHlo.binary main_while3b_v88 main_while3b_v87 main_while3b_v89 (addf : (⟨S64x128, .f32⟩ : BufTy).Contents (Elt F) → (⟨S64x128, .f32⟩ : BufTy).Contents (Elt F) → (⟨S64x128, .f32⟩ : BufTy).Contents (Elt F)),
    StableHlo.nullary main_while3b_cst_30 (constant S_ .f32 0x3F800000#32),
    StableHlo.unary main_while3b_cst_30 main_while3b_v90 (broadcastInDim S64x128 ![] bcast_S_S64x128 : (⟨S_, .f32⟩ : BufTy).Contents (Elt F) → (⟨S64x128, .f32⟩ : BufTy).Contents (Elt F)),
    StableHlo.binary main_while3b_v90 main_while3b_v89 main_while3b_v91 (Host.divf : (⟨S64x128, .f32⟩ : BufTy).Contents (Elt F) → (⟨S64x128, .f32⟩ : BufTy).Contents (Elt F) → (⟨S64x128, .f32⟩ : BufTy).Contents (Elt F)),
    StableHlo.binary main_while3b_v91 main_v45_6 main_while3b_v92 (mulf : (⟨S64x128, .f32⟩ : BufTy).Contents (Elt F) → (⟨S64x128, .f32⟩ : BufTy).Contents (Elt F) → (⟨S64x128, .f32⟩ : BufTy).Contents (Elt F)),
    StableHlo.unary main_while3b_v82 main_while3b_v93 (Host.negf : (⟨S64x128, .f32⟩ : BufTy).Contents (Elt F) → (⟨S64x128, .f32⟩ : BufTy).Contents (Elt F)),
    StableHlo.unary main_while3b_v93 main_while3b_v94 (Host.exp : (⟨S64x128, .f32⟩ : BufTy).Contents (Elt F) → (⟨S64x128, .f32⟩ : BufTy).Contents (Elt F)),
    StableHlo.nullary main_while3b_cst_31 (constant S_ .f32 0x3F800000#32),
    StableHlo.unary main_while3b_cst_31 main_while3b_v95 (broadcastInDim S64x128 ![] bcast_S_S64x128 : (⟨S_, .f32⟩ : BufTy).Contents (Elt F) → (⟨S64x128, .f32⟩ : BufTy).Contents (Elt F)),
    StableHlo.binary main_while3b_v95 main_while3b_v94 main_while3b_v96 (addf : (⟨S64x128, .f32⟩ : BufTy).Contents (Elt F) → (⟨S64x128, .f32⟩ : BufTy).Contents (Elt F) → (⟨S64x128, .f32⟩ : BufTy).Contents (Elt F)),
    StableHlo.nullary main_while3b_cst_32 (constant S_ .f32 0x3F800000#32),
    StableHlo.unary main_while3b_cst_32 main_while3b_v97 (broadcastInDim S64x128 ![] bcast_S_S64x128 : (⟨S_, .f32⟩ : BufTy).Contents (Elt F) → (⟨S64x128, .f32⟩ : BufTy).Contents (Elt F)),
    StableHlo.binary main_while3b_v97 main_while3b_v96 main_while3b_v98 (Host.divf : (⟨S64x128, .f32⟩ : BufTy).Contents (Elt F) → (⟨S64x128, .f32⟩ : BufTy).Contents (Elt F) → (⟨S64x128, .f32⟩ : BufTy).Contents (Elt F)),
    StableHlo.unary main_while3b_v84 main_while3b_v99 (Host.tanh : (⟨S64x128, .f32⟩ : BufTy).Contents (Elt F) → (⟨S64x128, .f32⟩ : BufTy).Contents (Elt F)),
    StableHlo.binary main_while3b_v98 main_while3b_v99 main_while3b_v100 (mulf : (⟨S64x128, .f32⟩ : BufTy).Contents (Elt F) → (⟨S64x128, .f32⟩ : BufTy).Contents (Elt F) → (⟨S64x128, .f32⟩ : BufTy).Contents (Elt F)),
    StableHlo.binary main_while3b_v92 main_while3b_v100 main_while3b_v101 (addf : (⟨S64x128, .f32⟩ : BufTy).Contents (Elt F) → (⟨S64x128, .f32⟩ : BufTy).Contents (Elt F) → (⟨S64x128, .f32⟩ : BufTy).Contents (Elt F)),
    StableHlo.unary main_while3b_v85 main_while3b_v102 (Host.negf : (⟨S64x128, .f32⟩ : BufTy).Contents (Elt F) → (⟨S64x128, .f32⟩ : BufTy).Contents (Elt F)),
    StableHlo.unary main_while3b_v102 main_while3b_v103 (Host.exp : (⟨S64x128, .f32⟩ : BufTy).Contents (Elt F) → (⟨S64x128, .f32⟩ : BufTy).Contents (Elt F)),
    StableHlo.nullary main_while3b_cst_33 (constant S_ .f32 0x3F800000#32),
    StableHlo.unary main_while3b_cst_33 main_while3b_v104 (broadcastInDim S64x128 ![] bcast_S_S64x128 : (⟨S_, .f32⟩ : BufTy).Contents (Elt F) → (⟨S64x128, .f32⟩ : BufTy).Contents (Elt F)),
    StableHlo.binary main_while3b_v104 main_while3b_v103 main_while3b_v105 (addf : (⟨S64x128, .f32⟩ : BufTy).Contents (Elt F) → (⟨S64x128, .f32⟩ : BufTy).Contents (Elt F) → (⟨S64x128, .f32⟩ : BufTy).Contents (Elt F)),
    StableHlo.nullary main_while3b_cst_34 (constant S_ .f32 0x3F800000#32),
    StableHlo.unary main_while3b_cst_34 main_while3b_v106 (broadcastInDim S64x128 ![] bcast_S_S64x128 : (⟨S_, .f32⟩ : BufTy).Contents (Elt F) → (⟨S64x128, .f32⟩ : BufTy).Contents (Elt F)),
    StableHlo.binary main_while3b_v106 main_while3b_v105 main_while3b_v107 (Host.divf : (⟨S64x128, .f32⟩ : BufTy).Contents (Elt F) → (⟨S64x128, .f32⟩ : BufTy).Contents (Elt F) → (⟨S64x128, .f32⟩ : BufTy).Contents (Elt F)),
    StableHlo.unary main_while3b_v101 main_while3b_v108 (Host.tanh : (⟨S64x128, .f32⟩ : BufTy).Contents (Elt F) → (⟨S64x128, .f32⟩ : BufTy).Contents (Elt F)),
    StableHlo.binary main_while3b_v107 main_while3b_v108 main_while3b_v109 (mulf : (⟨S64x128, .f32⟩ : BufTy).Contents (Elt F) → (⟨S64x128, .f32⟩ : BufTy).Contents (Elt F) → (⟨S64x128, .f32⟩ : BufTy).Contents (Elt F)) ]
theorem body3_1_sub : (body3_1 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩

/-- Of loop 3's body: what writes the row of the result. -/
abbrev body3_2 : List (HloOp τ sig (Elt F)) :=
  [ StableHlo.TRef.unary (.of main_while3b_v109 : StableHlo.TRef sig ⟨S64x128, .f32⟩) (.of main_while3b_call8_v0 : StableHlo.TRef sig ⟨S1x64x128, .f32⟩) (broadcastInDim S1x64x128 ![1, 2] bcast_S64x128_S1x64x128_1_2),
    StableHlo.TRef.nullary (.of main_while3b_call8_c : StableHlo.TRef sig ⟨S_, .i32⟩) (constantI S_ 32 0#32),
    StableHlo.TRef.nullary (.of main_while3b_call8_c_0 : StableHlo.TRef sig ⟨S_, .i32⟩) (constantI S_ 32 0#32),
    StableHlo.TRef.binaryIndexed (.of main_v45_7 : StableHlo.TRef sig ⟨S16x64x128, .f32⟩) (.of main_while3b_call8_v0 : StableHlo.TRef sig ⟨S1x64x128, .f32⟩) ![(.of main_v45_4 : StableHlo.TRef sig ⟨S_, .i32⟩), (.of main_while3b_call8_c : StableHlo.TRef sig ⟨S_, .i32⟩), (.of main_while3b_call8_c_0 : StableHlo.TRef sig ⟨S_, .i32⟩)] (.of main_while3b_v110 : StableHlo.TRef sig ⟨S16x64x128, .f32⟩) (fun x u i => Host.dynamicUpdateSlice x u (fun k => (i k (Shape.Idx.first h_S_)).toInt) updateFits_S16x64x128_S1x64x128) ]
theorem body3_2_sub : (body3_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- Of loop 3's body: what counts the trip and carries the state. -/
abbrev body3_3 : List (HloOp τ sig (Elt F)) :=
  [ StableHlo.nullary main_while3b_c_35 (constantI S_ 32 1#32),
    StableHlo.binary main_v45_4 main_while3b_c_35 main_while3b_v111 (addi : (⟨S_, .i32⟩ : BufTy).Contents (Elt F) → (⟨S_, .i32⟩ : BufTy).Contents (Elt F) → (⟨S_, .i32⟩ : BufTy).Contents (Elt F)),
    StableHlo.unary main_while3b_v111 main_v45_4 id,
    StableHlo.unary main_while3b_v109 main_v45_5 id,
    StableHlo.unary main_while3b_v101 main_v45_6 id,
    StableHlo.unary main_while3b_v110 main_v45_7 id ]
theorem body3_3_sub : (body3_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- Loop 3's body, stretch by stretch. -/
abbrev bodyI3 : List (List (HloOp τ sig (Elt F))) := [body3_0, body3_1, body3_2, body3_3]
set_option maxHeartbeats 4000000 in
theorem body3_chain : main_while3_body (F := F) = Pipeline.chain (bodyI3.map fun ops => (StableHlo.seq ops : Prog (TpuEff nD τ sig (Elt F) (HostLoop.Sig (Pipeline.Sig Λ₀ (Fin 0) fun p => (pcfgs (F := F) p).Adm) 4) .tc) PUnit)) := by
  chain_rfl

/-! ## @main -/

/-- Stretch 0 of @main. -/
abbrev mainOps0 : List (HloOp τ sig (Elt F)) :=
  [ StableHlo.reshape main_arg0 main_v0 (rfl : (.i32 : EltTy) = .i32) shapeCasts_S64x16x64_S1024x64 ]
theorem mainOps0_sub : (mainOps0 : List (HloOp τ sig (Elt F))).Forall fun op => op.bufs ⊆ StableHlo.tcRefs τ sig :=
  StableHlo.reshape_bufs_sub ..

/-- Stretch 1 of @main. -/
abbrev mainOps1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1024x64, .i32⟩) (broadcastInDim S1024x64 ![] bcast_S_S1024x64),
    StableHlo.TRef.binary (.of main_v0 : StableHlo.TRef sig ⟨S1024x64, .i32⟩) (.of main_call0_v0 : StableHlo.TRef sig ⟨S1024x64, .i32⟩) (.of main_call0_v1 : StableHlo.TRef sig ⟨S1024x64, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1024x64, .i32⟩) (broadcastInDim S1024x64 ![] bcast_S_S1024x64),
    StableHlo.TRef.binary (.of main_v0 : StableHlo.TRef sig ⟨S1024x64, .i32⟩) (.of main_call0_v2 : StableHlo.TRef sig ⟨S1024x64, .i32⟩) (.of main_call0_v3 : StableHlo.TRef sig ⟨S1024x64, .i32⟩) addi,
    StableHlo.TRef.ternary (.of main_call0_v1 : StableHlo.TRef sig ⟨S1024x64, .i1⟩) (.of main_call0_v3 : StableHlo.TRef sig ⟨S1024x64, .i32⟩) (.of main_v0 : StableHlo.TRef sig ⟨S1024x64, .i32⟩) (.of main_call0_v4 : StableHlo.TRef sig ⟨S1024x64, .i32⟩) select,
    StableHlo.TRef.unary (.of main_call0_v4 : StableHlo.TRef sig ⟨S1024x64, .i32⟩) (.of main_call0_v5 : StableHlo.TRef sig ⟨S1024x64x1, .i32⟩) (broadcastInDim S1024x64x1 ![0, 1] bcast_S1024x64_S1024x64x1_0_1),
    StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1024x64x1, .i32⟩) (broadcastInDim S1024x64x1 ![] bcast_S_S1024x64x1),
    StableHlo.TRef.binary (.of main_call0_v5 : StableHlo.TRef sig ⟨S1024x64x1, .i32⟩) (.of main_call0_v6 : StableHlo.TRef sig ⟨S1024x64x1, .i32⟩) (.of main_call0_v7 : StableHlo.TRef sig ⟨S1024x64x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S1024x64x1, .i32⟩) (broadcastInDim S1024x64x1 ![0, 1, 2] bcast_S1x1x1_S1024x64x1_0_1_2),
    StableHlo.TRef.binary (.of main_call0_v5 : StableHlo.TRef sig ⟨S1024x64x1, .i32⟩) (.of main_call0_v9 : StableHlo.TRef sig ⟨S1024x64x1, .i32⟩) (.of main_call0_v10 : StableHlo.TRef sig ⟨S1024x64x1, .i1⟩) (cmpi .sle),
    StableHlo.TRef.binary (.of main_call0_v7 : StableHlo.TRef sig ⟨S1024x64x1, .i1⟩) (.of main_call0_v10 : StableHlo.TRef sig ⟨S1024x64x1, .i1⟩) (.of main_call0_v11 : StableHlo.TRef sig ⟨S1024x64x1, .i1⟩) andi,
    StableHlo.TRef.nullary (.of main_call0_c_3 : StableHlo.TRef sig ⟨S_, .i1⟩) (constantI S_ 1 1#1),
    StableHlo.TRef.binary (.of main_call0_v11 : StableHlo.TRef sig ⟨S1024x64x1, .i1⟩) (.of main_call0_c_3 : StableHlo.TRef sig ⟨S_, .i1⟩) (.of main_call0_v12 : StableHlo.TRef sig ⟨S1024x64, .i1⟩) (fun x v => Host.reduce IntOp.andi x v reducesTo_S1024x64x1_S1024x64_d2 h_S_),
    StableHlo.TRef.binary (.of main_arg1 : StableHlo.TRef sig ⟨S100000x64, .f32⟩) (.of main_call0_v5 : StableHlo.TRef sig ⟨S1024x64x1, .i32⟩) (.of main_call0_v13 : StableHlo.TRef sig ⟨S1024x64x64, .f32⟩) (fun x i => Host.gather gather_S100000x64_S1024x64x1_S1024x64x64_2_0_n_n_0_2_164 x i),
    StableHlo.TRef.unary (.of main_call0_v12 : StableHlo.TRef sig ⟨S1024x64, .i1⟩) (.of main_call0_v14 : StableHlo.TRef sig ⟨S1024x64x64, .i1⟩) (broadcastInDim S1024x64x64 ![0, 1] bcast_S1024x64_S1024x64x64_0_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1024x64x64, .f32⟩) (broadcastInDim S1024x64x64 ![] bcast_S_S1024x64x64),
    StableHlo.TRef.ternary (.of main_call0_v14 : StableHlo.TRef sig ⟨S1024x64x64, .i1⟩) (.of main_call0_v13 : StableHlo.TRef sig ⟨S1024x64x64, .f32⟩) (.of main_call0_v15 : StableHlo.TRef sig ⟨S1024x64x64, .f32⟩) (.of main_v1 : StableHlo.TRef sig ⟨S1024x64x64, .f32⟩) select ]
theorem mainOps1_sub : (mainOps1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- Stretch 2 of @main. -/
abbrev mainOps2 : List (HloOp τ sig (Elt F)) :=
  [ StableHlo.nullary main_cst (constant S_ .f32 0x00000000#32),
    StableHlo.unary main_cst main_v2 (broadcastInDim S1024x128 ![] bcast_S_S1024x128 : (⟨S_, .f32⟩ : BufTy).Contents (Elt F) → (⟨S1024x128, .f32⟩ : BufTy).Contents (Elt F)),
    StableHlo.nullary main_cst_0 (constant S_ .f32 0x00000000#32),
    StableHlo.unary main_cst_0 main_v3 (broadcastInDim S1024x128 ![] bcast_S_S1024x128 : (⟨S_, .f32⟩ : BufTy).Contents (Elt F) → (⟨S1024x128, .f32⟩ : BufTy).Contents (Elt F)),
    StableHlo.unary main_v1 main_v4 ((transpose S64x1024x64 [1, 0, 2] · transposes_S1024x64x64_S64x1024x64_1_0_2) : (⟨S1024x64x64, .f32⟩ : BufTy).Contents (Elt F) → (⟨S64x1024x64, .f32⟩ : BufTy).Contents (Elt F)),
    StableHlo.nullary main_cst_1 (constant S_ .f32 0x00000000#32),
    StableHlo.unary main_cst_1 main_v5 (broadcastInDim S64x1024x128 ![] bcast_S_S64x1024x128 : (⟨S_, .f32⟩ : BufTy).Contents (Elt F) → (⟨S64x1024x128, .f32⟩ : BufTy).Contents (Elt F)),
    StableHlo.nullary main_c (constantI S_ 32 0#32),
    StableHlo.unary main_v4 main_v6_0 id,
    StableHlo.unary main_arg2 main_v6_1 id,
    StableHlo.unary main_arg3 main_v6_2 id,
    StableHlo.unary main_arg4 main_v6_3 id,
    StableHlo.unary main_c main_v6_4 id,
    StableHlo.unary main_v2 main_v6_5 id,
    StableHlo.unary main_v3 main_v6_6 id,
    StableHlo.unary main_v5 main_v6_7 id ]
theorem mainOps2_sub : (mainOps2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- Stretch 3 of @main. -/
abbrev mainOps3 : List (HloOp τ sig (Elt F)) :=
  [ StableHlo.unary main_v6_7 main_v7 ((transpose S1024x64x128 [1, 0, 2] · transposes_S64x1024x128_S1024x64x128_1_0_2) : (⟨S64x1024x128, .f32⟩ : BufTy).Contents (Elt F) → (⟨S1024x64x128, .f32⟩ : BufTy).Contents (Elt F)),
    StableHlo.unary main_v1 main_v8 (Host.reverse [1] : (⟨S1024x64x64, .f32⟩ : BufTy).Contents (Elt F) → (⟨S1024x64x64, .f32⟩ : BufTy).Contents (Elt F)),
    StableHlo.nullary main_cst_2 (constant S_ .f32 0x00000000#32),
    StableHlo.unary main_cst_2 main_v9 (broadcastInDim S1024x128 ![] bcast_S_S1024x128 : (⟨S_, .f32⟩ : BufTy).Contents (Elt F) → (⟨S1024x128, .f32⟩ : BufTy).Contents (Elt F)),
    StableHlo.nullary main_cst_3 (constant S_ .f32 0x00000000#32),
    StableHlo.unary main_cst_3 main_v10 (broadcastInDim S1024x128 ![] bcast_S_S1024x128 : (⟨S_, .f32⟩ : BufTy).Contents (Elt F) → (⟨S1024x128, .f32⟩ : BufTy).Contents (Elt F)),
    StableHlo.unary main_v8 main_v11 ((transpose S64x1024x64 [1, 0, 2] · transposes_S1024x64x64_S64x1024x64_1_0_2) : (⟨S1024x64x64, .f32⟩ : BufTy).Contents (Elt F) → (⟨S64x1024x64, .f32⟩ : BufTy).Contents (Elt F)),
    StableHlo.nullary main_cst_4 (constant S_ .f32 0x00000000#32),
    StableHlo.unary main_cst_4 main_v12 (broadcastInDim S64x1024x128 ![] bcast_S_S64x1024x128 : (⟨S_, .f32⟩ : BufTy).Contents (Elt F) → (⟨S64x1024x128, .f32⟩ : BufTy).Contents (Elt F)),
    StableHlo.nullary main_c_5 (constantI S_ 32 0#32),
    StableHlo.unary main_v11 main_v13_0 id,
    StableHlo.unary main_arg5 main_v13_1 id,
    StableHlo.unary main_arg6 main_v13_2 id,
    StableHlo.unary main_arg7 main_v13_3 id,
    StableHlo.unary main_c_5 main_v13_4 id,
    StableHlo.unary main_v9 main_v13_5 id,
    StableHlo.unary main_v10 main_v13_6 id,
    StableHlo.unary main_v12 main_v13_7 id ]
theorem mainOps3_sub : (mainOps3 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- Stretch 4 of @main. -/
abbrev mainOps4 : List (HloOp τ sig (Elt F)) :=
  [ StableHlo.unary main_v13_7 main_v14 ((transpose S1024x64x128 [1, 0, 2] · transposes_S64x1024x128_S1024x64x128_1_0_2) : (⟨S64x1024x128, .f32⟩ : BufTy).Contents (Elt F) → (⟨S1024x64x128, .f32⟩ : BufTy).Contents (Elt F)),
    StableHlo.unary main_v14 main_v15 (Host.reverse [1] : (⟨S1024x64x128, .f32⟩ : BufTy).Contents (Elt F) → (⟨S1024x64x128, .f32⟩ : BufTy).Contents (Elt F)),
    StableHlo.binary main_v7 main_v15 main_v16 ((fun a b => concatenate S1024x64x256 2 [⟨S1024x64x128, a⟩, ⟨S1024x64x128, b⟩] concatenates_S1024x64x128_S1024x64x128_S1024x64x256_d2) : (⟨S1024x64x128, .f32⟩ : BufTy).Contents (Elt F) → (⟨S1024x64x128, .f32⟩ : BufTy).Contents (Elt F) → (⟨S1024x64x256, .f32⟩ : BufTy).Contents (Elt F)),
    StableHlo.binary main_v16 main_arg8 main_v17 ((fun l r => Host.dotGeneral dot_S1024x64x256_S256_S1024x64_2_0_01_n_n_n none l r) : (⟨S1024x64x256, .f32⟩ : BufTy).Contents (Elt F) → (⟨S256, .f32⟩ : BufTy).Contents (Elt F) → (⟨S1024x64, .f32⟩ : BufTy).Contents (Elt F)),
    StableHlo.unary main_arg9 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S1024x64 ![0, 1] bcast_S1x64_S1024x64_0_1 : (⟨S1x64, .f32⟩ : BufTy).Contents (Elt F) → (⟨S1024x64, .f32⟩ : BufTy).Contents (Elt F)),
    StableHlo.binary main_v17 main_v19 main_v20 (addf : (⟨S1024x64, .f32⟩ : BufTy).Contents (Elt F) → (⟨S1024x64, .f32⟩ : BufTy).Contents (Elt F) → (⟨S1024x64, .f32⟩ : BufTy).Contents (Elt F)),
    StableHlo.unary main_v20 main_v21 (Host.tanh : (⟨S1024x64, .f32⟩ : BufTy).Contents (Elt F) → (⟨S1024x64, .f32⟩ : BufTy).Contents (Elt F)),
    StableHlo.unary main_v21 main_v22 (Host.exp : (⟨S1024x64, .f32⟩ : BufTy).Contents (Elt F) → (⟨S1024x64, .f32⟩ : BufTy).Contents (Elt F)),
    StableHlo.nullary main_cst_6 (constant S_ .f32 0x00000000#32),
    StableHlo.binary main_v22 main_cst_6 main_v23 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    StableHlo.unary main_v23 main_v24 (broadcastInDim S1024x1 ![0] bcast_S1024_S1024x1_0 : (⟨S1024, .f32⟩ : BufTy).Contents (Elt F) → (⟨S1024x1, .f32⟩ : BufTy).Contents (Elt F)),
    StableHlo.nullary main_cst_7 (constant S_ .f32 0x33D6BF95#32),
    StableHlo.unary main_cst_7 main_v25 (broadcastInDim S1024x1 ![] bcast_S_S1024x1 : (⟨S_, .f32⟩ : BufTy).Contents (Elt F) → (⟨S1024x1, .f32⟩ : BufTy).Contents (Elt F)),
    StableHlo.binary main_v24 main_v25 main_v26 (addf : (⟨S1024x1, .f32⟩ : BufTy).Contents (Elt F) → (⟨S1024x1, .f32⟩ : BufTy).Contents (Elt F) → (⟨S1024x1, .f32⟩ : BufTy).Contents (Elt F)),
    StableHlo.unary main_v26 main_v27 (broadcastInDim S1024x64 ![0, 1] bcast_S1024x1_S1024x64_0_1 : (⟨S1024x1, .f32⟩ : BufTy).Contents (Elt F) → (⟨S1024x64, .f32⟩ : BufTy).Contents (Elt F)),
    StableHlo.binary main_v22 main_v27 main_v28 (Host.divf : (⟨S1024x64, .f32⟩ : BufTy).Contents (Elt F) → (⟨S1024x64, .f32⟩ : BufTy).Contents (Elt F) → (⟨S1024x64, .f32⟩ : BufTy).Contents (Elt F)),
    StableHlo.unary main_v28 main_v29 (broadcastInDim S1024x64x1 ![0, 1] bcast_S1024x64_S1024x64x1_0_1 : (⟨S1024x64, .f32⟩ : BufTy).Contents (Elt F) → (⟨S1024x64x1, .f32⟩ : BufTy).Contents (Elt F)),
    StableHlo.unary main_v29 main_v30 (broadcastInDim S1024x64x256 ![0, 1, 2] bcast_S1024x64x1_S1024x64x256_0_1_2 : (⟨S1024x64x1, .f32⟩ : BufTy).Contents (Elt F) → (⟨S1024x64x256, .f32⟩ : BufTy).Contents (Elt F)),
    StableHlo.binary main_v16 main_v30 main_v31 (mulf : (⟨S1024x64x256, .f32⟩ : BufTy).Contents (Elt F) → (⟨S1024x64x256, .f32⟩ : BufTy).Contents (Elt F) → (⟨S1024x64x256, .f32⟩ : BufTy).Contents (Elt F)),
    StableHlo.nullary main_cst_8 (constant S_ .f32 0x00000000#32),
    StableHlo.binary main_v31 main_cst_8 main_v32 ((fun x v => Host.reduceAdd x v reducesTo_S1024x64x256_S1024x256_d1 h_S_) : (⟨S1024x64x256, .f32⟩ : BufTy).Contents (Elt F) → (⟨S_, .f32⟩ : BufTy).Contents (Elt F) → (⟨S1024x256, .f32⟩ : BufTy).Contents (Elt F)) ]
theorem mainOps4_sub : (mainOps4 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub ..⟩

set_option maxHeartbeats 4000000 in
theorem part0_chain (c : Dev nD) : main_part0 (F := F) c = (Pipeline.chain
  [ StableHlo.seq mainOps0,
    StableHlo.seq mainOps1,
    StableHlo.seq mainOps2,
    HostLoop.enter 0,
    StableHlo.seq mainOps3,
    HostLoop.enter 1,
    StableHlo.seq mainOps4 ] : Prog (TpuEff nD τ sig (Elt F) (HostLoop.Sig (Pipeline.Sig Λ₀ (Fin 0) fun p => (pcfgs (F := F) p).Adm) 4) .tc) PUnit) := by
  chain_rfl

/-- Stretch 5 of @main. -/
abbrev mainOps5 : List (HloOp τ sig (Elt F)) :=
  [ StableHlo.reshape main_v32 main_v33 (rfl : (.f32 : EltTy) = .f32) shapeCasts_S1024x256_S64x16x256,
    StableHlo.nullary main_cst_9 (constant S_ .f32 0x00000000#32),
    StableHlo.unary main_cst_9 main_v34 (broadcastInDim S64x128 ![] bcast_S_S64x128 : (⟨S_, .f32⟩ : BufTy).Contents (Elt F) → (⟨S64x128, .f32⟩ : BufTy).Contents (Elt F)),
    StableHlo.nullary main_cst_10 (constant S_ .f32 0x00000000#32),
    StableHlo.unary main_cst_10 main_v35 (broadcastInDim S64x128 ![] bcast_S_S64x128 : (⟨S_, .f32⟩ : BufTy).Contents (Elt F) → (⟨S64x128, .f32⟩ : BufTy).Contents (Elt F)),
    StableHlo.unary main_v33 main_v36 ((transpose S16x64x256 [1, 0, 2] · transposes_S64x16x256_S16x64x256_1_0_2) : (⟨S64x16x256, .f32⟩ : BufTy).Contents (Elt F) → (⟨S16x64x256, .f32⟩ : BufTy).Contents (Elt F)),
    StableHlo.nullary main_cst_11 (constant S_ .f32 0x00000000#32),
    StableHlo.unary main_cst_11 main_v37 (broadcastInDim S16x64x128 ![] bcast_S_S16x64x128 : (⟨S_, .f32⟩ : BufTy).Contents (Elt F) → (⟨S16x64x128, .f32⟩ : BufTy).Contents (Elt F)),
    StableHlo.nullary main_c_12 (constantI S_ 32 0#32),
    StableHlo.unary main_v36 main_v38_0 id,
    StableHlo.unary main_arg10 main_v38_1 id,
    StableHlo.unary main_arg11 main_v38_2 id,
    StableHlo.unary main_arg12 main_v38_3 id,
    StableHlo.unary main_c_12 main_v38_4 id,
    StableHlo.unary main_v34 main_v38_5 id,
    StableHlo.unary main_v35 main_v38_6 id,
    StableHlo.unary main_v37 main_v38_7 id ]
theorem mainOps5_sub : (mainOps5 : List (HloOp τ sig (Elt F))).Forall fun op => op.bufs ⊆ StableHlo.tcRefs τ sig :=
  ⟨StableHlo.reshape_bufs_sub .., StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- Stretch 6 of @main. -/
abbrev mainOps6 : List (HloOp τ sig (Elt F)) :=
  [ StableHlo.unary main_v38_7 main_v39 ((transpose S64x16x128 [1, 0, 2] · transposes_S16x64x128_S64x16x128_1_0_2) : (⟨S16x64x128, .f32⟩ : BufTy).Contents (Elt F) → (⟨S64x16x128, .f32⟩ : BufTy).Contents (Elt F)),
    StableHlo.unary main_v33 main_v40 (Host.reverse [1] : (⟨S64x16x256, .f32⟩ : BufTy).Contents (Elt F) → (⟨S64x16x256, .f32⟩ : BufTy).Contents (Elt F)),
    StableHlo.nullary main_cst_13 (constant S_ .f32 0x00000000#32),
    StableHlo.unary main_cst_13 main_v41 (broadcastInDim S64x128 ![] bcast_S_S64x128 : (⟨S_, .f32⟩ : BufTy).Contents (Elt F) → (⟨S64x128, .f32⟩ : BufTy).Contents (Elt F)),
    StableHlo.nullary main_cst_14 (constant S_ .f32 0x00000000#32),
    StableHlo.unary main_cst_14 main_v42 (broadcastInDim S64x128 ![] bcast_S_S64x128 : (⟨S_, .f32⟩ : BufTy).Contents (Elt F) → (⟨S64x128, .f32⟩ : BufTy).Contents (Elt F)),
    StableHlo.unary main_v40 main_v43 ((transpose S16x64x256 [1, 0, 2] · transposes_S64x16x256_S16x64x256_1_0_2) : (⟨S64x16x256, .f32⟩ : BufTy).Contents (Elt F) → (⟨S16x64x256, .f32⟩ : BufTy).Contents (Elt F)),
    StableHlo.nullary main_cst_15 (constant S_ .f32 0x00000000#32),
    StableHlo.unary main_cst_15 main_v44 (broadcastInDim S16x64x128 ![] bcast_S_S16x64x128 : (⟨S_, .f32⟩ : BufTy).Contents (Elt F) → (⟨S16x64x128, .f32⟩ : BufTy).Contents (Elt F)),
    StableHlo.nullary main_c_16 (constantI S_ 32 0#32),
    StableHlo.unary main_v43 main_v45_0 id,
    StableHlo.unary main_arg13 main_v45_1 id,
    StableHlo.unary main_arg14 main_v45_2 id,
    StableHlo.unary main_arg15 main_v45_3 id,
    StableHlo.unary main_c_16 main_v45_4 id,
    StableHlo.unary main_v41 main_v45_5 id,
    StableHlo.unary main_v42 main_v45_6 id,
    StableHlo.unary main_v44 main_v45_7 id ]
theorem mainOps6_sub : (mainOps6 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- Stretch 7 of @main. -/
abbrev mainOps7 : List (HloOp τ sig (Elt F)) :=
  [ StableHlo.unary main_v45_7 main_v46 ((transpose S64x16x128 [1, 0, 2] · transposes_S16x64x128_S64x16x128_1_0_2) : (⟨S16x64x128, .f32⟩ : BufTy).Contents (Elt F) → (⟨S64x16x128, .f32⟩ : BufTy).Contents (Elt F)),
    StableHlo.unary main_v46 main_v47 (Host.reverse [1] : (⟨S64x16x128, .f32⟩ : BufTy).Contents (Elt F) → (⟨S64x16x128, .f32⟩ : BufTy).Contents (Elt F)),
    StableHlo.binary main_v39 main_v47 main_v48 ((fun a b => concatenate S64x16x256 2 [⟨S64x16x128, a⟩, ⟨S64x16x128, b⟩] concatenates_S64x16x128_S64x16x128_S64x16x256_d2) : (⟨S64x16x128, .f32⟩ : BufTy).Contents (Elt F) → (⟨S64x16x128, .f32⟩ : BufTy).Contents (Elt F) → (⟨S64x16x256, .f32⟩ : BufTy).Contents (Elt F)),
    StableHlo.binary main_v48 main_arg16 main_v49 ((fun l r => Host.dotGeneral dot_S64x16x256_S256_S64x16_2_0_01_n_n_n none l r) : (⟨S64x16x256, .f32⟩ : BufTy).Contents (Elt F) → (⟨S256, .f32⟩ : BufTy).Contents (Elt F) → (⟨S64x16, .f32⟩ : BufTy).Contents (Elt F)),
    StableHlo.unary main_arg17 main_v50 (broadcastInDim S1x16 ![1] bcast_S16_S1x16_1 : (⟨S16, .f32⟩ : BufTy).Contents (Elt F) → (⟨S1x16, .f32⟩ : BufTy).Contents (Elt F)),
    StableHlo.unary main_v50 main_v51 (broadcastInDim S64x16 ![0, 1] bcast_S1x16_S64x16_0_1 : (⟨S1x16, .f32⟩ : BufTy).Contents (Elt F) → (⟨S64x16, .f32⟩ : BufTy).Contents (Elt F)),
    StableHlo.binary main_v49 main_v51 main_v52 (addf : (⟨S64x16, .f32⟩ : BufTy).Contents (Elt F) → (⟨S64x16, .f32⟩ : BufTy).Contents (Elt F) → (⟨S64x16, .f32⟩ : BufTy).Contents (Elt F)),
    StableHlo.unary main_v52 main_v53 (Host.tanh : (⟨S64x16, .f32⟩ : BufTy).Contents (Elt F) → (⟨S64x16, .f32⟩ : BufTy).Contents (Elt F)),
    StableHlo.unary main_v53 main_v54 (Host.exp : (⟨S64x16, .f32⟩ : BufTy).Contents (Elt F) → (⟨S64x16, .f32⟩ : BufTy).Contents (Elt F)),
    StableHlo.nullary main_cst_17 (constant S_ .f32 0x00000000#32),
    StableHlo.binary main_v54 main_cst_17 main_v55 ((fun x v => Host.reduceAdd x v reducesTo_S64x16_S64_d1 h_S_) : (⟨S64x16, .f32⟩ : BufTy).Contents (Elt F) → (⟨S_, .f32⟩ : BufTy).Contents (Elt F) → (⟨S64, .f32⟩ : BufTy).Contents (Elt F)),
    StableHlo.unary main_v55 main_v56 (broadcastInDim S64x1 ![0] bcast_S64_S64x1_0 : (⟨S64, .f32⟩ : BufTy).Contents (Elt F) → (⟨S64x1, .f32⟩ : BufTy).Contents (Elt F)),
    StableHlo.nullary main_cst_18 (constant S_ .f32 0x33D6BF95#32),
    StableHlo.unary main_cst_18 main_v57 (broadcastInDim S64x1 ![] bcast_S_S64x1 : (⟨S_, .f32⟩ : BufTy).Contents (Elt F) → (⟨S64x1, .f32⟩ : BufTy).Contents (Elt F)),
    StableHlo.binary main_v56 main_v57 main_v58 (addf : (⟨S64x1, .f32⟩ : BufTy).Contents (Elt F) → (⟨S64x1, .f32⟩ : BufTy).Contents (Elt F) → (⟨S64x1, .f32⟩ : BufTy).Contents (Elt F)),
    StableHlo.unary main_v58 main_v59 (broadcastInDim S64x16 ![0, 1] bcast_S64x1_S64x16_0_1 : (⟨S64x1, .f32⟩ : BufTy).Contents (Elt F) → (⟨S64x16, .f32⟩ : BufTy).Contents (Elt F)),
    StableHlo.binary main_v54 main_v59 main_v60 (Host.divf : (⟨S64x16, .f32⟩ : BufTy).Contents (Elt F) → (⟨S64x16, .f32⟩ : BufTy).Contents (Elt F) → (⟨S64x16, .f32⟩ : BufTy).Contents (Elt F)),
    StableHlo.unary main_v60 main_v61 (broadcastInDim S64x16x1 ![0, 1] bcast_S64x16_S64x16x1_0_1 : (⟨S64x16, .f32⟩ : BufTy).Contents (Elt F) → (⟨S64x16x1, .f32⟩ : BufTy).Contents (Elt F)),
    StableHlo.unary main_v61 main_v62 (broadcastInDim S64x16x256 ![0, 1, 2] bcast_S64x16x1_S64x16x256_0_1_2 : (⟨S64x16x1, .f32⟩ : BufTy).Contents (Elt F) → (⟨S64x16x256, .f32⟩ : BufTy).Contents (Elt F)),
    StableHlo.binary main_v48 main_v62 main_v63 (mulf : (⟨S64x16x256, .f32⟩ : BufTy).Contents (Elt F) → (⟨S64x16x256, .f32⟩ : BufTy).Contents (Elt F) → (⟨S64x16x256, .f32⟩ : BufTy).Contents (Elt F)),
    StableHlo.nullary main_cst_19 (constant S_ .f32 0x00000000#32),
    StableHlo.binary main_v63 main_cst_19 main_v64 ((fun x v => Host.reduceAdd x v reducesTo_S64x16x256_S64x256_d1 h_S_) : (⟨S64x16x256, .f32⟩ : BufTy).Contents (Elt F) → (⟨S_, .f32⟩ : BufTy).Contents (Elt F) → (⟨S64x256, .f32⟩ : BufTy).Contents (Elt F)),
    StableHlo.binary main_v64 main_arg18 main_v65 ((fun l r => Host.dotGeneral dot_S64x256_S256x1_S64x1_1_0_0_1_n_n none l r) : (⟨S64x256, .f32⟩ : BufTy).Contents (Elt F) → (⟨S256x1, .f32⟩ : BufTy).Contents (Elt F) → (⟨S64x1, .f32⟩ : BufTy).Contents (Elt F)) ]
theorem mainOps7_sub : (mainOps7 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.binary_bufs_sub ..⟩

set_option maxHeartbeats 4000000 in
theorem part1_chain (c : Dev nD) : main_part1 (F := F) c = (Pipeline.chain
  [ StableHlo.seq mainOps5,
    HostLoop.enter 2,
    StableHlo.seq mainOps6,
    HostLoop.enter 3,
    StableHlo.seq mainOps7 ] : Prog (TpuEff nD τ sig (Elt F) (HostLoop.Sig (Pipeline.Sig Λ₀ (Fin 0) fun p => (pcfgs (F := F) p).Adm) 4) .tc) PUnit) := by
  chain_rfl

/-- Stretch 8 of @main. -/
abbrev mainOps8 : List (HloOp τ sig (Elt F)) :=
  [ StableHlo.unary main_arg19 main_v66 (broadcastInDim S1x1 ![1] bcast_S1_S1x1_1 : (⟨S1, .f32⟩ : BufTy).Contents (Elt F) → (⟨S1x1, .f32⟩ : BufTy).Contents (Elt F)),
    StableHlo.unary main_v66 main_v67 (broadcastInDim S64x1 ![0, 1] bcast_S1x1_S64x1_0_1 : (⟨S1x1, .f32⟩ : BufTy).Contents (Elt F) → (⟨S64x1, .f32⟩ : BufTy).Contents (Elt F)),
    StableHlo.binary main_v65 main_v67 main_v68 (addf : (⟨S64x1, .f32⟩ : BufTy).Contents (Elt F) → (⟨S64x1, .f32⟩ : BufTy).Contents (Elt F) → (⟨S64x1, .f32⟩ : BufTy).Contents (Elt F)),
    StableHlo.unary main_v68 main_v69 (Host.negf : (⟨S64x1, .f32⟩ : BufTy).Contents (Elt F) → (⟨S64x1, .f32⟩ : BufTy).Contents (Elt F)),
    StableHlo.unary main_v69 main_v70 (Host.exp : (⟨S64x1, .f32⟩ : BufTy).Contents (Elt F) → (⟨S64x1, .f32⟩ : BufTy).Contents (Elt F)),
    StableHlo.nullary main_cst_20 (constant S_ .f32 0x3F800000#32),
    StableHlo.unary main_cst_20 main_v71 (broadcastInDim S64x1 ![] bcast_S_S64x1 : (⟨S_, .f32⟩ : BufTy).Contents (Elt F) → (⟨S64x1, .f32⟩ : BufTy).Contents (Elt F)),
    StableHlo.binary main_v71 main_v70 main_v72 (addf : (⟨S64x1, .f32⟩ : BufTy).Contents (Elt F) → (⟨S64x1, .f32⟩ : BufTy).Contents (Elt F) → (⟨S64x1, .f32⟩ : BufTy).Contents (Elt F)),
    StableHlo.nullary main_cst_21 (constant S_ .f32 0x3F800000#32),
    StableHlo.unary main_cst_21 main_v73 (broadcastInDim S64x1 ![] bcast_S_S64x1 : (⟨S_, .f32⟩ : BufTy).Contents (Elt F) → (⟨S64x1, .f32⟩ : BufTy).Contents (Elt F)),
    StableHlo.binary main_v73 main_v72 main_v74 (Host.divf : (⟨S64x1, .f32⟩ : BufTy).Contents (Elt F) → (⟨S64x1, .f32⟩ : BufTy).Contents (Elt F) → (⟨S64x1, .f32⟩ : BufTy).Contents (Elt F)) ]
theorem mainOps8_sub : (mainOps8 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

set_option maxHeartbeats 4000000 in
theorem part2_chain (c : Dev nD) : main_part2 (F := F) c = (Pipeline.chain
  [ StableHlo.seq mainOps8 ] : Prog (TpuEff nD τ sig (Elt F) (HostLoop.Sig (Pipeline.Sig Λ₀ (Fin 0) fun p => (pcfgs (F := F) p).Adm) 4) .tc) PUnit) := by
  chain_rfl

/-- @main is its stretches and loops in order. -/
theorem main_chain (c : Dev nD) : main (F := F) c = (Pipeline.chain
  [ StableHlo.seq mainOps0,
    StableHlo.seq mainOps1,
    StableHlo.seq mainOps2,
    HostLoop.enter 0,
    StableHlo.seq mainOps3,
    HostLoop.enter 1,
    StableHlo.seq mainOps4,
    StableHlo.seq mainOps5,
    HostLoop.enter 2,
    StableHlo.seq mainOps6,
    HostLoop.enter 3,
    StableHlo.seq mainOps7,
    StableHlo.seq mainOps8 ] : Prog (TpuEff nD τ sig (Elt F) (HostLoop.Sig (Pipeline.Sig Λ₀ (Fin 0) fun p => (pcfgs (F := F) p).Adm) 4) .tc) PUnit) := by
  show (main_part0 (F := F) c >>= fun _ => main_part1 (F := F) c >>= fun _ => main_part2 (F := F) c) = _
  rw [part0_chain, part1_chain, part2_chain]
  chain_rfl

end Cert.ReferenceIdeal.Ref

end
-- ==== Proof.RefRun.lean ====
/-
  The reference's run: its stretches of host operations and its four counted loops in order, from any launch to every
  buffer's final contents, with every counter at zero.
-/
module

public import proofs.«01_k».proof.Proof.RefOps
public import Idealize.ShloMosaic.Lib.StableHlo.RunRead

@[expose] public section

set_option maxRecDepth 20000

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after afterL held atTrip Plain launchContents segsOf loopSeg segsOf_chains segsOf_prog)
open Idealize.ShloMosaic.Pipeline (CSeg Ticket ucRefs sub_ucRefs)

variable {F : FTy → Type} [FloatOps F]

local notation "𝕄" => MT nD τ sig Unit (Elt F) ℕ (Option PUnit) ℕ

/-! ## What a loop leaves alone -/

/-- A buffer no operation of a list of stretches writes keeps its contents. -/
theorem afterL_other {items : List (List (HloOp τ sig (Elt F)))} (Wl : List (Ref sig .tc)) {r : Ref sig .tc}
    (hW : items.flatten.map HloOp.writes = Wl.map fun w => {Proc.devRef (τ := τ) .tc w}) (hr : r ∉ Wl) (V : Valuation τ sig (Elt F)) :
    afterL items V (Proc.devRef .tc r) = V (Proc.devRef .tc r) := by
  rw [StableHlo.afterL_eq_after_flatten]
  exact StableHlo.after_unwritten Wl hW hr V

/-- The same through a whole loop, its last condition included. -/
theorem loop_other {condOps : List (HloOp τ sig (Elt F))} {bodyI : List (List (HloOp τ sig (Elt F)))} (Wc Wb : List (Ref sig .tc)) {r : Ref sig .tc}
    (hc : condOps.map HloOp.writes = Wc.map fun w => {Proc.devRef (τ := τ) .tc w})
    (hb : bodyI.flatten.map HloOp.writes = Wb.map fun w => {Proc.devRef (τ := τ) .tc w})
    (hr : r ∉ Wc ++ Wb) (W : Dev nD → Valuation τ sig (Elt F)) (c : Dev nD) :
    ∀ n, atTrip condOps bodyI W n c (Proc.devRef .tc r) = W c (Proc.devRef .tc r)
  | 0 => rfl
  | n + 1 => by
    rw [StableHlo.atTrip_succ, afterL_other Wb hb (fun h => hr (List.mem_append_right _ h)),
      StableHlo.after_unwritten Wc hc (fun h => hr (List.mem_append_left _ h)), loop_other Wc Wb hc hb hr W c n]

/-- A buffer each trip steps by `f` is at `f`'s iterate after the trips. -/
theorem loop_ctr {condOps : List (HloOp τ sig (Elt F))} {bodyI : List (List (HloOp τ sig (Elt F)))}
    (rd : Valuation τ sig (Elt F) → (⟨S_, .i32⟩ : BufTy).Contents (Elt F))
    (hs : ∀ W, rd (afterL bodyI (after condOps W)) = addi (rd W) (constantI S_ 32 1#32))
    (W : Dev nD → Valuation τ sig (Elt F)) (h0 : ∀ c, rd (W c) = constantI S_ 32 0#32) (c : Dev nD) :
    ∀ n, rd (atTrip condOps bodyI W n c) = fun _ => (BitVec.ofNat 32 n : BitVec 32)
  | 0 => (h0 c).trans rfl
  | n + 1 => by
    rw [StableHlo.atTrip_succ, hs, loop_ctr rd hs W h0 c n]
    funext i
    show BitVec.ofNat 32 n + 1#32 = BitVec.ofNat 32 (n + 1)
    rw [BitVec.ofNat_add]

/-- The counter below 64 compares below 64, -/
theorem lt64 (k : ℕ) (hk : k ≤ 64) : IntOp.cmpi .slt (BitVec.ofNat 32 k) 64#32 = 1#1 ↔ k < 64 :=
  (by decide : ∀ k : Fin 65, IntOp.cmpi .slt (BitVec.ofNat 32 k.val) 64#32 = 1#1 ↔ k.val < 64) ⟨k, by omega⟩
/-- and the same at 16. -/
theorem lt16 (k : ℕ) (hk : k ≤ 16) : IntOp.cmpi .slt (BitVec.ofNat 32 k) 16#32 = 1#1 ↔ k < 16 :=
  (by decide : ∀ k : Fin 17, IntOp.cmpi .slt (BitVec.ofNat 32 k.val) 16#32 = 1#1 ↔ k.val < 16) ⟨k, by omega⟩

/-! ## A condition -/

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

/-- What is carried unchanged beside the buffers: the core's `owes`. -/
abbrev Rw (c : Dev nD) : sProp 𝕄 := iprop(∃ W, owes (c : Thread nD τ) (0 : CellTallies nD τ sig Unit) W)

-- a rule stated for any thread applied at the TensorCore thread
set_option backward.isDefEq.respectTransparency.types false in
/-- A condition of two operations, a constant and the comparison of a buffer with it, returns the comparison's element
    and leaves the buffers at its two results. -/
theorem cond_wp (a cst pr : Ref sig .tc) (hp : pr.ty = ⟨⟨0, ![]⟩, .i1⟩) (v : cst.ty.Contents (Elt F))
    (f : a.ty.Contents (Elt F) → cst.ty.Contents (Elt F) → pr.ty.Contents (Elt F)) (hne : a ≠ cst)
    (ha : a.space ≠ .host ∧ (a : DevRef τ sig).isScoped = false) (hc : cst.space ≠ .host ∧ (cst : DevRef τ sig).isScoped = false)
    (hr : pr.space ≠ .host ∧ (pr : DevRef τ sig).isScoped = false)
    (k n : ℕ) (W : Valuation τ sig (Elt F)) (c : Dev nD) (bd : Option (Variants.lift Variants.none).V)
    (hv : (cast (congrArg (BufTy.Contents (Elt F)) hp) (f (W a) v) HostLoop.idx0 : BitVec 1) = 1#1 ↔ k < n) :
    iprop(boundary (c : Thread nD τ) ∗ held (c : Thread nD τ) (ucRefs τ sig) W ∗ Rw c)
      ⊢ (wp frame (wpE (HostLoop.defs loops (Pipeline.defs (pcfgs (F := F)) defs₀)) (Variants.lift Variants.none) (c : Thread nD τ) bd) Set.univ
          (do
            hlo rfl (StableHlo.nullary cst v hc) (fun _ => .ret ⟨⟩)
            let x ← hlo rfl (StableHlo.binary a cst pr f ha hc hr) (HostLoop.elt pr hp)
            pure x)
          (fun x => iprop(⌜x = 1#1 ↔ k < n⌝ ∗ boundary (c : Thread nD τ)
            ∗ held (c : Thread nD τ) (ucRefs τ sig) (after [StableHlo.nullary cst v hc, StableHlo.binary a cst pr f ha hc hr] W) ∗ Rw c)) : sProp 𝕄) := by
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show (cast (congrArg (BufTy.Contents (Elt F)) hp)
      (f (HloOp.result (StableHlo.nullary cst v hc) W a) (HloOp.result (StableHlo.nullary cst v hc) W cst)) HostLoop.idx0 : BitVec 1) = 1#1 ↔ k < n
    rw [StableHlo.nullary_result_ne _ _ _ _ hne, StableHlo.nullary_result]
    exact hv
  isplitl [Hb]; · iexact Hb
  isplitl [Hh]; · rw [StableHlo.after_cons, StableHlo.after_cons, StableHlo.after_nil]; iexact Hh
  iexact HR

/-! ## The stages of @main -/

/-- @main's stretches before the first loop. -/
abbrev pre0 : List (List (HloOp τ sig (Elt F))) := [mainOps0, mainOps1, mainOps2]
theorem pre0_plain : Plain (pre0 (F := F)) := Plain.cons mainOps0_sub (Plain.cons mainOps1_sub (Plain.cons mainOps2_sub Plain.nil))
/-- What they write. -/
abbrev pre0W : List (Ref sig .tc) := [main_v0, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v1, main_cst, main_v2, main_cst_0, main_v3, main_v4, main_cst_1, main_v5, main_c, main_v6_0, main_v6_1, main_v6_2, main_v6_3, main_v6_4, main_v6_5, main_v6_6, main_v6_7]
theorem pre0_writes : (pre0 (F := F)).flatten.map HloOp.writes = pre0W.map fun w => {Proc.devRef (τ := τ) .tc w} := rfl

/-- @main's stretches between the first loop and the second. -/
abbrev pre1 : List (List (HloOp τ sig (Elt F))) := [mainOps3]
theorem pre1_plain : Plain (pre1 (F := F)) := Plain.cons mainOps3_sub Plain.nil
/-- What they write. -/
abbrev pre1W : List (Ref sig .tc) := [main_v7, main_v8, main_cst_2, main_v9, main_cst_3, main_v10, main_v11, main_cst_4, main_v12, main_c_5, main_v13_0, main_v13_1, main_v13_2, main_v13_3, main_v13_4, main_v13_5, main_v13_6, main_v13_7]
theorem pre1_writes : (pre1 (F := F)).flatten.map HloOp.writes = pre1W.map fun w => {Proc.devRef (τ := τ) .tc w} := rfl

/-- @main's stretches between the second and the third. -/
abbrev pre2 : List (List (HloOp τ sig (Elt F))) := [mainOps4, mainOps5]
theorem pre2_plain : Plain (pre2 (F := F)) := Plain.cons mainOps4_sub (Plain.cons mainOps5_sub Plain.nil)
/-- What they write. -/
abbrev pre2W : List (Ref sig .tc) := [main_v14, main_v15, main_v16, main_v17, main_v18, main_v19, main_v20, main_v21, main_v22, main_cst_6, main_v23, main_v24, main_cst_7, main_v25, main_v26, main_v27, main_v28, main_v29, main_v30, main_v31, main_cst_8, main_v32, main_v33, main_cst_9, main_v34, main_cst_10, main_v35, main_v36, main_cst_11, main_v37, main_c_12, main_v38_0, main_v38_1, main_v38_2, main_v38_3, main_v38_4, main_v38_5, main_v38_6, main_v38_7]
theorem pre2_writes : (pre2 (F := F)).flatten.map HloOp.writes = pre2W.map fun w => {Proc.devRef (τ := τ) .tc w} := rfl

/-- @main's stretches between the third and the fourth. -/
abbrev pre3 : List (List (HloOp τ sig (Elt F))) := [mainOps6]
theorem pre3_plain : Plain (pre3 (F := F)) := Plain.cons mainOps6_sub Plain.nil
/-- What they write. -/
abbrev pre3W : List (Ref sig .tc) := [main_v39, main_v40, main_cst_13, main_v41, main_cst_14, main_v42, main_v43, main_cst_15, main_v44, main_c_16, main_v45_0, main_v45_1, main_v45_2, main_v45_3, main_v45_4, main_v45_5, main_v45_6, main_v45_7]
theorem pre3_writes : (pre3 (F := F)).flatten.map HloOp.writes = pre3W.map fun w => {Proc.devRef (τ := τ) .tc w} := rfl

/-- @main's stretches after the fourth. -/
abbrev pre4 : List (List (HloOp τ sig (Elt F))) := [mainOps7, mainOps8]
theorem pre4_plain : Plain (pre4 (F := F)) := Plain.cons mainOps7_sub (Plain.cons mainOps8_sub Plain.nil)
/-- What they write. -/
abbrev pre4W : List (Ref sig .tc) := [main_v46, main_v47, main_v48, main_v49, main_v50, main_v51, main_v52, main_v53, main_v54, main_cst_17, main_v55, main_v56, main_cst_18, main_v57, main_v58, main_v59, main_v60, main_v61, main_v62, main_v63, main_cst_19, main_v64, main_v65, main_v66, main_v67, main_v68, main_v69, main_v70, main_cst_20, main_v71, main_v72, main_cst_21, main_v73, main_v74]
theorem pre4_writes : (pre4 (F := F)).flatten.map HloOp.writes = pre4W.map fun w => {Proc.devRef (τ := τ) .tc w} := rfl

theorem bodyI0_plain : Plain (bodyI0 (F := F)) := Plain.cons body0_0_sub (Plain.cons body0_1_sub (Plain.cons body0_2_sub (Plain.cons body0_3_sub Plain.nil)))
/-- What loop 0's condition and body write. -/
abbrev condW0 : List (Ref sig .tc) := [main_while0c_c_29, main_while0c_v75]
abbrev bodyW0 : List (Ref sig .tc) := [main_while0b_call1_c, main_while0b_call1_c_0, main_while0b_call1_v0, main_while0b_v75, main_while0b_v76, main_while0b_v77, main_while0b_v78, main_while0b_v79, main_while0b_v80, main_while0b_v81, main_while0b_v82, main_while0b_v83, main_while0b_v84, main_while0b_v85, main_while0b_v86, main_while0b_v87, main_while0b_cst_29, main_while0b_v88, main_while0b_v89, main_while0b_cst_30, main_while0b_v90, main_while0b_v91, main_while0b_v92, main_while0b_v93, main_while0b_v94, main_while0b_cst_31, main_while0b_v95, main_while0b_v96, main_while0b_cst_32, main_while0b_v97, main_while0b_v98, main_while0b_v99, main_while0b_v100, main_while0b_v101, main_while0b_v102, main_while0b_v103, main_while0b_cst_33, main_while0b_v104, main_while0b_v105, main_while0b_cst_34, main_while0b_v106, main_while0b_v107, main_while0b_v108, main_while0b_v109, main_while0b_call2_v0, main_while0b_call2_c, main_while0b_call2_c_0, main_while0b_v110, main_while0b_c_35, main_while0b_v111, main_v6_4, main_v6_5, main_v6_6, main_v6_7]
theorem condOps0_writes : (condOps0 (F := F)).map HloOp.writes = condW0.map fun w => {Proc.devRef (τ := τ) .tc w} := rfl
theorem bodyI0_writes : (bodyI0 (F := F)).flatten.map HloOp.writes = bodyW0.map fun w => {Proc.devRef (τ := τ) .tc w} := rfl

theorem bodyI1_plain : Plain (bodyI1 (F := F)) := Plain.cons body1_0_sub (Plain.cons body1_1_sub (Plain.cons body1_2_sub (Plain.cons body1_3_sub Plain.nil)))
/-- What loop 1's condition and body write. -/
abbrev condW1 : List (Ref sig .tc) := [main_while1c_c_29, main_while1c_v75]
abbrev bodyW1 : List (Ref sig .tc) := [main_while1b_call3_c, main_while1b_call3_c_0, main_while1b_call3_v0, main_while1b_v75, main_while1b_v76, main_while1b_v77, main_while1b_v78, main_while1b_v79, main_while1b_v80, main_while1b_v81, main_while1b_v82, main_while1b_v83, main_while1b_v84, main_while1b_v85, main_while1b_v86, main_while1b_v87, main_while1b_cst_29, main_while1b_v88, main_while1b_v89, main_while1b_cst_30, main_while1b_v90, main_while1b_v91, main_while1b_v92, main_while1b_v93, main_while1b_v94, main_while1b_cst_31, main_while1b_v95, main_while1b_v96, main_while1b_cst_32, main_while1b_v97, main_while1b_v98, main_while1b_v99, main_while1b_v100, main_while1b_v101, main_while1b_v102, main_while1b_v103, main_while1b_cst_33, main_while1b_v104, main_while1b_v105, main_while1b_cst_34, main_while1b_v106, main_while1b_v107, main_while1b_v108, main_while1b_v109, main_while1b_call4_v0, main_while1b_call4_c, main_while1b_call4_c_0, main_while1b_v110, main_while1b_c_35, main_while1b_v111, main_v13_4, main_v13_5, main_v13_6, main_v13_7]
theorem condOps1_writes : (condOps1 (F := F)).map HloOp.writes = condW1.map fun w => {Proc.devRef (τ := τ) .tc w} := rfl
theorem bodyI1_writes : (bodyI1 (F := F)).flatten.map HloOp.writes = bodyW1.map fun w => {Proc.devRef (τ := τ) .tc w} := rfl

theorem bodyI2_plain : Plain (bodyI2 (F := F)) := Plain.cons body2_0_sub (Plain.cons body2_1_sub (Plain.cons body2_2_sub (Plain.cons body2_3_sub Plain.nil)))
/-- What loop 2's condition and body write. -/
abbrev condW2 : List (Ref sig .tc) := [main_while2c_c_29, main_while2c_v75]
abbrev bodyW2 : List (Ref sig .tc) := [main_while2b_call5_c, main_while2b_call5_c_0, main_while2b_call5_v0, main_while2b_v75, main_while2b_v76, main_while2b_v77, main_while2b_v78, main_while2b_v79, main_while2b_v80, main_while2b_v81, main_while2b_v82, main_while2b_v83, main_while2b_v84, main_while2b_v85, main_while2b_v86, main_while2b_v87, main_while2b_cst_29, main_while2b_v88, main_while2b_v89, main_while2b_cst_30, main_while2b_v90, main_while2b_v91, main_while2b_v92, main_while2b_v93, main_while2b_v94, main_while2b_cst_31, main_while2b_v95, main_while2b_v96, main_while2b_cst_32, main_while2b_v97, main_while2b_v98, main_while2b_v99, main_while2b_v100, main_while2b_v101, main_while2b_v102, main_while2b_v103, main_while2b_cst_33, main_while2b_v104, main_while2b_v105, main_while2b_cst_34, main_while2b_v106, main_while2b_v107, main_while2b_v108, main_while2b_v109, main_while2b_call6_v0, main_while2b_call6_c, main_while2b_call6_c_0, main_while2b_v110, main_while2b_c_35, main_while2b_v111, main_v38_4, main_v38_5, main_v38_6, main_v38_7]
theorem condOps2_writes : (condOps2 (F := F)).map HloOp.writes = condW2.map fun w => {Proc.devRef (τ := τ) .tc w} := rfl
theorem bodyI2_writes : (bodyI2 (F := F)).flatten.map HloOp.writes = bodyW2.map fun w => {Proc.devRef (τ := τ) .tc w} := rfl

theorem bodyI3_plain : Plain (bodyI3 (F := F)) := Plain.cons body3_0_sub (Plain.cons body3_1_sub (Plain.cons body3_2_sub (Plain.cons body3_3_sub Plain.nil)))
/-- What loop 3's condition and body write. -/
abbrev condW3 : List (Ref sig .tc) := [main_while3c_c_29, main_while3c_v75]
abbrev bodyW3 : List (Ref sig .tc) := [main_while3b_call7_c, main_while3b_call7_c_0, main_while3b_call7_v0, main_while3b_v75, main_while3b_v76, main_while3b_v77, main_while3b_v78, main_while3b_v79, main_while3b_v80, main_while3b_v81, main_while3b_v82, main_while3b_v83, main_while3b_v84, main_while3b_v85, main_while3b_v86, main_while3b_v87, main_while3b_cst_29, main_while3b_v88, main_while3b_v89, main_while3b_cst_30, main_while3b_v90, main_while3b_v91, main_while3b_v92, main_while3b_v93, main_while3b_v94, main_while3b_cst_31, main_while3b_v95, main_while3b_v96, main_while3b_cst_32, main_while3b_v97, main_while3b_v98, main_while3b_v99, main_while3b_v100, main_while3b_v101, main_while3b_v102, main_while3b_v103, main_while3b_cst_33, main_while3b_v104, main_while3b_v105, main_while3b_cst_34, main_while3b_v106, main_while3b_v107, main_while3b_v108, main_while3b_v109, main_while3b_call8_v0, main_while3b_call8_c, main_while3b_call8_c_0, main_while3b_v110, main_while3b_c_35, main_while3b_v111, main_v45_4, main_v45_5, main_v45_6, main_v45_7]
theorem condOps3_writes : (condOps3 (F := F)).map HloOp.writes = condW3.map fun w => {Proc.devRef (τ := τ) .tc w} := rfl
theorem bodyI3_writes : (bodyI3 (F := F)).flatten.map HloOp.writes = bodyW3.map fun w => {Proc.devRef (τ := τ) .tc w} := rfl

section Stages

variable (m : (ℓ : Loc nD τ sig) → Buf (Elt F) ℓ)

/-- Every buffer at loop 0's entry, -/
def E0 (c : Dev nD) : Valuation τ sig (Elt F) := afterL pre0 (launchContents m c)
/-- and at its end. -/
def X0 (c : Dev nD) : Valuation τ sig (Elt F) := after condOps0 (atTrip condOps0 bodyI0 (E0 m) 64 c)
/-- Every buffer at loop 1's entry, -/
def E1 (c : Dev nD) : Valuation τ sig (Elt F) := afterL pre1 (X0 m c)
/-- and at its end. -/
def X1 (c : Dev nD) : Valuation τ sig (Elt F) := after condOps1 (atTrip condOps1 bodyI1 (E1 m) 64 c)
/-- Every buffer at loop 2's entry, -/
def E2 (c : Dev nD) : Valuation τ sig (Elt F) := afterL pre2 (X1 m c)
/-- and at its end. -/
def X2 (c : Dev nD) : Valuation τ sig (Elt F) := after condOps2 (atTrip condOps2 bodyI2 (E2 m) 16 c)
/-- Every buffer at loop 3's entry, -/
def E3 (c : Dev nD) : Valuation τ sig (Elt F) := afterL pre3 (X2 m c)
/-- and at its end. -/
def X3 (c : Dev nD) : Valuation τ sig (Elt F) := after condOps3 (atTrip condOps3 bodyI3 (E3 m) 16 c)
/-- Every buffer at @main's end. -/
def fin (c : Dev nD) : Valuation τ sig (Elt F) := afterL pre4 (X3 m c)

/-- Loop 0's counter starts at 0, -/
theorem E0_ctr (c : Dev nD) : E0 m c main_v6_4 = constantI S_ 32 0#32 := by
  unfold E0
  simp only [StableHlo.afterL_cons, StableHlo.afterL_nil]
  after_reads_simp
  rfl
/-- steps by 1, -/
theorem step0_ctr (W : Valuation τ sig (Elt F)) :
    afterL bodyI0 (after condOps0 W) main_v6_4 = addi (W main_v6_4) (constantI S_ 32 1#32) := by
  simp only [StableHlo.afterL_cons, StableHlo.afterL_nil]
  after_reads_simp
  rfl
/-- so it counts the trips. -/
theorem ctr0 (c : Dev nD) (n : ℕ) : atTrip condOps0 bodyI0 (E0 m) n c main_v6_4 = fun _ => (BitVec.ofNat 32 n : BitVec 32) :=
  loop_ctr (fun W => W main_v6_4) step0_ctr (E0 m) (E0_ctr m) c n
theorem cond0 : StableHlo.LoopCond (pcfgs (F := F)) defs₀ Variants.none loops Rw main_while0_cond condOps0 bodyI0 (E0 m) 64 := fun k hk c bd =>
  cond_wp main_v6_4 main_while0c_c_29 main_while0c_v75 rfl _ _ (by decide) _ _ _ k 64 _ c bd (by
    rw [ctr0 m c k]; exact lt64 k hk)

/-- Loop 1's counter starts at 0, -/
theorem E1_ctr (c : Dev nD) : E1 m c main_v13_4 = constantI S_ 32 0#32 := by
  unfold E1
  simp only [StableHlo.afterL_cons, StableHlo.afterL_nil]
  after_reads_simp
  rfl
/-- steps by 1, -/
theorem step1_ctr (W : Valuation τ sig (Elt F)) :
    afterL bodyI1 (after condOps1 W) main_v13_4 = addi (W main_v13_4) (constantI S_ 32 1#32) := by
  simp only [StableHlo.afterL_cons, StableHlo.afterL_nil]
  after_reads_simp
  rfl
/-- so it counts the trips. -/
theorem ctr1 (c : Dev nD) (n : ℕ) : atTrip condOps1 bodyI1 (E1 m) n c main_v13_4 = fun _ => (BitVec.ofNat 32 n : BitVec 32) :=
  loop_ctr (fun W => W main_v13_4) step1_ctr (E1 m) (E1_ctr m) c n
theorem cond1 : StableHlo.LoopCond (pcfgs (F := F)) defs₀ Variants.none loops Rw main_while1_cond condOps1 bodyI1 (E1 m) 64 := fun k hk c bd =>
  cond_wp main_v13_4 main_while1c_c_29 main_while1c_v75 rfl _ _ (by decide) _ _ _ k 64 _ c bd (by
    rw [ctr1 m c k]; exact lt64 k hk)

/-- Loop 2's counter starts at 0, -/
theorem E2_ctr (c : Dev nD) : E2 m c main_v38_4 = constantI S_ 32 0#32 := by
  unfold E2
  simp only [StableHlo.afterL_cons, StableHlo.afterL_nil]
  after_reads_simp
  rfl
/-- steps by 1, -/
theorem step2_ctr (W : Valuation τ sig (Elt F)) :
    afterL bodyI2 (after condOps2 W) main_v38_4 = addi (W main_v38_4) (constantI S_ 32 1#32) := by
  simp only [StableHlo.afterL_cons, StableHlo.afterL_nil]
  after_reads_simp
  rfl
/-- so it counts the trips. -/
theorem ctr2 (c : Dev nD) (n : ℕ) : atTrip condOps2 bodyI2 (E2 m) n c main_v38_4 = fun _ => (BitVec.ofNat 32 n : BitVec 32) :=
  loop_ctr (fun W => W main_v38_4) step2_ctr (E2 m) (E2_ctr m) c n
theorem cond2 : StableHlo.LoopCond (pcfgs (F := F)) defs₀ Variants.none loops Rw main_while2_cond condOps2 bodyI2 (E2 m) 16 := fun k hk c bd =>
  cond_wp main_v38_4 main_while2c_c_29 main_while2c_v75 rfl _ _ (by decide) _ _ _ k 16 _ c bd (by
    rw [ctr2 m c k]; exact lt16 k hk)

/-- Loop 3's counter starts at 0, -/
theorem E3_ctr (c : Dev nD) : E3 m c main_v45_4 = constantI S_ 32 0#32 := by
  unfold E3
  simp only [StableHlo.afterL_cons, StableHlo.afterL_nil]
  after_reads_simp
  rfl
/-- steps by 1, -/
theorem step3_ctr (W : Valuation τ sig (Elt F)) :
    afterL bodyI3 (after condOps3 W) main_v45_4 = addi (W main_v45_4) (constantI S_ 32 1#32) := by
  simp only [StableHlo.afterL_cons, StableHlo.afterL_nil]
  after_reads_simp
  rfl
/-- so it counts the trips. -/
theorem ctr3 (c : Dev nD) (n : ℕ) : atTrip condOps3 bodyI3 (E3 m) n c main_v45_4 = fun _ => (BitVec.ofNat 32 n : BitVec 32) :=
  loop_ctr (fun W => W main_v45_4) step3_ctr (E3 m) (E3_ctr m) c n
theorem cond3 : StableHlo.LoopCond (pcfgs (F := F)) defs₀ Variants.none loops Rw main_while3_cond condOps3 bodyI3 (E3 m) 16 := fun k hk c bd =>
  cond_wp main_v45_4 main_while3c_c_29 main_while3c_v75 rfl _ _ (by decide) _ _ _ k 16 _ c bd (by
    rw [ctr3 m c k]; exact lt16 k hk)

/-- @main's segments in order. -/
def segs : List (CSeg (pcfgs (F := F)) adm defs₀ Variants.none L lv loops tk) :=
  segsOf _ _ _ _ _ _ _ _ Rw pre0 pre0_plain (launchContents m) ++ loopSeg _ _ _ _ _ _ _ _ 0 main_while0_cond main_while0_body rfl condOps0 bodyI0 bodyI0_plain body0_chain 64 (E0 m) Rw (cond0 m) ::
  (  segsOf _ _ _ _ _ _ _ _ Rw pre1 pre1_plain (X0 m) ++ loopSeg _ _ _ _ _ _ _ _ 1 main_while1_cond main_while1_body rfl condOps1 bodyI1 bodyI1_plain body1_chain 64 (E1 m) Rw (cond1 m) ::
  (  segsOf _ _ _ _ _ _ _ _ Rw pre2 pre2_plain (X1 m) ++ loopSeg _ _ _ _ _ _ _ _ 2 main_while2_cond main_while2_body rfl condOps2 bodyI2 bodyI2_plain body2_chain 16 (E2 m) Rw (cond2 m) ::
  (  segsOf _ _ _ _ _ _ _ _ Rw pre3 pre3_plain (X2 m) ++ loopSeg _ _ _ _ _ _ _ _ 3 main_while3_cond main_while3_body rfl condOps3 bodyI3 bodyI3_plain body3_chain 16 (E3 m) Rw (cond3 m) ::
  (segsOf _ _ _ _ _ _ _ _ Rw pre4 pre4_plain (X3 m)))))

/-- Their programs are @main's stretches and loops. -/
theorem segs_prog : (segs m).map CSeg.prog
    = ((pre0 (F := F)).map fun ops => (StableHlo.seq ops : Prog _ PUnit)) ++ HostLoop.enter 0 :: ((pre1.map fun ops => (StableHlo.seq ops : Prog _ PUnit)) ++ HostLoop.enter 1 ::
      ((pre2.map fun ops => (StableHlo.seq ops : Prog _ PUnit)) ++ HostLoop.enter 2 :: ((pre3.map fun ops => (StableHlo.seq ops : Prog _ PUnit)) ++ HostLoop.enter 3 ::
        (pre4.map fun ops => (StableHlo.seq ops : Prog _ PUnit))))) := by
  unfold segs
  simp only [List.map_append, List.map_cons, segsOf_prog]
  rfl

/-- They chain from the launch to the end. -/
theorem segs_chains : CSeg.Chains (fun c => iprop(held (c : Thread nD τ) (ucRefs τ sig) (launchContents m c) ∗ Rw c)) (segs m)
    (fun c => iprop(iprop(held (c : Thread nD τ) (ucRefs τ sig) (fin m c)) ∗ ∃ W, owes (c : Thread nD τ) (0 : CellTallies nD τ sig Unit) W)) := by
  unfold segs
  exact CSeg.Chains.append (segsOf_chains _ _ _ _ _ _ _ _ Rw pre0 pre0_plain _) ⟨fun _ => .rfl,
    CSeg.Chains.append (segsOf_chains _ _ _ _ _ _ _ _ Rw pre1 pre1_plain _) ⟨fun _ => .rfl,
    CSeg.Chains.append (segsOf_chains _ _ _ _ _ _ _ _ Rw pre2 pre2_plain _) ⟨fun _ => .rfl,
    CSeg.Chains.append (segsOf_chains _ _ _ _ _ _ _ _ Rw pre3 pre3_plain _) ⟨fun _ => .rfl,
    segsOf_chains _ _ _ _ _ _ _ _ Rw pre4 pre4_plain _⟩⟩⟩⟩

/-- A buffer nothing in @main writes ends as it was launched. -/
theorem fin_other {r : Ref sig .tc} (c : Dev nD) (h0 : r ∉ pre0W) (h1 : r ∉ condW0 ++ bodyW0) (h2 : r ∉ pre1W) (h3 : r ∉ condW1 ++ bodyW1)
    (h4 : r ∉ pre2W) (h5 : r ∉ condW2 ++ bodyW2) (h6 : r ∉ pre3W) (h7 : r ∉ condW3 ++ bodyW3) (h8 : r ∉ pre4W) :
    fin m c (Proc.devRef .tc r) = launchContents m c (Proc.devRef .tc r) := by
  unfold fin
  rw [afterL_other _ pre4_writes h8]
  unfold X3
  rw [StableHlo.after_unwritten _ condOps3_writes (fun h => h7 (List.mem_append_left _ h)), loop_other _ _ condOps3_writes bodyI3_writes h7]
  unfold E3
  rw [afterL_other _ pre3_writes h6]
  unfold X2
  rw [StableHlo.after_unwritten _ condOps2_writes (fun h => h5 (List.mem_append_left _ h)), loop_other _ _ condOps2_writes bodyI2_writes h5]
  unfold E2
  rw [afterL_other _ pre2_writes h4]
  unfold X1
  rw [StableHlo.after_unwritten _ condOps1_writes (fun h => h3 (List.mem_append_left _ h)), loop_other _ _ condOps1_writes bodyI1_writes h3]
  unfold E1
  rw [afterL_other _ pre1_writes h2]
  unfold X0
  rw [StableHlo.after_unwritten _ condOps0_writes (fun h => h1 (List.mem_append_left _ h)), loop_other _ _ condOps0_writes bodyI0_writes h1]
  unfold E0
  rw [afterL_other _ pre0_writes h0]

end Stages

/-! ## The run -/

theorem cellOf_inj : Function.Injective (Pipeline.cellOf (nD := nD) (τ := τ) (Pipeline.pin (pcfgs (F := F)) adm)) := fun k => k.1.elim0

/-- Every counter the reference's buffers name is scoped. -/
theorem no_unscoped : ∀ sm : SemLoc sig, sm.isScoped .tc = true := by decide

/-- From any launch every weakly fair execution of the reference ends, every buffer at `fin` and every counter at 0. -/
theorem run (m : (ℓ : Loc nD τ sig) → Buf (Elt F) ℓ) (ρ : Dev nD → PrngReg) :
    θ_run defs (onTc (τ := τ) main) ⟨m, fun _ => 0, ρ⟩
      (fun r => (∀ (c : Dev nD), ∀ b ∈ ucRefs τ sig, r.2.mem ((c : Dev nD), b) = fin m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cellOf_inj defs₀ Variants.none L lv loops tk m ρ main (segs m)
    (fun c Q => by
      rw [main_chain c]
      show wp _ _ _ (Pipeline.chain ((segs m).map CSeg.prog)) Q ⊢ _
      rw [segs_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (fin m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun _ h hz => ⟨h, funext fun g => hz g (.inr (no_unscoped g.2))⟩)

end Cert.ReferenceIdeal.Ref

end
-- ==== Proof.RefFrame.lean ====
/-
  The reference's frame: every execution ends, its arguments as they were and every counter at zero.
-/
module

public import proofs.«01_k».proof.Proof.RefRun
public import Idealize.ShloMosaic.Lib.StableHlo.RunHlo

@[expose] public section

set_option maxRecDepth 20000

noncomputable section

namespace Cert.ReferenceIdeal.Ref

open Cert.ReferenceIdeal Cert.ReferenceIdeal.Gen
open Idealize.ShloMosaic Idealize.ShloMosaic.TcCoe
open Idealize.SL.Sem
open Idealize.ShloMosaic.Pipeline (ucRefs)

variable {F : FTy → Type} [FloatOps F] (m : (ℓ : Loc nD τ sig) → Buf (Elt F) ℓ)

/-- A buffer no stretch and no loop writes ends as it was. -/
theorem arg_kept (r : PUnit × MemSt nD τ sig (Elt F)) (h : ∀ c, ∀ b ∈ ucRefs τ sig, r.2.mem (c, b) = fin m c b) (c : Dev nD) (b : Ref sig .tc)
    (hs : ¬ (Proc.devRef .tc b : DevRef τ sig).isScoped = true) (h0 : b ∉ pre0W) (h1 : b ∉ condW0 ++ bodyW0) (h2 : b ∉ pre1W) (h3 : b ∉ condW1 ++ bodyW1)
    (h4 : b ∉ pre2W) (h5 : b ∉ condW2 ++ bodyW2) (h6 : b ∉ pre3W) (h7 : b ∉ condW3 ++ bodyW3) (h8 : b ∉ pre4W) :
    r.2.mem ((c.tc : Thread nD τ).loc b) = m ((c.tc : Thread nD τ).loc b) :=
  (h c _ (Finset.mem_filter.mpr ⟨StableHlo.devRef_mem_tcRefs b, hs⟩)).trans (fin_other m c h0 h1 h2 h3 h4 h5 h6 h7 h8)

/-- So every argument does. -/
theorem args_kept (r : PUnit × MemSt nD τ sig (Elt F)) (h : ∀ c, ∀ b ∈ ucRefs τ sig, r.2.mem (c, b) = fin m c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨arg_kept m r h c main_arg0 (by decide) (by decide) (by decide) (by decide) (by decide) (by decide) (by decide) (by decide) (by decide) (by decide),
    arg_kept m r h c main_arg1 (by decide) (by decide) (by decide) (by decide) (by decide) (by decide) (by decide) (by decide) (by decide) (by decide),
    arg_kept m r h c main_arg2 (by decide) (by decide) (by decide) (by decide) (by decide) (by decide) (by decide) (by decide) (by decide) (by decide),
    arg_kept m r h c main_arg3 (by decide) (by decide) (by decide) (by decide) (by decide) (by decide) (by decide) (by decide) (by decide) (by decide),
    arg_kept m r h c main_arg4 (by decide) (by decide) (by decide) (by decide) (by decide) (by decide) (by decide) (by decide) (by decide) (by decide),
    arg_kept m r h c main_arg5 (by decide) (by decide) (by decide) (by decide) (by decide) (by decide) (by decide) (by decide) (by decide) (by decide),
    arg_kept m r h c main_arg6 (by decide) (by decide) (by decide) (by decide) (by decide) (by decide) (by decide) (by decide) (by decide) (by decide),
    arg_kept m r h c main_arg7 (by decide) (by decide) (by decide) (by decide) (by decide) (by decide) (by decide) (by decide) (by decide) (by decide),
    arg_kept m r h c main_arg8 (by decide) (by decide) (by decide) (by decide) (by decide) (by decide) (by decide) (by decide) (by decide) (by decide),
    arg_kept m r h c main_arg9 (by decide) (by decide) (by decide) (by decide) (by decide) (by decide) (by decide) (by decide) (by decide) (by decide),
    arg_kept m r h c main_arg10 (by decide) (by decide) (by decide) (by decide) (by decide) (by decide) (by decide) (by decide) (by decide) (by decide),
    arg_kept m r h c main_arg11 (by decide) (by decide) (by decide) (by decide) (by decide) (by decide) (by decide) (by decide) (by decide) (by decide),
    arg_kept m r h c main_arg12 (by decide) (by decide) (by decide) (by decide) (by decide) (by decide) (by decide) (by decide) (by decide) (by decide),
    arg_kept m r h c main_arg13 (by decide) (by decide) (by decide) (by decide) (by decide) (by decide) (by decide) (by decide) (by decide) (by decide),
    arg_kept m r h c main_arg14 (by decide) (by decide) (by decide) (by decide) (by decide) (by decide) (by decide) (by decide) (by decide) (by decide),
    arg_kept m r h c main_arg15 (by decide) (by decide) (by decide) (by decide) (by decide) (by decide) (by decide) (by decide) (by decide) (by decide),
    arg_kept m r h c main_arg16 (by decide) (by decide) (by decide) (by decide) (by decide) (by decide) (by decide) (by decide) (by decide) (by decide),
    arg_kept m r h c main_arg17 (by decide) (by decide) (by decide) (by decide) (by decide) (by decide) (by decide) (by decide) (by decide) (by decide),
    arg_kept m r h c main_arg18 (by decide) (by decide) (by decide) (by decide) (by decide) (by decide) (by decide) (by decide) (by decide) (by decide),
    arg_kept m r h c main_arg19 (by decide) (by decide) (by decide) (by decide) (by decide) (by decide) (by decide) (by decide) (by decide) (by decide)⟩

/-- The frame: every execution ends, the arguments as they were and every counter at zero. -/
theorem frame (ρ : Dev nD → PrngReg) : θ_run defs (onTc (τ := τ) main) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_mono (run m ρ) fun r h => ⟨args_kept m r h.1, h.2⟩

end Cert.ReferenceIdeal.Ref

end
-- ==== Proof.Spec.lean ====
/-
  The mathematics, free of programs: one direction of the recurrence and the attention's pooling over the extended reals,
  and the identities by which the kernel's way of computing them gives the same numbers.
-/
module

public import Idealize.ShloMosaic.Lib.Pointwise

@[expose] public section

noncomputable section

namespace Cert.Spec

open Idealize.ShloMosaic

/-- The logistic function as the programs compute it: `1 / (1 + exp (-z))`. -/
abbrev sg : EReal → EReal := Ideal.logistic

/-- An extended real that is a real number. -/
def IsR (x : EReal) : Prop := ∃ r : ℝ, x = (r : EReal)

theorem IsR.add {x y : EReal} : IsR x → IsR y → IsR (x + y)
  | ⟨a, ha⟩, ⟨b, hb⟩ => ⟨a + b, by rw [ha, hb, EReal.coe_add]⟩
theorem IsR.mul {x y : EReal} : IsR x → IsR y → IsR (x * y)
  | ⟨a, ha⟩, ⟨b, hb⟩ => ⟨a * b, by rw [ha, hb, EReal.coe_mul]⟩
theorem IsR.sub_self {x : EReal} : IsR x → x - x = 0
  | ⟨a, ha⟩ => by rw [ha, ← EReal.coe_sub, _root_.sub_self, EReal.coe_zero]
theorem IsR.ne_top {x : EReal} : IsR x → x ≠ ⊤
  | ⟨a, ha⟩ => by rw [ha]; exact EReal.coe_ne_top a
theorem IsR.zero : IsR 0 := ⟨0, rfl⟩
theorem IsR.sum {n : ℕ} (f : Fin n → EReal) (h : ∀ k, IsR (f k)) : IsR (∑ k, f k) :=
  Finset.sum_induction f IsR (fun _ _ => IsR.add) IsR.zero fun k _ => h k

/-- `tanh` is a real number everywhere, the infinities included. -/
theorem tanh_real (z : EReal) : IsR (Ideal.tanh z) := by
  induction z with
  | bot => exact ⟨-1, by simp⟩
  | top => exact ⟨1, by simp⟩
  | coe r => exact ⟨Real.tanh r, rfl⟩

/-- So is the logistic function. -/
theorem sg_real (z : EReal) : IsR (sg z) := by
  induction z with
  | bot => exact ⟨0, by simp [sg]⟩
  | top => exact ⟨1, by simp [sg]⟩
  | coe r => exact ⟨_, Ideal.logistic_coe r⟩

theorem half_bits : Ideal.ofBits .f32 0x3F000000#32 = ((1 / 2 : ℝ) : EReal) := by
  simp [Ideal.ofBits, Ideal.ieee]; rw [← EReal.coe_mul]; norm_num

theorem eps_bits : ∃ e : ℝ, 0 < e ∧ Ideal.ofBits .f32 0x33D6BF95#32 = (e : EReal) := by
  refine ⟨_, ?_, by simp [Ideal.ofBits, Ideal.ieee]; norm_cast⟩
  positivity

theorem real_sg (r : ℝ) : 1 / 2 * Real.tanh (1 / 2 * r) + 1 / 2 = (1 + Real.exp (-r))⁻¹ := by
  have e1 : Real.exp (-r) = Real.exp (-(1 / 2 * r)) * Real.exp (-(1 / 2 * r)) := by rw [← Real.exp_add]; ring_nf
  have hp := Real.exp_pos (1 / 2 * r)
  have hm := Real.exp_pos (-(1 / 2 * r))
  have hpm : Real.exp (1 / 2 * r) * Real.exp (-(1 / 2 * r)) = 1 := by rw [← Real.exp_add]; simp
  rw [Real.tanh_eq_sinh_div_cosh, Real.sinh_eq, Real.cosh_eq, e1]
  generalize Real.exp (1 / 2 * r) = p at *
  generalize Real.exp (-(1 / 2 * r)) = q at *
  have h1 : p + q ≠ 0 := by positivity
  have h2 : 1 + q * q ≠ 0 := by positivity
  field_simp
  linear_combination 2 * q * hpm

/-- The logistic function by `tanh` of half the argument: at every extended real. -/
theorem half_tanh (z : EReal) : ((1 / 2 : ℝ) : EReal) * Ideal.tanh (((1 / 2 : ℝ) : EReal) * z) + ((1 / 2 : ℝ) : EReal) = sg z := by
  show _ = Ideal.logistic z
  induction z with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add, real_sg]

/-! ## A sum in pieces -/

theorem sum_cut {m n N : ℕ} (h : N = m + n) (f : Fin N → EReal) :
    ∑ k, f k = ∑ k : Fin m, f ⟨k.val, by omega⟩ + ∑ k : Fin n, f ⟨m + k.val, by omega⟩ := by
  subst h; exact Fin.sum_univ_add f

/-- A number split into itself and the remainder, times a real number, is the number times it. -/
theorem split_mul {x w : EReal} (hx : x ≠ ⊤) (hw : IsR w) : x * w + (x - x) * w = x * w := by
  obtain ⟨r, rfl⟩ := hw
  induction x with
  | top => exact absurd rfl hx
  | coe a => rw [IsR.sub_self ⟨a, rfl⟩, zero_mul, add_zero]
  | bot =>
    rw [show (⊥ : EReal) - ⊥ = ⊥ from rfl]
    rcases lt_trichotomy r 0 with h | h | h
    · rw [EReal.bot_mul_coe_of_neg h]; rfl
    · subst h; simp
    · rw [EReal.bot_mul_coe_of_pos h]; rfl

/-- A positive real factor goes through a sum. -/
theorem mul_add_pos {g : ℝ} (hg : 0 < g) (a b : EReal) : (g : EReal) * (a + b) = g * a + g * b := by
  induction a with
  | bot => rw [EReal.bot_add, EReal.coe_mul_bot_of_pos hg, EReal.bot_add]
  | top =>
    induction b with
    | bot => rw [EReal.add_bot, EReal.coe_mul_bot_of_pos hg, EReal.add_bot]
    | top => rw [EReal.top_add_top, EReal.coe_mul_top_of_pos hg, EReal.top_add_top]
    | coe b => rw [EReal.top_add_coe, EReal.coe_mul_top_of_pos hg, ← EReal.coe_mul, EReal.top_add_coe]
  | coe a =>
    induction b with
    | bot => rw [EReal.add_bot, EReal.coe_mul_bot_of_pos hg, EReal.add_bot]
    | top => rw [EReal.coe_add_top, EReal.coe_mul_top_of_pos hg, ← EReal.coe_mul, EReal.coe_add_top]
    | coe b => rw [← EReal.coe_add, ← EReal.coe_mul, ← EReal.coe_mul, ← EReal.coe_mul, ← EReal.coe_add, mul_add]

theorem mul_sum_pos {g : ℝ} (hg : 0 < g) {n : ℕ} (f : Fin n → EReal) : (g : EReal) * ∑ k, f k = ∑ k, g * f k :=
  map_sum (⟨⟨fun x => (g : EReal) * x, mul_zero _⟩, mul_add_pos hg⟩ : EReal →+ EReal) f Finset.univ

/-! ## One row of the recurrence -/

section
variable {D : ℕ}

/-- The gates' arguments: the row's product with the input weights, the hidden state's with the recurrent ones, the bias. -/
def gate (Wx : Fin D → Fin 512 → EReal) (Wh : Fin 128 → Fin 512 → EReal) (b : Fin 512 → EReal) (x : Fin D → EReal) (h : Fin 128 → EReal) (j : Fin 512) : EReal :=
  ∑ k, x k * Wx k j + ∑ k, h k * Wh k j + b j

def newC (z : Fin 512 → EReal) (c : Fin 128 → EReal) (l : Fin 128) : EReal :=
  sg (z ⟨128 + l.val, by omega⟩) * c l + sg (z ⟨l.val, by omega⟩) * Ideal.tanh (z ⟨256 + l.val, by omega⟩)
def newH (z : Fin 512 → EReal) (c : Fin 128 → EReal) (l : Fin 128) : EReal :=
  sg (z ⟨384 + l.val, by omega⟩) * Ideal.tanh (newC z c l)

/-- The hidden state and the cell after `n` inputs. -/
def st (Wx : Fin D → Fin 512 → EReal) (Wh : Fin 128 → Fin 512 → EReal) (b : Fin 512 → EReal) (xs : ℕ → Fin D → EReal) : ℕ → (Fin 128 → EReal) × (Fin 128 → EReal)
  | 0 => (fun _ => 0, fun _ => 0)
  | n + 1 => (newH (gate Wx Wh b (xs n) (st Wx Wh b xs n).1) (st Wx Wh b xs n).2, newC (gate Wx Wh b (xs n) (st Wx Wh b xs n).1) (st Wx Wh b xs n).2)

theorem st_real (Wx : Fin D → Fin 512 → EReal) (Wh : Fin 128 → Fin 512 → EReal) (b : Fin 512 → EReal) (xs : ℕ → Fin D → EReal) :
    ∀ n l, IsR ((st Wx Wh b xs n).1 l) ∧ IsR ((st Wx Wh b xs n).2 l)
  | 0, _ => ⟨IsR.zero, IsR.zero⟩
  | n + 1, l => by
    refine ⟨(sg_real _).mul (tanh_real _), ?_⟩
    exact ((sg_real _).mul (st_real Wx Wh b xs n l).2).add ((sg_real _).mul (tanh_real _))

/-- The states depend on the inputs so far only. -/
theorem st_congr (Wx : Fin D → Fin 512 → EReal) (Wh : Fin 128 → Fin 512 → EReal) (b : Fin 512 → EReal) (xs ys : ℕ → Fin D → EReal) :
    ∀ n, (∀ k < n, xs k = ys k) → st Wx Wh b xs n = st Wx Wh b ys n
  | 0, _ => rfl
  | n + 1, h => by
    have e := st_congr Wx Wh b xs ys n fun k hk => h k (by omega)
    simp only [st, e, h n (by omega)]

/-- The kernel's one long product: the row and its remainder twice, the hidden state and its remainder twice, against the
    scaled weights and their remainders, is the scaled sum of the two plain products. -/
theorem long_dot {N : ℕ} (hN : N = D + (D + (D + (D + (128 + (128 + (128 + 128))))))) (op wb : Fin N → EReal) (x wx : Fin D → EReal) (h wh : Fin 128 → EReal) {g : ℝ} (hg : 0 < g)
    (hx : ∀ k, x k ≠ ⊤) (hh : ∀ k, IsR (h k)) (hwx : ∀ k, IsR (wx k)) (hwh : ∀ k, IsR (wh k))
    (o1 : ∀ k : Fin D, op ⟨k.val, by omega⟩ = x k) (o2 : ∀ k : Fin D, op ⟨D + k.val, by omega⟩ = x k - x k)
    (o3 : ∀ k : Fin D, op ⟨D + (D + k.val), by omega⟩ = x k) (o4 : ∀ k : Fin D, op ⟨D + (D + (D + k.val)), by omega⟩ = x k - x k)
    (o5 : ∀ k : Fin 128, op ⟨D + (D + (D + (D + k.val))), by omega⟩ = h k) (o6 : ∀ k : Fin 128, op ⟨D + (D + (D + (D + (128 + k.val)))), by omega⟩ = h k - h k)
    (o7 : ∀ k : Fin 128, op ⟨D + (D + (D + (D + (128 + (128 + k.val))))), by omega⟩ = h k) (o8 : ∀ k : Fin 128, op ⟨D + (D + (D + (D + (128 + (128 + (128 + k.val)))))), by omega⟩ = h k - h k)
    (w1 : ∀ k : Fin D, wb ⟨k.val, by omega⟩ = wx k * g) (w2 : ∀ k : Fin D, wb ⟨D + k.val, by omega⟩ = wx k * g - wx k * g)
    (w3 : ∀ k : Fin D, wb ⟨D + (D + k.val), by omega⟩ = wx k * g - wx k * g) (w4 : ∀ k : Fin D, wb ⟨D + (D + (D + k.val)), by omega⟩ = wx k * g)
    (w5 : ∀ k : Fin 128, wb ⟨D + (D + (D + (D + k.val))), by omega⟩ = wh k * g) (w6 : ∀ k : Fin 128, wb ⟨D + (D + (D + (D + (128 + k.val)))), by omega⟩ = wh k * g - wh k * g)
    (w7 : ∀ k : Fin 128, wb ⟨D + (D + (D + (D + (128 + (128 + k.val))))), by omega⟩ = wh k * g - wh k * g) (w8 : ∀ k : Fin 128, wb ⟨D + (D + (D + (D + (128 + (128 + (128 + k.val)))))), by omega⟩ = wh k * g) :
    ∑ k, op k * wb k = g * (∑ k, x k * wx k + ∑ k, h k * wh k) := by
  have rx : ∀ k, IsR (wx k * g) := fun k => (hwx k).mul ⟨g, rfl⟩
  have rh : ∀ k, IsR (wh k * g) := fun k => (hwh k).mul ⟨g, rfl⟩
  rw [sum_cut hN, sum_cut rfl fun k : Fin (D + _) => _, sum_cut rfl fun k : Fin (D + _) => _, sum_cut rfl fun k : Fin (D + _) => _, sum_cut rfl fun k : Fin (128 + _) => _,
    sum_cut rfl fun k : Fin (128 + _) => _, sum_cut rfl fun k : Fin (128 + _) => _]
  simp only [o1, o2, o3, o4, o5, o6, o7, o8, w1, w2, w3, w4, w5, w6, w7, w8, (rx _).sub_self, (rh _).sub_self, (hh _).sub_self, mul_zero, zero_mul, Finset.sum_const_zero, zero_add, add_zero]
  rw [← add_assoc, ← Finset.sum_add_distrib, mul_add_pos hg, mul_sum_pos hg, mul_sum_pos hg]
  congr 1
  · refine Finset.sum_congr rfl fun k _ => ?_
    rw [split_mul (hx k) (rx k), mul_comm (wx k), mul_left_comm]
  · refine Finset.sum_congr rfl fun k _ => ?_
    rw [mul_comm (wh k), mul_left_comm]

end

/-! ## The pooling -/

/-- A hidden state's weight. -/
def att (aw : Fin 256 → EReal) (ab : EReal) (h : Fin 256 → EReal) : EReal := Ideal.exp (Ideal.tanh (∑ k, h k * aw k + ab))

theorem att_real (aw : Fin 256 → EReal) (ab : EReal) (h : Fin 256 → EReal) : ∃ r : ℝ, 0 < r ∧ att aw ab h = (r : EReal) := by
  obtain ⟨t, ht⟩ := tanh_real (∑ k, h k * aw k + ab)
  exact ⟨Real.exp t, Real.exp_pos t, by rw [att, ht]; rfl⟩

/-- The constant the sum of the weights is kept off zero by. -/
abbrev eps : EReal := Ideal.ofBits .f32 0x33D6BF95#32

/-- Sums of real numbers are real sums. -/
theorem coe_sum {n : ℕ} (f : Fin n → ℝ) : ∑ k, (f k : EReal) = ((∑ k, f k : ℝ) : EReal) :=
  (map_sum (⟨⟨fun x : ℝ => (x : EReal), EReal.coe_zero⟩, EReal.coe_add⟩ : ℝ →+ EReal) f Finset.univ).symm

/-- Dividing the weighted sum by the weights' sum is summing with divided weights. -/
theorem pool_eq {T : ℕ} (a h : Fin T → EReal) (ha : ∀ t, ∃ r : ℝ, 0 < r ∧ a t = (r : EReal)) (hh : ∀ t, IsR (h t)) :
    (∑ t, a t * h t) * Ideal.div 1 (∑ t, a t + eps) = ∑ t, h t * Ideal.div (a t) (∑ s, a s + eps) := by
  choose ar hap har using ha
  choose hr hhr using hh
  obtain ⟨e, he, hee⟩ := eps_bits
  have hden : (∑ t, ar t) + e ≠ 0 := by have := Finset.sum_nonneg (s := Finset.univ) fun t _ => (hap t).le; positivity
  have hden' : (((∑ t, ar t) + e : ℝ) : EReal) ≠ 0 := by rw [← EReal.coe_zero, Ne, EReal.coe_eq_coe_iff]; exact hden
  simp only [har, hhr, eps, hee, coe_sum, ← EReal.coe_mul, ← EReal.coe_add, Ideal.div, if_neg hden', ← EReal.coe_inv, ← EReal.coe_one]
  rw [Finset.sum_mul]
  congr 1
  exact Finset.sum_congr rfl fun t _ => by ring

end Cert.Spec

end
-- ==== Proof.RefStep.lean ====
/-
  One trip of each of the reference's loops: the row it reads, the state it leaves, the row it writes.
-/
module

public import proofs.«01_k».proof.Proof.RefRun
public import proofs.«01_k».proof.Proof.Spec
public import Idealize.ShloMosaic.Lib.Pointwise
public import Idealize.ShloMosaic.Lib.StableHlo.RunRead

@[expose] public section

set_option maxRecDepth 20000

noncomputable section

namespace Cert.ReferenceIdeal.Ref

open Cert.ReferenceIdeal Cert.ReferenceIdeal.Gen
open Idealize.ShloMosaic Idealize.ShloMosaic.TcCoe
open Idealize.ShloMosaic.StableHlo (after afterL atTrip)

variable {F : FTy → Type} [FloatOps F]

/-! ## The words: 1024 rows at a time -/

def oneW : FVec F S1024x128 .f32 := broadcastInDim S1024x128 ![] bcast_S_S1024x128 (constant S_ .f32 0x3F800000#32)
def sgW (z : FVec F S1024x128 .f32) : FVec F S1024x128 .f32 := Host.divf oneW (addf oneW (Host.exp (Host.negf z)))
def zW (x : FVec F S1024x64 .f32) (Wx : FVec F S64x512 .f32) (Wh : FVec F S128x512 .f32) (b : FVec F S512 .f32) (h : FVec F S1024x128 .f32) : FVec F S1024x512 .f32 :=
  addf (addf (Host.dotGeneral dot_S1024x64_S64x512_S1024x512_1_0_0_1_n_n none x Wx) (Host.dotGeneral dot_S1024x128_S128x512_S1024x512_1_0_0_1_n_n none h Wh))
    (broadcastInDim S1024x512 ![0, 1] bcast_S1x512_S1024x512_0_1 (broadcastInDim S1x512 ![1] bcast_S512_S1x512_1 b))
def cW (z : FVec F S1024x512 .f32) (c : FVec F S1024x128 .f32) : FVec F S1024x128 .f32 :=
  addf (mulf (sgW (extractStridedSlice S1024x128 ![0, 128] z slices_S1024x512_S1024x128_0_128)) c)
    (mulf (sgW (extractStridedSlice S1024x128 ![0, 0] z slices_S1024x512_S1024x128_0_0)) (Host.tanh (extractStridedSlice S1024x128 ![0, 256] z slices_S1024x512_S1024x128_0_256)))
def hW (z : FVec F S1024x512 .f32) (c : FVec F S1024x128 .f32) : FVec F S1024x128 .f32 :=
  mulf (sgW (extractStridedSlice S1024x128 ![0, 384] z slices_S1024x512_S1024x128_0_384)) (Host.tanh (cW z c))
def xW (xs : FVec F S64x1024x64 .f32) (i : IVec S_ 32) : FVec F S1024x64 .f32 :=
  shapeCast S1024x64 (Host.dynamicSlice S1x1024x64 xs (fun k => ((![i, constantI S_ 32 0#32, constantI S_ 32 0#32] k) (Shape.Idx.first h_S_)).toInt) sliceFits_S64x1024x64_S1x1024x64)
    shapeCasts_S1x1024x64_S1024x64
def ysW (ys : FVec F S64x1024x128 .f32) (h : FVec F S1024x128 .f32) (i : IVec S_ 32) : FVec F S64x1024x128 .f32 :=
  Host.dynamicUpdateSlice ys (broadcastInDim S1x1024x128 ![1, 2] bcast_S1024x128_S1x1024x128_1_2 h)
    (fun k => ((![i, constantI S_ 32 0#32, constantI S_ 32 0#32] k) (Shape.Idx.first h_S_)).toInt) updateFits_S64x1024x128_S1x1024x128

/-- The start of the row read or written: the trip's number, -/
theorem start_toInt (n : ℕ) (hn : n < 64) : (BitVec.ofNat 32 n : BitVec 32).toInt = n :=
  (by decide : ∀ k : Fin 64, (BitVec.ofNat 32 k.val : BitVec 32).toInt = k.val) ⟨n, hn⟩

theorem xW_apply (xs : FVec Ideal S64x1024x64 .f32) (n : ℕ) (hn : n < 64) (r : Fin 1024) (k : Fin 64) :
    xW xs (fun _ => (BitVec.ofNat 32 n : BitVec 32)) (ix2 r k) = xs (ix3 ⟨n, hn⟩ r k) := by
  pointwise [xW]
  congr 2 <;> apply Fin.ext <;> simp [Host.clampedStart, start_toInt n hn]
  all_goals omega
theorem ysW_apply (ys : FVec Ideal S64x1024x128 .f32) (h : FVec Ideal S1024x128 .f32) (n : ℕ) (hn : n < 64) (t : Fin 64) (r : Fin 1024) (k : Fin 128) :
    ysW ys h (fun _ => (BitVec.ofNat 32 n : BitVec 32)) (ix3 t r k) = if t.val = n then h (ix2 r k) else ys (ix3 t r k) := by
  pointwise [ysW]
  simp [Host.clampedStart, start_toInt n hn]
  split <;> split <;> first | rfl | omega

theorem zW_apply (x : FVec Ideal S1024x64 .f32) (Wx : FVec Ideal S64x512 .f32) (Wh : FVec Ideal S128x512 .f32) (b : FVec Ideal S512 .f32) (h : FVec Ideal S1024x128 .f32) (r : Fin 1024) (j : Fin 512) :
    zW x Wx Wh b h (ix2 r j) = Spec.gate (fun k j => Wx (ix2 k j)) (fun k j => Wh (ix2 k j)) (fun j => b (ix1 j)) (fun k => x (ix2 r k)) (fun k => h (ix2 r k)) j := by
  pointwise [zW, Spec.gate]
theorem cW_apply (z : FVec Ideal S1024x512 .f32) (c : FVec Ideal S1024x128 .f32) (r : Fin 1024) (l : Fin 128) :
    cW z c (ix2 r l) = Spec.newC (fun j => z (ix2 r j)) (fun l => c (ix2 r l)) l := by
  pointwise [cW, sgW, oneW, Spec.newC, Spec.sg, Ideal.logistic]
theorem hW_apply (z : FVec Ideal S1024x512 .f32) (c : FVec Ideal S1024x128 .f32) (r : Fin 1024) (l : Fin 128) :
    hW z c (ix2 r l) = Spec.newH (fun j => z (ix2 r j)) (fun l => c (ix2 r l)) l := by
  pointwise [hW, cW, sgW, oneW, Spec.newC, Spec.newH, Spec.sg, Ideal.logistic]

/-- Loop 0 reads the trip's row, -/
theorem row0 (V : Valuation τ sig (Elt F)) : after body0_0 V main_while0b_v75 = xW (V main_v6_0) (V main_v6_4) := by
  after_reads_simp
  show shapeCast S1024x64 (Host.dynamicSlice S1x1024x64 (V main_v6_0) _ sliceFits_S64x1024x64_S1x1024x64) _ = _
  unfold xW
  refine congrArg (fun s => shapeCast S1024x64 (Host.dynamicSlice S1x1024x64 (V main_v6_0) s sliceFits_S64x1024x64_S1x1024x64) shapeCasts_S1x1024x64_S1024x64) (funext fun k => ?_)
  match k with
  | ⟨0, _⟩ => rfl
  | ⟨1, _⟩ => rfl
  | ⟨2, _⟩ => rfl
/-- writes the new state as the trip's row of the result, -/
theorem put0 (V : Valuation τ sig (Elt F)) : after body0_2 V main_while0b_v110 = ysW (V main_v6_7) (V main_while0b_v109) (V main_v6_4) := by
  after_reads_simp
  show Host.dynamicUpdateSlice (V main_v6_7) (broadcastInDim S1x1024x128 ![1, 2] bcast_S1024x128_S1x1024x128_1_2 (V main_while0b_v109)) _ updateFits_S64x1024x128_S1x1024x128 = _
  unfold ysW
  refine congrArg (fun s => Host.dynamicUpdateSlice (V main_v6_7) (broadcastInDim S1x1024x128 ![1, 2] bcast_S1024x128_S1x1024x128_1_2 (V main_while0b_v109)) s updateFits_S64x1024x128_S1x1024x128) (funext fun k => ?_)
  match k with
  | ⟨0, _⟩ => rfl
  | ⟨1, _⟩ => rfl
  | ⟨2, _⟩ => rfl
theorem copy0 (V : Valuation τ sig (Elt F)) : after body0_3 V main_v6_7 = V main_while0b_v110 := by
  after_reads_simp
  rfl

/-- The gates' arguments in loop 0's trip. -/
def z0 (V : Valuation τ sig (Elt F)) : FVec F S1024x512 .f32 := zW (xW (V main_v6_0) (V main_v6_4)) (V main_v6_1) (V main_v6_2) (V main_v6_3) (V main_v6_5)

/-- What a trip of loop 0 leaves: the new hidden state, the new cell, the result with the trip's row written. -/
theorem next0 (V : Valuation τ sig (Elt F)) :
    afterL bodyI0 (after condOps0 V) main_v6_5 = hW (z0 V) (V main_v6_6) ∧ afterL bodyI0 (after condOps0 V) main_v6_6 = cW (z0 V) (V main_v6_6)
      ∧ afterL bodyI0 (after condOps0 V) main_v6_7 = ysW (V main_v6_7) (hW (z0 V) (V main_v6_6)) (V main_v6_4) := by
  have k' (b : Ref sig .tc) (h : b ∉ condW0) : after condOps0 V b = V b := StableHlo.after_unwritten condW0 rfl h V
  have k (b : Ref sig .tc) (h : b ∉ [main_while0b_call1_c, main_while0b_call1_c_0, main_while0b_call1_v0, main_while0b_v75]) (h' : b ∉ condW0) :
      after body0_0 (after condOps0 V) b = V b :=
    (StableHlo.after_unwritten _ rfl h _).trans (k' b h')
  have e := row0 (after condOps0 V)
  rw [k' main_v6_0 (by decide), k' main_v6_4 (by decide)] at e
  have k1 := k main_v6_1 (by decide) (by decide)
  have k2 := k main_v6_2 (by decide) (by decide)
  have k3 := k main_v6_3 (by decide) (by decide)
  have k4 := k main_v6_4 (by decide) (by decide)
  have k5 := k main_v6_5 (by decide) (by decide)
  have k6 := k main_v6_6 (by decide) (by decide)
  have k7 := k main_v6_7 (by decide) (by decide)
  simp only [StableHlo.afterL_cons, StableHlo.afterL_nil, z0]
  generalize after body0_0 (after condOps0 V) = U at *
  clear k
  rw [← e, ← k1, ← k2, ← k3, ← k4, ← k5, ← k6, ← k7]
  refine ⟨?_, ?_, ?_⟩
  · after_reads_simp
    rfl
  · after_reads_simp
    rfl
  · rw [copy0, put0]
    after_reads_simp
    rfl

/-- Loop 1 reads the trip's row, -/
theorem row1 (V : Valuation τ sig (Elt F)) : after body1_0 V main_while1b_v75 = xW (V main_v13_0) (V main_v13_4) := by
  after_reads_simp
  show shapeCast S1024x64 (Host.dynamicSlice S1x1024x64 (V main_v13_0) _ sliceFits_S64x1024x64_S1x1024x64) _ = _
  unfold xW
  refine congrArg (fun s => shapeCast S1024x64 (Host.dynamicSlice S1x1024x64 (V main_v13_0) s sliceFits_S64x1024x64_S1x1024x64) shapeCasts_S1x1024x64_S1024x64) (funext fun k => ?_)
  match k with
  | ⟨0, _⟩ => rfl
  | ⟨1, _⟩ => rfl
  | ⟨2, _⟩ => rfl
/-- writes the new state as the trip's row of the result, -/
theorem put1 (V : Valuation τ sig (Elt F)) : after body1_2 V main_while1b_v110 = ysW (V main_v13_7) (V main_while1b_v109) (V main_v13_4) := by
  after_reads_simp
  show Host.dynamicUpdateSlice (V main_v13_7) (broadcastInDim S1x1024x128 ![1, 2] bcast_S1024x128_S1x1024x128_1_2 (V main_while1b_v109)) _ updateFits_S64x1024x128_S1x1024x128 = _
  unfold ysW
  refine congrArg (fun s => Host.dynamicUpdateSlice (V main_v13_7) (broadcastInDim S1x1024x128 ![1, 2] bcast_S1024x128_S1x1024x128_1_2 (V main_while1b_v109)) s updateFits_S64x1024x128_S1x1024x128) (funext fun k => ?_)
  match k with
  | ⟨0, _⟩ => rfl
  | ⟨1, _⟩ => rfl
  | ⟨2, _⟩ => rfl
theorem copy1 (V : Valuation τ sig (Elt F)) : after body1_3 V main_v13_7 = V main_while1b_v110 := by
  after_reads_simp
  rfl

/-- The gates' arguments in loop 1's trip. -/
def z1 (V : Valuation τ sig (Elt F)) : FVec F S1024x512 .f32 := zW (xW (V main_v13_0) (V main_v13_4)) (V main_v13_1) (V main_v13_2) (V main_v13_3) (V main_v13_5)

/-- What a trip of loop 1 leaves: the new hidden state, the new cell, the result with the trip's row written. -/
theorem next1 (V : Valuation τ sig (Elt F)) :
    afterL bodyI1 (after condOps1 V) main_v13_5 = hW (z1 V) (V main_v13_6) ∧ afterL bodyI1 (after condOps1 V) main_v13_6 = cW (z1 V) (V main_v13_6)
      ∧ afterL bodyI1 (after condOps1 V) main_v13_7 = ysW (V main_v13_7) (hW (z1 V) (V main_v13_6)) (V main_v13_4) := by
  have k' (b : Ref sig .tc) (h : b ∉ condW1) : after condOps1 V b = V b := StableHlo.after_unwritten condW1 rfl h V
  have k (b : Ref sig .tc) (h : b ∉ [main_while1b_call3_c, main_while1b_call3_c_0, main_while1b_call3_v0, main_while1b_v75]) (h' : b ∉ condW1) :
      after body1_0 (after condOps1 V) b = V b :=
    (StableHlo.after_unwritten _ rfl h _).trans (k' b h')
  have e := row1 (after condOps1 V)
  rw [k' main_v13_0 (by decide), k' main_v13_4 (by decide)] at e
  have k1 := k main_v13_1 (by decide) (by decide)
  have k2 := k main_v13_2 (by decide) (by decide)
  have k3 := k main_v13_3 (by decide) (by decide)
  have k4 := k main_v13_4 (by decide) (by decide)
  have k5 := k main_v13_5 (by decide) (by decide)
  have k6 := k main_v13_6 (by decide) (by decide)
  have k7 := k main_v13_7 (by decide) (by decide)
  simp only [StableHlo.afterL_cons, StableHlo.afterL_nil, z1]
  generalize after body1_0 (after condOps1 V) = U at *
  clear k
  rw [← e, ← k1, ← k2, ← k3, ← k4, ← k5, ← k6, ← k7]
  refine ⟨?_, ?_, ?_⟩
  · after_reads_simp
    rfl
  · after_reads_simp
    rfl
  · rw [copy1, put1]
    after_reads_simp
    rfl

/-! ## The sentences: 64 rows at a time -/

def oneS : FVec F S64x128 .f32 := broadcastInDim S64x128 ![] bcast_S_S64x128 (constant S_ .f32 0x3F800000#32)
def sgS (z : FVec F S64x128 .f32) : FVec F S64x128 .f32 := Host.divf oneS (addf oneS (Host.exp (Host.negf z)))
def zS (x : FVec F S64x256 .f32) (Wx : FVec F S256x512 .f32) (Wh : FVec F S128x512 .f32) (b : FVec F S512 .f32) (h : FVec F S64x128 .f32) : FVec F S64x512 .f32 :=
  addf (addf (Host.dotGeneral dot_S64x256_S256x512_S64x512_1_0_0_1_n_n none x Wx) (Host.dotGeneral dot_S64x128_S128x512_S64x512_1_0_0_1_n_n none h Wh))
    (broadcastInDim S64x512 ![0, 1] bcast_S1x512_S64x512_0_1 (broadcastInDim S1x512 ![1] bcast_S512_S1x512_1 b))
def cS (z : FVec F S64x512 .f32) (c : FVec F S64x128 .f32) : FVec F S64x128 .f32 :=
  addf (mulf (sgS (extractStridedSlice S64x128 ![0, 128] z slices_S64x512_S64x128_0_128)) c)
    (mulf (sgS (extractStridedSlice S64x128 ![0, 0] z slices_S64x512_S64x128_0_0)) (Host.tanh (extractStridedSlice S64x128 ![0, 256] z slices_S64x512_S64x128_0_256)))
def hS (z : FVec F S64x512 .f32) (c : FVec F S64x128 .f32) : FVec F S64x128 .f32 :=
  mulf (sgS (extractStridedSlice S64x128 ![0, 384] z slices_S64x512_S64x128_0_384)) (Host.tanh (cS z c))
def xS (xs : FVec F S16x64x256 .f32) (i : IVec S_ 32) : FVec F S64x256 .f32 :=
  shapeCast S64x256 (Host.dynamicSlice S1x64x256 xs (fun k => ((![i, constantI S_ 32 0#32, constantI S_ 32 0#32] k) (Shape.Idx.first h_S_)).toInt) sliceFits_S16x64x256_S1x64x256)
    shapeCasts_S1x64x256_S64x256
def ysS (ys : FVec F S16x64x128 .f32) (h : FVec F S64x128 .f32) (i : IVec S_ 32) : FVec F S16x64x128 .f32 :=
  Host.dynamicUpdateSlice ys (broadcastInDim S1x64x128 ![1, 2] bcast_S64x128_S1x64x128_1_2 h)
    (fun k => ((![i, constantI S_ 32 0#32, constantI S_ 32 0#32] k) (Shape.Idx.first h_S_)).toInt) updateFits_S16x64x128_S1x64x128

theorem xS_apply (xs : FVec Ideal S16x64x256 .f32) (n : ℕ) (hn : n < 16) (r : Fin 64) (k : Fin 256) :
    xS xs (fun _ => (BitVec.ofNat 32 n : BitVec 32)) (ix2 r k) = xs (ix3 ⟨n, hn⟩ r k) := by
  pointwise [xS]
  congr 2 <;> apply Fin.ext <;> simp [Host.clampedStart, start_toInt n (by omega)]
  all_goals omega
theorem ysS_apply (ys : FVec Ideal S16x64x128 .f32) (h : FVec Ideal S64x128 .f32) (n : ℕ) (hn : n < 16) (t : Fin 16) (r : Fin 64) (k : Fin 128) :
    ysS ys h (fun _ => (BitVec.ofNat 32 n : BitVec 32)) (ix3 t r k) = if t.val = n then h (ix2 r k) else ys (ix3 t r k) := by
  pointwise [ysS]
  simp [Host.clampedStart, start_toInt n (by omega)]
  split <;> split <;> first | rfl | omega

theorem zS_apply (x : FVec Ideal S64x256 .f32) (Wx : FVec Ideal S256x512 .f32) (Wh : FVec Ideal S128x512 .f32) (b : FVec Ideal S512 .f32) (h : FVec Ideal S64x128 .f32) (r : Fin 64) (j : Fin 512) :
    zS x Wx Wh b h (ix2 r j) = Spec.gate (fun k j => Wx (ix2 k j)) (fun k j => Wh (ix2 k j)) (fun j => b (ix1 j)) (fun k => x (ix2 r k)) (fun k => h (ix2 r k)) j := by
  pointwise [zS, Spec.gate]
theorem cS_apply (z : FVec Ideal S64x512 .f32) (c : FVec Ideal S64x128 .f32) (r : Fin 64) (l : Fin 128) :
    cS z c (ix2 r l) = Spec.newC (fun j => z (ix2 r j)) (fun l => c (ix2 r l)) l := by
  pointwise [cS, sgS, oneS, Spec.newC, Spec.sg, Ideal.logistic]
theorem hS_apply (z : FVec Ideal S64x512 .f32) (c : FVec Ideal S64x128 .f32) (r : Fin 64) (l : Fin 128) :
    hS z c (ix2 r l) = Spec.newH (fun j => z (ix2 r j)) (fun l => c (ix2 r l)) l := by
  pointwise [hS, cS, sgS, oneS, Spec.newC, Spec.newH, Spec.sg, Ideal.logistic]

/-- Loop 2 reads the trip's row, -/
theorem row2 (V : Valuation τ sig (Elt F)) : after body2_0 V main_while2b_v75 = xS (V main_v38_0) (V main_v38_4) := by
  after_reads_simp
  show shapeCast S64x256 (Host.dynamicSlice S1x64x256 (V main_v38_0) _ sliceFits_S16x64x256_S1x64x256) _ = _
  unfold xS
  refine congrArg (fun s => shapeCast S64x256 (Host.dynamicSlice S1x64x256 (V main_v38_0) s sliceFits_S16x64x256_S1x64x256) shapeCasts_S1x64x256_S64x256) (funext fun k => ?_)
  match k with
  | ⟨0, _⟩ => rfl
  | ⟨1, _⟩ => rfl
  | ⟨2, _⟩ => rfl
/-- writes the new state as the trip's row of the result, -/
theorem put2 (V : Valuation τ sig (Elt F)) : after body2_2 V main_while2b_v110 = ysS (V main_v38_7) (V main_while2b_v109) (V main_v38_4) := by
  after_reads_simp
  show Host.dynamicUpdateSlice (V main_v38_7) (broadcastInDim S1x64x128 ![1, 2] bcast_S64x128_S1x64x128_1_2 (V main_while2b_v109)) _ updateFits_S16x64x128_S1x64x128 = _
  unfold ysS
  refine congrArg (fun s => Host.dynamicUpdateSlice (V main_v38_7) (broadcastInDim S1x64x128 ![1, 2] bcast_S64x128_S1x64x128_1_2 (V main_while2b_v109)) s updateFits_S16x64x128_S1x64x128) (funext fun k => ?_)
  match k with
  | ⟨0, _⟩ => rfl
  | ⟨1, _⟩ => rfl
  | ⟨2, _⟩ => rfl
theorem copy2 (V : Valuation τ sig (Elt F)) : after body2_3 V main_v38_7 = V main_while2b_v110 := by
  after_reads_simp
  rfl

/-- The gates' arguments in loop 2's trip. -/
def z2 (V : Valuation τ sig (Elt F)) : FVec F S64x512 .f32 := zS (xS (V main_v38_0) (V main_v38_4)) (V main_v38_1) (V main_v38_2) (V main_v38_3) (V main_v38_5)

/-- What a trip of loop 2 leaves: the new hidden state, the new cell, the result with the trip's row written. -/
theorem next2 (V : Valuation τ sig (Elt F)) :
    afterL bodyI2 (after condOps2 V) main_v38_5 = hS (z2 V) (V main_v38_6) ∧ afterL bodyI2 (after condOps2 V) main_v38_6 = cS (z2 V) (V main_v38_6)
      ∧ afterL bodyI2 (after condOps2 V) main_v38_7 = ysS (V main_v38_7) (hS (z2 V) (V main_v38_6)) (V main_v38_4) := by
  have k' (b : Ref sig .tc) (h : b ∉ condW2) : after condOps2 V b = V b := StableHlo.after_unwritten condW2 rfl h V
  have k (b : Ref sig .tc) (h : b ∉ [main_while2b_call5_c, main_while2b_call5_c_0, main_while2b_call5_v0, main_while2b_v75]) (h' : b ∉ condW2) :
      after body2_0 (after condOps2 V) b = V b :=
    (StableHlo.after_unwritten _ rfl h _).trans (k' b h')
  have e := row2 (after condOps2 V)
  rw [k' main_v38_0 (by decide), k' main_v38_4 (by decide)] at e
  have k1 := k main_v38_1 (by decide) (by decide)
  have k2 := k main_v38_2 (by decide) (by decide)
  have k3 := k main_v38_3 (by decide) (by decide)
  have k4 := k main_v38_4 (by decide) (by decide)
  have k5 := k main_v38_5 (by decide) (by decide)
  have k6 := k main_v38_6 (by decide) (by decide)
  have k7 := k main_v38_7 (by decide) (by decide)
  simp only [StableHlo.afterL_cons, StableHlo.afterL_nil, z2]
  generalize after body2_0 (after condOps2 V) = U at *
  clear k
  rw [← e, ← k1, ← k2, ← k3, ← k4, ← k5, ← k6, ← k7]
  refine ⟨?_, ?_, ?_⟩
  · after_reads_simp
    rfl
  · after_reads_simp
    rfl
  · rw [copy2, put2]
    after_reads_simp
    rfl

/-- Loop 3 reads the trip's row, -/
theorem row3 (V : Valuation τ sig (Elt F)) : after body3_0 V main_while3b_v75 = xS (V main_v45_0) (V main_v45_4) := by
  after_reads_simp
  show shapeCast S64x256 (Host.dynamicSlice S1x64x256 (V main_v45_0) _ sliceFits_S16x64x256_S1x64x256) _ = _
  unfold xS
  refine congrArg (fun s => shapeCast S64x256 (Host.dynamicSlice S1x64x256 (V main_v45_0) s sliceFits_S16x64x256_S1x64x256) shapeCasts_S1x64x256_S64x256) (funext fun k => ?_)
  match k with
  | ⟨0, _⟩ => rfl
  | ⟨1, _⟩ => rfl
  | ⟨2, _⟩ => rfl
/-- writes the new state as the trip's row of the result, -/
theorem put3 (V : Valuation τ sig (Elt F)) : after body3_2 V main_while3b_v110 = ysS (V main_v45_7) (V main_while3b_v109) (V main_v45_4) := by
  after_reads_simp
  show Host.dynamicUpdateSlice (V main_v45_7) (broadcastInDim S1x64x128 ![1, 2] bcast_S64x128_S1x64x128_1_2 (V main_while3b_v109)) _ updateFits_S16x64x128_S1x64x128 = _
  unfold ysS
  refine congrArg (fun s => Host.dynamicUpdateSlice (V main_v45_7) (broadcastInDim S1x64x128 ![1, 2] bcast_S64x128_S1x64x128_1_2 (V main_while3b_v109)) s updateFits_S16x64x128_S1x64x128) (funext fun k => ?_)
  match k with
  | ⟨0, _⟩ => rfl
  | ⟨1, _⟩ => rfl
  | ⟨2, _⟩ => rfl
theorem copy3 (V : Valuation τ sig (Elt F)) : after body3_3 V main_v45_7 = V main_while3b_v110 := by
  after_reads_simp
  rfl

/-- The gates' arguments in loop 3's trip. -/
def z3 (V : Valuation τ sig (Elt F)) : FVec F S64x512 .f32 := zS (xS (V main_v45_0) (V main_v45_4)) (V main_v45_1) (V main_v45_2) (V main_v45_3) (V main_v45_5)

/-- What a trip of loop 3 leaves: the new hidden state, the new cell, the result with the trip's row written. -/
theorem next3 (V : Valuation τ sig (Elt F)) :
    afterL bodyI3 (after condOps3 V) main_v45_5 = hS (z3 V) (V main_v45_6) ∧ afterL bodyI3 (after condOps3 V) main_v45_6 = cS (z3 V) (V main_v45_6)
      ∧ afterL bodyI3 (after condOps3 V) main_v45_7 = ysS (V main_v45_7) (hS (z3 V) (V main_v45_6)) (V main_v45_4) := by
  have k' (b : Ref sig .tc) (h : b ∉ condW3) : after condOps3 V b = V b := StableHlo.after_unwritten condW3 rfl h V
  have k (b : Ref sig .tc) (h : b ∉ [main_while3b_call7_c, main_while3b_call7_c_0, main_while3b_call7_v0, main_while3b_v75]) (h' : b ∉ condW3) :
      after body3_0 (after condOps3 V) b = V b :=
    (StableHlo.after_unwritten _ rfl h _).trans (k' b h')
  have e := row3 (after condOps3 V)
  rw [k' main_v45_0 (by decide), k' main_v45_4 (by decide)] at e
  have k1 := k main_v45_1 (by decide) (by decide)
  have k2 := k main_v45_2 (by decide) (by decide)
  have k3 := k main_v45_3 (by decide) (by decide)
  have k4 := k main_v45_4 (by decide) (by decide)
  have k5 := k main_v45_5 (by decide) (by decide)
  have k6 := k main_v45_6 (by decide) (by decide)
  have k7 := k main_v45_7 (by decide) (by decide)
  simp only [StableHlo.afterL_cons, StableHlo.afterL_nil, z3]
  generalize after body3_0 (after condOps3 V) = U at *
  clear k
  rw [← e, ← k1, ← k2, ← k3, ← k4, ← k5, ← k6, ← k7]
  refine ⟨?_, ?_, ?_⟩
  · after_reads_simp
    rfl
  · after_reads_simp
    rfl
  · rw [copy3, put3]
    after_reads_simp
    rfl

end Cert.ReferenceIdeal.Ref

end
-- ==== Proof.Model.lean ====
/-
  The score both programs compute, as one formula of the arguments: the two LSTM passes over a sentence's words, their
  attention pooling, the two passes over a document's sentences, their pooling, the logistic of the linear classifier.
-/
module

public import proofs.«01_k».proof.Proof.Spec

@[expose] public section

noncomputable section

namespace Cert.Spec

open Idealize.ShloMosaic

/-- What an LSTM pass, an attention and the classifier are given. -/
structure Cell (D : ℕ) where
  wx : Fin D → Fin 512 → EReal
  wh : Fin 128 → Fin 512 → EReal
  b : Fin 512 → EReal

/-- The weights are real numbers (the biases may be anything). -/
def Cell.Real {D : ℕ} (L : Cell D) : Prop := (∀ k j, IsR (L.wx k j)) ∧ ∀ k j, IsR (L.wh k j)

/-- The hidden state and the cell after `n` inputs. -/
abbrev Cell.st {D : ℕ} (L : Cell D) (xs : ℕ → Fin D → EReal) (n : ℕ) := Spec.st L.wx L.wh L.b xs n

/-- The forward pass's state at position `t`, -/
def Cell.fwd {D : ℕ} (L : Cell D) (xs : ℕ → Fin D → EReal) (t : ℕ) : Fin 128 → EReal := (L.st xs (t + 1)).1
/-- and the backward pass's, which has read the positions from the last, `T - 1`, down to `t`. -/
def Cell.bwd {D : ℕ} (L : Cell D) (xs : ℕ → Fin D → EReal) (T t : ℕ) : Fin 128 → EReal := (L.st (fun k => xs (T - 1 - k)) (T - 1 - t + 1)).1

/-- Two states side by side. -/
def both (f g : Fin 128 → EReal) (i : Fin 256) : EReal := if h : i.val < 128 then f ⟨i.val, h⟩ else g ⟨i.val - 128, by omega⟩

/-- The attention pooling of the positions' states. -/
def ctx {T : ℕ} (aw : Fin 256 → EReal) (ab : Fin T → EReal) (H : Fin T → Fin 256 → EReal) (i : Fin 256) : EReal :=
  ∑ t, H t i * Ideal.div (att aw (ab t) (H t)) (∑ s, att aw (ab s) (H s) + eps)

/-- One level: both passes over `T` positions. -/
def level {D : ℕ} (T : ℕ) (f b : Cell D) (xs : ℕ → Fin D → EReal) (t : Fin T) : Fin 256 → EReal := both (f.fwd xs t) (b.bwd xs T t)

/-- Every parameter. -/
structure Par where
  wf : Cell 64
  wb : Cell 64
  waw : Fin 256 → EReal
  wab : Fin 64 → EReal
  sf : Cell 256
  sb : Cell 256
  saw : Fin 256 → EReal
  sab : Fin 16 → EReal
  cw : Fin 256 → EReal
  cb : EReal

/-- A sentence's vector, of its words' embeddings. -/
def Par.sent (P : Par) (x : ℕ → Fin 64 → EReal) : Fin 256 → EReal := ctx P.waw P.wab (level 64 P.wf P.wb x)
/-- A document's vector, of its sentences' vectors. -/
def Par.doc (P : Par) (s : ℕ → Fin 256 → EReal) : Fin 256 → EReal := ctx P.saw P.sab (level 16 P.sf P.sb s)
/-- Its score. -/
def Par.score (P : Par) (s : ℕ → Fin 256 → EReal) : EReal := sg (∑ k, P.doc s k * P.cw k + P.cb)

/-- A forward pass over the positions in reverse is the backward pass. -/
theorem Cell.fwd_rev {D : ℕ} (L : Cell D) (x y : ℕ → Fin D → EReal) (T t : ℕ) (ht : t < T) (h : ∀ k < T, y k = x (T - 1 - k)) : L.fwd y (T - 1 - t) = L.bwd x T t :=
  congrArg Prod.fst (st_congr L.wx L.wh L.b y (fun k => x (T - 1 - k)) (T - 1 - t + 1) fun k hk => h k (by omega))

theorem both_real {f g : Fin 128 → EReal} (hf : ∀ l, IsR (f l)) (hg : ∀ l, IsR (g l)) (i : Fin 256) : IsR (both f g i) := by
  unfold both; split
  · exact hf _
  · exact hg _
theorem level_real {D : ℕ} (T : ℕ) (f b : Cell D) (xs : ℕ → Fin D → EReal) (t : Fin T) (i : Fin 256) : IsR (level T f b xs t i) :=
  both_real (fun l => (st_real _ _ _ _ _ l).1) (fun l => (st_real _ _ _ _ _ l).1) i
theorem ctx_real {T : ℕ} (aw : Fin 256 → EReal) (ab : Fin T → EReal) (H : Fin T → Fin 256 → EReal) (hH : ∀ t i, IsR (H t i)) (i : Fin 256) : IsR (ctx aw ab H i) := by
  refine IsR.sum _ fun t => (hH t i).mul ?_
  choose r hr hre using fun s => att_real aw (ab s) (H s)
  obtain ⟨e, he, hee⟩ := eps_bits
  have hden : (∑ t, r t) + e ≠ 0 := by have := Finset.sum_nonneg (s := Finset.univ) fun t _ => (hr t).le; positivity
  have hden' : (((∑ t, r t) + e : ℝ) : EReal) ≠ 0 := by rw [← EReal.coe_zero, Ne, EReal.coe_eq_coe_iff]; exact hden
  simp only [hre, eps, hee, coe_sum, ← EReal.coe_add, Ideal.div, if_neg hden', ← EReal.coe_inv, ← EReal.coe_mul]
  exact ⟨_, rfl⟩

/-- The row of the embedding table a token names: a negative token counts from the end; a token outside the table names none. -/
def token (w : BitVec 32) : BitVec 32 := Scalar.select (IntOp.cmpi .slt w 0#32) (IntOp.addi w 100000#32) w
/-- The sequence given by its first `n` members. -/
def ext {n : ℕ} {α : Type} (z : α) (x : Fin n → α) (k : ℕ) : α := if h : k < n then x ⟨k, h⟩ else z

end Cert.Spec

end
-- ==== Proof.Take.lean ====
/-
  Rows taken of a table by a list or a matrix of row numbers, read at an index.
-/
module

public import proofs.«01_k».proof.Proof.Model
public import Idealize.ShloMosaic.Lib.Pointwise

@[expose] public section

namespace Cert.Spec

open Idealize.ShloMosaic

variable {α : Type}

/-- Taking rows of an `N × D` table by a column of `n` row numbers, -/
abbrev rows1 (N D n : ℕ) (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf
/-- and by an `n × p` matrix of them. -/
abbrev rows2 (N D n p : ℕ) (wf : GatherDims.WF ⟨2, ![N, D]⟩ ⟨3, ![n, p, 1]⟩ ⟨3, ![n, p, D]⟩ [2] [0] [] [0] [] 2 ![1, D]) :
    GatherDims ⟨2, ![N, D]⟩ ⟨3, ![n, p, 1]⟩ ⟨3, ![n, p, D]⟩ where
  offsetDims := [2]
  collapsedSliceDims := [0]
  operandBatchingDims := []
  startIndicesBatchingDims := []
  startIndexMap := [0]
  indexVectorDim := 2
  sliceSizes := ![1, D]
  wf := wf

/-- Entry `(i, k)` of the rows taken is entry `k` of the named row, its number clamped into the table. -/
theorem rows1_apply {N D n : ℕ} (hN : 0 < N) (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ 32) (i : Fin n) (k : Fin D) :
    Host.gather (rows1 N D n wf) x idx (ix2 i k) = x (ix2 ⟨min (idx (ix2 i (0 : Fin 1))).toInt.toNat (N - 1), by omega⟩ k) := by
  unfold Host.gather
  refine congrArg x (funext fun a => Fin.ext ?_)
  show (rows1 N D n wf).start (ix2 i k) idx a + (rows1 N D n wf).batchCoord (ix2 i k) a + (rows1 N D n wf).offCoord (ix2 i k) a = _
  rw [GatherDims.batchCoord_eq_zero _ _ _ (fun h => by simp at h)]
  match a with
  | ⟨0, _⟩ =>
    show (rows1 N D n wf).start (ix2 i k) idx (0 : Fin 2) + 0 + (rows1 N D n wf).offCoord (ix2 i k) (0 : Fin 2) = _
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows1 N D n wf).startIndexMap from List.mem_singleton.mpr rfl)]
    have hsi : (rows1 N D n wf).siIdx (ix2 i k) ⟨List.idxOf (0 : Fin 2) (rows1 N D n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show (rows1 N D n wf).start (ix2 i k) idx (1 : Fin 2) + 0 + (rows1 N D n wf).offCoord (ix2 i k) (1 : Fin 2) = _
    unfold GatherDims.start
    rw [dif_neg (show (1 : Fin 2) ∉ ([0] : List (Fin 2)) from by decide)]
    simp only [Nat.zero_add]
    rfl
theorem rows2_apply {N D n p : ℕ} (hN : 0 < N) (wf : GatherDims.WF ⟨2, ![N, D]⟩ ⟨3, ![n, p, 1]⟩ ⟨3, ![n, p, D]⟩ [2] [0] [] [0] [] 2 ![1, D])
    (x : (⟨2, ![N, D]⟩ : Shape).Idx → α) (idx : IVec ⟨3, ![n, p, 1]⟩ 32) (i : Fin n) (j : Fin p) (k : Fin D) :
    Host.gather (rows2 N D n p wf) x idx (ix3 i j k) = x (ix2 ⟨min (idx (ix3 i j (0 : Fin 1))).toInt.toNat (N - 1), by omega⟩ k) := by
  unfold Host.gather
  refine congrArg x (funext fun a => Fin.ext ?_)
  show (rows2 N D n p wf).start (ix3 i j k) idx a + (rows2 N D n p wf).batchCoord (ix3 i j k) a + (rows2 N D n p wf).offCoord (ix3 i j k) a = _
  rw [GatherDims.batchCoord_eq_zero _ _ _ (fun h => by simp at h)]
  match a with
  | ⟨0, _⟩ =>
    show (rows2 N D n p wf).start (ix3 i j k) idx (0 : Fin 2) + 0 + (rows2 N D n p wf).offCoord (ix3 i j k) (0 : Fin 2) = _
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows2 N D n p wf).startIndexMap from List.mem_singleton.mpr rfl)]
    have hsi : (rows2 N D n p wf).siIdx (ix3 i j k) ⟨List.idxOf (0 : Fin 2) (rows2 N D n p wf).startIndexMap,
        List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi]
    rfl
  | ⟨1, _⟩ =>
    show (rows2 N D n p wf).start (ix3 i j k) idx (1 : Fin 2) + 0 + (rows2 N D n p wf).offCoord (ix3 i j k) (1 : Fin 2) = _
    unfold GatherDims.start
    rw [dif_neg (show (1 : Fin 2) ∉ ([0] : List (Fin 2)) from by decide)]
    simp only [Nat.zero_add]
    rfl

/-- A pass's weights from their arrays. -/
noncomputable def cellOf {D : ℕ} (Wx : FVec Ideal ⟨2, ![D, 512]⟩ .f32) (Wh : FVec Ideal ⟨2, ![128, 512]⟩ .f32) (b : FVec Ideal ⟨1, ![512]⟩ .f32) : Cell D :=
  ⟨fun k j => Wx (ix2 k j), fun k j => Wh (ix2 k j), fun j => b (ix1 j)⟩
/-- Every parameter from the programs' arguments 2 to 19. -/
noncomputable def parOf (a2 : FVec Ideal ⟨2, ![64, 512]⟩ .f32) (a3 : FVec Ideal ⟨2, ![128, 512]⟩ .f32) (a4 : FVec Ideal ⟨1, ![512]⟩ .f32)
    (a5 : FVec Ideal ⟨2, ![64, 512]⟩ .f32) (a6 : FVec Ideal ⟨2, ![128, 512]⟩ .f32) (a7 : FVec Ideal ⟨1, ![512]⟩ .f32)
    (a8 : FVec Ideal ⟨1, ![256]⟩ .f32) (a9 : FVec Ideal ⟨1, ![64]⟩ .f32)
    (a10 : FVec Ideal ⟨2, ![256, 512]⟩ .f32) (a11 : FVec Ideal ⟨2, ![128, 512]⟩ .f32) (a12 : FVec Ideal ⟨1, ![512]⟩ .f32)
    (a13 : FVec Ideal ⟨2, ![256, 512]⟩ .f32) (a14 : FVec Ideal ⟨2, ![128, 512]⟩ .f32) (a15 : FVec Ideal ⟨1, ![512]⟩ .f32)
    (a16 : FVec Ideal ⟨1, ![256]⟩ .f32) (a17 : FVec Ideal ⟨1, ![16]⟩ .f32) (a18 : FVec Ideal ⟨2, ![256, 1]⟩ .f32) (a19 : FVec Ideal ⟨1, ![1]⟩ .f32) : Par where
  wf := cellOf a2 a3 a4
  wb := cellOf a5 a6 a7
  waw k := a8 (ix1 k)
  wab t := a9 (ix1 t)
  sf := cellOf a10 a11 a12
  sb := cellOf a13 a14 a15
  saw k := a16 (ix1 k)
  sab t := a17 (ix1 t)
  cw k := a18 (ix2 k (0 : Fin 1))
  cb := a19 (ix1 (0 : Fin 1))

/-- The embedding of a token: its row of the table, or the fill value where it names none. -/
noncomputable def embed (E : FVec Ideal ⟨2, ![100000, 64]⟩ .f32) (w : BitVec 32) (k : Fin 64) : EReal :=
  if IntOp.andi (IntOp.cmpi .sge (token w) 0#32) (IntOp.cmpi .sle (token w) 99999#32) = 1#1 then E (ix2 ⟨min (token w).toInt.toNat (100000 - 1), by omega⟩ k) else Ideal.ofBits .f32 0x7FC00000#32

/-- The embeddings of the words of sentence `s` of document `d`, -/
noncomputable def words (E : FVec Ideal ⟨2, ![100000, 64]⟩ .f32) (tok : IVec ⟨3, ![64, 16, 64]⟩ 32) (d : Fin 64) (s : Fin 16) : ℕ → Fin 64 → EReal :=
  ext (fun _ => 0) fun t : Fin 64 => embed E (tok (ix3 d s t))
/-- and the vectors of the sentences of document `d`. -/
noncomputable def sents (P : Par) (E : FVec Ideal ⟨2, ![100000, 64]⟩ .f32) (tok : IVec ⟨3, ![64, 16, 64]⟩ 32) (d : Fin 64) : ℕ → Fin 256 → EReal :=
  ext (fun _ => 0) fun s : Fin 16 => P.sent (words E tok d s)

/-- A bit folded from one bit is that bit. -/
theorem fold_bit (b : BitVec 1) : Finset.fold IntOp.andi 1#1 (fun _ : Fin 1 => b) Finset.univ = b := by
  rw [Finset.univ_unique, Finset.fold_singleton]
  revert b; decide

/-- It is below `⊤` where the table is real: the fill value is `⊥`. -/
theorem embed_ne_top {E : FVec Ideal ⟨2, ![100000, 64]⟩ .f32} (h : ∀ i k, IsR (E (ix2 i k))) (w : BitVec 32) (k : Fin 64) : embed E w k ≠ ⊤ := by
  unfold embed
  split
  · exact (h _ _).ne_top
  · simp [Ideal.ofBits, Ideal.ieee]

end Cert.Spec
-- ==== Proof.RefLoop.lean ====
/-
  The reference's loops, trip by trip: the states each pass leaves at every position, of what the loop entered with.
-/
module

public import proofs.«01_k».proof.Proof.RefStep
public import proofs.«01_k».proof.Proof.Take

@[expose] public section

set_option maxRecDepth 20000

noncomputable section

namespace Cert.ReferenceIdeal.Ref

open Cert.ReferenceIdeal Cert.ReferenceIdeal.Gen
open Idealize.ShloMosaic Idealize.ShloMosaic.TcCoe
open Idealize.ShloMosaic.StableHlo (after afterL atTrip)

/-- A row of a loop's input, position by position. -/
def seq {T R D : ℕ} (xs : FVec Ideal ⟨3, ![T, R, D]⟩ .f32) (r : Fin R) : ℕ → Fin D → EReal := Spec.ext (fun _ => 0) fun t k => xs (ix3 t r k)

/-- The word passes: the states after `n` trips, and the result's rows so far. -/
theorem tripsW (xs : FVec Ideal S64x1024x64 .f32) (Wx : FVec Ideal S64x512 .f32) (Wh : FVec Ideal S128x512 .f32) (b : FVec Ideal S512 .f32)
    (h c : ℕ → FVec Ideal S1024x128 .f32) (ys : ℕ → FVec Ideal S64x1024x128 .f32) (ct : ℕ → IVec S_ 32) (hct : ∀ n, ct n = fun _ => (BitVec.ofNat 32 n : BitVec 32))
    (h0 : ∀ r l, h 0 (ix2 r l) = 0) (c0 : ∀ r l, c 0 (ix2 r l) = 0)
    (hh : ∀ n, h (n + 1) = hW (zW (xW xs (ct n)) Wx Wh b (h n)) (c n))
    (hc : ∀ n, c (n + 1) = cW (zW (xW xs (ct n)) Wx Wh b (h n)) (c n))
    (hy : ∀ n, ys (n + 1) = ysW (ys n) (hW (zW (xW xs (ct n)) Wx Wh b (h n)) (c n)) (ct n)) (r : Fin 1024) :
    ∀ n ≤ 64, (fun l => h n (ix2 r l)) = ((Spec.cellOf Wx Wh b).st (seq xs r) n).1 ∧ (fun l => c n (ix2 r l)) = ((Spec.cellOf Wx Wh b).st (seq xs r) n).2
      ∧ ∀ (t : Fin 64), t.val < n → ∀ l, ys n (ix3 t r l) = (Spec.cellOf Wx Wh b).fwd (seq xs r) t.val l
  | 0, _ => ⟨funext fun l => h0 r l, funext fun l => c0 r l, fun _ h => absurd h (by omega)⟩
  | n + 1, hn => by
    obtain ⟨ih, ic, iy⟩ := tripsW xs Wx Wh b h c ys ct hct h0 c0 hh hc hy r n (by omega)
    have e : (fun k => xW xs (fun _ => (BitVec.ofNat 32 n : BitVec 32)) (ix2 r k)) = seq xs r n := by
      funext k
      rw [xW_apply xs n (by omega), seq, Spec.ext, dif_pos (show n < 64 by omega)]
    have ez : (fun j => zW (xW xs (fun _ => (BitVec.ofNat 32 n : BitVec 32))) Wx Wh b (h n) (ix2 r j))
        = Spec.gate (Spec.cellOf Wx Wh b).wx (Spec.cellOf Wx Wh b).wh (Spec.cellOf Wx Wh b).b (seq xs r n) ((Spec.cellOf Wx Wh b).st (seq xs r) n).1 := by
      funext j
      rw [zW_apply, e, ih]
      rfl
    have eh : ∀ l, hW (zW (xW xs (fun _ => (BitVec.ofNat 32 n : BitVec 32))) Wx Wh b (h n)) (c n) (ix2 r l) = ((Spec.cellOf Wx Wh b).st (seq xs r) (n + 1)).1 l := by
      intro l
      rw [hW_apply, ez, ic]
      rfl
    refine ⟨funext fun l => ?_, funext fun l => ?_, fun t ht l => ?_⟩
    · rw [hh, hct, eh]
    · rw [hc, hct, cW_apply, ez, ic]
      rfl
    · rw [hy, hct, ysW_apply _ _ n (by omega)]
      split
      · next h => rw [eh, h]; rfl
      · exact iy t (by omega) l

/-- The sentence passes: the states after `n` trips, and the result's rows so far. -/
theorem tripsS (xs : FVec Ideal S16x64x256 .f32) (Wx : FVec Ideal S256x512 .f32) (Wh : FVec Ideal S128x512 .f32) (b : FVec Ideal S512 .f32)
    (h c : ℕ → FVec Ideal S64x128 .f32) (ys : ℕ → FVec Ideal S16x64x128 .f32) (ct : ℕ → IVec S_ 32) (hct : ∀ n, ct n = fun _ => (BitVec.ofNat 32 n : BitVec 32))
    (h0 : ∀ r l, h 0 (ix2 r l) = 0) (c0 : ∀ r l, c 0 (ix2 r l) = 0)
    (hh : ∀ n, h (n + 1) = hS (zS (xS xs (ct n)) Wx Wh b (h n)) (c n))
    (hc : ∀ n, c (n + 1) = cS (zS (xS xs (ct n)) Wx Wh b (h n)) (c n))
    (hy : ∀ n, ys (n + 1) = ysS (ys n) (hS (zS (xS xs (ct n)) Wx Wh b (h n)) (c n)) (ct n)) (r : Fin 64) :
    ∀ n ≤ 16, (fun l => h n (ix2 r l)) = ((Spec.cellOf Wx Wh b).st (seq xs r) n).1 ∧ (fun l => c n (ix2 r l)) = ((Spec.cellOf Wx Wh b).st (seq xs r) n).2
      ∧ ∀ (t : Fin 16), t.val < n → ∀ l, ys n (ix3 t r l) = (Spec.cellOf Wx Wh b).fwd (seq xs r) t.val l
  | 0, _ => ⟨funext fun l => h0 r l, funext fun l => c0 r l, fun _ h => absurd h (by omega)⟩
  | n + 1, hn => by
    obtain ⟨ih, ic, iy⟩ := tripsS xs Wx Wh b h c ys ct hct h0 c0 hh hc hy r n (by omega)
    have e : (fun k => xS xs (fun _ => (BitVec.ofNat 32 n : BitVec 32)) (ix2 r k)) = seq xs r n := by
      funext k
      rw [xS_apply xs n (by omega), seq, Spec.ext, dif_pos (show n < 16 by omega)]
    have ez : (fun j => zS (xS xs (fun _ => (BitVec.ofNat 32 n : BitVec 32))) Wx Wh b (h n) (ix2 r j))
        = Spec.gate (Spec.cellOf Wx Wh b).wx (Spec.cellOf Wx Wh b).wh (Spec.cellOf Wx Wh b).b (seq xs r n) ((Spec.cellOf Wx Wh b).st (seq xs r) n).1 := by
      funext j
      rw [zS_apply, e, ih]
      rfl
    have eh : ∀ l, hS (zS (xS xs (fun _ => (BitVec.ofNat 32 n : BitVec 32))) Wx Wh b (h n)) (c n) (ix2 r l) = ((Spec.cellOf Wx Wh b).st (seq xs r) (n + 1)).1 l := by
      intro l
      rw [hS_apply, ez, ic]
      rfl
    refine ⟨funext fun l => ?_, funext fun l => ?_, fun t ht l => ?_⟩
    · rw [hh, hct, eh]
    · rw [hc, hct, cS_apply, ez, ic]
      rfl
    · rw [hy, hct, ysS_apply _ _ n (by omega)]
      split
      · next h => rw [eh, h]; rfl
      · exact iy t (by omega) l

/-- Loop 0's result: its pass's state at every position. -/
theorem out0 (m : (ℓ : Loc nD τ sig) → Buf (Elt Ideal) ℓ) (c : Dev nD) (h0 : ∀ r l, E0 m c main_v6_5 (ix2 r l) = (0 : EReal)) (c0 : ∀ r l, E0 m c main_v6_6 (ix2 r l) = (0 : EReal))
    (t : Fin 64) (r : Fin 1024) (l : Fin 128) :
    X0 m c main_v6_7 (ix3 t r l) = (Spec.cellOf (E0 m c main_v6_1) (E0 m c main_v6_2) (E0 m c main_v6_3)).fwd (seq (E0 m c main_v6_0) r) t.val l := by
  have k0 := fun n => loop_other condW0 bodyW0 condOps0_writes bodyI0_writes (by decide : main_v6_0 ∉ _) (E0 m) c n
  have k1 := fun n => loop_other condW0 bodyW0 condOps0_writes bodyI0_writes (by decide : main_v6_1 ∉ _) (E0 m) c n
  have k2 := fun n => loop_other condW0 bodyW0 condOps0_writes bodyI0_writes (by decide : main_v6_2 ∉ _) (E0 m) c n
  have k3 := fun n => loop_other condW0 bodyW0 condOps0_writes bodyI0_writes (by decide : main_v6_3 ∉ _) (E0 m) c n
  have nx := fun n => next0 (atTrip condOps0 bodyI0 (E0 m) n c)
  simp only [← StableHlo.atTrip_succ, z0, k0, k1, k2, k3] at nx
  unfold X0
  rw [StableHlo.after_unwritten _ condOps0_writes (by decide)]
  exact (tripsW (E0 m c main_v6_0) (E0 m c main_v6_1) (E0 m c main_v6_2) (E0 m c main_v6_3) (fun n => atTrip condOps0 bodyI0 (E0 m) n c main_v6_5)
    (fun n => atTrip condOps0 bodyI0 (E0 m) n c main_v6_6) (fun n => atTrip condOps0 bodyI0 (E0 m) n c main_v6_7) (fun n => atTrip condOps0 bodyI0 (E0 m) n c main_v6_4) (ctr0 m c) h0 c0
    (fun n => (nx n).1) (fun n => (nx n).2.1) (fun n => (nx n).2.2) r 64 le_rfl).2.2 t t.isLt l

/-- Loop 1's result: its pass's state at every position. -/
theorem out1 (m : (ℓ : Loc nD τ sig) → Buf (Elt Ideal) ℓ) (c : Dev nD) (h0 : ∀ r l, E1 m c main_v13_5 (ix2 r l) = (0 : EReal)) (c0 : ∀ r l, E1 m c main_v13_6 (ix2 r l) = (0 : EReal))
    (t : Fin 64) (r : Fin 1024) (l : Fin 128) :
    X1 m c main_v13_7 (ix3 t r l) = (Spec.cellOf (E1 m c main_v13_1) (E1 m c main_v13_2) (E1 m c main_v13_3)).fwd (seq (E1 m c main_v13_0) r) t.val l := by
  have k0 := fun n => loop_other condW1 bodyW1 condOps1_writes bodyI1_writes (by decide : main_v13_0 ∉ _) (E1 m) c n
  have k1 := fun n => loop_other condW1 bodyW1 condOps1_writes bodyI1_writes (by decide : main_v13_1 ∉ _) (E1 m) c n
  have k2 := fun n => loop_other condW1 bodyW1 condOps1_writes bodyI1_writes (by decide : main_v13_2 ∉ _) (E1 m) c n
  have k3 := fun n => loop_other condW1 bodyW1 condOps1_writes bodyI1_writes (by decide : main_v13_3 ∉ _) (E1 m) c n
  have nx := fun n => next1 (atTrip condOps1 bodyI1 (E1 m) n c)
  simp only [← StableHlo.atTrip_succ, z1, k0, k1, k2, k3] at nx
  unfold X1
  rw [StableHlo.after_unwritten _ condOps1_writes (by decide)]
  exact (tripsW (E1 m c main_v13_0) (E1 m c main_v13_1) (E1 m c main_v13_2) (E1 m c main_v13_3) (fun n => atTrip condOps1 bodyI1 (E1 m) n c main_v13_5)
    (fun n => atTrip condOps1 bodyI1 (E1 m) n c main_v13_6) (fun n => atTrip condOps1 bodyI1 (E1 m) n c main_v13_7) (fun n => atTrip condOps1 bodyI1 (E1 m) n c main_v13_4) (ctr1 m c) h0 c0
    (fun n => (nx n).1) (fun n => (nx n).2.1) (fun n => (nx n).2.2) r 64 le_rfl).2.2 t t.isLt l

/-- Loop 2's result: its pass's state at every position. -/
theorem out2 (m : (ℓ : Loc nD τ sig) → Buf (Elt Ideal) ℓ) (c : Dev nD) (h0 : ∀ r l, E2 m c main_v38_5 (ix2 r l) = (0 : EReal)) (c0 : ∀ r l, E2 m c main_v38_6 (ix2 r l) = (0 : EReal))
    (t : Fin 16) (r : Fin 64) (l : Fin 128) :
    X2 m c main_v38_7 (ix3 t r l) = (Spec.cellOf (E2 m c main_v38_1) (E2 m c main_v38_2) (E2 m c main_v38_3)).fwd (seq (E2 m c main_v38_0) r) t.val l := by
  have k0 := fun n => loop_other condW2 bodyW2 condOps2_writes bodyI2_writes (by decide : main_v38_0 ∉ _) (E2 m) c n
  have k1 := fun n => loop_other condW2 bodyW2 condOps2_writes bodyI2_writes (by decide : main_v38_1 ∉ _) (E2 m) c n
  have k2 := fun n => loop_other condW2 bodyW2 condOps2_writes bodyI2_writes (by decide : main_v38_2 ∉ _) (E2 m) c n
  have k3 := fun n => loop_other condW2 bodyW2 condOps2_writes bodyI2_writes (by decide : main_v38_3 ∉ _) (E2 m) c n
  have nx := fun n => next2 (atTrip condOps2 bodyI2 (E2 m) n c)
  simp only [← StableHlo.atTrip_succ, z2, k0, k1, k2, k3] at nx
  unfold X2
  rw [StableHlo.after_unwritten _ condOps2_writes (by decide)]
  exact (tripsS (E2 m c main_v38_0) (E2 m c main_v38_1) (E2 m c main_v38_2) (E2 m c main_v38_3) (fun n => atTrip condOps2 bodyI2 (E2 m) n c main_v38_5)
    (fun n => atTrip condOps2 bodyI2 (E2 m) n c main_v38_6) (fun n => atTrip condOps2 bodyI2 (E2 m) n c main_v38_7) (fun n => atTrip condOps2 bodyI2 (E2 m) n c main_v38_4) (ctr2 m c) h0 c0
    (fun n => (nx n).1) (fun n => (nx n).2.1) (fun n => (nx n).2.2) r 16 le_rfl).2.2 t t.isLt l

/-- Loop 3's result: its pass's state at every position. -/
theorem out3 (m : (ℓ : Loc nD τ sig) → Buf (Elt Ideal) ℓ) (c : Dev nD) (h0 : ∀ r l, E3 m c main_v45_5 (ix2 r l) = (0 : EReal)) (c0 : ∀ r l, E3 m c main_v45_6 (ix2 r l) = (0 : EReal))
    (t : Fin 16) (r : Fin 64) (l : Fin 128) :
    X3 m c main_v45_7 (ix3 t r l) = (Spec.cellOf (E3 m c main_v45_1) (E3 m c main_v45_2) (E3 m c main_v45_3)).fwd (seq (E3 m c main_v45_0) r) t.val l := by
  have k0 := fun n => loop_other condW3 bodyW3 condOps3_writes bodyI3_writes (by decide : main_v45_0 ∉ _) (E3 m) c n
  have k1 := fun n => loop_other condW3 bodyW3 condOps3_writes bodyI3_writes (by decide : main_v45_1 ∉ _) (E3 m) c n
  have k2 := fun n => loop_other condW3 bodyW3 condOps3_writes bodyI3_writes (by decide : main_v45_2 ∉ _) (E3 m) c n
  have k3 := fun n => loop_other condW3 bodyW3 condOps3_writes bodyI3_writes (by decide : main_v45_3 ∉ _) (E3 m) c n
  have nx := fun n => next3 (atTrip condOps3 bodyI3 (E3 m) n c)
  simp only [← StableHlo.atTrip_succ, z3, k0, k1, k2, k3] at nx
  unfold X3
  rw [StableHlo.after_unwritten _ condOps3_writes (by decide)]
  exact (tripsS (E3 m c main_v45_0) (E3 m c main_v45_1) (E3 m c main_v45_2) (E3 m c main_v45_3) (fun n => atTrip condOps3 bodyI3 (E3 m) n c main_v45_5)
    (fun n => atTrip condOps3 bodyI3 (E3 m) n c main_v45_6) (fun n => atTrip condOps3 bodyI3 (E3 m) n c main_v45_7) (fun n => atTrip condOps3 bodyI3 (E3 m) n c main_v45_4) (ctr3 m c) h0 c0
    (fun n => (nx n).1) (fun n => (nx n).2.1) (fun n => (nx n).2.2) r 16 le_rfl).2.2 t t.isLt l

end Cert.ReferenceIdeal.Ref

end
-- ==== Proof.RefValue.lean ====
/-
  The reference's result as the formula of its arguments.
-/
module

public import proofs.«01_k».proof.Proof.RefLoop

@[expose] public section

set_option maxRecDepth 20000

noncomputable section

namespace Cert.ReferenceIdeal.Ref

open Cert.ReferenceIdeal Cert.ReferenceIdeal.Gen
open Idealize.ShloMosaic Idealize.ShloMosaic.TcCoe
open Idealize.ShloMosaic.StableHlo (after afterL atTrip launchContents)

/-! ## The rows of the embedding table -/

def tokW (tok : IVec S1024x64 32) : IVec S1024x64 32 :=
  select (cmpi .slt tok (broadcastInDim S1024x64 ![] bcast_S_S1024x64 (constantI S_ 32 0#32)))
    (addi tok (broadcastInDim S1024x64 ![] bcast_S_S1024x64 (constantI S_ 32 100000#32))) tok
def idxW (tok : IVec S1024x64 32) : IVec S1024x64x1 32 := broadcastInDim S1024x64x1 ![0, 1] bcast_S1024x64_S1024x64x1_0_1 (tokW tok)
def inW (tok : IVec S1024x64 32) : IVec S1024x64 1 :=
  Host.reduce IntOp.andi
    (andi (cmpi .sge (idxW tok) (broadcastInDim S1024x64x1 ![] bcast_S_S1024x64x1 (constantI S_ 32 0#32)))
      (cmpi .sle (idxW tok) (broadcastInDim S1024x64x1 ![0, 1, 2] bcast_S1x1x1_S1024x64x1_0_1_2 (broadcastInDim S1x1x1 ![2] bcast_S1_S1x1x1_2 (constantI S1 32 99999#32)))))
    (constantI S_ 1 1#1) reducesTo_S1024x64x1_S1024x64_d2 h_S_
def takeW (E : FVec Ideal S100000x64 .f32) (tok : IVec S1024x64 32) : FVec Ideal S1024x64x64 .f32 :=
  select (broadcastInDim S1024x64x64 ![0, 1] bcast_S1024x64_S1024x64x64_0_1 (inW tok))
    (Host.gather gather_S100000x64_S1024x64x1_S1024x64x64_2_0_n_n_0_2_164 E (idxW tok))
    (broadcastInDim S1024x64x64 ![] bcast_S_S1024x64x64 (constant S_ .f32 0x7FC00000#32))

theorem tokW_apply (tok : IVec S1024x64 32) (r : Fin 1024) (t : Fin 64) : tokW tok (ix2 r t) = Spec.token (tok (ix2 r t)) := by
  pointwise [tokW, Spec.token]
theorem idxW_apply (tok : IVec S1024x64 32) (r : Fin 1024) (t : Fin 64) (o : Fin 1) : idxW tok (ix3 r t o) = Spec.token (tok (ix2 r t)) := by
  pointwise [idxW, tokW_apply]
theorem inW_apply (tok : IVec S1024x64 32) (r : Fin 1024) (t : Fin 64) :
    inW tok (ix2 r t) = IntOp.andi (IntOp.cmpi .sge (Spec.token (tok (ix2 r t))) 0#32) (IntOp.cmpi .sle (Spec.token (tok (ix2 r t))) 99999#32) := by
  pointwise [inW, idxW_apply]
  exact Spec.fold_bit _
theorem takeW_apply (E : FVec Ideal S100000x64 .f32) (tok : IVec S1024x64 32) (r : Fin 1024) (t : Fin 64) (k : Fin 64) :
    takeW E tok (ix3 r t k) = Spec.embed E (tok (ix2 r t)) k := by
  have e := Spec.rows2_apply (by omega) gather_S100000x64_S1024x64x1_S1024x64x64_2_0_n_n_0_2_164_wf E (idxW tok) r t k
  pointwise [takeW, inW_apply, Spec.embed]
  simp only [idxW_apply] at e
  exact congrArg (fun v => Scalar.select _ v _) e

/-! ## One level's states and their pooling: the words -/

def bothW (yf yb : FVec Ideal S64x1024x128 .f32) : FVec Ideal S1024x64x256 .f32 :=
  concatenate S1024x64x256 2 [⟨S1024x64x128, transpose S1024x64x128 [1, 0, 2] yf transposes_S64x1024x128_S1024x64x128_1_0_2⟩,
    ⟨S1024x64x128, Host.reverse [1] (transpose S1024x64x128 [1, 0, 2] yb transposes_S64x1024x128_S1024x64x128_1_0_2)⟩] concatenates_S1024x64x128_S1024x64x128_S1024x64x256_d2
def attW (H : FVec Ideal S1024x64x256 .f32) (aw : FVec Ideal S256 .f32) (ab : FVec Ideal S64 .f32) : FVec Ideal S1024x64 .f32 :=
  Host.exp (Host.tanh (addf (Host.dotGeneral dot_S1024x64x256_S256_S1024x64_2_0_01_n_n_n none H aw)
    (broadcastInDim S1024x64 ![0, 1] bcast_S1x64_S1024x64_0_1 (broadcastInDim S1x64 ![1] bcast_S64_S1x64_1 ab))))
def denW (a : FVec Ideal S1024x64 .f32) : FVec Ideal S1024x1 .f32 :=
  addf (broadcastInDim S1024x1 ![0] bcast_S1024_S1024x1_0 (Host.reduceAdd a (constant S_ .f32 0x00000000#32) reducesTo_S1024x64_S1024_d1 h_S_))
    (broadcastInDim S1024x1 ![] bcast_S_S1024x1 (constant S_ .f32 0x33D6BF95#32))
def poolW (H : FVec Ideal S1024x64x256 .f32) (aw : FVec Ideal S256 .f32) (ab : FVec Ideal S64 .f32) : FVec Ideal S1024x256 .f32 :=
  Host.reduceAdd (mulf H (broadcastInDim S1024x64x256 ![0, 1, 2] bcast_S1024x64x1_S1024x64x256_0_1_2 (broadcastInDim S1024x64x1 ![0, 1] bcast_S1024x64_S1024x64x1_0_1
      (Host.divf (attW H aw ab) (broadcastInDim S1024x64 ![0, 1] bcast_S1024x1_S1024x64_0_1 (denW (attW H aw ab)))))))
    (constant S_ .f32 0x00000000#32) reducesTo_S1024x64x256_S1024x256_d1 h_S_

theorem bothW_apply (yf yb : FVec Ideal S64x1024x128 .f32) (r : Fin 1024) (t : Fin 64) (k : Fin 256) :
    bothW yf yb (ix3 r t k) = Spec.both (fun l => yf (ix3 t r l)) (fun l => yb (ix3 ⟨63 - t.val, by omega⟩ r l)) k := by
  have e : t.rev = ⟨63 - t.val, by omega⟩ := Fin.ext (by show 64 - (t.val + 1) = 63 - t.val; omega)
  pointwise [bothW, Spec.both]
  simp [e]
theorem attW_apply (H : FVec Ideal S1024x64x256 .f32) (aw : FVec Ideal S256 .f32) (ab : FVec Ideal S64 .f32) (r : Fin 1024) (t : Fin 64) :
    attW H aw ab (ix2 r t) = Spec.att (fun k => aw (ix1 k)) (ab (ix1 t)) (fun k => H (ix3 r t k)) := by
  pointwise [attW, Spec.att]
theorem denW_apply (a : FVec Ideal S1024x64 .f32) (r : Fin 1024) (o : Fin 1) : denW a (ix2 r o) = ∑ t, a (ix2 r t) + Spec.eps := by
  pointwise [denW, Spec.eps]
theorem poolW_apply (H : FVec Ideal S1024x64x256 .f32) (aw : FVec Ideal S256 .f32) (ab : FVec Ideal S64 .f32) (r : Fin 1024) (i : Fin 256) :
    poolW H aw ab (ix2 r i) = Spec.ctx (fun k => aw (ix1 k)) (fun t => ab (ix1 t)) (fun t k => H (ix3 r t k)) i := by
  pointwise [poolW, attW_apply, denW_apply, Spec.ctx]

/-! ## One level's states and their pooling: the sentences -/

def bothS (yf yb : FVec Ideal S16x64x128 .f32) : FVec Ideal S64x16x256 .f32 :=
  concatenate S64x16x256 2 [⟨S64x16x128, transpose S64x16x128 [1, 0, 2] yf transposes_S16x64x128_S64x16x128_1_0_2⟩,
    ⟨S64x16x128, Host.reverse [1] (transpose S64x16x128 [1, 0, 2] yb transposes_S16x64x128_S64x16x128_1_0_2)⟩] concatenates_S64x16x128_S64x16x128_S64x16x256_d2
def attS (H : FVec Ideal S64x16x256 .f32) (aw : FVec Ideal S256 .f32) (ab : FVec Ideal S16 .f32) : FVec Ideal S64x16 .f32 :=
  Host.exp (Host.tanh (addf (Host.dotGeneral dot_S64x16x256_S256_S64x16_2_0_01_n_n_n none H aw)
    (broadcastInDim S64x16 ![0, 1] bcast_S1x16_S64x16_0_1 (broadcastInDim S1x16 ![1] bcast_S16_S1x16_1 ab))))
def denS (a : FVec Ideal S64x16 .f32) : FVec Ideal S64x1 .f32 :=
  addf (broadcastInDim S64x1 ![0] bcast_S64_S64x1_0 (Host.reduceAdd a (constant S_ .f32 0x00000000#32) reducesTo_S64x16_S64_d1 h_S_))
    (broadcastInDim S64x1 ![] bcast_S_S64x1 (constant S_ .f32 0x33D6BF95#32))
def poolS (H : FVec Ideal S64x16x256 .f32) (aw : FVec Ideal S256 .f32) (ab : FVec Ideal S16 .f32) : FVec Ideal S64x256 .f32 :=
  Host.reduceAdd (mulf H (broadcastInDim S64x16x256 ![0, 1, 2] bcast_S64x16x1_S64x16x256_0_1_2 (broadcastInDim S64x16x1 ![0, 1] bcast_S64x16_S64x16x1_0_1
      (Host.divf (attS H aw ab) (broadcastInDim S64x16 ![0, 1] bcast_S64x1_S64x16_0_1 (denS (attS H aw ab)))))))
    (constant S_ .f32 0x00000000#32) reducesTo_S64x16x256_S64x256_d1 h_S_

theorem bothS_apply (yf yb : FVec Ideal S16x64x128 .f32) (r : Fin 64) (t : Fin 16) (k : Fin 256) :
    bothS yf yb (ix3 r t k) = Spec.both (fun l => yf (ix3 t r l)) (fun l => yb (ix3 ⟨15 - t.val, by omega⟩ r l)) k := by
  have e : t.rev = ⟨15 - t.val, by omega⟩ := Fin.ext (by show 16 - (t.val + 1) = 15 - t.val; omega)
  pointwise [bothS, Spec.both]
  simp [e]
theorem attS_apply (H : FVec Ideal S64x16x256 .f32) (aw : FVec Ideal S256 .f32) (ab : FVec Ideal S16 .f32) (r : Fin 64) (t : Fin 16) :
    attS H aw ab (ix2 r t) = Spec.att (fun k => aw (ix1 k)) (ab (ix1 t)) (fun k => H (ix3 r t k)) := by
  pointwise [attS, Spec.att]
theorem denS_apply (a : FVec Ideal S64x16 .f32) (r : Fin 64) (o : Fin 1) : denS a (ix2 r o) = ∑ t, a (ix2 r t) + Spec.eps := by
  pointwise [denS, Spec.eps]
theorem poolS_apply (H : FVec Ideal S64x16x256 .f32) (aw : FVec Ideal S256 .f32) (ab : FVec Ideal S16 .f32) (r : Fin 64) (i : Fin 256) :
    poolS H aw ab (ix2 r i) = Spec.ctx (fun k => aw (ix1 k)) (fun t => ab (ix1 t)) (fun t k => H (ix3 r t k)) i := by
  pointwise [poolS, attS_apply, denS_apply, Spec.ctx]

/-! ## Down the program -/

variable (m : (ℓ : Loc nD τ sig) → Buf (Elt Ideal) ℓ) (c : Dev nD)

theorem E0_keep {b : Ref sig .tc} (h : b ∉ pre0W) : E0 m c b = launchContents m c b := afterL_other _ pre0_writes h _
theorem X0_keep {b : Ref sig .tc} (h : b ∉ condW0 ++ bodyW0) : X0 m c b = E0 m c b :=
  (StableHlo.after_unwritten _ condOps0_writes (fun h' => h (List.mem_append_left _ h')) _).trans (loop_other _ _ condOps0_writes bodyI0_writes h _ _ _)
theorem E1_keep {b : Ref sig .tc} (h : b ∉ pre1W) : E1 m c b = X0 m c b := afterL_other _ pre1_writes h _
theorem X1_keep {b : Ref sig .tc} (h : b ∉ condW1 ++ bodyW1) : X1 m c b = E1 m c b :=
  (StableHlo.after_unwritten _ condOps1_writes (fun h' => h (List.mem_append_left _ h')) _).trans (loop_other _ _ condOps1_writes bodyI1_writes h _ _ _)
theorem E2_keep {b : Ref sig .tc} (h : b ∉ pre2W) : E2 m c b = X1 m c b := afterL_other _ pre2_writes h _
theorem X2_keep {b : Ref sig .tc} (h : b ∉ condW2 ++ bodyW2) : X2 m c b = E2 m c b :=
  (StableHlo.after_unwritten _ condOps2_writes (fun h' => h (List.mem_append_left _ h')) _).trans (loop_other _ _ condOps2_writes bodyI2_writes h _ _ _)
theorem E3_keep {b : Ref sig .tc} (h : b ∉ pre3W) : E3 m c b = X2 m c b := afterL_other _ pre3_writes h _
theorem X3_keep {b : Ref sig .tc} (h : b ∉ condW3 ++ bodyW3) : X3 m c b = E3 m c b :=
  (StableHlo.after_unwritten _ condOps3_writes (fun h' => h (List.mem_append_left _ h')) _).trans (loop_other _ _ condOps3_writes bodyI3_writes h _ _ _)

/-- An argument at each loop's end. -/
theorem X0_arg {b : Ref sig .tc} (h0 : b ∉ pre0W) (h1 : b ∉ condW0 ++ bodyW0) : X0 m c b = launchContents m c b := (X0_keep m c h1).trans (E0_keep m c h0)
theorem X1_arg {b : Ref sig .tc} (h0 : b ∉ pre0W) (h1 : b ∉ condW0 ++ bodyW0) (h2 : b ∉ pre1W) (h3 : b ∉ condW1 ++ bodyW1) : X1 m c b = launchContents m c b :=
  (X1_keep m c h3).trans ((E1_keep m c h2).trans (X0_arg m c h0 h1))
theorem X2_arg {b : Ref sig .tc} (h0 : b ∉ pre0W) (h1 : b ∉ condW0 ++ bodyW0) (h2 : b ∉ pre1W) (h3 : b ∉ condW1 ++ bodyW1) (h4 : b ∉ pre2W) (h5 : b ∉ condW2 ++ bodyW2) :
    X2 m c b = launchContents m c b :=
  (X2_keep m c h5).trans ((E2_keep m c h4).trans (X1_arg m c h0 h1 h2 h3))
theorem X3_arg {b : Ref sig .tc} (h0 : b ∉ pre0W) (h1 : b ∉ condW0 ++ bodyW0) (h2 : b ∉ pre1W) (h3 : b ∉ condW1 ++ bodyW1) (h4 : b ∉ pre2W) (h5 : b ∉ condW2 ++ bodyW2)
    (h6 : b ∉ pre3W) (h7 : b ∉ condW3 ++ bodyW3) : X3 m c b = launchContents m c b :=
  (X3_keep m c h7).trans ((E3_keep m c h6).trans (X2_arg m c h0 h1 h2 h3 h4 h5))

/-- The parameters and the words at launch. -/
def par : Spec.Par :=
  Spec.parOf (launchContents m c main_arg2) (launchContents m c main_arg3) (launchContents m c main_arg4) (launchContents m c main_arg5) (launchContents m c main_arg6)
    (launchContents m c main_arg7) (launchContents m c main_arg8) (launchContents m c main_arg9) (launchContents m c main_arg10) (launchContents m c main_arg11)
    (launchContents m c main_arg12) (launchContents m c main_arg13) (launchContents m c main_arg14) (launchContents m c main_arg15) (launchContents m c main_arg16)
    (launchContents m c main_arg17) (launchContents m c main_arg18) (launchContents m c main_arg19)
/-- The tokens as a matrix of sentences, -/
def tok : IVec S1024x64 32 := shapeCast S1024x64 (launchContents m c main_arg0 : IVec S64x16x64 32) shapeCasts_S64x16x64_S1024x64
/-- and the words of its row `r`. -/
def row (r : Fin 1024) : ℕ → Fin 64 → EReal := Spec.ext (fun _ => 0) fun t : Fin 64 => Spec.embed (launchContents m c main_arg1) (tok m c (ix2 r t))

/-! ### The stretches' results, of any contents before them -/

theorem take_idx (V : Valuation τ sig (Elt Ideal)) : after mainOps1 V main_v1 = takeW (V main_arg1) (V main_v0) := by
  after_reads_simp
  simp only [StableHlo.TRef.ofBuf_toBuf]
  unfold takeW inW idxW tokW
  simp only [StableHlo.TRef.toBuf, StableHlo.TRef.ofBuf, StableHlo.TRef.of, cast_eq]
theorem take_tok (V : Valuation τ sig (Elt Ideal)) : after mainOps0 V main_v0 = shapeCast S1024x64 (V main_arg0 : IVec S64x16x64 32) shapeCasts_S64x16x64_S1024x64 := by
  after_reads_simp <;> rfl
theorem enter0_in (V : Valuation τ sig (Elt Ideal)) : after mainOps2 V main_v6_0 = transpose S64x1024x64 [1, 0, 2] (V main_v1 : FVec Ideal S1024x64x64 .f32) transposes_S1024x64x64_S64x1024x64_1_0_2 := by
  after_reads_simp <;> rfl
theorem enter0_par (V : Valuation τ sig (Elt Ideal)) : after mainOps2 V main_v6_1 = V main_arg2 ∧ after mainOps2 V main_v6_2 = V main_arg3 ∧ after mainOps2 V main_v6_3 = V main_arg4 := by
  refine ⟨?_, ?_, ?_⟩ <;> after_reads_simp <;> rfl
theorem enter0_zero (V : Valuation τ sig (Elt Ideal)) (r : Fin 1024) (l : Fin 128) : after mainOps2 V main_v6_5 (ix2 r l) = (0 : EReal) ∧ after mainOps2 V main_v6_6 (ix2 r l) = (0 : EReal) := by
  have e : after mainOps2 V main_v6_5 = (broadcastInDim S1024x128 ![] bcast_S_S1024x128 (constant (F := Ideal) S_ .f32 0x00000000#32) : FVec Ideal S1024x128 .f32) ∧ after mainOps2 V main_v6_6 = (broadcastInDim S1024x128 ![] bcast_S_S1024x128 (constant (F := Ideal) S_ .f32 0x00000000#32) : FVec Ideal S1024x128 .f32) := by
    constructor <;> after_reads_simp <;> rfl
  rw [e.1, e.2]
  constructor <;> pointwise
theorem enter1_in (V : Valuation τ sig (Elt Ideal)) : after mainOps3 V main_v13_0 = transpose S64x1024x64 [1, 0, 2] (Host.reverse [1] (V main_v1 : FVec Ideal S1024x64x64 .f32)) transposes_S1024x64x64_S64x1024x64_1_0_2 := by
  after_reads_simp <;> rfl
theorem enter1_fwd (V : Valuation τ sig (Elt Ideal)) : after mainOps3 V main_v7 = transpose S1024x64x128 [1, 0, 2] (V main_v6_7 : FVec Ideal S64x1024x128 .f32) transposes_S64x1024x128_S1024x64x128_1_0_2 := by
  after_reads_simp <;> rfl
theorem enter1_par (V : Valuation τ sig (Elt Ideal)) : after mainOps3 V main_v13_1 = V main_arg5 ∧ after mainOps3 V main_v13_2 = V main_arg6 ∧ after mainOps3 V main_v13_3 = V main_arg7 := by
  refine ⟨?_, ?_, ?_⟩ <;> after_reads_simp <;> rfl
theorem enter1_zero (V : Valuation τ sig (Elt Ideal)) (r : Fin 1024) (l : Fin 128) : after mainOps3 V main_v13_5 (ix2 r l) = (0 : EReal) ∧ after mainOps3 V main_v13_6 (ix2 r l) = (0 : EReal) := by
  have e : after mainOps3 V main_v13_5 = (broadcastInDim S1024x128 ![] bcast_S_S1024x128 (constant (F := Ideal) S_ .f32 0x00000000#32) : FVec Ideal S1024x128 .f32) ∧ after mainOps3 V main_v13_6 = (broadcastInDim S1024x128 ![] bcast_S_S1024x128 (constant (F := Ideal) S_ .f32 0x00000000#32) : FVec Ideal S1024x128 .f32) := by
    constructor <;> after_reads_simp <;> rfl
  rw [e.1, e.2]
  constructor <;> pointwise
/-- The sentences' vectors in the reference's order. -/
def sentV (V : Valuation τ sig (Elt Ideal)) : FVec Ideal S1024x256 .f32 :=
  (poolW (concatenate S1024x64x256 2 [⟨S1024x64x128, (V main_v7 : FVec Ideal S1024x64x128 .f32)⟩,
    ⟨S1024x64x128, Host.reverse [1] (transpose S1024x64x128 [1, 0, 2] (V main_v13_7 : FVec Ideal S64x1024x128 .f32) transposes_S64x1024x128_S1024x64x128_1_0_2)⟩] concatenates_S1024x64x128_S1024x64x128_S1024x64x256_d2)
    (V main_arg8) (V main_arg9))
theorem sentV_eq (V : Valuation τ sig (Elt Ideal)) (yf : FVec Ideal S64x1024x128 .f32) (h : V main_v7 = transpose S1024x64x128 [1, 0, 2] yf transposes_S64x1024x128_S1024x64x128_1_0_2) :
    sentV V = poolW (bothW yf (V main_v13_7)) (V main_arg8) (V main_arg9) := by
  unfold sentV bothW
  rw [h]
theorem pool_words (V : Valuation τ sig (Elt Ideal)) : after mainOps4 V main_v32 = sentV V := by
  after_reads_simp <;> rfl
theorem enter2_sent (V : Valuation τ sig (Elt Ideal)) : after mainOps5 V main_v33 = shapeCast S64x16x256 (V main_v32 : FVec Ideal S1024x256 .f32) shapeCasts_S1024x256_S64x16x256 := by
  after_reads_simp <;> rfl
theorem enter2_in (V : Valuation τ sig (Elt Ideal)) : after mainOps5 V main_v38_0 = transpose S16x64x256 [1, 0, 2] (shapeCast S64x16x256 (V main_v32 : FVec Ideal S1024x256 .f32) shapeCasts_S1024x256_S64x16x256) transposes_S64x16x256_S16x64x256_1_0_2 := by
  after_reads_simp <;> rfl
theorem enter2_par (V : Valuation τ sig (Elt Ideal)) : after mainOps5 V main_v38_1 = V main_arg10 ∧ after mainOps5 V main_v38_2 = V main_arg11 ∧ after mainOps5 V main_v38_3 = V main_arg12 := by
  refine ⟨?_, ?_, ?_⟩ <;> after_reads_simp <;> rfl
theorem enter2_zero (V : Valuation τ sig (Elt Ideal)) (r : Fin 64) (l : Fin 128) : after mainOps5 V main_v38_5 (ix2 r l) = (0 : EReal) ∧ after mainOps5 V main_v38_6 (ix2 r l) = (0 : EReal) := by
  have e : after mainOps5 V main_v38_5 = (broadcastInDim S64x128 ![] bcast_S_S64x128 (constant (F := Ideal) S_ .f32 0x00000000#32) : FVec Ideal S64x128 .f32) ∧ after mainOps5 V main_v38_6 = (broadcastInDim S64x128 ![] bcast_S_S64x128 (constant (F := Ideal) S_ .f32 0x00000000#32) : FVec Ideal S64x128 .f32) := by
    constructor <;> after_reads_simp <;> rfl
  rw [e.1, e.2]
  constructor <;> pointwise
theorem enter3_in (V : Valuation τ sig (Elt Ideal)) : after mainOps6 V main_v45_0 = transpose S16x64x256 [1, 0, 2] (Host.reverse [1] (V main_v33 : FVec Ideal S64x16x256 .f32)) transposes_S64x16x256_S16x64x256_1_0_2 := by
  after_reads_simp <;> rfl
theorem enter3_fwd (V : Valuation τ sig (Elt Ideal)) : after mainOps6 V main_v39 = transpose S64x16x128 [1, 0, 2] (V main_v38_7 : FVec Ideal S16x64x128 .f32) transposes_S16x64x128_S64x16x128_1_0_2 := by
  after_reads_simp <;> rfl
theorem enter3_par (V : Valuation τ sig (Elt Ideal)) : after mainOps6 V main_v45_1 = V main_arg13 ∧ after mainOps6 V main_v45_2 = V main_arg14 ∧ after mainOps6 V main_v45_3 = V main_arg15 := by
  refine ⟨?_, ?_, ?_⟩ <;> after_reads_simp <;> rfl
theorem enter3_zero (V : Valuation τ sig (Elt Ideal)) (r : Fin 64) (l : Fin 128) : after mainOps6 V main_v45_5 (ix2 r l) = (0 : EReal) ∧ after mainOps6 V main_v45_6 (ix2 r l) = (0 : EReal) := by
  have e : after mainOps6 V main_v45_5 = (broadcastInDim S64x128 ![] bcast_S_S64x128 (constant (F := Ideal) S_ .f32 0x00000000#32) : FVec Ideal S64x128 .f32) ∧ after mainOps6 V main_v45_6 = (broadcastInDim S64x128 ![] bcast_S_S64x128 (constant (F := Ideal) S_ .f32 0x00000000#32) : FVec Ideal S64x128 .f32) := by
    constructor <;> after_reads_simp <;> rfl
  rw [e.1, e.2]
  constructor <;> pointwise
/-- The documents' scores of the documents' vectors, -/
def scoreOf (p : FVec Ideal S64x256 .f32) (cw : FVec Ideal S256x1 .f32) (cb : FVec Ideal S1 .f32) : FVec Ideal S64x1 .f32 :=
  Host.divf (broadcastInDim S64x1 ![] bcast_S_S64x1 (constant S_ .f32 0x3F800000#32)) (addf (broadcastInDim S64x1 ![] bcast_S_S64x1 (constant S_ .f32 0x3F800000#32))
    (Host.exp (Host.negf (addf (Host.dotGeneral dot_S64x256_S256x1_S64x1_1_0_0_1_n_n none p cw)
      (broadcastInDim S64x1 ![0, 1] bcast_S1x1_S64x1_0_1 (broadcastInDim S1x1 ![1] bcast_S1_S1x1_1 cb))))))
theorem scoreOf_apply (p : FVec Ideal S64x256 .f32) (cw : FVec Ideal S256x1 .f32) (cb : FVec Ideal S1 .f32) (d : Fin 64) :
    scoreOf p cw cb (ix2 d (0 : Fin 1)) = Spec.sg (∑ k, p (ix2 d k) * cw (ix2 k (0 : Fin 1)) + cb (ix1 (0 : Fin 1))) := by
  pointwise [scoreOf, Spec.sg, Ideal.logistic]
/-- and those of the sentences' states. -/
def scoreV (V : Valuation τ sig (Elt Ideal)) : FVec Ideal S64x1 .f32 :=
  scoreOf (poolS (concatenate S64x16x256 2 [⟨S64x16x128, (V main_v39 : FVec Ideal S64x16x128 .f32)⟩,
        ⟨S64x16x128, Host.reverse [1] (transpose S64x16x128 [1, 0, 2] (V main_v45_7 : FVec Ideal S16x64x128 .f32) transposes_S16x64x128_S64x16x128_1_0_2)⟩] concatenates_S64x16x128_S64x16x128_S64x16x256_d2)
        (V main_arg16) (V main_arg17)) (V main_arg18) (V main_arg19)
theorem scoreV_eq (V : Valuation τ sig (Elt Ideal)) (yf : FVec Ideal S16x64x128 .f32) (h : V main_v39 = transpose S64x16x128 [1, 0, 2] yf transposes_S16x64x128_S64x16x128_1_0_2) :
    scoreV V = scoreOf (poolS (bothS yf (V main_v45_7)) (V main_arg16) (V main_arg17)) (V main_arg18) (V main_arg19) := by
  unfold scoreV bothS
  rw [h]
theorem last (V : Valuation τ sig (Elt Ideal)) : after mainOps8 (after mainOps7 V) main_v74 = scoreV V := by
  after_reads_simp <;> rfl

/-! ### The main chain -/

theorem E0_v1 : E0 m c main_v1 = takeW (launchContents m c main_arg1) (tok m c) := by
  have k : ∀ V : Valuation τ sig (Elt Ideal), after mainOps2 V main_v1 = V main_v1 := fun V => by after_reads_simp
  have k' : ∀ V : Valuation τ sig (Elt Ideal), after mainOps0 V main_arg1 = V main_arg1 := fun V => by after_reads_simp
  unfold E0
  simp only [StableHlo.afterL_cons, StableHlo.afterL_nil]
  unfold tok
  rw [k, take_idx, take_tok, k']
theorem E0_in (r : Fin 1024) : seq (E0 m c main_v6_0) r = row m c r := by
  have e : E0 m c main_v6_0 = transpose S64x1024x64 [1, 0, 2] (E0 m c main_v1 : FVec Ideal S1024x64x64 .f32) transposes_S1024x64x64_S64x1024x64_1_0_2 := by
    have k : ∀ V : Valuation τ sig (Elt Ideal), after mainOps2 V main_v1 = V main_v1 := fun V => by after_reads_simp
    unfold E0
    simp only [StableHlo.afterL_cons, StableHlo.afterL_nil]
    rw [enter0_in, k]
  rw [e, E0_v1]
  unfold seq row
  refine congrArg (Spec.ext (fun _ => 0)) (funext fun t => funext fun k => ?_)
  rw [← takeW_apply]
  pointwise
theorem E0_cell : Spec.cellOf (E0 m c main_v6_1) (E0 m c main_v6_2) (E0 m c main_v6_3) = (par m c).wf := by
  have k2 : ∀ V : Valuation τ sig (Elt Ideal), after mainOps1 (after mainOps0 V) main_arg2 = V main_arg2 := fun V => by after_reads_simp
  have k3 : ∀ V : Valuation τ sig (Elt Ideal), after mainOps1 (after mainOps0 V) main_arg3 = V main_arg3 := fun V => by after_reads_simp
  have k4 : ∀ V : Valuation τ sig (Elt Ideal), after mainOps1 (after mainOps0 V) main_arg4 = V main_arg4 := fun V => by after_reads_simp
  unfold E0
  simp only [StableHlo.afterL_cons, StableHlo.afterL_nil]
  rw [(enter0_par _).1, (enter0_par _).2.1, (enter0_par _).2.2, k2, k3, k4]
  rfl
theorem E1_in (r : Fin 1024) (k : ℕ) (hk : k < 64) : seq (E1 m c main_v13_0) r k = row m c r (64 - 1 - k) := by
  have e : E1 m c main_v13_0 = transpose S64x1024x64 [1, 0, 2] (Host.reverse [1] (takeW (launchContents m c main_arg1) (tok m c))) transposes_S1024x64x64_S64x1024x64_1_0_2 := by
    unfold E1
    simp only [StableHlo.afterL_cons, StableHlo.afterL_nil]
    rw [enter1_in, X0_keep m c (by decide), E0_v1]
  rw [e]
  unfold seq row Spec.ext
  rw [dif_pos hk, dif_pos (by omega)]
  funext j
  dsimp only
  rw [← takeW_apply]
  pointwise
  have e : (⟨k, hk⟩ : Fin 64).rev = ⟨64 - 1 - k, by omega⟩ := Fin.ext (by show 64 - (k + 1) = 64 - 1 - k; omega)
  simp [e]
theorem E1_cell : Spec.cellOf (E1 m c main_v13_1) (E1 m c main_v13_2) (E1 m c main_v13_3) = (par m c).wb := by
  unfold E1
  simp only [StableHlo.afterL_cons, StableHlo.afterL_nil]
  rw [(enter1_par _).1, (enter1_par _).2.1, (enter1_par _).2.2, X0_arg m c (by decide) (by decide), X0_arg m c (by decide) (by decide), X0_arg m c (by decide) (by decide)]
  rfl

/-- The words' forward states, -/
theorem words_fwd (t : Fin 64) (r : Fin 1024) (l : Fin 128) : X0 m c main_v6_7 (ix3 t r l) = (par m c).wf.fwd (row m c r) t.val l := by
  have z : ∀ r l, E0 m c main_v6_5 (ix2 r l) = (0 : EReal) ∧ E0 m c main_v6_6 (ix2 r l) = (0 : EReal) := fun r l => by
    unfold E0
    simp only [StableHlo.afterL_cons, StableHlo.afterL_nil]
    exact enter0_zero _ r l
  rw [out0 m c (fun r l => (z r l).1) (fun r l => (z r l).2), E0_cell, E0_in]
/-- and backward ones, position `63 - t` at row `t`. -/
theorem words_bwd (t : Fin 64) (r : Fin 1024) (l : Fin 128) : X1 m c main_v13_7 (ix3 ⟨63 - t.val, by omega⟩ r l) = (par m c).wb.bwd (row m c r) 64 t.val l := by
  have z : ∀ r l, E1 m c main_v13_5 (ix2 r l) = (0 : EReal) ∧ E1 m c main_v13_6 (ix2 r l) = (0 : EReal) := fun r l => by
    unfold E1
    simp only [StableHlo.afterL_cons, StableHlo.afterL_nil]
    exact enter1_zero _ r l
  rw [out1 m c (fun r l => (z r l).1) (fun r l => (z r l).2), E1_cell]
  exact congrFun (Spec.Cell.fwd_rev _ _ _ 64 t.val t.isLt (E1_in m c r)) l

/-- A sentence's vector. -/
theorem sent_apply (r : Fin 1024) (i : Fin 256) : sentV (X1 m c) (ix2 r i) = (par m c).sent (row m c r) i := by
  have e : X1 m c main_v7 = transpose S1024x64x128 [1, 0, 2] (X0 m c main_v6_7 : FVec Ideal S64x1024x128 .f32) transposes_S64x1024x128_S1024x64x128_1_0_2 := by
    rw [X1_keep m c (by decide)]
    unfold E1
    simp only [StableHlo.afterL_cons, StableHlo.afterL_nil]
    rw [enter1_fwd]
  rw [sentV_eq _ _ e, poolW_apply, X1_arg m c (b := main_arg8) (by decide) (by decide) (by decide) (by decide), X1_arg m c (b := main_arg9) (by decide) (by decide) (by decide) (by decide)]
  have hH : (fun t k => bothW (X0 m c main_v6_7) (X1 m c main_v13_7) (ix3 r t k)) = Spec.level 64 (par m c).wf (par m c).wb (row m c r) := by
    refine funext fun t => funext fun k => ?_
    rw [bothW_apply]
    exact congrArg₂ (fun f g => Spec.both f g k) (funext fun l => words_fwd m c t r l) (funext fun l => words_bwd m c t r l)
  exact congrArg (fun H => Spec.ctx _ _ H i) hH

/-- A document's sentences' vectors. -/
def docRow (d : Fin 64) : ℕ → Fin 256 → EReal := Spec.ext (fun _ => 0) fun s : Fin 16 => (par m c).sent (row m c ⟨d.val * 16 + s.val, by omega⟩)

theorem E2_sent : E2 m c main_v33 = shapeCast S64x16x256 (sentV (X1 m c)) shapeCasts_S1024x256_S64x16x256 := by
  unfold E2
  simp only [StableHlo.afterL_cons, StableHlo.afterL_nil]
  rw [enter2_sent, pool_words]
theorem sent_at (d : Fin 64) (s : Fin 16) (i : Fin 256) :
    (shapeCast S64x16x256 (sentV (X1 m c)) shapeCasts_S1024x256_S64x16x256 : FVec Ideal S64x16x256 .f32) (ix3 d s i) = (par m c).sent (row m c ⟨d.val * 16 + s.val, by omega⟩) i := by
  rw [← sent_apply]
  pointwise
theorem E2_in (d : Fin 64) : seq (E2 m c main_v38_0) d = docRow m c d := by
  have e : E2 m c main_v38_0 = transpose S16x64x256 [1, 0, 2] (shapeCast S64x16x256 (sentV (X1 m c)) shapeCasts_S1024x256_S64x16x256) transposes_S64x16x256_S16x64x256_1_0_2 := by
    unfold E2
    simp only [StableHlo.afterL_cons, StableHlo.afterL_nil]
    rw [enter2_in, pool_words]
  rw [e]
  unfold seq docRow
  refine congrArg (Spec.ext (fun _ => 0)) (funext fun t => funext fun k => ?_)
  rw [← sent_at]
  pointwise
theorem E2_cell : Spec.cellOf (E2 m c main_v38_1) (E2 m c main_v38_2) (E2 m c main_v38_3) = (par m c).sf := by
  have k2 : ∀ V : Valuation τ sig (Elt Ideal), after mainOps4 V main_arg10 = V main_arg10 := fun V => by after_reads_simp
  have k3 : ∀ V : Valuation τ sig (Elt Ideal), after mainOps4 V main_arg11 = V main_arg11 := fun V => by after_reads_simp
  have k4 : ∀ V : Valuation τ sig (Elt Ideal), after mainOps4 V main_arg12 = V main_arg12 := fun V => by after_reads_simp
  unfold E2
  simp only [StableHlo.afterL_cons, StableHlo.afterL_nil]
  rw [(enter2_par _).1, (enter2_par _).2.1, (enter2_par _).2.2, k2, k3, k4, X1_arg m c (by decide) (by decide) (by decide) (by decide), X1_arg m c (by decide) (by decide) (by decide) (by decide),
    X1_arg m c (by decide) (by decide) (by decide) (by decide)]
  rfl
theorem E3_in (d : Fin 64) (k : ℕ) (hk : k < 16) : seq (E3 m c main_v45_0) d k = docRow m c d (16 - 1 - k) := by
  have e : E3 m c main_v45_0 = transpose S16x64x256 [1, 0, 2] (Host.reverse [1] (shapeCast S64x16x256 (sentV (X1 m c)) shapeCasts_S1024x256_S64x16x256)) transposes_S64x16x256_S16x64x256_1_0_2 := by
    unfold E3
    simp only [StableHlo.afterL_cons, StableHlo.afterL_nil]
    rw [enter3_in, X2_keep m c (by decide), E2_sent]
  rw [e]
  unfold seq docRow Spec.ext
  rw [dif_pos hk, dif_pos (by omega)]
  funext j
  dsimp only
  rw [← sent_at m c d ⟨16 - 1 - k, by omega⟩]
  pointwise
  have e : (⟨k, hk⟩ : Fin 16).rev = ⟨16 - 1 - k, by omega⟩ := Fin.ext (by show 16 - (k + 1) = 16 - 1 - k; omega)
  simp [e]
theorem E3_cell : Spec.cellOf (E3 m c main_v45_1) (E3 m c main_v45_2) (E3 m c main_v45_3) = (par m c).sb := by
  unfold E3
  simp only [StableHlo.afterL_cons, StableHlo.afterL_nil]
  rw [(enter3_par _).1, (enter3_par _).2.1, (enter3_par _).2.2, X2_arg m c (by decide) (by decide) (by decide) (by decide) (by decide) (by decide),
    X2_arg m c (by decide) (by decide) (by decide) (by decide) (by decide) (by decide), X2_arg m c (by decide) (by decide) (by decide) (by decide) (by decide) (by decide)]
  rfl

/-- The sentences' forward states, -/
theorem sents_fwd (t : Fin 16) (d : Fin 64) (l : Fin 128) : X2 m c main_v38_7 (ix3 t d l) = (par m c).sf.fwd (docRow m c d) t.val l := by
  have z : ∀ r l, E2 m c main_v38_5 (ix2 r l) = (0 : EReal) ∧ E2 m c main_v38_6 (ix2 r l) = (0 : EReal) := fun r l => by
    unfold E2
    simp only [StableHlo.afterL_cons, StableHlo.afterL_nil]
    exact enter2_zero _ r l
  rw [out2 m c (fun r l => (z r l).1) (fun r l => (z r l).2), E2_cell, E2_in]
/-- and backward ones. -/
theorem sents_bwd (t : Fin 16) (d : Fin 64) (l : Fin 128) : X3 m c main_v45_7 (ix3 ⟨15 - t.val, by omega⟩ d l) = (par m c).sb.bwd (docRow m c d) 16 t.val l := by
  have z : ∀ r l, E3 m c main_v45_5 (ix2 r l) = (0 : EReal) ∧ E3 m c main_v45_6 (ix2 r l) = (0 : EReal) := fun r l => by
    unfold E3
    simp only [StableHlo.afterL_cons, StableHlo.afterL_nil]
    exact enter3_zero _ r l
  rw [out3 m c (fun r l => (z r l).1) (fun r l => (z r l).2), E3_cell]
  exact congrFun (Spec.Cell.fwd_rev _ _ _ 16 t.val t.isLt (E3_in m c d)) l

/-- The reference's words are the arguments' words. -/
theorem docRow_eq (d : Fin 64) : docRow m c d = Spec.sents (par m c) (launchContents m c main_arg1) (launchContents m c main_arg0) d := by
  have e : ∀ (s : Fin 16), row m c ⟨d.val * 16 + s.val, by omega⟩ = Spec.words (launchContents m c main_arg1) (launchContents m c main_arg0) d s := fun s => by
    unfold row Spec.words
    congr 1
    funext t
    congr 1
    unfold tok
    pointwise
    all_goals (congr 2 <;> apply Fin.ext <;> simp <;> omega)
  unfold docRow Spec.sents
  simp only [e]

/-- The reference's result: every document's score. -/
theorem value (d : Fin 64) : fin m c main_v74 (ix2 d (0 : Fin 1)) = (par m c).score (Spec.sents (par m c) (launchContents m c main_arg1) (launchContents m c main_arg0) d) := by
  have e : X3 m c main_v39 = transpose S64x16x128 [1, 0, 2] (X2 m c main_v38_7 : FVec Ideal S16x64x128 .f32) transposes_S16x64x128_S64x16x128_1_0_2 := by
    rw [X3_keep m c (by decide)]
    unfold E3
    simp only [StableHlo.afterL_cons, StableHlo.afterL_nil]
    rw [enter3_fwd]
  have e' : fin m c main_v74 = scoreV (X3 m c) := by
    unfold fin
    simp only [StableHlo.afterL_cons, StableHlo.afterL_nil]
    rw [last]
  rw [e']
  rw [scoreV_eq _ _ e, scoreOf_apply, X3_arg m c (b := main_arg18) (by decide) (by decide) (by decide) (by decide) (by decide) (by decide) (by decide) (by decide),
    X3_arg m c (b := main_arg19) (by decide) (by decide) (by decide) (by decide) (by decide) (by decide) (by decide) (by decide),
    X3_arg m c (b := main_arg16) (by decide) (by decide) (by decide) (by decide) (by decide) (by decide) (by decide) (by decide),
    X3_arg m c (b := main_arg17) (by decide) (by decide) (by decide) (by decide) (by decide) (by decide) (by decide) (by decide)]
  have hH : (fun t k => bothS (X2 m c main_v38_7) (X3 m c main_v45_7) (ix3 d t k)) = Spec.level 16 (par m c).sf (par m c).sb (docRow m c d) := by
    refine funext fun t => funext fun k => ?_
    rw [bothS_apply]
    exact congrArg₂ (fun f g => Spec.both f g k) (funext fun l => sents_fwd m c t d l) (funext fun l => sents_bwd m c t d l)
  simp only [poolS_apply]
  rw [← docRow_eq]
  unfold Spec.Par.score Spec.Par.doc
  rw [← hH]
  unfold par Spec.parOf
  rfl

end Cert.ReferenceIdeal.Ref

end
-- ==== Proof.Packed.lean ====
/-
  One step of a recurrence as the kernel takes it: one product of a packed row with the stacked, scaled weights, and gates
  written with the hyperbolic tangent.
-/
module

public import proofs.«01_k».proof.Proof.Model

@[expose] public section

noncomputable section

namespace Cert.Spec

open Idealize.ShloMosaic

/-- The factor of column `j`: one half where the gate is logistic, one where it is the hyperbolic tangent. -/
def gs (j : ℕ) : ℝ := if 256 ≤ j ∧ j < 384 then 1 else 1 / 2
theorem gs_pos (j : ℕ) : 0 < gs j := by unfold gs; split <;> norm_num

/-- The stacked weights and the bias are those of cell `L`, scaled: the weights and their remainders in the order the packed row asks for. -/
structure Stacked {D N : ℕ} (hN : N = D + (D + (D + (D + (128 + (128 + (128 + 128))))))) (L : Cell D) (w : Fin N → Fin 512 → EReal) (b : Fin 512 → EReal) : Prop where
  w1 : ∀ (k : Fin D) j, w ⟨k.val, by omega⟩ j = L.wx k j * gs j.val
  w2 : ∀ (k : Fin D) j, w ⟨D + k.val, by omega⟩ j = L.wx k j * gs j.val - L.wx k j * gs j.val
  w3 : ∀ (k : Fin D) j, w ⟨D + (D + k.val), by omega⟩ j = L.wx k j * gs j.val - L.wx k j * gs j.val
  w4 : ∀ (k : Fin D) j, w ⟨D + (D + (D + k.val)), by omega⟩ j = L.wx k j * gs j.val
  w5 : ∀ (k : Fin 128) j, w ⟨D + (D + (D + (D + k.val))), by omega⟩ j = L.wh k j * gs j.val
  w6 : ∀ (k : Fin 128) j, w ⟨D + (D + (D + (D + (128 + k.val)))), by omega⟩ j = L.wh k j * gs j.val - L.wh k j * gs j.val
  w7 : ∀ (k : Fin 128) j, w ⟨D + (D + (D + (D + (128 + (128 + k.val))))), by omega⟩ j = L.wh k j * gs j.val - L.wh k j * gs j.val
  w8 : ∀ (k : Fin 128) j, w ⟨D + (D + (D + (D + (128 + (128 + (128 + k.val)))))), by omega⟩ j = L.wh k j * gs j.val
  bias : ∀ j, b j = L.b j * gs j.val

/-- The packed row is that of input `x` and hidden state `h`: each with its remainder, twice. -/
structure Packed {D N : ℕ} (hN : N = D + (D + (D + (D + (128 + (128 + (128 + 128))))))) (x : Fin D → EReal) (h : Fin 128 → EReal) (op : Fin N → EReal) : Prop where
  o1 : ∀ k : Fin D, op ⟨k.val, by omega⟩ = x k
  o2 : ∀ k : Fin D, op ⟨D + k.val, by omega⟩ = x k - x k
  o3 : ∀ k : Fin D, op ⟨D + (D + k.val), by omega⟩ = x k
  o4 : ∀ k : Fin D, op ⟨D + (D + (D + k.val)), by omega⟩ = x k - x k
  o5 : ∀ k : Fin 128, op ⟨D + (D + (D + (D + k.val))), by omega⟩ = h k
  o6 : ∀ k : Fin 128, op ⟨D + (D + (D + (D + (128 + k.val)))), by omega⟩ = h k - h k
  o7 : ∀ k : Fin 128, op ⟨D + (D + (D + (D + (128 + (128 + k.val))))), by omega⟩ = h k
  o8 : ∀ k : Fin 128, op ⟨D + (D + (D + (D + (128 + (128 + (128 + k.val)))))), by omega⟩ = h k - h k

/-- The long product plus the bias is the scaled gates' argument. -/
theorem packed_gate {D N : ℕ} {hN : N = D + (D + (D + (D + (128 + (128 + (128 + 128))))))} {L : Cell D} {w : Fin N → Fin 512 → EReal} {b : Fin 512 → EReal} {x : Fin D → EReal}
    {h : Fin 128 → EReal} {op : Fin N → EReal} (S : Stacked hN L w b) (O : Packed hN x h op) (R : L.Real) (hx : ∀ k, x k ≠ ⊤) (hh : ∀ k, IsR (h k)) (j : Fin 512) :
    ∑ k, op k * w k j + b j = gs j.val * gate L.wx L.wh L.b x h j := by
  rw [long_dot hN op (fun k => w k j) x (fun k => L.wx k j) h (fun k => L.wh k j) (gs_pos j.val) hx hh (fun k => R.1 k j) (fun k => R.2 k j)
    O.o1 O.o2 O.o3 O.o4 O.o5 O.o6 O.o7 O.o8 (fun k => S.w1 k j) (fun k => S.w2 k j) (fun k => S.w3 k j) (fun k => S.w4 k j) (fun k => S.w5 k j) (fun k => S.w6 k j) (fun k => S.w7 k j) (fun k => S.w8 k j),
    S.bias, gate, mul_add_pos (gs_pos j.val) _ (L.b j), mul_comm (L.b j)]

/-- A logistic gate as the kernel writes it. -/
def hsg (z : EReal) : EReal := Ideal.ofBits .f32 0x3F000000#32 * Ideal.tanh z + Ideal.ofBits .f32 0x3F000000#32
theorem hsg_half (z : EReal) : hsg (((1 / 2 : ℝ) : EReal) * z) = sg z := by
  unfold hsg; rw [half_bits, half_tanh]

/-- The new cell and the new hidden state as the kernel writes them, of the scaled gates' arguments `z`. -/
def kC (z : Fin 512 → EReal) (c : Fin 128 → EReal) (l : Fin 128) : EReal :=
  hsg (z ⟨128 + l.val, by omega⟩) * c l + hsg (z ⟨l.val, by omega⟩) * Ideal.tanh (z ⟨256 + l.val, by omega⟩)
def kH (z : Fin 512 → EReal) (c : Fin 128 → EReal) (l : Fin 128) : EReal := hsg (z ⟨384 + l.val, by omega⟩) * Ideal.tanh (kC z c l)

theorem kC_eq (z : Fin 512 → EReal) (c : Fin 128 → EReal) (l : Fin 128) : kC (fun j => gs j.val * z j) c l = newC z c l := by
  unfold kC newC
  simp only [gs]
  rw [if_neg (by omega), if_neg (by omega), if_pos (by omega), hsg_half, hsg_half, EReal.coe_one, one_mul]
theorem kH_eq (z : Fin 512 → EReal) (c : Fin 128 → EReal) (l : Fin 128) : kH (fun j => gs j.val * z j) c l = newH z c l := by
  unfold kH newH
  rw [kC_eq]
  simp only [gs]
  rw [if_neg (by omega), hsg_half]

end Cert.Spec

end
-- ==== Proof.HostDef.lean ====
/-
  What the kernel's host prepares for its two regions, as functions of the arguments: the stacked gate weights and biases, the attention
  weights as matrices, the embedded words in time order; each read at an index.
-/
module

public import proofs.«01_k».proof.Proof.Run
public import proofs.«01_k».proof.Proof.Take
public import proofs.«01_k».proof.Proof.Packed

@[expose] public section

set_option maxRecDepth 20000

noncomputable section

namespace Cert.KernelIdeal.Host

open Cert.KernelIdeal Cert.KernelIdeal.Gen
open Idealize.ShloMosaic Idealize.ShloMosaic.TcCoe

/-! ## The gates' scales, the stacked weights and the scaled bias -/

/-- The scale of each of the 512 columns: one half, but one for the cell candidate's. -/
def scale : FVec Ideal S512 .f32 :=
  concatenate S512 0 [⟨S256, broadcastInDim S256 ![] bcast_S_S256 (constant S_ .f32 0x3F000000#32)⟩, ⟨S128, broadcastInDim S128 ![] bcast_S_S128 (constant S_ .f32 0x3F800000#32)⟩,
    ⟨S128, broadcastInDim S128 ![] bcast_S_S128 (constant S_ .f32 0x3F000000#32)⟩] concatenates_S256_S128_S128_S512_d0
def row : FVec Ideal S1x512 .f32 := broadcastInDim S1x512 ![1] bcast_S512_S1x512_1 scale
/-- The scaled weights of the words' inputs, of the hidden states and of the sentences' inputs. -/
def scaleX (W : FVec Ideal S64x512 .f32) : FVec Ideal S64x512 .f32 := mulf W (broadcastInDim S64x512 ![0, 1] bcast_S1x512_S64x512_0_1 row)
def scaleH (W : FVec Ideal S128x512 .f32) : FVec Ideal S128x512 .f32 := mulf W (broadcastInDim S128x512 ![0, 1] bcast_S1x512_S128x512_0_1 row)
def scaleY (W : FVec Ideal S256x512 .f32) : FVec Ideal S256x512 .f32 := mulf W (broadcastInDim S256x512 ![0, 1] bcast_S1x512_S256x512_0_1 row)
/-- A value's leading part, and the leading part of what that leaves. -/
def hi {S : Shape} (W : FVec Ideal S .f32) : FVec Ideal S .bf16 := truncf .bf16 W bitsLt_bf16_f32
def lo {S : Shape} (W : FVec Ideal S .f32) : FVec Ideal S .bf16 := truncf .bf16 (subf W (extf .f32 (hi W) bitsLt_bf16_f32)) bitsLt_bf16_f32
/-- The stacked weights of a pass over the words, -/
def stackW (Wx : FVec Ideal S64x512 .f32) (Wh : FVec Ideal S128x512 .f32) : FVec Ideal S768x512 .bf16 :=
  concatenate S768x512 0 [⟨S64x512, hi (scaleX Wx)⟩, ⟨S64x512, lo (scaleX Wx)⟩, ⟨S64x512, lo (scaleX Wx)⟩, ⟨S64x512, hi (scaleX Wx)⟩,
    ⟨S128x512, hi (scaleH Wh)⟩, ⟨S128x512, lo (scaleH Wh)⟩, ⟨S128x512, lo (scaleH Wh)⟩, ⟨S128x512, hi (scaleH Wh)⟩]
    concatenates_S64x512_S64x512_S64x512_S64x512_S128x512_S128x512_S128x512_S128x512_S768x512_d0
/-- and of one over the sentences; -/
def stackS (Wx : FVec Ideal S256x512 .f32) (Wh : FVec Ideal S128x512 .f32) : FVec Ideal S1536x512 .bf16 :=
  concatenate S1536x512 0 [⟨S256x512, hi (scaleY Wx)⟩, ⟨S256x512, lo (scaleY Wx)⟩, ⟨S256x512, lo (scaleY Wx)⟩, ⟨S256x512, hi (scaleY Wx)⟩,
    ⟨S128x512, hi (scaleH Wh)⟩, ⟨S128x512, lo (scaleH Wh)⟩, ⟨S128x512, lo (scaleH Wh)⟩, ⟨S128x512, hi (scaleH Wh)⟩]
    concatenates_S256x512_S256x512_S256x512_S256x512_S128x512_S128x512_S128x512_S128x512_S1536x512_d0
/-- the scaled bias as a row. -/
def bias (b : FVec Ideal S512 .f32) : FVec Ideal S1x512 .f32 := shapeCast S1x512 (mulf b scale) shapeCasts_S512_S1x512

theorem scale_apply (j : Fin 512) : scale (ix1 j) = ((Spec.gs j.val : ℝ) : EReal) := by
  pointwise [scale]
  unfold Spec.gs
  rw [Spec.half_bits]
  split_ifs <;> first | rfl | omega
theorem scaleX_apply (W : FVec Ideal S64x512 .f32) (k : Fin 64) (j : Fin 512) : scaleX W (ix2 k j) = W (ix2 k j) * ((Spec.gs j.val : ℝ) : EReal) := by
  pointwise [scaleX, row, scale_apply]
theorem scaleH_apply (W : FVec Ideal S128x512 .f32) (k : Fin 128) (j : Fin 512) : scaleH W (ix2 k j) = W (ix2 k j) * ((Spec.gs j.val : ℝ) : EReal) := by
  pointwise [scaleH, row, scale_apply]
theorem scaleY_apply (W : FVec Ideal S256x512 .f32) (k : Fin 256) (j : Fin 512) : scaleY W (ix2 k j) = W (ix2 k j) * ((Spec.gs j.val : ℝ) : EReal) := by
  pointwise [scaleY, row, scale_apply]
theorem bias_apply (b : FVec Ideal S512 .f32) (o : Fin 1) (j : Fin 512) : bias b (ix2 o j) = b (ix1 j) * ((Spec.gs j.val : ℝ) : EReal) := by
  pointwise [bias, scale_apply]

/-- The stacked weights of the words hold the eight scaled blocks. -/
theorem stackW_stacked (Wx : FVec Ideal S64x512 .f32) (Wh : FVec Ideal S128x512 .f32) (b : FVec Ideal S512 .f32) :
    Spec.Stacked (N := 768) rfl (Spec.cellOf Wx Wh b) (fun k j => stackW Wx Wh (ix2 k j)) (fun j => bias b (ix2 (0 : Fin 1) j)) where
  w1 k j := by pointwise [stackW, hi, lo, scaleX_apply, scaleH_apply, Spec.cellOf]
  w2 k j := by pointwise [stackW, hi, lo, scaleX_apply, scaleH_apply, Spec.cellOf]
  w3 k j := by pointwise [stackW, hi, lo, scaleX_apply, scaleH_apply, Spec.cellOf]
  w4 k j := by pointwise [stackW, hi, lo, scaleX_apply, scaleH_apply, Spec.cellOf]
  w5 k j := by pointwise [stackW, hi, lo, scaleX_apply, scaleH_apply, Spec.cellOf]
  w6 k j := by pointwise [stackW, hi, lo, scaleX_apply, scaleH_apply, Spec.cellOf]
  w7 k j := by pointwise [stackW, hi, lo, scaleX_apply, scaleH_apply, Spec.cellOf]
  w8 k j := by pointwise [stackW, hi, lo, scaleX_apply, scaleH_apply, Spec.cellOf]
  bias j := bias_apply b 0 j
/-- And those of the sentences. -/
theorem stackS_stacked (Wx : FVec Ideal S256x512 .f32) (Wh : FVec Ideal S128x512 .f32) (b : FVec Ideal S512 .f32) :
    Spec.Stacked (N := 1536) rfl (Spec.cellOf Wx Wh b) (fun k j => stackS Wx Wh (ix2 k j)) (fun j => bias b (ix2 (0 : Fin 1) j)) where
  w1 k j := by pointwise [stackS, hi, lo, scaleY_apply, scaleH_apply, Spec.cellOf]
  w2 k j := by pointwise [stackS, hi, lo, scaleY_apply, scaleH_apply, Spec.cellOf]
  w3 k j := by pointwise [stackS, hi, lo, scaleY_apply, scaleH_apply, Spec.cellOf]
  w4 k j := by pointwise [stackS, hi, lo, scaleY_apply, scaleH_apply, Spec.cellOf]
  w5 k j := by pointwise [stackS, hi, lo, scaleY_apply, scaleH_apply, Spec.cellOf]
  w6 k j := by pointwise [stackS, hi, lo, scaleY_apply, scaleH_apply, Spec.cellOf]
  w7 k j := by pointwise [stackS, hi, lo, scaleY_apply, scaleH_apply, Spec.cellOf]
  w8 k j := by pointwise [stackS, hi, lo, scaleY_apply, scaleH_apply, Spec.cellOf]
  bias j := bias_apply b 0 j

/-! ## The attention weights -/

/-- A column of 128 repeated along 128 lanes, -/
def tile (v : FVec Ideal S128 .f32) : FVec Ideal S128x128 .f32 :=
  shapeCast S128x128 (broadcastInDim S1x128x128x1 ![0, 1, 2, 3] bcast_S1x128x1x1_S1x128x128x1_0_1_2_3
    (shapeCast S1x128x1x1 (shapeCast S128x1 v shapeCasts_S128_S128x1) shapeCasts_S128x1_S1x128x1x1)) shapeCasts_S1x128x128x1_S128x128
/-- the attention weights' two halves so repeated, -/
def attw (w : FVec Ideal S256 .f32) : FVec Ideal S256x128 .bf16 :=
  truncf .bf16 (concatenate S256x128 0 [⟨S128x128, tile (extractStridedSlice S128 ![0] w slices_S256_S128_0)⟩, ⟨S128x128, tile (extractStridedSlice S128 ![128] w slices_S256_S128_128)⟩]
    concatenates_S128x128_S128x128_S256x128_d0) bitsLt_bf16_f32
/-- and the attention biases of the words and of the sentences. -/
def attbW (b : FVec Ideal S64 .f32) : FVec Ideal S64x128 .f32 :=
  shapeCast S64x128 (broadcastInDim S1x64x128x1 ![0, 1, 2, 3] bcast_S1x64x1x1_S1x64x128x1_0_1_2_3
    (shapeCast S1x64x1x1 (shapeCast S64x1 b shapeCasts_S64_S64x1) shapeCasts_S64x1_S1x64x1x1)) shapeCasts_S1x64x128x1_S64x128
def attbS (b : FVec Ideal S16 .f32) : FVec Ideal S16x128 .f32 :=
  shapeCast S16x128 (broadcastInDim S1x16x128x1 ![0, 1, 2, 3] bcast_S1x16x1x1_S1x16x128x1_0_1_2_3
    (shapeCast S1x16x1x1 (shapeCast S16x1 b shapeCasts_S16_S16x1) shapeCasts_S16x1_S1x16x1x1)) shapeCasts_S1x16x128x1_S16x128

theorem tile_apply (v : FVec Ideal S128 .f32) (k l : Fin 128) : tile v (ix2 k l) = v (ix1 k) := by
  pointwise [tile]
theorem attw_apply (w : FVec Ideal S256 .f32) (k : Fin 256) (l : Fin 128) : attw w (ix2 k l) = w (ix1 k) := by
  pointwise [attw, tile_apply]
  split
  · rfl
  · exact congrArg (fun i => w (ix1 i)) (Fin.ext (by show 128 + (k.val - 128) = k.val; omega))
theorem attbW_apply (b : FVec Ideal S64 .f32) (t : Fin 64) (l : Fin 128) : attbW b (ix2 t l) = b (ix1 t) := by
  pointwise [attbW]
theorem attbS_apply (b : FVec Ideal S16 .f32) (t : Fin 16) (l : Fin 128) : attbS b (ix2 t l) = b (ix1 t) := by
  pointwise [attbS]

/-! ## The words' embeddings in time order -/

/-- The row numbers, word by word; -/
def flat (a : IVec S64x16x64 32) : IVec S65536 32 :=
  shapeCast S65536 (transpose S64x1024 [1, 0] (shapeCast S1024x64 a shapeCasts_S64x16x64_S1024x64) transposes_S1024x64_S64x1024_1_0) shapeCasts_S64x1024_S65536
def tokK (tok : IVec S65536 32) : IVec S65536 32 :=
  select (cmpi .slt tok (broadcastInDim S65536 ![] bcast_S_S65536 (constantI S_ 32 0#32)))
    (addi tok (broadcastInDim S65536 ![] bcast_S_S65536 (constantI S_ 32 100000#32))) tok
def idxK (tok : IVec S65536 32) : IVec S65536x1 32 := broadcastInDim S65536x1 ![0] bcast_S65536_S65536x1_0 (tokK tok)
def inK (tok : IVec S65536 32) : IVec S65536 1 :=
  Host.reduce IntOp.andi
    (andi (cmpi .sge (idxK tok) (broadcastInDim S65536x1 ![] bcast_S_S65536x1 (constantI S_ 32 0#32)))
      (cmpi .sle (idxK tok) (broadcastInDim S65536x1 ![0, 1] bcast_S1x1_S65536x1_0_1 (broadcastInDim S1x1 ![1] bcast_S1_S1x1_1 (constantI S1 32 99999#32)))))
    (constantI S_ 1 1#1) reducesTo_S65536x1_S65536_d1 h_S_
/-- the rows taken; -/
def takeK (E : FVec Ideal S100000x64 .f32) (tok : IVec S65536 32) : FVec Ideal S65536x64 .f32 :=
  select (broadcastInDim S65536x64 ![0] bcast_S65536_S65536x64_0 (inK tok))
    (Host.gather gather_S100000x64_S65536x1_S65536x64_1_0_n_n_0_1_164 E (idxK tok))
    (broadcastInDim S65536x64 ![] bcast_S_S65536x64 (constant S_ .f32 0x7FC00000#32))
/-- and those rows widened to 128 lanes, one matrix a word position. -/
def wide (x : FVec Ideal S65536x64 .f32) (v : FVec Ideal S_ .f32) : FVec Ideal S65536x128 .f32 :=
  pad S65536x128 ![0, 0] ![0, 64] ![0, 0] x v pads_S65536x64_S65536x128_000_0640 h_S_
def timed (x : FVec Ideal S65536x128 .f32) : FVec Ideal S64x1024x128 .f32 := shapeCast S64x1024x128 x shapeCasts_S65536x128_S64x1024x128

theorem flat_apply (a : IVec S64x16x64 32) (t : Fin 64) (r : Fin 1024) :
    flat a (ix1 (⟨t.val * 1024 + r.val, by omega⟩ : Fin 65536)) = a (ix3 ⟨r.val / 16, by omega⟩ ⟨r.val % 16, by omega⟩ t) := by
  pointwise [flat]
theorem tokK_apply (tok : IVec S65536 32) (i : Fin 65536) : tokK tok (ix1 i) = Spec.token (tok (ix1 i)) := by
  pointwise [tokK, Spec.token]
theorem idxK_apply (tok : IVec S65536 32) (i : Fin 65536) (o : Fin 1) : idxK tok (ix2 i o) = Spec.token (tok (ix1 i)) := by
  pointwise [idxK, tokK_apply]
theorem inK_apply (tok : IVec S65536 32) (i : Fin 65536) :
    inK tok (ix1 i) = IntOp.andi (IntOp.cmpi .sge (Spec.token (tok (ix1 i))) 0#32) (IntOp.cmpi .sle (Spec.token (tok (ix1 i))) 99999#32) := by
  pointwise [inK, idxK_apply]
  exact Spec.fold_bit _
theorem takeK_apply (E : FVec Ideal S100000x64 .f32) (tok : IVec S65536 32) (i : Fin 65536) (k : Fin 64) :
    takeK E tok (ix2 i k) = Spec.embed E (tok (ix1 i)) k := by
  have e := Spec.rows1_apply (by omega) gather_S100000x64_S65536x1_S65536x64_1_0_n_n_0_1_164_wf E (idxK tok) i k
  pointwise [takeK, inK_apply, Spec.embed]
  simp only [idxK_apply] at e
  exact congrArg (fun v => Scalar.select _ v _) e
theorem wide_apply (x : FVec Ideal S65536x64 .f32) (v : FVec Ideal S_ .f32) (i : Fin 65536) (k : Fin 64) :
    wide x v (ix2 i (⟨k.val, by omega⟩ : Fin 128)) = x (ix2 i k) := by
  pointwise [wide]
theorem timed_apply (x : FVec Ideal S65536x128 .f32) (t : Fin 64) (r : Fin 1024) (k : Fin 128) :
    timed x (ix3 t r k) = x (ix2 (⟨t.val * 1024 + r.val, by omega⟩ : Fin 65536) k) := by
  pointwise [timed]

end Cert.KernelIdeal.Host
-- ==== Proof.HostRead.lean ====
/-
  What each host stretch of the kernel leaves in the buffers its regions read, of any contents before it.
-/
module

public import proofs.«01_k».proof.Proof.HostDef
public import Idealize.ShloMosaic.Lib.StableHlo.RunRead

@[expose] public section

set_option maxRecDepth 20000

noncomputable section

namespace Cert.KernelIdeal.Host

open Cert.KernelIdeal Cert.KernelIdeal.Gen
open Idealize.ShloMosaic Idealize.ShloMosaic.TcCoe
open Idealize.ShloMosaic.StableHlo (after)

variable (V : Valuation τ sig (Elt Ideal))

/-! ## Before the word region -/

theorem read_v2 : after hostOps0 V main_v2 = flat (V main_arg0) := by
  after_reads_simp <;> rfl
theorem read_v3 : after hostOps0_1 V main_v3 = takeK (V main_arg1) (V main_v2) := by
  after_reads_simp
  simp only [StableHlo.TRef.ofBuf_toBuf]
  unfold takeK inK idxK tokK
  simp only [StableHlo.TRef.toBuf, StableHlo.TRef.ofBuf, StableHlo.TRef.of, cast_eq]
theorem read_v4 : after hostOps0_3 V main_v4 = wide (V main_v3) (sitofp .f32 (V main_c : IVec S_ 32)) := by
  after_reads_simp
  simp only [StableHlo.TRef.ofBuf_toBuf]
  unfold wide
  simp only [StableHlo.TRef.toBuf, StableHlo.TRef.ofBuf, StableHlo.TRef.of, cast_eq]
theorem read_v5 : after hostOps0_4 V main_v5 = timed (V main_v4) := by
  after_reads_simp <;> rfl
theorem read_v24 : after hostOps0_4 V main_v24 = stackW (V main_arg2) (V main_arg3) := by
  after_reads_simp <;> rfl
theorem read_v43 : after hostOps0_4 V main_v43 = stackW (V main_arg5) (V main_arg6) := by
  after_reads_simp <;> rfl
theorem read_v55 : after hostOps0_4 V main_v55 = attw (V main_arg8) := by
  after_reads_simp <;> rfl
theorem read_v59 : after hostOps0_4 V main_v59 = attbW (V main_arg9) := by
  after_reads_simp <;> rfl
theorem read_v65 : after hostOps0_4 V main_v65 = bias (V main_arg4) := by
  after_reads_simp <;> rfl
theorem read_v71 : after hostOps0_4 V main_v71 = bias (V main_arg7) := by
  after_reads_simp <;> rfl

/-! ## Between the regions -/

/-- The pooled sentence vectors in time order. -/
def turned (x : FVec Ideal S1024x256 .f32) : FVec Ideal S16x64x256 .f32 :=
  transpose S16x64x256 [1, 0, 2] (shapeCast S64x16x256 x shapeCasts_S1024x256_S64x16x256) transposes_S64x16x256_S16x64x256_1_0_2

theorem turned_apply (x : FVec Ideal S1024x256 .f32) (t : Fin 16) (r : Fin 64) (k : Fin 256) :
    turned x (ix3 t r k) = x (ix2 (⟨r.val * 16 + t.val, by omega⟩ : Fin 1024) k) := by
  pointwise [turned]

theorem read_v74 : after hostOps1 V main_v74 = turned (V main_v72) := by
  after_reads_simp <;> rfl
theorem read_v93 : after hostOps1 V main_v93 = stackS (V main_arg10) (V main_arg11) := by
  after_reads_simp <;> rfl
theorem read_v112 : after hostOps1 V main_v112 = stackS (V main_arg13) (V main_arg14) := by
  after_reads_simp <;> rfl
theorem read_v124 : after hostOps1 V main_v124 = attw (V main_arg16) := by
  after_reads_simp <;> rfl
theorem read_v128 : after hostOps1 V main_v128 = attbS (V main_arg17) := by
  after_reads_simp <;> rfl
theorem read_v134 : after hostOps1 V main_v134 = bias (V main_arg12) := by
  after_reads_simp <;> rfl
theorem read_v140 : after hostOps1 V main_v140 = bias (V main_arg15) := by
  after_reads_simp <;> rfl
theorem read_v141 : after hostOps1 V main_v141 = extractStridedSlice S128x1 ![0, 0] (V main_arg18 : FVec Ideal S256x1 .f32) slices_S256x1_S128x1_0_0 := by
  after_reads_simp <;> rfl
theorem read_v142 : after hostOps1 V main_v142 = extractStridedSlice S128x1 ![128, 0] (V main_arg18 : FVec Ideal S256x1 .f32) slices_S256x1_S128x1_128_0 := by
  after_reads_simp <;> rfl
theorem read_v143 : after hostOps1 V main_v143 = shapeCast S1x1 (V main_arg19 : FVec Ideal S1 .f32) shapeCasts_S1_S1x1 := by
  after_reads_simp <;> rfl

end Cert.KernelIdeal.Host
-- ==== Proof.Pool.lean ====
/-
  Sums taken a step at a time, and the attention pooling in the kernel's order: the weighted states and the weights are
  summed separately, and the quotient is taken once.
-/
module

public import proofs.«01_k».proof.Proof.Model

@[expose] public section

noncomputable section

namespace Cert.Spec

open Idealize.ShloMosaic

/-- A sequence that starts at zero and adds `f k` at step `k` is, after `T` steps, the sum. -/
theorem sum_of_steps {T : ℕ} (f : Fin T → EReal) (p : ℕ → EReal) (p0 : p 0 = 0) (ps : ∀ k : Fin T, p (k.val + 1) = p k.val + f k) : p T = ∑ k, f k := by
  have h : ∀ n (hn : n ≤ T), p n = ∑ k : Fin n, f ⟨k.val, by omega⟩ := by
    intro n
    induction n with
    | zero => intro _; simpa using p0
    | succ n ih => intro hn; rw [Fin.sum_univ_castSucc, ps ⟨n, hn⟩, ih (by omega)]; rfl
  exact h T le_rfl

/-- The weight of two states side by side, their two products taken apart. -/
theorem att_both (aw : Fin 256 → EReal) (ab : EReal) (f b : Fin 128 → EReal) :
    Ideal.exp (Ideal.tanh (∑ k : Fin 128, f k * aw ⟨k.val, by omega⟩ + ∑ k : Fin 128, b k * aw ⟨128 + k.val, by omega⟩ + ab)) = att aw ab (both f b) := by
  rw [att, sum_cut (m := 128) (n := 128) rfl]
  refine congrArg (fun z => Ideal.exp (Ideal.tanh (z + ab))) (congrArg₂ (· + ·) (Finset.sum_congr rfl fun k _ => ?_) (Finset.sum_congr rfl fun k _ => ?_))
  · rw [both, dif_pos k.isLt]
  · rw [both, dif_neg (by dsimp only; omega)]
    exact congrArg (fun i => b i * _) (Fin.ext (by dsimp only; omega))

/-- The pooled states: the sum of the weighted states times the reciprocal of the weights' sum. -/
theorem ctx_of_sums {T : ℕ} (aw : Fin 256 → EReal) (ab : Fin T → EReal) (H : Fin T → Fin 256 → EReal) (hH : ∀ t i, IsR (H t i)) (i : Fin 256) :
    (∑ t, att aw (ab t) (H t) * H t i) * Ideal.div 1 (∑ t, att aw (ab t) (H t) + eps) = ctx aw ab H i :=
  pool_eq _ _ (fun t => att_real aw (ab t) (H t)) fun t => hH t i

end Cert.Spec

end
-- ==== Proof.WordVal.lean ====
/-
  The word kernel's result as the formula of what its region reads: the two LSTM passes over every sentence's words and
  their attention pooling.
-/
module

public import proofs.«01_k».proof.Proof.WordDat
public import proofs.«01_k».proof.Proof.Packed
public import proofs.«01_k».proof.Proof.Pool
public import Idealize.ShloMosaic.Lib.Pointwise
public import Idealize.ShloMosaic.Lib.Pipeline.ValueKit

@[expose] public section

set_option maxRecDepth 8192

noncomputable section

namespace Cert.KernelIdeal.Word

open Cert.KernelIdeal Cert.KernelIdeal.Gen
open Idealize.ShloMosaic Idealize.ShloMosaic.TcCoe

/-- The row of the long product: the inputs and their remainders twice, the packed hidden state twice. -/
def longRow (x : FVec Ideal S1x1024x128 .f32) (hh : FVec Ideal S1024x256 .bf16) : FVec Ideal S1024x768 .bf16 :=
  have v5 := extractStridedSlice S1024x64 ![0, 0] (shapeCast S1024x128 x shapeCasts_S1x1024x128_S1024x128) slices_S1024x128_o0_0_S1024x64
  have v14 : FVec Ideal S1024x128 .bf16 := concatenate S1024x128 1 [⟨S1024x64, (truncf .bf16 v5 bitsLt_bf16_f32 : FVec Ideal S1024x64 .bf16)⟩,
    ⟨S1024x64, (truncf .bf16 (subf v5 (extf .f32 (truncf .bf16 v5 bitsLt_bf16_f32) bitsLt_bf16_f32)) bitsLt_bf16_f32 : FVec Ideal S1024x64 .bf16)⟩] concatenates_S1024x64_S1024x64_S1024x128_d1
  concatenate S1024x768 1 [⟨S1024x128, v14⟩, ⟨S1024x128, v14⟩, ⟨S1024x256, hh⟩, ⟨S1024x256, hh⟩] concatenates_S1024x128_S1024x128_S1024x256_S1024x256_S1024x768_d1

variable (x : Vec Ideal S1x1024x128 .f32) (w : Vec Ideal S768x512 .bf16) (b : Vec Ideal S1x512 .f32) (hh : Vec Ideal S1024x256 .bf16) (cc : Vec Ideal S1024x128 .f32)

theorem longRow_apply (r : Fin 1024) (k : Fin 768) : longRow x hh (ix2 r k) =
    if _ : k.val < 128 then
      if _ : k.val < 64 then x (ix3 (0 : Fin 1) r ⟨k.val, by omega⟩) else x (ix3 (0 : Fin 1) r ⟨k.val - 64, by omega⟩) - x (ix3 (0 : Fin 1) r ⟨k.val - 64, by omega⟩)
    else if _ : k.val - 128 < 128 then
      if _ : k.val - 128 < 64 then x (ix3 (0 : Fin 1) r ⟨k.val - 128, by omega⟩) else x (ix3 (0 : Fin 1) r ⟨k.val - 128 - 64, by omega⟩) - x (ix3 (0 : Fin 1) r ⟨k.val - 128 - 64, by omega⟩)
    else if _ : k.val - 128 - 128 < 256 then hh (ix2 r ⟨k.val - 128 - 128, by omega⟩) else hh (ix2 r ⟨k.val - 128 - 128 - 256, by omega⟩) := by
  pointwise [longRow]
/-- The row is the packed row of its sequence's input and hidden state. -/
theorem packed (r : Fin 1024) (h : Fin 128 → EReal) (hr : ∀ l, hh (ix2 r l) = Spec.both h (fun l => h l - h l) l) :
    Spec.Packed (D := 64) (N := 768) rfl (fun k => x (ix3 (0 : Fin 1) r ⟨k.val, by omega⟩)) h (fun k => longRow x hh (ix2 r k)) := by
  constructor <;> intro k <;> have := k.isLt <;> rw [longRow_apply] <;> dsimp only <;> simp only [hr, Spec.both] <;> split_ifs <;>
    first
    | rfl
    | omega
    | (refine congrArg x (congrArg (ix3 (0 : Fin 1) r) (Fin.ext ?_)); dsimp only; omega)
    | (refine congrArg h (Fin.ext ?_); dsimp only; omega)
    | (refine congrArg (fun i => x i - x i) (congrArg (ix3 (0 : Fin 1) r) (Fin.ext ?_)); dsimp only; omega)
    | (refine congrArg (fun i => h i - h i) (Fin.ext ?_); dsimp only; omega)
theorem z_apply (r : Fin 1024) (j : Fin 512) : k0_pay46 x hh b w (ix2 r j) = ∑ k : Fin 768, longRow x hh (ix2 r k) * w (ix2 k j) + b (ix2 (0 : Fin 1) j) := by
  have e : k0_pay46 x hh b w = addf (matmul dot_S1024x768_S768x512_S1024x512_1_0_0_1_n_n none (longRow x hh) (shapeCast S768x512 w shapeCasts_S768x512_S768x512) (constant S1024x512 .f32 0x00000000#32))
     (broadcastTo S1024x512 (shapeCast S1x512 b shapeCasts_S1x512_S1x512) broadcasts_S1x512_S1024x512) := rfl
  rw [e]
  pointwise
theorem fwdC_apply (r : Fin 1024) (l : Fin 128) : fwdC x w b hh cc (ix2 r l) = Spec.kC (fun j => k0_pay46 x hh b w (ix2 r j)) (fun l => cc (ix2 r l)) l := by
  pointwise [fwdC, k0_pay66, k0_pay51, k0_pay47, k0_pay48, k0_pay49, Spec.kC, Spec.hsg]
theorem bwdC_eq : bwdC x w b hh cc = fwdC x w b hh cc := rfl
theorem bwdHH_eq : bwdHH x w b hh cc = fwdHH x w b hh cc := rfl
theorem bwdH_eq : bwdH x w b hh cc = fwdH x w b hh cc := rfl
theorem fwdHH_apply (r : Fin 1024) (l : Fin 256) : fwdHH x w b hh cc (ix2 r l) =
    Spec.both (Spec.kH (fun j => k0_pay46 x hh b w (ix2 r j)) (fun l => cc (ix2 r l))) (fun l => Spec.kH (fun j => k0_pay46 x hh b w (ix2 r j)) (fun l => cc (ix2 r l)) l - Spec.kH (fun j => k0_pay46 x hh b w (ix2 r j)) (fun l => cc (ix2 r l)) l) l := by
  pointwise [fwdHH, k0_pay64, k0_pay54, k0_pay53, k0_pay52, k0_pay51, k0_pay50,k0_pay47, k0_pay48, k0_pay49, half, Spec.both, Spec.kH, Spec.kC, Spec.hsg]
theorem fwdH_apply (r : Fin 1024) (l : Fin 128) : fwdH x w b hh cc (ix3 (0 : Fin 1) r l) = Spec.kH (fun j => k0_pay46 x hh b w (ix2 r j)) (fun l => cc (ix2 r l)) l := by
  pointwise [fwdH, k0_pay68, k0_pay53, k0_pay52, k0_pay51, k0_pay50,k0_pay47, k0_pay48, k0_pay49, half, Spec.kH, Spec.kC, Spec.hsg]

/-- One step's gates: the scaled arguments of the cell's. -/
theorem z_row {L : Spec.Cell 64} (R : L.Real) (S : Spec.Stacked (N := 768) rfl L (fun k j => w (ix2 k j)) (fun j => b (ix2 (0 : Fin 1) j))) (r : Fin 1024) {xs : Fin 64 → EReal} {h : Fin 128 → EReal}
    (hX : ∀ k : Fin 64, x (ix3 (0 : Fin 1) r ⟨k.val, by omega⟩) = xs k) (hx : ∀ k, xs k ≠ ⊤) (hh' : ∀ l, Spec.IsR (h l)) (hr : ∀ l, hh (ix2 r l) = Spec.both h (fun l => h l - h l) l) :
    (fun j => k0_pay46 x hh b w (ix2 r j)) = fun j => Spec.gs j.val * Spec.gate L.wx L.wh L.b xs h j := by
  funext j
  have e : (fun k : Fin 64 => x (ix3 (0 : Fin 1) r ⟨k.val, by omega⟩)) = xs := funext hX
  rw [z_apply, Spec.packed_gate S (e ▸ packed x hh r h hr) R hx hh']

/-- A state sequence that takes the kernel's steps from zero is the cell's, row by row; so is the hidden state each step keeps. -/
theorem states {L : Spec.Cell 64} (R : L.Real) (X : Fin cfg0.N → Vec Ideal S1x1024x128 .f32) (W : Fin cfg0.N → Vec Ideal S768x512 .bf16) (B : Fin cfg0.N → Vec Ideal S1x512 .f32)
    (S : ∀ t, Spec.Stacked (N := 768) rfl L (fun k j => W t (ix2 k j)) (fun j => B t (ix2 (0 : Fin 1) j))) (xs : Fin 1024 → ℕ → Fin 64 → EReal)
    (hX : ∀ (t : Fin cfg0.N) r (k : Fin 64), X t (ix3 (0 : Fin 1) r ⟨k.val, by omega⟩) = xs r t.val k) (hx : ∀ r t k, xs r t k ≠ ⊤)
    (s : ℕ → Vec Ideal S1024x256 .bf16 × Vec Ideal S1024x128 .f32) (s0 : (∀ r l, (s 0).1 (ix2 r l) = (0 : EReal)) ∧ ∀ r l, (s 0).2 (ix2 r l) = (0 : EReal))
    (sn : ∀ t : Fin cfg0.N, s (t.val + 1) = (fwdHH (X t) (W t) (B t) (s t.val).1 (s t.val).2, fwdC (X t) (W t) (B t) (s t.val).1 (s t.val).2)) :
    ∀ n ≤ cfg0.N, ∀ r, (∀ l, (s n).2 (ix2 r l) = (L.st (xs r) n).2 l) ∧ ∀ i, (s n).1 (ix2 r i) = Spec.both (L.st (xs r) n).1 (fun l => (L.st (xs r) n).1 l - (L.st (xs r) n).1 l) i
  | 0, _, r => ⟨fun l => s0.2 _ _, fun i => by rw [s0.1]; simp [Spec.both, Spec.Cell.st, Spec.st]⟩
  | n + 1, hn, r => by
    have ih := states R X W B S xs hX hx s s0 sn n (Nat.le_of_succ_le hn) r
    have e := sn ⟨n, hn⟩
    dsimp only at e
    have z := z_row (X ⟨n, hn⟩) (W ⟨n, hn⟩) (B ⟨n, hn⟩) (s n).1 R (S _) r (hX ⟨n, hn⟩ r) (hx r n) (fun l => (Spec.st_real _ _ _ _ n l).1) ih.2
    have c : (fun l => (s n).2 (ix2 r l)) = (L.st (xs r) n).2 := funext ih.1
    rw [e]
    refine ⟨fun l => ?_, fun i => ?_⟩ <;> dsimp only
    · rw [fwdC_apply, z, c, Spec.kC_eq]; rfl
    · rw [fwdHH_apply, z, c]
      have q : Spec.kH (fun j => Spec.gs j.val * Spec.gate L.wx L.wh L.b (xs r n) (fun l => (L.st (xs r) n).1 l) j) (L.st (xs r) n).2 = (L.st (xs r) (n + 1)).1 :=
        funext fun l => Spec.kH_eq _ _ l
      rw [q]

theorem kept {L : Spec.Cell 64} (R : L.Real) (x : Vec Ideal S1x1024x128 .f32) (w : Vec Ideal S768x512 .bf16) (b : Vec Ideal S1x512 .f32)
    (S : Spec.Stacked (N := 768) rfl L (fun k j => w (ix2 k j)) (fun j => b (ix2 (0 : Fin 1) j))) (xs : ℕ → Fin 64 → EReal) (r : Fin 1024) (n : ℕ)
    (hX : ∀ k : Fin 64, x (ix3 (0 : Fin 1) r ⟨k.val, by omega⟩) = xs n k) (hx : ∀ k, xs n k ≠ ⊤) (hh : Vec Ideal S1024x256 .bf16) (cc : Vec Ideal S1024x128 .f32)
    (hc : ∀ l, cc (ix2 r l) = (L.st xs n).2 l) (hh' : ∀ i, hh (ix2 r i) = Spec.both (L.st xs n).1 (fun l => (L.st xs n).1 l - (L.st xs n).1 l) i) (l : Fin 128) :
    fwdH x w b hh cc (ix3 (0 : Fin 1) r l) = L.fwd xs n l := by
  have z := z_row x w b hh R S r hX hx (fun l => (Spec.st_real _ _ _ _ n l).1) hh'
  have c : (fun l => cc (ix2 r l)) = (L.st xs n).2 := funext hc
  rw [fwdH_apply, z, c, Spec.kH_eq]; rfl

/-! ## The blocks the points read -/

section
variable (V : (c : Dev nD) → (b : Ref sig .tc) → Buf (Elt Ideal) ((c : Thread nD τ).loc b)) (c : Dev nD)

theorem at0_0 : ∀ t : Fin grid0.N, win0_0.index t 0 = t.val := by decide +kernel
theorem at0_1 : ∀ t : Fin grid0.N, win0_0.index t 1 = 0 := by decide +kernel
theorem at0_2 : ∀ t : Fin grid0.N, win0_0.index t 2 = 0 := by decide +kernel
theorem at1_0 : ∀ t : Fin grid0.N, win0_1.index t 0 = 63 - t.val := by decide +kernel
theorem at1_1 : ∀ t : Fin grid0.N, win0_1.index t 1 = 0 := by decide +kernel
theorem at1_2 : ∀ t : Fin grid0.N, win0_1.index t 2 = 0 := by decide +kernel
theorem at2_0 : ∀ t : Fin grid0.N, win0_2.index t 0 = 0 := by decide +kernel
theorem at2_1 : ∀ t : Fin grid0.N, win0_2.index t 1 = 0 := by decide +kernel
theorem at3_0 : ∀ t : Fin grid0.N, win0_3.index t 0 = 0 := by decide +kernel
theorem at3_1 : ∀ t : Fin grid0.N, win0_3.index t 1 = 0 := by decide +kernel
theorem at4_0 : ∀ t : Fin grid0.N, win0_4.index t 0 = 0 := by decide +kernel
theorem at4_1 : ∀ t : Fin grid0.N, win0_4.index t 1 = 0 := by decide +kernel
theorem at5_0 : ∀ t : Fin grid0.N, win0_5.index t 0 = 0 := by decide +kernel
theorem at5_1 : ∀ t : Fin grid0.N, win0_5.index t 1 = 0 := by decide +kernel
theorem at6_0 : ∀ t : Fin grid0.N, win0_6.index t 0 = 0 := by decide +kernel
theorem at6_1 : ∀ t : Fin grid0.N, win0_6.index t 1 = 0 := by decide +kernel
theorem at7_0 : ∀ t : Fin grid0.N, win0_7.index t 0 = 0 := by decide +kernel
theorem at7_1 : ∀ t : Fin grid0.N, win0_7.index t 1 = 0 := by decide +kernel

theorem xF_apply (t : Fin cfg0.N) (r : Fin 1024) (k : Fin 128) : xF V c t (ix3 (0 : Fin 1) r k) = V c main_v5 (ix3 (⟨t.val, lt_of_lt_of_eq t.isLt cfgN⟩ : Fin 64) r k) := by
  blk_ext [xF, at0_0 t, at0_1 t, at0_2 t]
theorem xB_apply (t : Fin cfg0.N) (r : Fin 1024) (k : Fin 128) : xB V c t (ix3 (0 : Fin 1) r k) = V c main_v5 (ix3 (⟨63 - t.val, by omega⟩ : Fin 64) r k) := by
  blk_ext [xB, at1_0 t, at1_1 t, at1_2 t]
theorem wF_apply (t : Fin cfg0.N) (k : Fin 768) (j : Fin 512) : wF V c t (ix2 k j) = V c main_v24 (ix2 k j) := by
  blk_ext [wF, at2_0 t, at2_1 t]
theorem bF_apply (t : Fin cfg0.N) (k : Fin 1) (j : Fin 512) : bF V c t (ix2 k j) = V c main_v65 (ix2 k j) := by
  blk_ext [bF, at3_0 t, at3_1 t]
theorem wB_apply (t : Fin cfg0.N) (k : Fin 768) (j : Fin 512) : wB V c t (ix2 k j) = V c main_v43 (ix2 k j) := by
  blk_ext [wB, at4_0 t, at4_1 t]
theorem bB_apply (t : Fin cfg0.N) (k : Fin 1) (j : Fin 512) : bB V c t (ix2 k j) = V c main_v71 (ix2 k j) := by
  blk_ext [bB, at5_0 t, at5_1 t]
theorem aW_apply (t : Fin cfg0.N) (k : Fin 256) (j : Fin 128) : aW V c t (ix2 k j) = V c main_v55 (ix2 k j) := by
  blk_ext [aW, at6_0 t, at6_1 t]
theorem aB_apply (t : Fin cfg0.N) (k : Fin 64) (j : Fin 128) : aB V c t (ix2 k j) = V c main_v59 (ix2 k j) := by
  blk_ext [aB, at7_0 t, at7_1 t]
end

/-! ## The pooling -/

/-- A chunk's weights of one word. -/
def wt (hf hb : Vec Ideal S1x256x128 .bf16) (aw : Vec Ideal S256x128 .bf16) (ab : Vec Ideal S1x128 .f32) (r : Fin 256) (l : Fin 128) : EReal :=
  Ideal.exp (Ideal.tanh (∑ k : Fin 128, hf (ix3 (0 : Fin 1) r k) * aw (ix2 (⟨k.val, by omega⟩ : Fin 256) l) + ∑ k : Fin 128, hb (ix3 (0 : Fin 1) r k) * aw (ix2 (⟨128 + k.val, by omega⟩ : Fin 256) l) + ab (ix2 (0 : Fin 1) l)))

section
variable (acc : FVec Ideal S256x128 .f32) (hf hb : Vec Ideal S1x256x128 .bf16) (aw : Vec Ideal S256x128 .bf16) (ab : Vec Ideal S1x128 .f32) (r : Fin 256) (l : Fin 128)
theorem k18 : k0_pay18 acc hf hb aw ab (ix2 r l) = acc (ix2 r l) + wt hf hb aw ab r l * hf (ix3 (0 : Fin 1) r l) := by
  pointwise [k0_pay18, k0_pay17, k0_pay16, k0_pay15, wt]
theorem k19 : k0_pay19 acc hf hb aw ab (ix2 r l) = acc (ix2 r l) + wt hf hb aw ab r l * hb (ix3 (0 : Fin 1) r l) := by
  pointwise [k0_pay19, k0_pay17, k0_pay16, k0_pay15, wt]
theorem k20 : k0_pay20 acc hf hb aw ab (ix2 r l) = acc (ix2 r l) + wt hf hb aw ab r l := by
  pointwise [k0_pay20, k0_pay17, k0_pay16, k0_pay15, wt]
end
theorem k14 (r : Fin 256) (l : Fin 128) : (k0_pay14 : FVec Ideal S256x128 .f32) (ix2 r l) = (0 : EReal) := by
  pointwise [k0_pay14]
theorem k22 (a d : FVec Ideal S256x128 .f32) (r : Fin 256) (l : Fin 128) : k0_pay22 a d (ix2 r l) = a (ix2 r l) * Ideal.div 1 (d (ix2 r l) + Spec.eps) := by
  pointwise [k0_pay22, k0_pay21]
theorem rowsOf_apply (H : Vec Ideal S64x1024x128 .bf16) (k : Fin 64) (q : Fin 4) (r : Fin 256) (l : Fin 128) :
   rowsOf H k q (ix3 (0 : Fin 1) r l) = H (ix3 k ⟨256 * q.val + r.val, by omega⟩ l) := by
  pointwise [rowsOf]
theorem biasOf_apply (H : Vec Ideal S64x128 .f32) (k : Fin 64)  (l : Fin 128) :
   biasOf H k (ix2 (0 : Fin 1) l) = H (ix2 k l) := by
  pointwise [biasOf]
theorem k23 (a d : FVec Ideal S256x128 .f32) (r : Fin 256) (l : Fin 128) : k0_pay23 a d (ix2 r l) = a (ix2 r l) * Ideal.div 1 (d (ix2 r l) + Spec.eps) := by
  pointwise [k0_pay23, k0_pay21]

section
variable (H Hb : Vec Ideal S64x1024x128 .bf16) (aw : Vec Ideal S256x128 .bf16) (ab : Vec Ideal S64x128 .f32)
  (AW : Fin 256 → EReal) (AB : Fin 64 → EReal) (hw : ∀ k l, aw (ix2 k l) = AW k) (hb : ∀ t l, ab (ix2 t l) = AB t)
include hw hb

/-- A sentence's row of a chunk. -/
def at_ (q : Fin 4) (r : Fin 256) : Fin 1024 := ⟨256 * q.val + r.val, by omega⟩
/-- The states of row `r`'s words. -/
def seqOf (r : Fin 1024) (t : Fin 64) : Fin 256 → EReal := Spec.both (fun l => H (ix3 t r l)) (fun l => Hb (ix3 t r l))

theorem wt_eq (q : Fin 4) (r : Fin 256) (l : Fin 128) (t : Fin 64) :
    wt (rowsOf H t q) (rowsOf Hb t q) aw (biasOf ab t) r l = Spec.att AW (AB t) (seqOf H Hb (at_ q r) t) := by
  unfold wt seqOf
  simp only [rowsOf_apply, biasOf_apply, hw, hb]
  exact Spec.att_both _ _ _ _

theorem poolSt_apply (q : Fin 4) (r : Fin 256) (l : Fin 128) :
    (poolSt H Hb aw ab q 64).1 (ix2 r l) = ∑ t : Fin 64, Spec.att AW (AB t) (seqOf H Hb (at_ q r) t) * H (ix3 t (at_ q r) l)
    ∧ (poolSt H Hb aw ab q 64).2.1 (ix2 r l) = ∑ t : Fin 64, Spec.att AW (AB t) (seqOf H Hb (at_ q r) t) * Hb (ix3 t (at_ q r) l)
    ∧ (poolSt H Hb aw ab q 64).2.2 (ix2 r l) = ∑ t : Fin 64, Spec.att AW (AB t) (seqOf H Hb (at_ q r) t) := by
  refine ⟨Spec.sum_of_steps _ (fun n => (poolSt H Hb aw ab q n).1 (ix2 r l)) (k14 r l) fun k => ?_,
    Spec.sum_of_steps _ (fun n => (poolSt H Hb aw ab q n).2.1 (ix2 r l)) (k14 r l) fun k => ?_,
    Spec.sum_of_steps _ (fun n => (poolSt H Hb aw ab q n).2.2 (ix2 r l)) (k14 r l) fun k => ?_⟩ <;>
  rw [poolSt, dif_pos k.isLt] <;> dsimp only
  · rw [k18, wt_eq H Hb aw ab AW AB hw hb, rowsOf_apply]; rfl
  · rw [k19, wt_eq H Hb aw ab AW AB hw hb, rowsOf_apply]; rfl
  · rw [k20, wt_eq H Hb aw ab AW AB hw hb]

variable (hr : ∀ t r l, Spec.IsR (H (ix3 t r l))) (hr' : ∀ t r l, Spec.IsR (Hb (ix3 t r l)))
include hr hr'

/-- The pooled states of every sentence. -/
def ctxOf (y : S1024x256.Idx) : EReal := Spec.ctx AW AB (seqOf H Hb (y 0)) (y 1)

theorem piece_f (q : Fin 4) (off : Fin 2 → ℕ) (inb : ∀ a, off a + S256x128.size a ≤ S1024x256.size a) (h0 : off 0 = 256 * q.val) (h1 : off 1 = 0) (y : S256x128.Idx) :
    k0_pay22 (poolSt H Hb aw ab q 64).1 (poolSt H Hb aw ab q 64).2.2 y = ctxOf H Hb AW AB ((Rect.unit (s := S1024x256) off S256x128.size inb).emb y) := by
  obtain ⟨r, l, rfl⟩ : ∃ (r : Fin 256) (l : Fin 128), y = ix2 r l := ⟨y 0, y 1, by funext a; match a with | ⟨0, _⟩ => rfl | ⟨1, _⟩ => rfl⟩
  have e := poolSt_apply H Hb aw ab AW AB hw hb q r l
  have hH : ∀ t i, Spec.IsR (seqOf H Hb (at_ q r) t i) := fun t i => Spec.both_real (fun l => hr _ _ _) (fun l => hr' _ _ _) i
  have c := Spec.ctx_of_sums AW AB (seqOf H Hb (at_ q r)) hH (⟨l.val, by omega⟩ : Fin 256)
  rw [k22, e.1, e.2.2]
  have s : ∀ t, seqOf H Hb (at_ q r) t (⟨l.val, by omega⟩ : Fin 256) = H (ix3 t (at_ q r) l) := fun t => by rw [seqOf, Spec.both, dif_pos l.isLt]
  simp only [s] at c
  rw [c]
  refine congrArg₂ (fun a b => Spec.ctx AW AB (seqOf H Hb a) b) (Fin.ext ?_) (Fin.ext ?_)
  · show 256 * q.val + r.val = off 0 + 1 * r.val; omega
  · show l.val = off 1 + 1 * l.val; omega
theorem piece_b (q : Fin 4) (off : Fin 2 → ℕ) (inb : ∀ a, off a + S256x128.size a ≤ S1024x256.size a) (h0 : off 0 = 256 * q.val) (h1 : off 1 = 128) (y : S256x128.Idx) :
    k0_pay23 (poolSt H Hb aw ab q 64).2.1 (poolSt H Hb aw ab q 64).2.2 y = ctxOf H Hb AW AB ((Rect.unit (s := S1024x256) off S256x128.size inb).emb y) := by
  obtain ⟨r, l, rfl⟩ : ∃ (r : Fin 256) (l : Fin 128), y = ix2 r l := ⟨y 0, y 1, by funext a; match a with | ⟨0, _⟩ => rfl | ⟨1, _⟩ => rfl⟩
  have e := poolSt_apply H Hb aw ab AW AB hw hb q r l
  have hH : ∀ t i, Spec.IsR (seqOf H Hb (at_ q r) t i) := fun t i => Spec.both_real (fun l => hr _ _ _) (fun l => hr' _ _ _) i
  have c := Spec.ctx_of_sums AW AB (seqOf H Hb (at_ q r)) hH (⟨128 + l.val, by omega⟩ : Fin 256)
  rw [k23, e.2.1, e.2.2]
  have s : ∀ t, seqOf H Hb (at_ q r) t (⟨128 + l.val, by omega⟩ : Fin 256) = Hb (ix3 t (at_ q r) l) := fun t => by
    rw [seqOf, Spec.both, dif_neg (by dsimp only; omega)]
    exact congrArg (fun i => Hb (ix3 t (at_ q r) i)) (Fin.ext (by dsimp only; omega))
  simp only [s] at c
  rw [c]
  refine congrArg₂ (fun a b => Spec.ctx AW AB (seqOf H Hb a) b) (Fin.ext ?_) (Fin.ext ?_)
  · show 256 * q.val + r.val = off 0 + 1 * r.val; omega
  · show 128 + l.val = off 1 + 1 * l.val; omega

/-- The pooled block holds every sentence's pooled states. -/
theorem poolOut_apply (y : S1024x256.Idx) : poolOut H Hb aw ab y = ctxOf H Hb AW AB y := by
  unfold poolOut
  refine View.canon_apply_of_pieces (Val := Elt Ideal) (e := .f32) (ctxOf H Hb AW AB) _ ?_ y ?_
  swap
  · exact View.cover_of_tiled _ ![256, 128] (by rfl) y
  intro p hp
  simp only [List.mem_cons, List.not_mem_nil, or_false] at hp
  rcases hp with rfl | rfl | rfl | rfl | rfl | rfl | rfl | rfl
  · exact piece_b H Hb aw ab AW AB hw hb hr hr' 3 _ inb_S1024x256_S256x128_768_128 rfl rfl
  · exact piece_f H Hb aw ab AW AB hw hb hr hr' 3 _ inb_S1024x256_S256x128_768_0 rfl rfl
  · exact piece_b H Hb aw ab AW AB hw hb hr hr' 2 _ inb_S1024x256_S256x128_512_128 rfl rfl
  · exact piece_f H Hb aw ab AW AB hw hb hr hr' 2 _ inb_S1024x256_S256x128_512_0 rfl rfl
  · exact piece_b H Hb aw ab AW AB hw hb hr hr' 1 _ inb_S1024x256_S256x128_256_128 rfl rfl
  · exact piece_f H Hb aw ab AW AB hw hb hr hr' 1 _ inb_S1024x256_S256x128_256_0 rfl rfl
  · exact piece_b H Hb aw ab AW AB hw hb hr hr' 0 _ inb_S1024x256_S256x128_0_128 rfl rfl
  · exact piece_f H Hb aw ab AW AB hw hb hr hr' 0 _ inb_S1024x256_S256x128_0_0 rfl rfl
end

/-! ## The region's result -/

section
variable (V : (c : Dev nD) → (b : Ref sig .tc) → Buf (Elt Ideal) ((c : Thread nD τ).loc b)) (c : Dev nD)
  (P : Spec.Par) (Rf : P.wf.Real) (Rb : P.wb.Real)
  (Sf : Spec.Stacked (N := 768) rfl P.wf (fun k j => V c main_v24 (ix2 k j)) (fun j => V c main_v65 (ix2 (0 : Fin 1) j)))
  (Sb : Spec.Stacked (N := 768) rfl P.wb (fun k j => V c main_v43 (ix2 k j)) (fun j => V c main_v71 (ix2 (0 : Fin 1) j)))
  (hw : ∀ k l, V c main_v55 (ix2 k l) = P.waw k) (hb : ∀ (t : Fin 64) l, V c main_v59 (ix2 t l) = P.wab t)
  (xs : Fin 1024 → ℕ → Fin 64 → EReal) (hx : ∀ r t k, xs r t k ≠ ⊤)
  (hX : ∀ (t : Fin 64) (r : Fin 1024) (k : Fin 64), V c main_v5 (ix3 t r (⟨k.val, by omega⟩ : Fin 128)) = xs r t.val k)

theorem k42 (r : Fin 1024) (l : Fin 256) : (k0_pay42 : FVec Ideal S1024x256 .bf16) (ix2 r l) = (0 : EReal) := by
  pointwise [k0_pay42]
theorem k44 (r : Fin 1024) (l : Fin 128) : (k0_pay44 : FVec Ideal S1024x128 .f32) (ix2 r l) = (0 : EReal) := by
  pointwise [k0_pay44]

include Rf Sf hx hX in
/-- The forward states kept are the forward pass's, -/
theorem HF_apply (t : Fin 64) (r : Fin 1024) (l : Fin 128) : HF V c (ix3 t r l) = P.wf.fwd (xs r) t.val l := by
  have S : ∀ t, Spec.Stacked (N := 768) rfl P.wf (fun k j => wF V c t (ix2 k j)) (fun j => bF V c t (ix2 (0 : Fin 1) j)) := fun t => by
    simp only [wF_apply, bF_apply]; exact Sf
  have hX' : ∀ (t : Fin cfg0.N) r (k : Fin 64), xF V c t (ix3 (0 : Fin 1) r ⟨k.val, by omega⟩) = xs r t.val k := fun t r k => by
    rw [xF_apply]; exact hX _ r k
  have q := states Rf (xF V c) (wF V c) (bF V c) S xs hX' hx (stF V c) ⟨k42, k44⟩ (stF_succ V c) t.val (by rw [cfgN]; omega) r
  have ht : t.val < cfg0.N := by rw [cfgN]; exact t.isLt
  exact kept Rf (xF V c ⟨t.val, ht⟩) (wF V c _) (bF V c _) (S _) (xs r) r t.val (hX' ⟨t.val, ht⟩ r) (hx r _) _ _ q.1 q.2 l

include Rb Sb hx hX in
/-- and the backward ones the backward pass's. -/
theorem HB_apply (t : Fin 64) (r : Fin 1024) (l : Fin 128) : HB V c (ix3 t r l) = P.wb.bwd (xs r) 64 t.val l := by
  have S : ∀ t, Spec.Stacked (N := 768) rfl P.wb (fun k j => wB V c t (ix2 k j)) (fun j => bB V c t (ix2 (0 : Fin 1) j)) := fun t => by
    simp only [wB_apply, bB_apply]; exact Sb
  have hX' : ∀ (t : Fin cfg0.N) r (k : Fin 64), xB V c t (ix3 (0 : Fin 1) r ⟨k.val, by omega⟩) = (fun r t => xs r (63 - t)) r t.val k := fun t r k => by
    rw [xB_apply]; exact hX _ r k
  have ht : 63 - t.val < cfg0.N := by rw [cfgN]; omega
  have q := states Rb (xB V c) (wB V c) (bB V c) S (fun r t => xs r (63 - t)) hX' (fun r t k => hx r _ k) (stB V c) ⟨k42, k44⟩
    (fun t => by rw [stB_succ, bwdHH_eq, bwdC_eq]) (63 - t.val) (le_of_lt ht) r
  have e : HB V c (ix3 t r l) = bwdH (xB V c ⟨63 - t.val, ht⟩) (wB V c _) (bB V c _) (stB V c (63 - t.val)).1 (stB V c (63 - t.val)).2 (ix3 (0 : Fin 1) r l) := rfl
  rw [e, bwdH_eq, kept Rb (xB V c ⟨63 - t.val, ht⟩) (wB V c _) (bB V c _) (S _) (fun t => xs r (63 - t)) r (63 - t.val) (hX' ⟨63 - t.val, ht⟩ r) (fun k => hx r _ k) _ _ q.1 q.2 l]
  exact congrFun (Spec.Cell.fwd_rev P.wb (xs r) (fun t => xs r (63 - t)) 64 t.val t.isLt fun k _ => rfl) l

include Rf Rb Sf Sb hw hb hx hX in
/-- The region leaves every sentence's vector. -/
theorem out_apply (r : Fin 1024) (i : Fin 256) : (dat V c).arrAt 8 cfg0.N (ix2 r i) = P.sent (xs r) i := by
  have h : (dat V c).arrAt 8 cfg0.N = pooled V c ⟨63, by rw [cfgN]; omega⟩ := by
    refine (dat V c).arrAt_eq_of_after_last 8 ⟨63, by rw [cfgN]; omega⟩ (by decide +kernel) _ fun j => ?_
    blk_simp
    rfl
  rw [h, pooled, poolOut_apply _ _ _ _ P.waw P.wab (fun k l => by rw [aW_apply, hw]) (fun k l => by rw [aB_apply, hb])]
  · show Spec.ctx P.waw P.wab (seqOf _ _ r) i = _
    refine congrArg (fun H => Spec.ctx P.waw P.wab H i) (funext fun t => ?_)
    exact congrArg₂ Spec.both (funext fun l => HF_apply V c P Rf Sf xs hx hX t r l) (funext fun l => HB_apply V c P Rb Sb xs hx hX t r l)
  · intro t r l; rw [HF_apply V c P Rf Sf xs hx hX]; exact (Spec.st_real _ _ _ _ _ l).1
  · intro t r l; rw [HB_apply V c P Rb Sb xs hx hX]; exact (Spec.st_real _ _ _ _ _ l).1
end
end Cert.KernelIdeal.Word
end
-- ==== Proof.SentVal.lean ====
/-
  The sentence kernel's result as the formula of what its region reads: the two LSTM passes over every document's
  sentences, their attention pooling and the classifier.
-/
module

public import proofs.«01_k».proof.Proof.SentReg
public import proofs.«01_k».proof.Proof.Packed
public import proofs.«01_k».proof.Proof.Pool
public import Idealize.ShloMosaic.Lib.Pointwise
public import Idealize.ShloMosaic.Lib.Pipeline.ValueKit

@[expose] public section

set_option maxRecDepth 8192

noncomputable section

namespace Cert.KernelIdeal.Sent

open Cert.KernelIdeal Cert.KernelIdeal.Gen
open Idealize.ShloMosaic Idealize.ShloMosaic.TcCoe

/-- The row of the long product: the inputs and their remainders twice, the packed hidden state twice. -/
def longRow (x : FVec Ideal S1x64x256 .f32) (hh : FVec Ideal S64x256 .bf16) : FVec Ideal S64x1536 .bf16 :=
  have v38 : FVec Ideal S64x256 .f32 := shapeCast S64x256 x shapeCasts_S1x64x256_S64x256
  have v43 : FVec Ideal S64x512 .bf16 := concatenate S64x512 1 [⟨S64x256, (truncf .bf16 v38 bitsLt_bf16_f32 : FVec Ideal S64x256 .bf16)⟩,
    ⟨S64x256, (truncf .bf16 (subf v38 (extf .f32 (truncf .bf16 v38 bitsLt_bf16_f32) bitsLt_bf16_f32)) bitsLt_bf16_f32 : FVec Ideal S64x256 .bf16)⟩] concatenates_S64x256_S64x256_S64x512_d1
  concatenate S64x1536 1 [⟨S64x512, v43⟩, ⟨S64x512, v43⟩, ⟨S64x256, hh⟩, ⟨S64x256, hh⟩] concatenates_S64x512_S64x512_S64x256_S64x256_S64x1536_d1

/-! ## One step over one document -/

section
variable (x : Vec Ideal S1x64x256 .f32) (w : Vec Ideal S1536x512 .bf16) (b : Vec Ideal S1x512 .f32) (hh : Vec Ideal S64x256 .bf16) (cc : Vec Ideal S64x128 .f32)

theorem longRow_apply (r : Fin 64) (k : Fin 1536) : longRow x hh (ix2 r k) =
    if _ : k.val < 512 then
      if _ : k.val < 256 then x (ix3 (0 : Fin 1) r ⟨k.val, by omega⟩) else x (ix3 (0 : Fin 1) r ⟨k.val - 256, by omega⟩) - x (ix3 (0 : Fin 1) r ⟨k.val - 256, by omega⟩)
    else if _ : k.val - 512 < 512 then
      if _ : k.val - 512 < 256 then x (ix3 (0 : Fin 1) r ⟨k.val - 512, by omega⟩) else x (ix3 (0 : Fin 1) r ⟨k.val - 512 - 256, by omega⟩) - x (ix3 (0 : Fin 1) r ⟨k.val - 512 - 256, by omega⟩)
    else if _ : k.val - 512 - 512 < 256 then hh (ix2 r ⟨k.val - 512 - 512, by omega⟩) else hh (ix2 r ⟨k.val - 512 - 512 - 256, by omega⟩) := by
  pointwise [longRow]
/-- The row is the packed row of its document's input and hidden state. -/
theorem packed (r : Fin 64) (h : Fin 128 → EReal) (hr : ∀ l, hh (ix2 r l) = Spec.both h (fun l => h l - h l) l) :
    Spec.Packed (D := 256) (N := 1536) rfl (fun k => x (ix3 (0 : Fin 1) r k)) h (fun k => longRow x hh (ix2 r k)) := by
  constructor <;> intro k <;> have := k.isLt <;> rw [longRow_apply] <;> dsimp only <;> simp only [hr, Spec.both] <;> split_ifs <;>
    first
    | rfl
    | omega
    | (refine congrArg x (congrArg (ix3 (0 : Fin 1) r) (Fin.ext ?_)); dsimp only; omega)
    | (refine congrArg h (Fin.ext ?_); dsimp only; omega)
    | (refine congrArg (fun i => x i - x i) (congrArg (ix3 (0 : Fin 1) r) (Fin.ext ?_)); dsimp only; omega)
    | (refine congrArg (fun i => h i - h i) (Fin.ext ?_); dsimp only; omega)
/-- The gates' arguments of a step. -/
def z : FVec Ideal S64x512 .f32 := k1_pay2 (k1_pay13 b) hh x w
theorem z_apply (r : Fin 64) (j : Fin 512) : z x w b hh (ix2 r j) = ∑ k : Fin 1536, longRow x hh (ix2 r k) * w (ix2 k j) + b (ix2 (0 : Fin 1) j) := by
  have e : z x w b hh = addf (matmul dot_S64x1536_S1536x512_S64x512_1_0_0_1_n_n none (longRow x hh) (shapeCast S1536x512 w shapeCasts_S1536x512_S1536x512) (constant S64x512 .f32 0x00000000#32))
     (broadcastTo S64x512 (shapeCast S1x512 b shapeCasts_S1x512_S1x512) broadcasts_S1x512_S64x512) := rfl
  rw [e]
  pointwise
/-- The new cell, the new packed hidden state and the hidden state kept. -/
def nC : Vec Ideal S64x128 .f32 := k1_pay3 (k1_pay13 b) hh cc x w
def nHH : Vec Ideal S64x256 .bf16 := k1_pay6 (k1_pay13 b) hh cc x w
def nH : Vec Ideal S1x64x128 .bf16 := k1_pay12 (k1_pay5 (k1_pay13 b) hh cc x w)

theorem nC_apply (r : Fin 64) (l : Fin 128) : nC x w b hh cc (ix2 r l) = Spec.kC (fun j => z x w b hh (ix2 r j)) (fun l => cc (ix2 r l)) l := by
  pointwise [nC, k1_pay3, z, Spec.kC, Spec.hsg]
theorem nHH_apply (r : Fin 64) (l : Fin 256) : nHH x w b hh cc (ix2 r l) =
    Spec.both (Spec.kH (fun j => z x w b hh (ix2 r j)) (fun l => cc (ix2 r l))) (fun l => Spec.kH (fun j => z x w b hh (ix2 r j)) (fun l => cc (ix2 r l)) l - Spec.kH (fun j => z x w b hh (ix2 r j)) (fun l => cc (ix2 r l)) l) l := by
  pointwise [nHH, k1_pay6, k1_pay5, k1_pay4, k1_pay3, z, Spec.both, Spec.kH, Spec.kC, Spec.hsg]
theorem nH_apply (r : Fin 64) (l : Fin 128) : nH x w b hh cc (ix3 (0 : Fin 1) r l) = Spec.kH (fun j => z x w b hh (ix2 r j)) (fun l => cc (ix2 r l)) l := by
  pointwise [nH, k1_pay12, k1_pay5, k1_pay4, k1_pay3, z, Spec.kH, Spec.kC, Spec.hsg]
/-- The backward step is the forward one. -/
theorem back : k1_pay8 (k1_pay14 b) hh cc x w = nC x w b hh cc ∧ k1_pay11 (k1_pay14 b) hh cc x w = nHH x w b hh cc
    ∧ k1_pay17 (k1_pay10 (k1_pay14 b) hh cc x w) = nH x w b hh cc := ⟨rfl, rfl, rfl⟩

/-- One step's gates: the scaled arguments of the cell's. -/
theorem z_row {L : Spec.Cell 256} (R : L.Real) (S : Spec.Stacked (N := 1536) rfl L (fun k j => w (ix2 k j)) (fun j => b (ix2 (0 : Fin 1) j))) (r : Fin 64) {xs : Fin 256 → EReal} {h : Fin 128 → EReal}
    (hX : ∀ k : Fin 256, x (ix3 (0 : Fin 1) r k) = xs k) (hx : ∀ k, xs k ≠ ⊤) (hh' : ∀ l, Spec.IsR (h l)) (hr : ∀ l, hh (ix2 r l) = Spec.both h (fun l => h l - h l) l) :
    (fun j => z x w b hh (ix2 r j)) = fun j => Spec.gs j.val * Spec.gate L.wx L.wh L.b xs h j := by
  funext j
  have e : (fun k : Fin 256 => x (ix3 (0 : Fin 1) r k)) = xs := funext hX
  rw [z_apply, Spec.packed_gate S (e ▸ packed x hh r h hr) R hx hh']
end

/-- A state sequence that takes the kernel's steps from zero is the cell's, row by row. -/
theorem states {L : Spec.Cell 256} (R : L.Real) (X : Fin 16 → Vec Ideal S1x64x256 .f32) (W : Vec Ideal S1536x512 .bf16) (B : Vec Ideal S1x512 .f32)
    (S : Spec.Stacked (N := 1536) rfl L (fun k j => W (ix2 k j)) (fun j => B (ix2 (0 : Fin 1) j))) (xs : Fin 64 → ℕ → Fin 256 → EReal)
    (hX : ∀ (t : Fin 16) r (k : Fin 256), X t (ix3 (0 : Fin 1) r k) = xs r t.val k) (hx : ∀ r t k, xs r t k ≠ ⊤)
    (s : ℕ → Vec Ideal S64x256 .bf16 × Vec Ideal S64x128 .f32) (s0 : (∀ r l, (s 0).1 (ix2 r l) = (0 : EReal)) ∧ ∀ r l, (s 0).2 (ix2 r l) = (0 : EReal))
    (sn : ∀ t : Fin 16, s (t.val + 1) = (nHH (X t) W B (s t.val).1 (s t.val).2, nC (X t) W B (s t.val).1 (s t.val).2)) :
    ∀ n ≤ 16, ∀ r, (∀ l, (s n).2 (ix2 r l) = (L.st (xs r) n).2 l) ∧ ∀ i, (s n).1 (ix2 r i) = Spec.both (L.st (xs r) n).1 (fun l => (L.st (xs r) n).1 l - (L.st (xs r) n).1 l) i
  | 0, _, r => ⟨fun l => s0.2 _ _, fun i => by rw [s0.1]; simp [Spec.both, Spec.Cell.st, Spec.st]⟩
  | n + 1, hn, r => by
    have ih := states R X W B S xs hX hx s s0 sn n (Nat.le_of_succ_le hn) r
    have e := sn ⟨n, hn⟩
    dsimp only at e
    have z := z_row (X ⟨n, hn⟩) W B (s n).1 R S r (hX ⟨n, hn⟩ r) (hx r n) (fun l => (Spec.st_real _ _ _ _ n l).1) ih.2
    have c : (fun l => (s n).2 (ix2 r l)) = (L.st (xs r) n).2 := funext ih.1
    rw [e]
    refine ⟨fun l => ?_, fun i => ?_⟩ <;> dsimp only
    · rw [nC_apply, z, c, Spec.kC_eq]; rfl
    · rw [nHH_apply, z, c]
      have q : Spec.kH (fun j => Spec.gs j.val * Spec.gate L.wx L.wh L.b (xs r n) (fun l => (L.st (xs r) n).1 l) j) (L.st (xs r) n).2 = (L.st (xs r) (n + 1)).1 :=
        funext fun l => Spec.kH_eq _ _ l
      rw [q]

/-- The hidden state a step keeps is the forward pass's. -/
theorem kept {L : Spec.Cell 256} (R : L.Real) (x : Vec Ideal S1x64x256 .f32) (w : Vec Ideal S1536x512 .bf16) (b : Vec Ideal S1x512 .f32)
    (S : Spec.Stacked (N := 1536) rfl L (fun k j => w (ix2 k j)) (fun j => b (ix2 (0 : Fin 1) j))) (xs : ℕ → Fin 256 → EReal) (r : Fin 64) (n : ℕ)
    (hX : ∀ k : Fin 256, x (ix3 (0 : Fin 1) r k) = xs n k) (hx : ∀ k, xs n k ≠ ⊤) (hh : Vec Ideal S64x256 .bf16) (cc : Vec Ideal S64x128 .f32)
    (hc : ∀ l, cc (ix2 r l) = (L.st xs n).2 l) (hh' : ∀ i, hh (ix2 r i) = Spec.both (L.st xs n).1 (fun l => (L.st xs n).1 l - (L.st xs n).1 l) i) (l : Fin 128) :
    nH x w b hh cc (ix3 (0 : Fin 1) r l) = L.fwd xs n l := by
  have z := z_row x w b hh R S r hX hx (fun l => (Spec.st_real _ _ _ _ n l).1) hh'
  have c : (fun l => cc (ix2 r l)) = (L.st xs n).2 := funext hc
  rw [nH_apply, z, c, Spec.kH_eq]; rfl

/-! ## Loads -/

theorem sentOf_apply (X : Vec Ideal S16x64x256 .f32) (k : Fin 16) (r : Fin 64) (l : Fin 256) : sentOf X k (ix3 (0 : Fin 1) r l) = X (ix3 k r l) := by
  pointwise [sentOf]
theorem rowsOf_apply (H : Vec Ideal S16x64x128 .bf16) (k : Fin 16) (r : Fin 64) (l : Fin 128) : rowsOf H k (ix3 (0 : Fin 1) r l) = H (ix3 k r l) := by
  pointwise [rowsOf]
theorem biasOf_apply (H : Vec Ideal S16x128 .f32) (k : Fin 16) (l : Fin 128) : biasOf H k (ix2 (0 : Fin 1) l) = H (ix2 k l) := by
  pointwise [biasOf]

/-! ## The pooling and the score -/

/-- The weights of one sentence. -/
def wt (hf hb : Vec Ideal S1x64x128 .bf16) (aw : Vec Ideal S256x128 .bf16) (ab : Vec Ideal S1x128 .f32) (r : Fin 64) (l : Fin 128) : EReal :=
  Ideal.exp (Ideal.tanh (∑ k : Fin 128, hf (ix3 (0 : Fin 1) r k) * aw (ix2 (⟨k.val, by omega⟩ : Fin 256) l) + ∑ k : Fin 128, hb (ix3 (0 : Fin 1) r k) * aw (ix2 (⟨128 + k.val, by omega⟩ : Fin 256) l) + ab (ix2 (0 : Fin 1) l)))

section
variable (acc : FVec Ideal S64x128 .f32) (hf hb : Vec Ideal S1x64x128 .bf16) (aw : Vec Ideal S256x128 .bf16) (ab : Vec Ideal S1x128 .f32) (r : Fin 64) (l : Fin 128)
theorem k22 : k1_pay22 acc hf hb aw ab (ix2 r l) = acc (ix2 r l) + wt hf hb aw ab r l * hf (ix3 (0 : Fin 1) r l) := by
  pointwise [k1_pay22, k1_pay21, k1_pay20, k1_pay19, wt]
theorem k23 : k1_pay23 acc hf hb aw ab (ix2 r l) = acc (ix2 r l) + wt hf hb aw ab r l * hb (ix3 (0 : Fin 1) r l) := by
  pointwise [k1_pay23, k1_pay21, k1_pay20, k1_pay19, wt]
theorem k24 : k1_pay24 acc hf hb aw ab (ix2 r l) = acc (ix2 r l) + wt hf hb aw ab r l := by
  pointwise [k1_pay24, k1_pay21, k1_pay20, k1_pay19, wt]
end
theorem k18 (r : Fin 64) (l : Fin 128) : (k1_pay18 : FVec Ideal S64x128 .f32) (ix2 r l) = (0 : EReal) := by
  pointwise [k1_pay18]

theorem k25 (a b d : FVec Ideal S64x128 .f32) (c1 c2 : Vec Ideal S128x1 .f32) (c0 : Vec Ideal S1x1 .f32) (r : Fin 64) :
    k1_pay1 (k1_pay25 a b d c1 c2 c0) k1_pay26 (ix2 r (0 : Fin 1)) =
      Spec.sg (∑ k : Fin 128, a (ix2 r k) * Ideal.div 1 (d (ix2 r k) + Spec.eps) * c1 (ix2 k (0 : Fin 1)) + ∑ k : Fin 128, b (ix2 r k) * Ideal.div 1 (d (ix2 r k) + Spec.eps) * c2 (ix2 k (0 : Fin 1)) + c0 (ix2 (0 : Fin 1) (0 : Fin 1))) := by
  rw [← Spec.half_tanh, ← Spec.half_bits]
  pointwise [k1_pay1, k1_pay25, k1_pay26]

section
variable (H Hb : Vec Ideal S16x64x128 .bf16) (aw : Vec Ideal S256x128 .bf16) (ab : Vec Ideal S16x128 .f32)
  (AW : Fin 256 → EReal) (AB : Fin 16 → EReal) (hw : ∀ k l, aw (ix2 k l) = AW k) (hb : ∀ t l, ab (ix2 t l) = AB t)
include hw hb

/-- The states of document `r`'s sentences. -/
def seqOf (r : Fin 64) (t : Fin 16) : Fin 256 → EReal := Spec.both (fun l => H (ix3 t r l)) (fun l => Hb (ix3 t r l))

theorem wt_eq (r : Fin 64) (l : Fin 128) (t : Fin 16) :
    wt (rowsOf H t) (rowsOf Hb t) aw (biasOf ab t) r l = Spec.att AW (AB t) (seqOf H Hb r t) := by
  unfold wt seqOf
  simp only [rowsOf_apply, biasOf_apply, hw, hb]
  exact Spec.att_both _ _ _ _

theorem poolSt_apply (r : Fin 64) (l : Fin 128) :
    (poolSt H Hb aw ab 16).1 (ix2 r l) = ∑ t : Fin 16, Spec.att AW (AB t) (seqOf H Hb r t) * H (ix3 t r l)
    ∧ (poolSt H Hb aw ab 16).2.1 (ix2 r l) = ∑ t : Fin 16, Spec.att AW (AB t) (seqOf H Hb r t) * Hb (ix3 t r l)
    ∧ (poolSt H Hb aw ab 16).2.2 (ix2 r l) = ∑ t : Fin 16, Spec.att AW (AB t) (seqOf H Hb r t) := by
  refine ⟨Spec.sum_of_steps _ (fun n => (poolSt H Hb aw ab n).1 (ix2 r l)) (k18 r l) fun k => ?_,
    Spec.sum_of_steps _ (fun n => (poolSt H Hb aw ab n).2.1 (ix2 r l)) (k18 r l) fun k => ?_,
    Spec.sum_of_steps _ (fun n => (poolSt H Hb aw ab n).2.2 (ix2 r l)) (k18 r l) fun k => ?_⟩ <;>
  rw [poolSt, dif_pos k.isLt] <;> dsimp only
  · rw [k22, wt_eq H Hb aw ab AW AB hw hb, rowsOf_apply]
  · rw [k23, wt_eq H Hb aw ab AW AB hw hb, rowsOf_apply]
  · rw [k24, wt_eq H Hb aw ab AW AB hw hb]

/-- The score is the logistic of the classifier on the pooled states. -/
theorem score_apply (hr : ∀ t r l, Spec.IsR (H (ix3 t r l))) (hr' : ∀ t r l, Spec.IsR (Hb (ix3 t r l)))
    (c1 c2 : Vec Ideal S128x1 .f32) (c0 : Vec Ideal S1x1 .f32) (cw : Fin 256 → EReal) (cb : EReal)
    (h1 : ∀ k : Fin 128, c1 (ix2 k (0 : Fin 1)) = cw ⟨k.val, by omega⟩) (h2 : ∀ k : Fin 128, c2 (ix2 k (0 : Fin 1)) = cw ⟨128 + k.val, by omega⟩)
    (h0 : c0 (ix2 (0 : Fin 1) (0 : Fin 1)) = cb) (r : Fin 64) :
    score H Hb aw ab c1 c2 c0 (ix2 r (0 : Fin 1)) = Spec.sg (∑ k, Spec.ctx AW AB (seqOf H Hb r) k * cw k + cb) := by
  rw [score, k25, Spec.sum_cut (m := 128) (n := 128) rfl, h0]
  have hH : ∀ t i, Spec.IsR (seqOf H Hb r t i) := fun t i => Spec.both_real (fun l => hr _ _ _) (fun l => hr' _ _ _) i
  have c := Spec.ctx_of_sums AW AB (seqOf H Hb r) hH
  refine congrArg (fun z => Spec.sg (z + cb)) (congrArg₂ (· + ·) (Finset.sum_congr rfl fun k _ => ?_) (Finset.sum_congr rfl fun k _ => ?_))
  · have e := poolSt_apply H Hb aw ab AW AB hw hb r k
    have s : ∀ t, seqOf H Hb r t (⟨k.val, by omega⟩ : Fin 256) = H (ix3 t r k) := fun t => by rw [seqOf, Spec.both, dif_pos k.isLt]
    have c' := c ⟨k.val, by omega⟩
    simp only [s] at c'
    rw [e.1, e.2.2, c', h1]
  · have e := poolSt_apply H Hb aw ab AW AB hw hb r k
    have s : ∀ t, seqOf H Hb r t (⟨128 + k.val, by omega⟩ : Fin 256) = Hb (ix3 t r k) := fun t => by
      rw [seqOf, Spec.both, dif_neg (by dsimp only; omega)]
      exact congrArg (fun i => Hb (ix3 t r i)) (Fin.ext (by dsimp only; omega))
    have c' := c ⟨128 + k.val, by omega⟩
    simp only [s] at c'
    rw [e.2.1, e.2.2, c', h2]
end

/-! ## The blocks and the region's result -/

section
variable (V : (c : Dev nD) → (b : Ref sig .tc) → Buf (Elt Ideal) ((c : Thread nD τ).loc b)) (c : Dev nD)

theorem at0_0 : win1_0.index t1_0 0 = 0 := by decide +kernel
theorem at0_1 : win1_0.index t1_0 1 = 0 := by decide +kernel
theorem at0_2 : win1_0.index t1_0 2 = 0 := by decide +kernel
theorem at1_0 : win1_1.index t1_0 0 = 0 := by decide +kernel
theorem at1_1 : win1_1.index t1_0 1 = 0 := by decide +kernel
theorem at2_0 : win1_2.index t1_0 0 = 0 := by decide +kernel
theorem at2_1 : win1_2.index t1_0 1 = 0 := by decide +kernel
theorem at3_0 : win1_3.index t1_0 0 = 0 := by decide +kernel
theorem at3_1 : win1_3.index t1_0 1 = 0 := by decide +kernel
theorem at4_0 : win1_4.index t1_0 0 = 0 := by decide +kernel
theorem at4_1 : win1_4.index t1_0 1 = 0 := by decide +kernel
theorem at5_0 : win1_5.index t1_0 0 = 0 := by decide +kernel
theorem at5_1 : win1_5.index t1_0 1 = 0 := by decide +kernel
theorem at6_0 : win1_6.index t1_0 0 = 0 := by decide +kernel
theorem at6_1 : win1_6.index t1_0 1 = 0 := by decide +kernel
theorem at7_0 : win1_7.index t1_0 0 = 0 := by decide +kernel
theorem at7_1 : win1_7.index t1_0 1 = 0 := by decide +kernel
theorem at8_0 : win1_8.index t1_0 0 = 0 := by decide +kernel
theorem at8_1 : win1_8.index t1_0 1 = 0 := by decide +kernel
theorem at9_0 : win1_9.index t1_0 0 = 0 := by decide +kernel
theorem at9_1 : win1_9.index t1_0 1 = 0 := by decide +kernel
theorem g0_apply (i : Fin 16) (j : Fin 64) (k : Fin 256) : g0 V c (ix3 i j k) = V c main_v74 (ix3 i j k) := by
  blk_ext [g0, at0_0, at0_1, at0_2]
theorem g1_apply (i : Fin 1536) (j : Fin 512) : g1 V c (ix2 i j) = V c main_v93 (ix2 i j) := by
  blk_ext [g1, at1_0, at1_1]
theorem g2_apply (i : Fin 1) (j : Fin 512) : g2 V c (ix2 i j) = V c main_v134 (ix2 i j) := by
  blk_ext [g2, at2_0, at2_1]
theorem g3_apply (i : Fin 1536) (j : Fin 512) : g3 V c (ix2 i j) = V c main_v112 (ix2 i j) := by
  blk_ext [g3, at3_0, at3_1]
theorem g4_apply (i : Fin 1) (j : Fin 512) : g4 V c (ix2 i j) = V c main_v140 (ix2 i j) := by
  blk_ext [g4, at4_0, at4_1]
theorem g5_apply (i : Fin 256) (j : Fin 128) : g5 V c (ix2 i j) = V c main_v124 (ix2 i j) := by
  blk_ext [g5, at5_0, at5_1]
theorem g6_apply (i : Fin 16) (j : Fin 128) : g6 V c (ix2 i j) = V c main_v128 (ix2 i j) := by
  blk_ext [g6, at6_0, at6_1]
theorem g7_apply (i : Fin 128) (j : Fin 1) : g7 V c (ix2 i j) = V c main_v141 (ix2 i j) := by
  blk_ext [g7, at7_0, at7_1]
theorem g8_apply (i : Fin 128) (j : Fin 1) : g8 V c (ix2 i j) = V c main_v142 (ix2 i j) := by
  blk_ext [g8, at8_0, at8_1]
theorem g9_apply (i : Fin 1) (j : Fin 1) : g9 V c (ix2 i j) = V c main_v143 (ix2 i j) := by
  blk_ext [g9, at9_0, at9_1]

variable (P : Spec.Par) (Rf : P.sf.Real) (Rb : P.sb.Real)
  (Sf : Spec.Stacked (N := 1536) rfl P.sf (fun k j => V c main_v93 (ix2 k j)) (fun j => V c main_v134 (ix2 (0 : Fin 1) j)))
  (Sb : Spec.Stacked (N := 1536) rfl P.sb (fun k j => V c main_v112 (ix2 k j)) (fun j => V c main_v140 (ix2 (0 : Fin 1) j)))
  (hw : ∀ k l, V c main_v124 (ix2 k l) = P.saw k) (hb : ∀ (t : Fin 16) l, V c main_v128 (ix2 t l) = P.sab t)
  (h1 : ∀ k : Fin 128, V c main_v141 (ix2 k (0 : Fin 1)) = P.cw ⟨k.val, by omega⟩) (h2 : ∀ k : Fin 128, V c main_v142 (ix2 k (0 : Fin 1)) = P.cw ⟨128 + k.val, by omega⟩)
  (h0 : V c main_v143 (ix2 (0 : Fin 1) (0 : Fin 1)) = P.cb)
  (xs : Fin 64 → ℕ → Fin 256 → EReal) (hx : ∀ r t k, xs r t k ≠ ⊤)
  (hX : ∀ (t : Fin 16) (r : Fin 64) (k : Fin 256), V c main_v74 (ix3 t r k) = xs r t.val k)

theorem k15 (r : Fin 64) (l : Fin 256) : (k1_pay15 : FVec Ideal S64x256 .bf16) (ix2 r l) = (0 : EReal) := by
  pointwise [k1_pay15]
theorem k16 (r : Fin 64) (l : Fin 128) : (k1_pay16 : FVec Ideal S64x128 .f32) (ix2 r l) = (0 : EReal) := by
  pointwise [k1_pay16]

/-- The carry at step `n`. -/
abbrev car (n : ℕ) := sentSt (g0 V c) (g1 V c) (g2 V c) (g3 V c) (g4 V c) n
theorem car_succ (t : Fin 16) : car V c (t.val + 1) = step (g0 V c) (g1 V c) (g2 V c) (g3 V c) (g4 V c) t (car V c t.val) := by
  rw [car, sentSt, dif_pos t.isLt]

include Rf Sf hx hX in
/-- The forward states kept are the forward pass's, -/
theorem HF_apply (t : Fin 16) (r : Fin 64) (l : Fin 128) : HF (g0 V c) (g1 V c) (g2 V c) (g3 V c) (g4 V c) (ix3 t r l) = P.sf.fwd (xs r) t.val l := by
  have S : Spec.Stacked (N := 1536) rfl P.sf (fun k j => g1 V c (ix2 k j)) (fun j => g2 V c (ix2 (0 : Fin 1) j)) := by
    simp only [g1_apply, g2_apply]; exact Sf
  have hX' : ∀ (t : Fin 16) r (k : Fin 256), sentOf (g0 V c) t (ix3 (0 : Fin 1) r k) = xs r t.val k := fun t r k => by
    rw [sentOf_apply, g0_apply]; exact hX t r k
  have q := states Rf (sentOf (g0 V c)) (g1 V c) (g2 V c) S xs hX' hx (fun n => ((car V c n).1, (car V c n).2.2.1)) ⟨k15, k16⟩
    (fun t => by dsimp only; rw [car_succ]; rfl) t.val (le_of_lt t.isLt) r
  exact kept Rf (sentOf (g0 V c) t) (g1 V c) (g2 V c) S (xs r) r t.val (hX' t r) (hx r _) _ _ q.1 q.2 l

include Rb Sb hx hX in
/-- and the backward ones the backward pass's. -/
theorem HB_apply (t : Fin 16) (r : Fin 64) (l : Fin 128) : HB (g0 V c) (g1 V c) (g2 V c) (g3 V c) (g4 V c) (ix3 t r l) = P.sb.bwd (xs r) 16 t.val l := by
  have S : Spec.Stacked (N := 1536) rfl P.sb (fun k j => g3 V c (ix2 k j)) (fun j => g4 V c (ix2 (0 : Fin 1) j)) := by
    simp only [g3_apply, g4_apply]; exact Sb
  have hX' : ∀ (t : Fin 16) r (k : Fin 256), sentOf (g0 V c) (opp t) (ix3 (0 : Fin 1) r k) = (fun r t => xs r (15 - t)) r t.val k := fun t r k => by
    rw [sentOf_apply, g0_apply]; exact hX (opp t) r k
  have ht : 15 - t.val < 16 := by omega
  have q := states Rb (fun t => sentOf (g0 V c) (opp t)) (g3 V c) (g4 V c) S (fun r t => xs r (15 - t)) hX' (fun r t k => hx r _ k) (fun n => ((car V c n).2.1, (car V c n).2.2.2)) ⟨k15, k16⟩
    (fun t => by dsimp only; rw [car_succ]; rfl) (15 - t.val) (by omega) r
  have e : HB (g0 V c) (g1 V c) (g2 V c) (g3 V c) (g4 V c) (ix3 t r l) = nH (sentOf (g0 V c) (opp ⟨15 - t.val, ht⟩)) (g3 V c) (g4 V c) (car V c (15 - t.val)).2.1 (car V c (15 - t.val)).2.2.2 (ix3 (0 : Fin 1) r l) := rfl
  rw [e, kept Rb (sentOf (g0 V c) (opp ⟨15 - t.val, ht⟩)) (g3 V c) (g4 V c) S (fun t => xs r (15 - t)) r (15 - t.val) (hX' ⟨15 - t.val, ht⟩ r) (fun k => hx r _ k) _ _ q.1 q.2 l]
  exact congrFun (Spec.Cell.fwd_rev P.sb (xs r) (fun t => xs r (15 - t)) 16 t.val t.isLt fun k _ => rfl) l

include Rf Rb Sf Sb hw hb h0 h1 h2 hx hX in
/-- The region leaves every document's score. -/
theorem out_apply (r : Fin 64) : (dat V c).arrAt 10 cfg1.N (ix2 r (0 : Fin 1)) = P.score (xs r) := by
  have h : (dat V c).arrAt 10 cfg1.N = scored V c := by
    refine (dat V c).arrAt_eq_of_after_last 10 t1_0 (by decide +kernel) _ fun j => ?_
    blk_simp
    rfl
  rw [h, scored, score_apply _ _ _ _ P.saw P.sab (fun k l => by rw [g5_apply, hw]) (fun k l => by rw [g6_apply, hb]) ?_ ?_ _ _ _ P.cw P.cb
    (fun k => by rw [g7_apply, h1]) (fun k => by rw [g8_apply, h2]) (by rw [g9_apply, h0])]
  · unfold Spec.Par.score Spec.Par.doc
    refine congrArg (fun H => Spec.sg (∑ k, Spec.ctx P.saw P.sab H k * P.cw k + P.cb)) (funext fun t => ?_)
    exact congrArg₂ Spec.both (funext fun l => HF_apply V c P Rf Sf xs hx hX t r l) (funext fun l => HB_apply V c P Rb Sb xs hx hX t r l)
  · intro t r l; rw [HF_apply V c P Rf Sf xs hx hX]; exact (Spec.st_real _ _ _ _ _ l).1
  · intro t r l; rw [HB_apply V c P Rb Sb xs hx hX]; exact (Spec.st_real _ _ _ _ _ l).1
end
end Cert.KernelIdeal.Sent
end
-- ==== Proof.Value.lean ====
/-
  The kernel's result as the formula of its arguments.
-/
module

public import proofs.«01_k».proof.Proof.HostRead
public import proofs.«01_k».proof.Proof.WordVal
public import proofs.«01_k».proof.Proof.SentVal

@[expose] public section

set_option maxRecDepth 20000

noncomputable section

namespace Cert.KernelIdeal.Run

open Cert.KernelIdeal Cert.KernelIdeal.Gen Cert.KernelIdeal.Host
open Idealize.ShloMosaic Idealize.ShloMosaic.TcCoe
open Idealize.ShloMosaic.StableHlo (after launchContents)

variable (m : (ℓ : Loc nD τ sig) → Buf (Elt Ideal) ℓ) (c : Dev nD)

/-- The parameters at launch. -/
def par : Spec.Par :=
  Spec.parOf (launchContents m c main_arg2) (launchContents m c main_arg3) (launchContents m c main_arg4) (launchContents m c main_arg5) (launchContents m c main_arg6)
    (launchContents m c main_arg7) (launchContents m c main_arg8) (launchContents m c main_arg9) (launchContents m c main_arg10) (launchContents m c main_arg11)
    (launchContents m c main_arg12) (launchContents m c main_arg13) (launchContents m c main_arg14) (launchContents m c main_arg15) (launchContents m c main_arg16)
    (launchContents m c main_arg17) (launchContents m c main_arg18) (launchContents m c main_arg19)
/-- The words' embeddings of sentence `r`, the sentences of all documents counted through. -/
def sentence (r : Fin 1024) : ℕ → Fin 64 → EReal :=
  Spec.words (launchContents m c main_arg1) (launchContents m c main_arg0) ⟨r.val / 16, by omega⟩ ⟨r.val % 16, by omega⟩
/-- The sentences' vectors of document `d`. -/
def document (d : Fin 64) : ℕ → Fin 256 → EReal := Spec.sents (par m c) (launchContents m c main_arg1) (launchContents m c main_arg0) d

/-- What the precondition gives: the table and the passes' weights are real. -/
structure Reals : Prop where
  emb : ∀ i k, Spec.IsR ((launchContents m c main_arg1 : FVec Ideal S100000x64 .f32) (ix2 i k))
  wf : (par m c).wf.Real
  wb : (par m c).wb.Real
  sf : (par m c).sf.Real
  sb : (par m c).sb.Real

/-! ## The arguments before each stretch -/

theorem V4_arg (b : Ref sig .tc) (h1 : b ∉ hostOps0_W) (h2 : b ∉ hostOps0_1_W) (h3 : b ∉ hostOps0_2_W) (h4 : b ∉ hostOps0_3_W) : V4 m c b = launchContents m c b :=
  (V4_of m c b h4).trans <| (V3_of m c b h3).trans <| (V2_of m c b h2).trans (V1_of m c b h1)
theorem V6_arg (b : Ref sig .tc) (h1 : b ∉ hostOps0_W) (h2 : b ∉ hostOps0_1_W) (h3 : b ∉ hostOps0_2_W) (h4 : b ∉ hostOps0_3_W) (h5 : b ∉ hostOps0_4_W)
    (h6 : b ∉ ([main_v72] : List (Ref sig .tc))) : V6 m (outsA m) c b = launchContents m c b :=
  (V6_of m (outsA m) c b h6).trans <| (V5_of m c b h5).trans (V4_arg m c b h1 h2 h3 h4)

/-! ## The word region -/

theorem w5_v5 (t : Fin 64) (r : Fin 1024) (k : Fin 64) : w5 m c main_v5 (ix3 t r (⟨k.val, by omega⟩ : Fin 128)) = sentence m c r t.val k := by
  have e : w5 m c main_v5 = timed (wide (takeK (launchContents m c main_arg1) (flat (launchContents m c main_arg0))) (sitofp .f32 (V3 m c main_c : IVec S_ 32))) := by
    refine (read_v5 (V4 m c)).trans (congrArg timed ((read_v4 (V3 m c)).trans (congrArg (wide · _) ?_)))
    refine (V3_of m c main_v3 (by decide)).trans ((read_v3 (V1 m c)).trans ?_)
    rw [V1_of m c main_arg1 (by decide)]
    exact congrArg (takeK _) (read_v2 (V0 m c))
  rw [e, timed_apply, wide_apply, takeK_apply, flat_apply]
  unfold sentence Spec.words Spec.ext
  rw [dif_pos t.isLt]

theorem stacked_wf : Spec.Stacked (N := 768) rfl (par m c).wf (fun k j => w5 m c main_v24 (ix2 k j)) (fun j => w5 m c main_v65 (ix2 (0 : Fin 1) j)) := by
  have e : w5 m c main_v24 = stackW (launchContents m c main_arg2) (launchContents m c main_arg3) := by
    refine (read_v24 (V4 m c)).trans ?_
    rw [V4_arg m c main_arg2 (by decide) (by decide) (by decide) (by decide), V4_arg m c main_arg3 (by decide) (by decide) (by decide) (by decide)]
  have e' : w5 m c main_v65 = bias (launchContents m c main_arg4) := by
    refine (read_v65 (V4 m c)).trans ?_
    rw [V4_arg m c main_arg4 (by decide) (by decide) (by decide) (by decide)]
  rw [e, e']
  exact stackW_stacked _ _ _
theorem stacked_wb : Spec.Stacked (N := 768) rfl (par m c).wb (fun k j => w5 m c main_v43 (ix2 k j)) (fun j => w5 m c main_v71 (ix2 (0 : Fin 1) j)) := by
  have e : w5 m c main_v43 = stackW (launchContents m c main_arg5) (launchContents m c main_arg6) := by
    refine (read_v43 (V4 m c)).trans ?_
    rw [V4_arg m c main_arg5 (by decide) (by decide) (by decide) (by decide), V4_arg m c main_arg6 (by decide) (by decide) (by decide) (by decide)]
  have e' : w5 m c main_v71 = bias (launchContents m c main_arg7) := by
    refine (read_v71 (V4 m c)).trans ?_
    rw [V4_arg m c main_arg7 (by decide) (by decide) (by decide) (by decide)]
  rw [e, e']
  exact stackW_stacked _ _ _
theorem w5_attw (k : Fin 256) (l : Fin 128) : w5 m c main_v55 (ix2 k l) = (par m c).waw k := by
  have e : w5 m c main_v55 = attw (launchContents m c main_arg8) := by
    refine (read_v55 (V4 m c)).trans ?_
    rw [V4_arg m c main_arg8 (by decide) (by decide) (by decide) (by decide)]
  rw [e, attw_apply]; rfl
theorem w5_attb (t : Fin 64) (l : Fin 128) : w5 m c main_v59 (ix2 t l) = (par m c).wab t := by
  have e : w5 m c main_v59 = attbW (launchContents m c main_arg9) := by
    refine (read_v59 (V4 m c)).trans ?_
    rw [V4_arg m c main_arg9 (by decide) (by decide) (by decide) (by decide)]
  rw [e, attbW_apply]; rfl

theorem sentence_ne_top (R : Reals m c) (r : Fin 1024) (t : ℕ) (k : Fin 64) : sentence m c r t k ≠ ⊤ := by
  unfold sentence Spec.words Spec.ext
  split
  · exact Spec.embed_ne_top R.emb _ _
  · exact EReal.zero_ne_top

/-- The word region leaves every sentence's vector. -/
theorem words_value (R : Reals m c) (r : Fin 1024) (i : Fin 256) : out0 m c (ix2 r i) = (par m c).sent (sentence m c r) i :=
  Word.out_apply (w5 m) c (par m c) R.wf R.wb (stacked_wf m c) (stacked_wb m c) (w5_attw m c) (w5_attb m c) (sentence m c) (sentence_ne_top m c R) (w5_v5 m c) r i

/-! ## The sentence region -/

theorem w7_v74 (R : Reals m c) (t : Fin 16) (d : Fin 64) (k : Fin 256) : w7 m c main_v74 (ix3 t d k) = document m c d t.val k := by
  have e : w7 m c main_v74 = turned (out0 m c) := by
    refine (read_v74 (V6 m (outsA m) c)).trans (congrArg turned ?_)
    exact (congrFun (V6_outs m c) _).symm.trans (w6_out m c)
  have h1 : (d.val * 16 + t.val) / 16 = d.val := by omega
  have h2 : (d.val * 16 + t.val) % 16 = t.val := by omega
  rw [e, turned_apply, words_value m c R]
  unfold document Spec.sents Spec.ext
  rw [dif_pos t.isLt]
  unfold sentence
  simp only [h1, h2]

theorem stacked_sf : Spec.Stacked (N := 1536) rfl (par m c).sf (fun k j => w7 m c main_v93 (ix2 k j)) (fun j => w7 m c main_v134 (ix2 (0 : Fin 1) j)) := by
  have e : w7 m c main_v93 = stackS (launchContents m c main_arg10) (launchContents m c main_arg11) := by
    refine (read_v93 (V6 m (outsA m) c)).trans ?_
    rw [V6_arg m c main_arg10 (by decide) (by decide) (by decide) (by decide) (by decide) (by decide), V6_arg m c main_arg11 (by decide) (by decide) (by decide) (by decide) (by decide) (by decide)]
  have e' : w7 m c main_v134 = bias (launchContents m c main_arg12) := by
    refine (read_v134 (V6 m (outsA m) c)).trans ?_
    rw [V6_arg m c main_arg12 (by decide) (by decide) (by decide) (by decide) (by decide) (by decide)]
  rw [e, e']
  exact stackS_stacked _ _ _
theorem stacked_sb : Spec.Stacked (N := 1536) rfl (par m c).sb (fun k j => w7 m c main_v112 (ix2 k j)) (fun j => w7 m c main_v140 (ix2 (0 : Fin 1) j)) := by
  have e : w7 m c main_v112 = stackS (launchContents m c main_arg13) (launchContents m c main_arg14) := by
    refine (read_v112 (V6 m (outsA m) c)).trans ?_
    rw [V6_arg m c main_arg13 (by decide) (by decide) (by decide) (by decide) (by decide) (by decide), V6_arg m c main_arg14 (by decide) (by decide) (by decide) (by decide) (by decide) (by decide)]
  have e' : w7 m c main_v140 = bias (launchContents m c main_arg15) := by
    refine (read_v140 (V6 m (outsA m) c)).trans ?_
    rw [V6_arg m c main_arg15 (by decide) (by decide) (by decide) (by decide) (by decide) (by decide)]
  rw [e, e']
  exact stackS_stacked _ _ _
theorem w7_attw (k : Fin 256) (l : Fin 128) : w7 m c main_v124 (ix2 k l) = (par m c).saw k := by
  have e : w7 m c main_v124 = attw (launchContents m c main_arg16) := by
    refine (read_v124 (V6 m (outsA m) c)).trans ?_
    rw [V6_arg m c main_arg16 (by decide) (by decide) (by decide) (by decide) (by decide) (by decide)]
  rw [e, attw_apply]; rfl
theorem w7_attb (t : Fin 16) (l : Fin 128) : w7 m c main_v128 (ix2 t l) = (par m c).sab t := by
  have e : w7 m c main_v128 = attbS (launchContents m c main_arg17) := by
    refine (read_v128 (V6 m (outsA m) c)).trans ?_
    rw [V6_arg m c main_arg17 (by decide) (by decide) (by decide) (by decide) (by decide) (by decide)]
  rw [e, attbS_apply]; rfl
theorem w7_cw1 (k : Fin 128) : w7 m c main_v141 (ix2 k (0 : Fin 1)) = (par m c).cw ⟨k.val, by omega⟩ := by
  have e : w7 m c main_v141 = extractStridedSlice S128x1 ![0, 0] (launchContents m c main_arg18 : FVec Ideal S256x1 .f32) slices_S256x1_S128x1_0_0 := by
    refine (read_v141 (V6 m (outsA m) c)).trans ?_
    rw [V6_arg m c main_arg18 (by decide) (by decide) (by decide) (by decide) (by decide) (by decide)]
  rw [e]
  pointwise [par, Spec.parOf]
theorem w7_cw2 (k : Fin 128) : w7 m c main_v142 (ix2 k (0 : Fin 1)) = (par m c).cw ⟨128 + k.val, by omega⟩ := by
  have e : w7 m c main_v142 = extractStridedSlice S128x1 ![128, 0] (launchContents m c main_arg18 : FVec Ideal S256x1 .f32) slices_S256x1_S128x1_128_0 := by
    refine (read_v142 (V6 m (outsA m) c)).trans ?_
    rw [V6_arg m c main_arg18 (by decide) (by decide) (by decide) (by decide) (by decide) (by decide)]
  rw [e]
  pointwise [par, Spec.parOf]
theorem w7_cb : w7 m c main_v143 (ix2 (0 : Fin 1) (0 : Fin 1)) = (par m c).cb := by
  have e : w7 m c main_v143 = shapeCast S1x1 (launchContents m c main_arg19 : FVec Ideal S1 .f32) shapeCasts_S1_S1x1 := by
    refine (read_v143 (V6 m (outsA m) c)).trans ?_
    rw [V6_arg m c main_arg19 (by decide) (by decide) (by decide) (by decide) (by decide) (by decide)]
  rw [e]
  pointwise [par, Spec.parOf]

theorem document_ne_top (d : Fin 64) (t : ℕ) (k : Fin 256) : document m c d t k ≠ ⊤ := by
  unfold document Spec.sents Spec.ext
  split
  · exact (Spec.ctx_real _ _ _ (fun t i => Spec.level_real _ _ _ _ t i) k).ne_top
  · exact EReal.zero_ne_top

/-- The kernel leaves every document's score. -/
theorem value (R : Reals m c) (d : Fin 64) : V8 m (outs m) c main_v144 (ix2 d (0 : Fin 1)) = (par m c).score (document m c d) :=
  (congrFun (w8_out m c) _).trans
    (Sent.out_apply (w7 m) c (par m c) R.sf R.sb (stacked_sf m c) (stacked_sb m c) (w7_attw m c) (w7_attb m c) (w7_cw1 m c) (w7_cw2 m c) (w7_cb m c) (document m c) (document_ne_top m c)
      (w7_v74 m c R) d)

end Cert.KernelIdeal.Run
-- ==== Proof.Finite.lean ====
/-
  What the precondition says of the arguments: every entry of the embedding table and of the eight recurrent weight matrices is real.
-/
module

public import proofs.«01_k».proof.Pre_finite
public import proofs.«01_k».proof.Proof.Spec
public import Idealize.ShloMosaic.Lib.Pointwise
public import Idealize.ShloMosaic.Lib.ReduceAll
public import Idealize.ShloMosaic.Lib.WordArith

@[expose] public section

noncomputable section

namespace Cert.Pre_finite

open Idealize.ShloMosaic

/-- The side conditions of the precondition's operations hold. -/
theorem facts : Facts where
  bcast_S_S100000x64 := by decide
  reducesTo_S100000x64_S_d0_1 := by decide
  h_S_ := by decide
  bcast_S_S64x512 := by decide
  reducesTo_S64x512_S_d0_1 := by decide
  bcast_S_S128x512 := by decide
  reducesTo_S128x512_S_d0_1 := by decide
  bcast_S_S256x512 := by decide
  reducesTo_S256x512_S_d0_1 := by decide

/-- A value whose magnitude is below `+∞` is real. -/
theorem isR_of_abs {x : EReal} (h : Ideal.cmp .olt (max x (-x)) (Ideal.ofBits .f32 0x7F800000#32) = 1#1) : Spec.IsR x := by
  rw [show Ideal.ofBits .f32 0x7F800000#32 = (⊤ : EReal) from by simp [Ideal.ofBits, Ideal.ieee]] at h
  have h' : max x (-x) < ⊤ := by
    by_contra hn
    simp [Ideal.cmp, hn] at h
  induction x with
  | bot => simp at h'
  | coe r => exact ⟨r, rfl⟩
  | top => simp at h'

/-- A matrix whose magnitudes all pass the test has real entries. -/
theorem real_of_all {n k : ℕ} (x : FVec Ideal ⟨2, ![n, k]⟩ .f32) (hb : S_.BroadcastsInDim ⟨2, ![n, k]⟩ (![] : Fin 0 → Fin 2)) (hr : Shape.ReducesTo ⟨2, ![n, k]⟩ [0, 1] S_) (hu : 0 < S_.numel)
    (h : Host.reduce IntOp.andi (cmpf .olt (Host.absf x) (broadcastInDim ⟨2, ![n, k]⟩ ![] hb (constant (F := Ideal) S_ .f32 0x7F800000#32))) (constantI S_ 1 1#1) hr hu = fun _ => 1#1) (i : Fin n) (j : Fin k) :
    Spec.IsR (x (ix2 i j)) :=
  isR_of_abs (Host.reduce_andi_all _ _ hr hu (Shape.Idx.first hu) (congrFun h _) (ix2 i j))

/-- A conjunction of bits holds exactly where both do. -/
theorem both_of_andi {a b : IVec S_ 1} (h : andi a b = fun _ => 1#1) : a = (fun _ => 1#1) ∧ b = fun _ => 1#1 := by
  have e : ∀ i, a i = 1#1 ∧ b i = 1#1 := fun i => by
    have := congrFun h i
    revert this
    show IntOp.andi (a i) (b i) = 1#1 → _
    generalize a i = p; generalize b i = q
    revert p q; decide
  exact ⟨funext fun i => (e i).1, funext fun i => (e i).2⟩

/-- Under the precondition the table and the eight weight matrices have real entries. -/
theorem real_of_fn [Facts] (a0 : IVec S64x16x64 32) (a1 : FVec Ideal S100000x64 .f32) (a2 : FVec Ideal S64x512 .f32) (a3 : FVec Ideal S128x512 .f32) (a4 : FVec Ideal S512 .f32)
    (a5 : FVec Ideal S64x512 .f32) (a6 : FVec Ideal S128x512 .f32) (a7 : FVec Ideal S512 .f32) (a8 : FVec Ideal S256 .f32) (a9 : FVec Ideal S64 .f32)
    (a10 : FVec Ideal S256x512 .f32) (a11 : FVec Ideal S128x512 .f32) (a12 : FVec Ideal S512 .f32) (a13 : FVec Ideal S256x512 .f32) (a14 : FVec Ideal S128x512 .f32) (a15 : FVec Ideal S512 .f32)
    (a16 : FVec Ideal S256 .f32) (a17 : FVec Ideal S16 .f32) (a18 : FVec Ideal S256x1 .f32) (a19 : FVec Ideal S1 .f32)
    (h : fn (F := Ideal) a0 a1 a2 a3 a4 a5 a6 a7 a8 a9 a10 a11 a12 a13 a14 a15 a16 a17 a18 a19 = fun _ => 1#1) :
    (∀ i k, Spec.IsR (a1 (ix2 i k))) ∧ (∀ i k, Spec.IsR (a2 (ix2 i k))) ∧ (∀ i k, Spec.IsR (a3 (ix2 i k))) ∧ (∀ i k, Spec.IsR (a5 (ix2 i k))) ∧ (∀ i k, Spec.IsR (a6 (ix2 i k)))
      ∧ (∀ i k, Spec.IsR (a10 (ix2 i k))) ∧ (∀ i k, Spec.IsR (a11 (ix2 i k))) ∧ (∀ i k, Spec.IsR (a13 (ix2 i k))) ∧ ∀ i k, Spec.IsR (a14 (ix2 i k)) := by
  unfold fn fn_part1 fn_part2 at h
  dsimp only at h
  obtain ⟨h, h14⟩ := both_of_andi h
  obtain ⟨h, h13⟩ := both_of_andi h
  obtain ⟨h, h11⟩ := both_of_andi h
  obtain ⟨h, h10⟩ := both_of_andi h
  obtain ⟨h, h6⟩ := both_of_andi h
  obtain ⟨h, h5⟩ := both_of_andi h
  obtain ⟨h, h3⟩ := both_of_andi h
  obtain ⟨h1, h2⟩ := both_of_andi h
  exact ⟨real_of_all a1 _ _ _ h1, real_of_all a2 _ _ _ h2, real_of_all a3 _ _ _ h3, real_of_all a5 _ _ _ h5, real_of_all a6 _ _ _ h6, real_of_all a10 _ _ _ h10,
    real_of_all a11 _ _ _ h11, real_of_all a13 _ _ _ h13, real_of_all a14 _ _ _ h14⟩

end Cert.Pre_finite
-- ==== Proof.lean ====
/-
  The certificate: the frames of the kernel, of its idealization and of the reference; that the idealization is sanctioned; and that the
  idealized kernel's result is the reference's wherever the table and the recurrent weights are real.
-/
module

public import proofs.«01_k».proof.Defs
public import proofs.«01_k».proof.Proof.Kernel.Run
public import proofs.«01_k».proof.Proof.Run
public import proofs.«01_k».proof.Proof.RefFrame
public import proofs.«01_k».proof.Proof.RefValue
public import proofs.«01_k».proof.Proof.Value
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem Cert.Kernel

section

variable [hPre : Cert.Pre_finite.Facts]
  (m : (ℓ : Loc Cert.KernelIdeal.nD Cert.KernelIdeal.τ Cert.KernelIdeal.sig) → Buf (Elt Ideal) ℓ)

/-- The precondition makes the table and the passes' weights real. -/
theorem reals (h : Cert.Pre_KernelIdeal_finite m) (c : Dev Cert.KernelIdeal.nD) : Cert.KernelIdeal.Run.Reals m c := by
  obtain ⟨h1, h2, h3, h5, h6, h10, h11, h13, h14⟩ := Cert.Pre_finite.real_of_fn _ _ _ _ _ _ _ _ _ _ _ _ _ _ _ _ _ _ _ _ (h c)
  exact ⟨h1, ⟨h2, h3⟩, ⟨h5, h6⟩, ⟨h10, h11⟩, ⟨h13, h14⟩⟩

/-- The two programs agree on equal arguments, real where the precondition says so. -/
theorem algebraic : Cert.algebraic_KernelIdeal_ReferenceIdeal_pre_finite (hKernelIdeal := Cert.KernelIdeal.Gen.facts) (hReferenceIdeal := Cert.ReferenceIdeal.Gen.facts) := by
  intro m g m' g' hp he
  have same : ∀ c, (Cert.ReferenceIdeal.Ref.fin m' c Cert.ReferenceIdeal.main_v74 : FVec Ideal ⟨2, ![64, 1]⟩ .f32)
      = Cert.KernelIdeal.Gen.V8 m (Cert.KernelIdeal.Run.outs m) c Cert.KernelIdeal.main_v144 := fun c => by
    obtain ⟨e0, e1, e2, e3, e4, e5, e6, e7, e8, e9, e10, e11, e12, e13, e14, e15, e16, e17, e18, e19⟩ := he c
    have ep : Cert.ReferenceIdeal.Ref.par m' c = Cert.KernelIdeal.Run.par m c := by
      unfold Cert.ReferenceIdeal.Ref.par Cert.KernelIdeal.Run.par
      exact congr (congr (congr (congr (congr (congr (congr (congr (congr (congr (congr (congr (congr (congr (congr (congr (congr (congrArg Spec.parOf e2) e3) e4) e5) e6) e7) e8) e9) e10) e11) e12) e13) e14) e15) e16) e17) e18) e19
    funext y
    obtain ⟨d, rfl⟩ : ∃ d : Fin 64, y = ix2 d (0 : Fin 1) := ⟨y 0, by funext a; match a with | ⟨0, _⟩ => rfl | ⟨1, _⟩ => exact Subsingleton.elim (α := Fin 1) _ _⟩
    refine (Cert.ReferenceIdeal.Ref.value m' c d).trans (Eq.trans ?_ (Cert.KernelIdeal.Run.value m c (reals m hp c) d).symm)
    rw [ep]
    exact congrArg (Cert.KernelIdeal.Run.par m c).score (congr (congr (congrArg (Spec.sents _) e1) e0) rfl)
  exact ⟨fun c => Cert.KernelIdeal.Gen.V8 m (Cert.KernelIdeal.Run.outs m) c Cert.KernelIdeal.main_v144,
    θ_run_mono (Cert.KernelIdeal.Run.run m g) fun r h c =>
      ⟨h.1 c _ (Cert.KernelIdeal.Run.mem_uc Cert.KernelIdeal.main_v144 (by decide)), Cert.KernelIdeal.Run.args_kept m r h.1 c⟩,
    θ_run_mono (Cert.ReferenceIdeal.Ref.run m' g') fun r h c =>
      ⟨(h.1 c _ (Finset.mem_filter.mpr ⟨StableHlo.devRef_mem_tcRefs Cert.ReferenceIdeal.main_v74, by decide⟩)).trans (same c), Cert.ReferenceIdeal.Ref.args_kept m' r h.1 c⟩⟩

end

/-- Every claim of the certificate. -/
theorem claim : Cert.Claim := ⟨Cert.Kernel.Gen.facts, Cert.KernelIdeal.Gen.facts, Cert.ReferenceIdeal.Gen.facts, Cert.Pre_finite.facts,
  fun m g _ => Cert.Kernel.Run.frame m g, fun m g _ => Cert.KernelIdeal.Run.frame m g, fun m g _ => Cert.KernelIdeal.Run.frame m g,
  fun m g _ => Cert.ReferenceIdeal.Ref.frame m g, fun m g _ => Cert.ReferenceIdeal.Ref.frame m g, trivial,
  algebraic (hPre := Cert.Pre_finite.facts)⟩

end Cert.Proof

end
